-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_v44) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v121) = v0 c
          ∧ r.2.mem ((c.tc : Thread Cert.Reference12Ideal.nD Cert.Reference12Ideal.τ).loc Cert.Reference12Ideal.main_v127) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_scores.lean ====
abbrev S8192x2048 : Shape := ⟨2, ![8192, 2048]⟩
abbrev S4x2304x512 : Shape := ⟨3, ![4, 2304, 512]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x2304x512 : S_.BroadcastsInDim S4x2304x512 (![] : Fin 0 → Fin S4x2304x512.rank)
  reducesTo_S4x2304x512_S_d0_1_2 : S4x2304x512.ReducesTo [0, 1, 2] S_

variable [Facts]

def fn {F : FTy → Type} [FloatOps F] (main_arg0 : FVec F S8192x2048 .bf16) (main_arg1 : FVec F S4x2304x512 .bf16) (main_arg2 : FVec F S4x2304x512 .bf16) : IVec S_ 1 :=
  let main_v0 : FVec F S8192x2048 .f32 := (extf .f32 · bitsLt_bf16_f32) main_arg0
  let main_v1 : FVec F S4x2304x512 .f32 := (extf .f32 · bitsLt_bf16_f32) main_arg1
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S4x2304x512 .f32 := Host.absf main_v1
  let main_cst_0 : FVec F S_ .f32 := constant S_ .f32 0x7F800000#32
  let main_v7 : FVec F S4x2304x512 .f32 := broadcastInDim S4x2304x512 ![] bcast_S_S4x2304x512 main_cst_0
  let main_v8 : IVec S4x2304x512 1 := cmpf .olt main_v6 main_v7
  let main_c_1 : IVec S_ 1 := constantI S_ 1 1#1
  let main_v9 : IVec S_ 1 := (fun x v => Host.reduce IntOp.andi x v reducesTo_S4x2304x512_S_d0_1_2 h_S_) main_v8 main_c_1
  let main_v10 : IVec S_ 1 := andi main_v5 main_v9
  main_v10
-- ==== Kernel.lean ====
abbrev S8192x2048 : Shape := ⟨2, ![8192, 2048]⟩
abbrev S4x2304x512 : Shape := ⟨3, ![4, 2304, 512]⟩
abbrev S512x512 : Shape := ⟨2, ![512, 512]⟩
abbrev S1x2304x128 : Shape := ⟨3, ![1, 2304, 128]⟩
abbrev S2304x128 : Shape := ⟨2, ![2304, 128]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2304x512, .bf16⟩
  | .hbm, ⟨2, _⟩ => ⟨S4x2304x512, .bf16⟩
  | .hbm, ⟨3, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S512x512, .bf16⟩
  | .local _ .vmem, ⟨7, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8192x2048 : Shape := ⟨2, ![8192, 2048]⟩
abbrev S4x2304x512 : Shape := ⟨3, ![4, 2304, 512]⟩
abbrev S_ : Shape := ⟨0, ![]⟩
abbrev S4x2048x4x4x128 : Shape := ⟨5, ![4, 2048, 4, 4, 128]⟩
abbrev S4x2304x4x128 : Shape := ⟨4, ![4, 2304, 4, 128]⟩
abbrev S4x4x2304x2048x4 : Shape := ⟨5, ![4, 4, 2304, 2048, 4]⟩
abbrev S4x4x4x2048x2304 : Shape := ⟨5, ![4, 4, 4, 2048, 2304]⟩
abbrev S4x4x4x2048 : Shape := ⟨4, ![4, 4, 4, 2048]⟩
abbrev S4x4x4x2048x1 : Shape := ⟨5, ![4, 4, 4, 2048, 1]⟩
abbrev S4x4x128x4x2048 : Shape := ⟨5, ![4, 4, 128, 4, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2304x512, .bf16⟩
  | .hbm, ⟨2, _⟩ => ⟨S4x2304x512, .bf16⟩
  | .hbm, ⟨3, _⟩ => ⟨S_, .f32⟩
  | .hbm, ⟨4, _⟩ => ⟨S_, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S4x2048x4x4x128, .f32⟩
  | .hbm, ⟨12, _⟩ => ⟨S4x2304x512, .f32⟩
  | .hbm, ⟨13, _⟩ => ⟨S4x2304x4x128, .f32⟩
  | .hbm, ⟨14, _⟩ => ⟨S4x2304x512, .f32⟩
  | .hbm, ⟨15, _⟩ => ⟨S4x2304x4x128, .f32⟩
  | .hbm, ⟨16, _⟩ => ⟨S4x4x2304x2048x4, .f32⟩
  | .hbm, ⟨17, _⟩ => ⟨S4x4x4x2048x2304, .f32⟩
  | .hbm, ⟨18, _⟩ => ⟨S4x4x4x2048x2304, .f32⟩
  | .hbm, ⟨19, _⟩ => ⟨S4x4x4x2048x2304, .f32⟩
  | .hbm, ⟨20, _⟩ => ⟨S_, .f32⟩
  | .hbm, ⟨21, _⟩ => ⟨S4x4x4x2048, .f32⟩
  | .hbm, ⟨22, _⟩ => ⟨S_, .f32⟩
  | .hbm, ⟨23, _⟩ => ⟨S4x4x4x2048, .f32⟩
  | .hbm, ⟨24, _⟩ => ⟨S4x4x4x2048, .f32⟩
  | .hbm, ⟨25, _⟩ => ⟨S4x4x4x2048x1, .f32⟩
  | .hbm, ⟨26, _⟩ => ⟨S4x4x4x2048x2304, .f32⟩
  | .hbm, ⟨27, _⟩ => ⟨S4x4x4x2048x2304, .f32⟩
  | .hbm, ⟨28, _⟩ => ⟨S4x4x4x2048x2304, .f32⟩
  | .hbm, ⟨29, _⟩ => ⟨S_, .f32⟩
  | .hbm, ⟨30, _⟩ => ⟨S4x4x4x2048, .f32⟩
  | .hbm, ⟨31, _⟩ => ⟨S4x4x4x2048x1, .f32⟩
  | .hbm, ⟨32, _⟩ => ⟨S4x4x4x2048x2304, .f32⟩
  | .hbm, ⟨33, _⟩ => ⟨S4x4x4x2048x2304, .f32⟩
  | .hbm, ⟨34, _⟩ => ⟨S4x4x4x2048x2304, .bf16⟩
  | .hbm, ⟨35, _⟩ => ⟨S4x4x4x2048x2304, .f32⟩
  | .hbm, ⟨36, _⟩ => ⟨S4x4x128x4x2048, .f32⟩
  | .hbm, ⟨37, _⟩ => ⟨S4x2048x4x4x128, .f32⟩
  | .hbm, ⟨38, _⟩ => ⟨S8192x2048, .f32⟩
  | .hbm, ⟨39, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel2.lean ====
abbrev S8192x4096 : Shape := ⟨2, ![8192, 4096]⟩
abbrev S1x2x4096x11008 : Shape := ⟨4, ![1, 2, 4096, 11008]⟩
abbrev S8192x11008 : Shape := ⟨2, ![8192, 11008]⟩
abbrev S1024x4096 : Shape := ⟨2, ![1024, 4096]⟩
abbrev S1024x512 : Shape := ⟨2, ![1024, 512]⟩
abbrev S2x2x4096x512 : Shape := ⟨4, ![2, 2, 4096, 512]⟩
abbrev S2x1024x512 : Shape := ⟨3, ![2, 1024, 512]⟩
abbrev S2 : Shape := ⟨1, ![2]⟩
abbrev S1 : Shape := ⟨1, ![1]⟩
abbrev S_ : Shape := ⟨0, ![]⟩
abbrev S1x1024x512 : Shape := ⟨3, ![1, 1024, 512]⟩
abbrev S1x1x1024x512 : Shape := ⟨4, ![1, 1, 1024, 512]⟩
abbrev S1x1024x256 : Shape := ⟨3, ![1, 1024, 256]⟩
abbrev S1024x256 : Shape := ⟨2, ![1024, 256]⟩
abbrev S1x1x1024x256 : Shape := ⟨4, ![1, 1, 1024, 256]⟩
abbrev S1x1x4096x512 : Shape := ⟨4, ![1, 1, 4096, 512]⟩
abbrev S4096x512 : Shape := ⟨2, ![4096, 512]⟩
abbrev S1x1x4096x256 : Shape := ⟨4, ![1, 1, 4096, 256]⟩
abbrev S4096x256 : Shape := ⟨2, ![4096, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x2x4096x11008, .f32⟩
  | .hbm, ⟨2, _⟩ => ⟨S1x2x4096x11008, .f32⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1024x512, .bf16⟩
  | .local _ .vmem, ⟨3, _⟩ => ⟨S1024x512, .bf16⟩
  | .local _ .vmem, ⟨4, _⟩ => ⟨S2x2x4096x512, .bf16⟩
  | .local _ .vmem, ⟨5, _⟩ => ⟨S2x1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![22, 8], ![false, false]⟩

def k0_cond2 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c0_i32_8 : BitVec 32 := 0#32
  let v18 : BitVec 1 := Scalar.cmpi .eq arg1 c0_i32_8
  let v19 : BitVec 1 := Scalar.andi v16 v18
  let v20 : BitVec 32 := Scalar.extui v19
  let c0_i32_9 : BitVec 32 := 0#32
  let v21 : BitVec 1 := Scalar.cmpi .ne v20 c0_i32_9
  v21

def k0_mult1 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off1 (i : grid0.Coords) : Fin 4 → Nat :=
  let c0_i32_48 : BitVec 32 := 0#32
  let c1_i32_49 : BitVec 32 := 1#32
  let c0_i32_54 : BitVec 32 := 0#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 0, v102.toNat]
def k0_mult2 (i : grid0.Coords) : BitVec 32 :=
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  v111
def k0_off2 (i : grid0.Coords) : Fin 4 → Nat :=
  let c0_i32_58 : BitVec 32 := 0#32
  let c1_i32_59 : BitVec 32 := 1#32
  let c1024_i32 : BitVec 32 := 1024#32
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  let v112 : BitVec 32 := v111
  ![0, 1, 1024, v112.toNat]
def k0_cond3 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c1_i32_10 : BitVec 32 := 1#32
  let v22 : BitVec 1 := Scalar.cmpi .eq arg1 c1_i32_10
  let v23 : BitVec 1 := Scalar.andi v16 v22
  let v24 : BitVec 32 := Scalar.extui v23
  let c0_i32_11 : BitVec 32 := 0#32
  let v25 : BitVec 1 := Scalar.cmpi .ne v24 c0_i32_11
  v25

def k0_mult3 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off3 (i : grid0.Coords) : Fin 4 → Nat :=
  let c0_i32_48 : BitVec 32 := 0#32
  let c1_i32_49 : BitVec 32 := 1#32
  let c1024_i32 : BitVec 32 := 1024#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 1024, v102.toNat]
def k0_mult4 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off4 (i : grid0.Coords) : Fin 4 → Nat :=
  let c0_i32_57 : BitVec 32 := 0#32
  let c1_i32_58 : BitVec 32 := 1#32
  let c2048_i32 : BitVec 32 := 2048#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 2048, v112.toNat]
def k0_cond4 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c2_i32_12 : BitVec 32 := 2#32
  let v26 : BitVec 1 := Scalar.cmpi .eq arg1 c2_i32_12
  let v27 : BitVec 1 := Scalar.andi v16 v26
  let v28 : BitVec 32 := Scalar.extui v27
  let c0_i32_13 : BitVec 32 := 0#32
  let v29 : BitVec 1 := Scalar.cmpi .ne v28 c0_i32_13
  v29

def k0_mult5 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off5 (i : grid0.Coords) : Fin 4 → Nat :=
  let c0_i32_48 : BitVec 32 := 0#32
  let c1_i32_49 : BitVec 32 := 1#32
  let c2048_i32 : BitVec 32 := 2048#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 2048, v102.toNat]
def k0_mult6 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off6 (i : grid0.Coords) : Fin 4 → Nat :=
  let c0_i32_57 : BitVec 32 := 0#32
  let c1_i32_58 : BitVec 32 := 1#32
  let c3072_i32 : BitVec 32 := 3072#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 3072, v112.toNat]
def k0_cond5 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c3_i32 : BitVec 32 := 3#32
  let v30 : BitVec 1 := Scalar.cmpi .eq arg1 c3_i32
  let v31 : BitVec 1 := Scalar.andi v16 v30
  let v32 : BitVec 32 := Scalar.extui v31
  let c0_i32_14 : BitVec 32 := 0#32
  let v33 : BitVec 1 := Scalar.cmpi .ne v32 c0_i32_14
  v33

def k0_mult7 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off7 (i : grid0.Coords) : Fin 4 → Nat :=
  let c0_i32_48 : BitVec 32 := 0#32
  let c1_i32_49 : BitVec 32 := 1#32
  let c3072_i32 : BitVec 32 := 3072#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 3072, v102.toNat]
def k0_mult8 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off8 (i : grid0.Coords) : Fin 4 → Nat :=
  let c0_i32_57 : BitVec 32 := 0#32
  let c1_i32_58 : BitVec 32 := 1#32
  let c0_i32_63 : BitVec 32 := 0#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 0, v112.toNat]
def k0_cond6 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c4_i32 : BitVec 32 := 4#32
  let v34 : BitVec 1 := Scalar.cmpi .eq arg1 c4_i32
  let v35 : BitVec 1 := Scalar.andi v16 v34
  let v36 : BitVec 32 := Scalar.extui v35
  let c0_i32_15 : BitVec 32 := 0#32
  let v37 : BitVec 1 := Scalar.cmpi .ne v36 c0_i32_15
  v37

def k0_mult9 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off9 (i : grid0.Coords) : Fin 4 → Nat :=
  let c0_i32_48 : BitVec 32 := 0#32
  let c1_i32_49 : BitVec 32 := 1#32
  let c0_i32_54 : BitVec 32 := 0#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 0, v102.toNat]
def k0_mult10 (i : grid0.Coords) : BitVec 32 :=
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  v111
def k0_off10 (i : grid0.Coords) : Fin 4 → Nat :=
  let c0_i32_58 : BitVec 32 := 0#32
  let c1_i32_59 : BitVec 32 := 1#32
  let c1024_i32 : BitVec 32 := 1024#32
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  let v112 : BitVec 32 := v111
  ![0, 1, 1024, v112.toNat]
def k0_cond7 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c5_i32 : BitVec 32 := 5#32
  let v38 : BitVec 1 := Scalar.cmpi .eq arg1 c5_i32
  let v39 : BitVec 1 := Scalar.andi v16 v38
  let v40 : BitVec 32 := Scalar.extui v39
  let c0_i32_16 : BitVec 32 := 0#32
  let v41 : BitVec 1 := Scalar.cmpi .ne v40 c0_i32_16
  v41

def k0_mult11 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off11 (i : grid0.Coords) : Fin 4 → Nat :=
  let c0_i32_48 : BitVec 32 := 0#32
  let c1_i32_49 : BitVec 32 := 1#32
  let c1024_i32 : BitVec 32 := 1024#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 1024, v102.toNat]
def k0_mult12 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off12 (i : grid0.Coords) : Fin 4 → Nat :=
  let c0_i32_57 : BitVec 32 := 0#32
  let c1_i32_58 : BitVec 32 := 1#32
  let c2048_i32 : BitVec 32 := 2048#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 2048, v112.toNat]
def k0_cond8 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c6_i32 : BitVec 32 := 6#32
  let v42 : BitVec 1 := Scalar.cmpi .eq arg1 c6_i32
  let v43 : BitVec 1 := Scalar.andi v16 v42
  let v44 : BitVec 32 := Scalar.extui v43
  let c0_i32_17 : BitVec 32 := 0#32
  let v45 : BitVec 1 := Scalar.cmpi .ne v44 c0_i32_17
  v45

def k0_mult13 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off13 (i : grid0.Coords) : Fin 4 → Nat :=
  let c0_i32_48 : BitVec 32 := 0#32
  let c1_i32_49 : BitVec 32 := 1#32
  let c2048_i32 : BitVec 32 := 2048#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 2048, v102.toNat]
def k0_mult14 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off14 (i : grid0.Coords) : Fin 4 → Nat :=
  let c0_i32_57 : BitVec 32 := 0#32
  let c1_i32_58 : BitVec 32 := 1#32
  let c3072_i32 : BitVec 32 := 3072#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 3072, v112.toNat]
def k0_cond9 (i : grid0.Coords) : BitVec 1 :=
  let arg0 : BitVec 32 := BitVec.ofNat 32 (i 0).val
  let c1_i32_6 : BitVec 32 := 1#32
  let v15 : BitVec 32 := Scalar.addi arg0 c1_i32_6
  let c21_i32 : BitVec 32 := 21#32
  let v16 : BitVec 1 := Scalar.cmpi .slt v15 c21_i32
  let arg1 : BitVec 32 := BitVec.ofNat 32 (i 1).val
  let c7_i32 : BitVec 32 := 7#32
  let v46 : BitVec 1 := Scalar.cmpi .eq arg1 c7_i32
  let v47 : BitVec 1 := Scalar.andi v16 v46
  let v48 : BitVec 32 := Scalar.extui v47
  let c0_i32_18 : BitVec 32 := 0#32
  let v49 : BitVec 1 := Scalar.cmpi .ne v48 c0_i32_18
  v49

def k0_mult15 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off15 (i : grid0.Coords) : Fin 4 → Nat :=
  let c0_i32_48 : BitVec 32 := 0#32
  let c1_i32_49 : BitVec 32 := 1#32
  let c3072_i32 : BitVec 32 := 3072#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 3072, v102.toNat]
def k0_cond10 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c0_i32_19 : BitVec 32 := 0#32
  let v50 : BitVec 1 := Scalar.cmpi .eq arg1 c0_i32_19
  let v51 : BitVec 1 := Scalar.andi v17 v50
  let v52 : BitVec 32 := Scalar.extui v51
  let c0_i32_20 : BitVec 32 := 0#32
  let v53 : BitVec 1 := Scalar.cmpi .ne v52 c0_i32_20
  v53

def k0_mult16 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off16 (i : grid0.Coords) : Fin 4 → Nat :=
  let c0_i32_48 : BitVec 32 := 0#32
  let c1_i32_49 : BitVec 32 := 1#32
  let c0_i32_54 : BitVec 32 := 0#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 0, v102.toNat]
def k0_mult17 (i : grid0.Coords) : BitVec 32 :=
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  v111
def k0_off17 (i : grid0.Coords) : Fin 4 → Nat :=
  let c0_i32_58 : BitVec 32 := 0#32
  let c1_i32_59 : BitVec 32 := 1#32
  let c1024_i32 : BitVec 32 := 1024#32
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  let v112 : BitVec 32 := v111
  ![0, 1, 1024, v112.toNat]
def k0_cond11 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c1_i32_21 : BitVec 32 := 1#32
  let v54 : BitVec 1 := Scalar.cmpi .eq arg1 c1_i32_21
  let v55 : BitVec 1 := Scalar.andi v17 v54
  let v56 : BitVec 32 := Scalar.extui v55
  let c0_i32_22 : BitVec 32 := 0#32
  let v57 : BitVec 1 := Scalar.cmpi .ne v56 c0_i32_22
  v57

def k0_mult18 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off18 (i : grid0.Coords) : Fin 4 → Nat :=
  let c0_i32_48 : BitVec 32 := 0#32
  let c1_i32_49 : BitVec 32 := 1#32
  let c1024_i32 : BitVec 32 := 1024#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 1024, v102.toNat]
def k0_mult19 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off19 (i : grid0.Coords) : Fin 4 → Nat :=
  let c0_i32_57 : BitVec 32 := 0#32
  let c1_i32_58 : BitVec 32 := 1#32
  let c2048_i32 : BitVec 32 := 2048#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 2048, v112.toNat]
def k0_cond12 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c2_i32_23 : BitVec 32 := 2#32
  let v58 : BitVec 1 := Scalar.cmpi .eq arg1 c2_i32_23
  let v59 : BitVec 1 := Scalar.andi v17 v58
  let v60 : BitVec 32 := Scalar.extui v59
  let c0_i32_24 : BitVec 32 := 0#32
  let v61 : BitVec 1 := Scalar.cmpi .ne v60 c0_i32_24
  v61

def k0_mult20 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off20 (i : grid0.Coords) : Fin 4 → Nat :=
  let c0_i32_48 : BitVec 32 := 0#32
  let c1_i32_49 : BitVec 32 := 1#32
  let c2048_i32 : BitVec 32 := 2048#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 2048, v102.toNat]
def k0_mult21 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off21 (i : grid0.Coords) : Fin 4 → Nat :=
  let c0_i32_57 : BitVec 32 := 0#32
  let c1_i32_58 : BitVec 32 := 1#32
  let c3072_i32 : BitVec 32 := 3072#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 3072, v112.toNat]
def k0_cond13 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c3_i32_25 : BitVec 32 := 3#32
  let v62 : BitVec 1 := Scalar.cmpi .eq arg1 c3_i32_25
  let v63 : BitVec 1 := Scalar.andi v17 v62
  let v64 : BitVec 32 := Scalar.extui v63
  let c0_i32_26 : BitVec 32 := 0#32
  let v65 : BitVec 1 := Scalar.cmpi .ne v64 c0_i32_26
  v65

def k0_mult22 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off22 (i : grid0.Coords) : Fin 4 → Nat :=
  let c0_i32_48 : BitVec 32 := 0#32
  let c1_i32_49 : BitVec 32 := 1#32
  let c3072_i32 : BitVec 32 := 3072#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 3072, v102.toNat]
def k0_mult23 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off23 (i : grid0.Coords) : Fin 4 → Nat :=
  let c0_i32_57 : BitVec 32 := 0#32
  let c1_i32_58 : BitVec 32 := 1#32
  let c0_i32_63 : BitVec 32 := 0#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 0, v112.toNat]
def k0_cond14 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c4_i32_27 : BitVec 32 := 4#32
  let v66 : BitVec 1 := Scalar.cmpi .eq arg1 c4_i32_27
  let v67 : BitVec 1 := Scalar.andi v17 v66
  let v68 : BitVec 32 := Scalar.extui v67
  let c0_i32_28 : BitVec 32 := 0#32
  let v69 : BitVec 1 := Scalar.cmpi .ne v68 c0_i32_28
  v69

def k0_mult24 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off24 (i : grid0.Coords) : Fin 4 → Nat :=
  let c0_i32_48 : BitVec 32 := 0#32
  let c1_i32_49 : BitVec 32 := 1#32
  let c0_i32_54 : BitVec 32 := 0#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 0, v102.toNat]
def k0_mult25 (i : grid0.Coords) : BitVec 32 :=
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  v111
def k0_off25 (i : grid0.Coords) : Fin 4 → Nat :=
  let c0_i32_58 : BitVec 32 := 0#32
  let c1_i32_59 : BitVec 32 := 1#32
  let c1024_i32 : BitVec 32 := 1024#32
  let c0_i32_57 : BitVec 32 := 0#32
  let arg0 : BitVec 32 := BitVec.ofNat 32 (i 0).val
  let c1_i32_55 : BitVec 32 := 1#32
  let v109 : BitVec 32 := Scalar.addi arg0 c1_i32_55
  let c512_i32_56 : BitVec 32 := 512#32
  let v110 : BitVec 32 := Scalar.muli v109 c512_i32_56
  let v111 : BitVec 32 := Scalar.addi c0_i32_57 v110
  let v112 : BitVec 32 := v111
  ![0, 1, 1024, v112.toNat]
def k0_cond15 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c5_i32_29 : BitVec 32 := 5#32
  let v70 : BitVec 1 := Scalar.cmpi .eq arg1 c5_i32_29
  let v71 : BitVec 1 := Scalar.andi v17 v70
  let v72 : BitVec 32 := Scalar.extui v71
  let c0_i32_30 : BitVec 32 := 0#32
  let v73 : BitVec 1 := Scalar.cmpi .ne v72 c0_i32_30
  v73

def k0_mult26 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off26 (i : grid0.Coords) : Fin 4 → Nat :=
  let c0_i32_48 : BitVec 32 := 0#32
  let c1_i32_49 : BitVec 32 := 1#32
  let c1024_i32 : BitVec 32 := 1024#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 1024, v102.toNat]
def k0_mult27 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off27 (i : grid0.Coords) : Fin 4 → Nat :=
  let c0_i32_57 : BitVec 32 := 0#32
  let c1_i32_58 : BitVec 32 := 1#32
  let c2048_i32 : BitVec 32 := 2048#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 2048, v112.toNat]
def k0_cond16 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c6_i32_31 : BitVec 32 := 6#32
  let v74 : BitVec 1 := Scalar.cmpi .eq arg1 c6_i32_31
  let v75 : BitVec 1 := Scalar.andi v17 v74
  let v76 : BitVec 32 := Scalar.extui v75
  let c0_i32_32 : BitVec 32 := 0#32
  let v77 : BitVec 1 := Scalar.cmpi .ne v76 c0_i32_32
  v77

def k0_mult28 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off28 (i : grid0.Coords) : Fin 4 → Nat :=
  let c0_i32_48 : BitVec 32 := 0#32
  let c1_i32_49 : BitVec 32 := 1#32
  let c2048_i32 : BitVec 32 := 2048#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 2048, v102.toNat]
def k0_mult29 (i : grid0.Coords) : BitVec 32 :=
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  v111
def k0_off29 (i : grid0.Coords) : Fin 4 → Nat :=
  let c0_i32_57 : BitVec 32 := 0#32
  let c1_i32_58 : BitVec 32 := 1#32
  let c3072_i32 : BitVec 32 := 3072#32
  let c0_i32_56 : BitVec 32 := 0#32
  let arg0 : BitVec 32 := BitVec.ofNat 32 (i 0).val
  let c1_i32_54 : BitVec 32 := 1#32
  let v109 : BitVec 32 := Scalar.addi arg0 c1_i32_54
  let c512_i32_55 : BitVec 32 := 512#32
  let v110 : BitVec 32 := Scalar.muli v109 c512_i32_55
  let v111 : BitVec 32 := Scalar.addi c0_i32_56 v110
  let v112 : BitVec 32 := v111
  ![0, 1, 3072, v112.toNat]
def k0_cond17 (i : grid0.Coords) : BitVec 1 :=
  let arg0 : BitVec 32 := BitVec.ofNat 32 (i 0).val
  let c1_i32_6 : BitVec 32 := 1#32
  let v15 : BitVec 32 := Scalar.addi arg0 c1_i32_6
  let c21_i32_7 : BitVec 32 := 21#32
  let v17 : BitVec 1 := Scalar.cmpi .eq v15 c21_i32_7
  let arg1 : BitVec 32 := BitVec.ofNat 32 (i 1).val
  let c7_i32_33 : BitVec 32 := 7#32
  let v78 : BitVec 1 := Scalar.cmpi .eq arg1 c7_i32_33
  let v79 : BitVec 1 := Scalar.andi v17 v78
  let v80 : BitVec 32 := Scalar.extui v79
  let c0_i32_34 : BitVec 32 := 0#32
  let v81 : BitVec 1 := Scalar.cmpi .ne v80 c0_i32_34
  v81

def k0_mult30 (i : grid0.Coords) : BitVec 32 :=
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  v101
def k0_off30 (i : grid0.Coords) : Fin 4 → Nat :=
  let c0_i32_48 : BitVec 32 := 0#32
  let c1_i32_49 : BitVec 32 := 1#32
  let c3072_i32 : BitVec 32 := 3072#32
  let c0_i32_47 : BitVec 32 := 0#32
  let arg0 : BitVec 32 := BitVec.ofNat 32 (i 0).val
  let c1_i32_46 : BitVec 32 := 1#32
  let v99 : BitVec 32 := Scalar.addi arg0 c1_i32_46
  let c512_i32 : BitVec 32 := 512#32
  let v100 : BitVec 32 := Scalar.muli v99 c512_i32
  let v101 : BitVec 32 := Scalar.addi c0_i32_47 v100
  let v102 : BitVec 32 := v101
  ![0, 1, 3072, v102.toNat]
def k0_cond18 (i : grid0.Coords) : BitVec 1 :=
  let arg0 : BitVec 32 := BitVec.ofNat 32 (i 0).val
  let c2_i32_35 : BitVec 32 := 2#32
  let v82 : BitVec 32 := Scalar.addi arg0 c2_i32_35
  let c21_i32_36 : BitVec 32 := 21#32
  let v83 : BitVec 1 := Scalar.cmpi .slt v82 c21_i32_36
  let arg1 : BitVec 32 := BitVec.ofNat 32 (i 1).val
  let c7_i32_38 : BitVec 32 := 7#32
  let v85 : BitVec 1 := Scalar.cmpi .eq arg1 c7_i32_38
  let v86 : BitVec 1 := Scalar.andi v83 v85
  let v87 : BitVec 32 := Scalar.extui v86
  let c0_i32_39 : BitVec 32 := 0#32
  let v88 : BitVec 1 := Scalar.cmpi .ne v87 c0_i32_39
  v88

def k0_mult31 (i : grid0.Coords) : BitVec 32 :=
  let c0_i32_47 : BitVec 32 := 0#32
  let arg0 : BitVec 32 := BitVec.ofNat 32 (i 0).val
  let c2_i32_46 : BitVec 32 := 2#32
  let v99 : BitVec 32 := Scalar.addi arg0 c2_i32_46
  let c512_i32 : BitVec 32 := 512#32
  let v100 : BitVec 32 := Scalar.muli v99 c512_i32
  let v101 : BitVec 32 := Scalar.addi c0_i32_47 v100
  v101
def k0_off31 (i : grid0.Coords) : Fin 4 → Nat :=
  let c0_i32_48 : BitVec 32 := 0#32
  let c1_i32_49 : BitVec 32 := 1#32
  let c0_i32_54 : BitVec 32 := 0#32
  let c0_i32_47 : BitVec 32 := 0#32
  let arg0 : BitVec 32 := BitVec.ofNat 32 (i 0).val
  let c2_i32_46 : BitVec 32 := 2#32
  let v99 : BitVec 32 := Scalar.addi arg0 c2_i32_46
  let c512_i32 : BitVec 32 := 512#32
  let v100 : BitVec 32 := Scalar.muli v99 c512_i32
  let v101 : BitVec 32 := Scalar.addi c0_i32_47 v100
  let v102 : BitVec 32 := v101
  ![0, 1, 0, v102.toNat]
def k0_cond19 (i : grid0.Coords) : BitVec 1 :=
  let arg0 : BitVec 32 := BitVec.ofNat 32 (i 0).val
  let c2_i32_35 : BitVec 32 := 2#32
  let v82 : BitVec 32 := Scalar.addi arg0 c2_i32_35
  let c21_i32_37 : BitVec 32 := 21#32
  let v84 : BitVec 1 := Scalar.cmpi .eq v82 c21_i32_37
  let arg1 : BitVec 32 := BitVec.ofNat 32 (i 1).val
  let c7_i32_40 : BitVec 32 := 7#32
  let v89 : BitVec 1 := Scalar.cmpi .eq arg1 c7_i32_40
  let v90 : BitVec 1 := Scalar.andi v84 v89
  let v91 : BitVec 32 := Scalar.extui v90
  let c0_i32_41 : BitVec 32 := 0#32
  let v92 : BitVec 1 := Scalar.cmpi .ne v91 c0_i32_41
  v92

def k0_mult32 (i : grid0.Coords) : BitVec 32 :=
  let c0_i32_47 : BitVec 32 := 0#32
  let arg0 : BitVec 32 := BitVec.ofNat 32 (i 0).val
  let c2_i32_46 : BitVec 32 := 2#32
  let v99 : BitVec 32 := Scalar.addi arg0 c2_i32_46
  let c512_i32 : BitVec 32 := 512#32
  let v100 : BitVec 32 := Scalar.muli v99 c512_i32
  let v101 : BitVec 32 := Scalar.addi c0_i32_47 v100
  v101
def k0_off32 (i : grid0.Coords) : Fin 4 → Nat :=
  let c0_i32_48 : BitVec 32 := 0#32
  let c1_i32_49 : BitVec 32 := 1#32
  let c0_i32_54 : BitVec 32 := 0#32
  let c0_i32_47 : BitVec 32 := 0#32
  let arg0 : BitVec 32 := BitVec.ofNat 32 (i 0).val
  let c2_i32_46 : BitVec 32 := 2#32
  let v99 : BitVec 32 := Scalar.addi arg0 c2_i32_46
  let c512_i32 : BitVec 32 := 512#32
  let v100 : BitVec 32 := Scalar.muli v99 c512_i32
  let v101 : BitVec 32 := Scalar.addi c0_i32_47 v100
  let v102 : BitVec 32 := v101
  ![0, 1, 0, v102.toNat]
def k0_cond20 (i : grid0.Coords) : BitVec 1 :=
  let arg0 : BitVec 32 := BitVec.ofNat 32 (i 0).val
  let c21_i32_42 : BitVec 32 := 21#32
  let v93 : BitVec 1 := Scalar.cmpi .slt arg0 c21_i32_42
  let v94 : BitVec 32 := Scalar.extui v93
  let c0_i32_43 : BitVec 32 := 0#32
  let v95 : BitVec 1 := Scalar.cmpi .ne v94 c0_i32_43
  v95

def k0_mult33 (i : grid0.Coords) : BitVec 32 :=
  let arg1 : BitVec 32 := BitVec.ofNat 32 (i 1).val
  let c7_i32_46 : BitVec 32 := 7#32
  let v99 : BitVec 32 := Scalar.minsi arg1 c7_i32_46
  let c4_i32_54 : BitVec 32 := 4#32
  let c0_i32_55 : BitVec 32 := 0#32
  let v117 : BitVec 1 := Scalar.cmpi .eq c4_i32_54 c0_i32_55
  let c1_i32_56 : BitVec 32 := 1#32
  let v118 : BitVec 32 := Scalar.select v117 c1_i32_56 c4_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let c1024_i32 : BitVec 32 := 1024#32
  let v127 : BitVec 32 := Scalar.muli v126 c1024_i32
  v127
def k0_off33 (i : grid0.Coords) : Fin 3 → Nat :=
  let arg1 : BitVec 32 := BitVec.ofNat 32 (i 1).val
  let c7_i32_46 : BitVec 32 := 7#32
  let v99 : BitVec 32 := Scalar.minsi arg1 c7_i32_46
  let c2_i32_60 : BitVec 32 := 2#32
  let c0_i32_61 : BitVec 32 := 0#32
  let v129 : BitVec 1 := Scalar.cmpi .eq c2_i32_60 c0_i32_61
  let c1_i32_62 : BitVec 32 := 1#32
  let v130 : BitVec 32 := Scalar.select v129 c1_i32_62 c2_i32_60
  let v131 : BitVec 32 := Scalar.remsi v99 v130
  let c0_i32_64 : BitVec 32 := 0#32
  let v133 : BitVec 1 := Scalar.cmpi .slt v131 c0_i32_64
  let c0_i32_65 : BitVec 32 := 0#32
  let v134 : BitVec 1 := Scalar.cmpi .slt v130 c0_i32_65
  let v135 : BitVec 1 := Scalar.xori v133 v134
  let c0_i32_63 : BitVec 32 := 0#32
  let v132 : BitVec 1 := Scalar.cmpi .ne v131 c0_i32_63
  let v136 : BitVec 1 := Scalar.andi v135 v132
  let v137 : BitVec 32 := Scalar.addi v131 v130
  let v138 : BitVec 32 := Scalar.select v136 v137 v131
  let v139 : Index := Scalar.indexCast v138
  let c0 : Index := 0#32
  let c0_66 : Index := 0#32
  ![v139.toNat, 0, 0]
def k0_off34 (i : grid0.Coords) : Fin 4 → Nat :=
  let c1_i32_67 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : BitVec 32 := Scalar.subi c1_i32_67 v9
  let v144 : Index := Scalar.indexCast v143
  let arg1 : BitVec 32 := BitVec.ofNat 32 (i 1).val
  let c7_i32_46 : BitVec 32 := 7#32
  let v99 : BitVec 32 := Scalar.minsi arg1 c7_i32_46
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c4_i32_47 : BitVec 32 := 4#32
  let c0_i32_50 : BitVec 32 := 0#32
  let v106 : BitVec 1 := Scalar.cmpi .sgt c4_i32_47 c0_i32_50
  let v107 : BitVec 32 := Scalar.extui v106
  let c0_i32_51 : BitVec 32 := 0#32
  let v108 : BitVec 1 := Scalar.cmpi .slt c4_i32_47 c0_i32_51
  let v109 : BitVec 32 := Scalar.extui v108
  let v110 : BitVec 32 := Scalar.subi v107 v109
  let v111 : BitVec 1 := Scalar.cmpi .ne v105 v110
  let v112 : BitVec 32 := Scalar.remsi v99 c4_i32_47
  let c0_i32_52 : BitVec 32 := 0#32
  let v113 : BitVec 1 := Scalar.cmpi .ne v112 c0_i32_52
  let v114 : BitVec 1 := Scalar.andi v111 v113
  let v100 : BitVec 32 := Scalar.divsi v99 c4_i32_47
  let c1_i32_53 : BitVec 32 := 1#32
  let v115 : BitVec 32 := Scalar.subi v100 c1_i32_53
  let v116 : BitVec 32 := Scalar.select v114 v115 v100
  let v145 : Index := Scalar.indexCast v116
  let c4_i32_54 : BitVec 32 := 4#32
  let c0_i32_55 : BitVec 32 := 0#32
  let v117 : BitVec 1 := Scalar.cmpi .eq c4_i32_54 c0_i32_55
  let c1_i32_56 : BitVec 32 := 1#32
  let v118 : BitVec 32 := Scalar.select v117 c1_i32_56 c4_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let c1024_i32 : BitVec 32 := 1024#32
  let v127 : BitVec 32 := Scalar.muli v126 c1024_i32
  let v128 : BitVec 32 := v127
  let v146 : Index := Scalar.indexCast v128
  let c0_68 : Index := 0#32
  ![v144.toNat, v145.toNat, v146.toNat, 0]
def k0_off35 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v151 : Index := Scalar.indexCast v9
  let c0_71 : Index := 0#32
  let c0_72 : Index := 0#32
  let c0_73 : Index := 0#32
  ![v151.toNat, 0, 0, 0]
def k0_off36 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v156 : Index := Scalar.indexCast v9
  let c1 : Index := 1#32
  let c0_76 : Index := 0#32
  let c0_77 : Index := 0#32
  ![v156.toNat, 1, 0, 0]
def k0_cond21 (i : grid0.Coords) : BitVec 1 :=
  let arg0 : BitVec 32 := BitVec.ofNat 32 (i 0).val
  let c21_i32_44 : BitVec 32 := 21#32
  let v96 : BitVec 1 := Scalar.cmpi .eq arg0 c21_i32_44
  let v97 : BitVec 32 := Scalar.extui v96
  let c0_i32_45 : BitVec 32 := 0#32
  let v98 : BitVec 1 := Scalar.cmpi .ne v97 c0_i32_45
  v98

def k0_mult34 (i : grid0.Coords) : BitVec 32 :=
  let arg1 : BitVec 32 := BitVec.ofNat 32 (i 1).val
  let c7_i32_46 : BitVec 32 := 7#32
  let v99 : BitVec 32 := Scalar.minsi arg1 c7_i32_46
  let c4_i32_54 : BitVec 32 := 4#32
  let c0_i32_55 : BitVec 32 := 0#32
  let v117 : BitVec 1 := Scalar.cmpi .eq c4_i32_54 c0_i32_55
  let c1_i32_56 : BitVec 32 := 1#32
  let v118 : BitVec 32 := Scalar.select v117 c1_i32_56 c4_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let c1024_i32 : BitVec 32 := 1024#32
  let v127 : BitVec 32 := Scalar.muli v126 c1024_i32
  v127
def k0_off37 (i : grid0.Coords) : Fin 3 → Nat :=
  let arg1 : BitVec 32 := BitVec.ofNat 32 (i 1).val
  let c7_i32_46 : BitVec 32 := 7#32
  let v99 : BitVec 32 := Scalar.minsi arg1 c7_i32_46
  let c2_i32_60 : BitVec 32 := 2#32
  let c0_i32_61 : BitVec 32 := 0#32
  let v129 : BitVec 1 := Scalar.cmpi .eq c2_i32_60 c0_i32_61
  let c1_i32_62 : BitVec 32 := 1#32
  let v130 : BitVec 32 := Scalar.select v129 c1_i32_62 c2_i32_60
  let v131 : BitVec 32 := Scalar.remsi v99 v130
  let c0_i32_64 : BitVec 32 := 0#32
  let v133 : BitVec 1 := Scalar.cmpi .slt v131 c0_i32_64
  let c0_i32_65 : BitVec 32 := 0#32
  let v134 : BitVec 1 := Scalar.cmpi .slt v130 c0_i32_65
  let v135 : BitVec 1 := Scalar.xori v133 v134
  let c0_i32_63 : BitVec 32 := 0#32
  let v132 : BitVec 1 := Scalar.cmpi .ne v131 c0_i32_63
  let v136 : BitVec 1 := Scalar.andi v135 v132
  let v137 : BitVec 32 := Scalar.addi v131 v130
  let v138 : BitVec 32 := Scalar.select v136 v137 v131
  let v139 : Index := Scalar.indexCast v138
  let c0 : Index := 0#32
  let c0_66 : Index := 0#32
  ![v139.toNat, 0, 0]
def k0_off38 (i : grid0.Coords) : Fin 4 → Nat :=
  let c1_i32_67 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : BitVec 32 := Scalar.subi c1_i32_67 v9
  let v144 : Index := Scalar.indexCast v143
  let arg1 : BitVec 32 := BitVec.ofNat 32 (i 1).val
  let c7_i32_46 : BitVec 32 := 7#32
  let v99 : BitVec 32 := Scalar.minsi arg1 c7_i32_46
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c4_i32_47 : BitVec 32 := 4#32
  let c0_i32_50 : BitVec 32 := 0#32
  let v106 : BitVec 1 := Scalar.cmpi .sgt c4_i32_47 c0_i32_50
  let v107 : BitVec 32 := Scalar.extui v106
  let c0_i32_51 : BitVec 32 := 0#32
  let v108 : BitVec 1 := Scalar.cmpi .slt c4_i32_47 c0_i32_51
  let v109 : BitVec 32 := Scalar.extui v108
  let v110 : BitVec 32 := Scalar.subi v107 v109
  let v111 : BitVec 1 := Scalar.cmpi .ne v105 v110
  let v112 : BitVec 32 := Scalar.remsi v99 c4_i32_47
  let c0_i32_52 : BitVec 32 := 0#32
  let v113 : BitVec 1 := Scalar.cmpi .ne v112 c0_i32_52
  let v114 : BitVec 1 := Scalar.andi v111 v113
  let v100 : BitVec 32 := Scalar.divsi v99 c4_i32_47
  let c1_i32_53 : BitVec 32 := 1#32
  let v115 : BitVec 32 := Scalar.subi v100 c1_i32_53
  let v116 : BitVec 32 := Scalar.select v114 v115 v100
  let v145 : Index := Scalar.indexCast v116
  let c4_i32_54 : BitVec 32 := 4#32
  let c0_i32_55 : BitVec 32 := 0#32
  let v117 : BitVec 1 := Scalar.cmpi .eq c4_i32_54 c0_i32_55
  let c1_i32_56 : BitVec 32 := 1#32
  let v118 : BitVec 32 := Scalar.select v117 c1_i32_56 c4_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let c1024_i32 : BitVec 32 := 1024#32
  let v127 : BitVec 32 := Scalar.muli v126 c1024_i32
  let v128 : BitVec 32 := v127
  let v146 : Index := Scalar.indexCast v128
  let c0_68 : Index := 0#32
  ![v144.toNat, v145.toNat, v146.toNat, 0]
def k0_off39 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v151 : Index := Scalar.indexCast v9
  let c0_71 : Index := 0#32
  let c0_72 : Index := 0#32
  let c0_73 : Index := 0#32
  ![v151.toNat, 0, 0, 0]
def k0_off40 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v156 : Index := Scalar.indexCast v9
  let c1 : Index := 1#32
  let c0_76 : Index := 0#32
  let c0_77 : Index := 0#32
  ![v156.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S8192x4096 : Shape := ⟨2, ![8192, 4096]⟩
abbrev S1x2x4096x11008 : Shape := ⟨4, ![1, 2, 4096, 11008]⟩
abbrev S1x1x4096x11008 : Shape := ⟨4, ![1, 1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x2x4096x11008, .f32⟩
  | .hbm, ⟨2, _⟩ => ⟨S1x2x4096x11008, .f32⟩
  | .hbm, ⟨3, _⟩ => ⟨S8192x4096, .f32⟩
  | .hbm, ⟨4, _⟩ => ⟨S1x1x4096x11008, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S1x1x4096x11008, .f32⟩
  | .hbm, ⟨17, _⟩ => ⟨S4096x11008, .f32⟩
  | .hbm, ⟨18, _⟩ => ⟨S8192x11008, .f32⟩
  | .hbm, ⟨19, _⟩ => ⟨S8192x11008, .f32⟩
  | .hbm, ⟨20, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S8192x11008 : Shape := ⟨2, ![8192, 11008]⟩
abbrev S1x2x11008x4096 : Shape := ⟨4, ![1, 2, 11008, 4096]⟩
abbrev S8192x4096 : Shape := ⟨2, ![8192, 4096]⟩
abbrev S512x11008 : Shape := ⟨2, ![512, 11008]⟩
abbrev S512x512 : Shape := ⟨2, ![512, 512]⟩
abbrev S2x1x11008x512 : Shape := ⟨4, ![2, 1, 11008, 512]⟩
abbrev S2x688x512 : Shape := ⟨3, ![2, 688, 512]⟩
abbrev S2 : Shape := ⟨1, ![2]⟩
abbrev S1 : Shape := ⟨1, ![1]⟩
abbrev S_ : Shape := ⟨0, ![]⟩
abbrev S1x688x512 : Shape := ⟨3, ![1, 688, 512]⟩
abbrev S688x512 : Shape := ⟨2, ![688, 512]⟩
abbrev S1x1x688x512 : Shape := ⟨4, ![1, 1, 688, 512]⟩
abbrev S1x1x11008x512 : Shape := ⟨4, ![1, 1, 11008, 512]⟩
abbrev S11008x512 : Shape := ⟨2, ![11008, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S1x2x11008x4096, .f32⟩
  | .hbm, ⟨2, _⟩ => ⟨S8192x4096, .bf16⟩
  | .local _ .vmem, ⟨0, _⟩ => ⟨S512x11008, .bf16⟩
  | .local _ .vmem, ⟨1, _⟩ => ⟨S512x11008, .bf16⟩
  | .local _ .vmem, ⟨2, _⟩ => ⟨S512x512, .bf16⟩
  | .local _ .vmem, ⟨3, _⟩ => ⟨S512x512, .bf16⟩
  | .local _ .vmem, ⟨4, _⟩ => ⟨S2x1x11008x512, .bf16⟩
  | .local _ .vmem, ⟨5, _⟩ => ⟨S2x688x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c0_i32_7 : BitVec 32 := 0#32
  let v17 : BitVec 1 := Scalar.cmpi .eq arg1 c0_i32_7
  let v18 : BitVec 1 := Scalar.andi v16 v17
  let v19 : BitVec 32 := Scalar.extui v18
  let c0_i32_8 : BitVec 32 := 0#32
  let v20 : BitVec 1 := Scalar.cmpi .ne v19 c0_i32_8
  v20

def k0_mult1 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off1 (i : grid0.Coords) : Fin 4 → Nat :=
  let c0_i32_62 : BitVec 32 := 0#32
  let c1_i32_63 : BitVec 32 := 1#32
  let c0_i32_68 : BitVec 32 := 0#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 0, v148.toNat]
def k0_mult2 (i : grid0.Coords) : BitVec 32 :=
  let c0_i32_71 : BitVec 32 := 0#32
  let arg0 : BitVec 32 := BitVec.ofNat 32 (i 0).val
  let c1_i32_69 : BitVec 32 := 1#32
  let v155 : BitVec 32 := Scalar.addi arg0 c1_i32_69
  let c512_i32_70 : BitVec 32 := 512#32
  let v156 : BitVec 32 := Scalar.muli v155 c512_i32_70
  let v157 : BitVec 32 := Scalar.addi c0_i32_71 v156
  v157
def k0_off2 (i : grid0.Coords) : Fin 4 → Nat :=
  let c0_i32_72 : BitVec 32 := 0#32
  let c1_i32_73 : BitVec 32 := 1#32
  let c688_i32_78 : BitVec 32 := 688#32
  let c0_i32_71 : BitVec 32 := 0#32
  let arg0 : BitVec 32 := BitVec.ofNat 32 (i 0).val
  let c1_i32_69 : BitVec 32 := 1#32
  let v155 : BitVec 32 := Scalar.addi arg0 c1_i32_69
  let c512_i32_70 : BitVec 32 := 512#32
  let v156 : BitVec 32 := Scalar.muli v155 c512_i32_70
  let v157 : BitVec 32 := Scalar.addi c0_i32_71 v156
  let v158 : BitVec 32 := v157
  ![0, 1, 688, v158.toNat]
def k0_cond3 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c1_i32_9 : BitVec 32 := 1#32
  let v21 : BitVec 1 := Scalar.cmpi .eq arg1 c1_i32_9
  let v22 : BitVec 1 := Scalar.andi v16 v21
  let v23 : BitVec 32 := Scalar.extui v22
  let c0_i32_10 : BitVec 32 := 0#32
  let v24 : BitVec 1 := Scalar.cmpi .ne v23 c0_i32_10
  v24

def k0_mult3 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off3 (i : grid0.Coords) : Fin 4 → Nat :=
  let c0_i32_62 : BitVec 32 := 0#32
  let c1_i32_63 : BitVec 32 := 1#32
  let c688_i32_68 : BitVec 32 := 688#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 688, v148.toNat]
def k0_mult4 (i : grid0.Coords) : BitVec 32 :=
  let c0_i32_71 : BitVec 32 := 0#32
  let arg0 : BitVec 32 := BitVec.ofNat 32 (i 0).val
  let c1_i32_69 : BitVec 32 := 1#32
  let v155 : BitVec 32 := Scalar.addi arg0 c1_i32_69
  let c512_i32_70 : BitVec 32 := 512#32
  let v156 : BitVec 32 := Scalar.muli v155 c512_i32_70
  let v157 : BitVec 32 := Scalar.addi c0_i32_71 v156
  v157
def k0_off4 (i : grid0.Coords) : Fin 4 → Nat :=
  let c0_i32_72 : BitVec 32 := 0#32
  let c1_i32_73 : BitVec 32 := 1#32
  let c1376_i32 : BitVec 32 := 1376#32
  let c0_i32_71 : BitVec 32 := 0#32
  let arg0 : BitVec 32 := BitVec.ofNat 32 (i 0).val
  let c1_i32_69 : BitVec 32 := 1#32
  let v155 : BitVec 32 := Scalar.addi arg0 c1_i32_69
  let c512_i32_70 : BitVec 32 := 512#32
  let v156 : BitVec 32 := Scalar.muli v155 c512_i32_70
  let v157 : BitVec 32 := Scalar.addi c0_i32_71 v156
  let v158 : BitVec 32 := v157
  ![0, 1, 1376, v158.toNat]
def k0_cond4 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c2_i32_11 : BitVec 32 := 2#32
  let v25 : BitVec 1 := Scalar.cmpi .eq arg1 c2_i32_11
  let v26 : BitVec 1 := Scalar.andi v16 v25
  let v27 : BitVec 32 := Scalar.extui v26
  let c0_i32_12 : BitVec 32 := 0#32
  let v28 : BitVec 1 := Scalar.cmpi .ne v27 c0_i32_12
  v28

def k0_mult5 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off5 (i : grid0.Coords) : Fin 4 → Nat :=
  let c0_i32_62 : BitVec 32 := 0#32
  let c1_i32_63 : BitVec 32 := 1#32
  let c1376_i32 : BitVec 32 := 1376#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 1376, v148.toNat]
def k0_mult6 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off6 (i : grid0.Coords) : Fin 4 → Nat :=
  let c0_i32_71 : BitVec 32 := 0#32
  let c1_i32_72 : BitVec 32 := 1#32
  let c2064_i32 : BitVec 32 := 2064#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 2064, v158.toNat]
def k0_cond5 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c3_i32 : BitVec 32 := 3#32
  let v29 : BitVec 1 := Scalar.cmpi .eq arg1 c3_i32
  let v30 : BitVec 1 := Scalar.andi v16 v29
  let v31 : BitVec 32 := Scalar.extui v30
  let c0_i32_13 : BitVec 32 := 0#32
  let v32 : BitVec 1 := Scalar.cmpi .ne v31 c0_i32_13
  v32

def k0_mult7 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off7 (i : grid0.Coords) : Fin 4 → Nat :=
  let c0_i32_62 : BitVec 32 := 0#32
  let c1_i32_63 : BitVec 32 := 1#32
  let c2064_i32 : BitVec 32 := 2064#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 2064, v148.toNat]
def k0_mult8 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off8 (i : grid0.Coords) : Fin 4 → Nat :=
  let c0_i32_71 : BitVec 32 := 0#32
  let c1_i32_72 : BitVec 32 := 1#32
  let c2752_i32 : BitVec 32 := 2752#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 2752, v158.toNat]
def k0_cond6 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c4_i32 : BitVec 32 := 4#32
  let v33 : BitVec 1 := Scalar.cmpi .eq arg1 c4_i32
  let v34 : BitVec 1 := Scalar.andi v16 v33
  let v35 : BitVec 32 := Scalar.extui v34
  let c0_i32_14 : BitVec 32 := 0#32
  let v36 : BitVec 1 := Scalar.cmpi .ne v35 c0_i32_14
  v36

def k0_mult9 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off9 (i : grid0.Coords) : Fin 4 → Nat :=
  let c0_i32_62 : BitVec 32 := 0#32
  let c1_i32_63 : BitVec 32 := 1#32
  let c2752_i32 : BitVec 32 := 2752#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 2752, v148.toNat]
def k0_mult10 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off10 (i : grid0.Coords) : Fin 4 → Nat :=
  let c0_i32_71 : BitVec 32 := 0#32
  let c1_i32_72 : BitVec 32 := 1#32
  let c3440_i32 : BitVec 32 := 3440#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 3440, v158.toNat]
def k0_cond7 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c5_i32 : BitVec 32 := 5#32
  let v37 : BitVec 1 := Scalar.cmpi .eq arg1 c5_i32
  let v38 : BitVec 1 := Scalar.andi v16 v37
  let v39 : BitVec 32 := Scalar.extui v38
  let c0_i32_15 : BitVec 32 := 0#32
  let v40 : BitVec 1 := Scalar.cmpi .ne v39 c0_i32_15
  v40

def k0_mult11 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off11 (i : grid0.Coords) : Fin 4 → Nat :=
  let c0_i32_62 : BitVec 32 := 0#32
  let c1_i32_63 : BitVec 32 := 1#32
  let c3440_i32 : BitVec 32 := 3440#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 3440, v148.toNat]
def k0_mult12 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off12 (i : grid0.Coords) : Fin 4 → Nat :=
  let c0_i32_71 : BitVec 32 := 0#32
  let c1_i32_72 : BitVec 32 := 1#32
  let c4128_i32 : BitVec 32 := 4128#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 4128, v158.toNat]
def k0_cond8 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c6_i32 : BitVec 32 := 6#32
  let v41 : BitVec 1 := Scalar.cmpi .eq arg1 c6_i32
  let v42 : BitVec 1 := Scalar.andi v16 v41
  let v43 : BitVec 32 := Scalar.extui v42
  let c0_i32_16 : BitVec 32 := 0#32
  let v44 : BitVec 1 := Scalar.cmpi .ne v43 c0_i32_16
  v44

def k0_mult13 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off13 (i : grid0.Coords) : Fin 4 → Nat :=
  let c0_i32_62 : BitVec 32 := 0#32
  let c1_i32_63 : BitVec 32 := 1#32
  let c4128_i32 : BitVec 32 := 4128#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 4128, v148.toNat]
def k0_mult14 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off14 (i : grid0.Coords) : Fin 4 → Nat :=
  let c0_i32_71 : BitVec 32 := 0#32
  let c1_i32_72 : BitVec 32 := 1#32
  let c4816_i32 : BitVec 32 := 4816#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 4816, v158.toNat]
def k0_cond9 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c7_i32 : BitVec 32 := 7#32
  let v45 : BitVec 1 := Scalar.cmpi .eq arg1 c7_i32
  let v46 : BitVec 1 := Scalar.andi v16 v45
  let v47 : BitVec 32 := Scalar.extui v46
  let c0_i32_17 : BitVec 32 := 0#32
  let v48 : BitVec 1 := Scalar.cmpi .ne v47 c0_i32_17
  v48

def k0_mult15 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off15 (i : grid0.Coords) : Fin 4 → Nat :=
  let c0_i32_62 : BitVec 32 := 0#32
  let c1_i32_63 : BitVec 32 := 1#32
  let c4816_i32 : BitVec 32 := 4816#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 4816, v148.toNat]
def k0_mult16 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off16 (i : grid0.Coords) : Fin 4 → Nat :=
  let c0_i32_71 : BitVec 32 := 0#32
  let c1_i32_72 : BitVec 32 := 1#32
  let c5504_i32 : BitVec 32 := 5504#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 5504, v158.toNat]
def k0_cond10 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c8_i32_18 : BitVec 32 := 8#32
  let v49 : BitVec 1 := Scalar.cmpi .eq arg1 c8_i32_18
  let v50 : BitVec 1 := Scalar.andi v16 v49
  let v51 : BitVec 32 := Scalar.extui v50
  let c0_i32_19 : BitVec 32 := 0#32
  let v52 : BitVec 1 := Scalar.cmpi .ne v51 c0_i32_19
  v52

def k0_mult17 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off17 (i : grid0.Coords) : Fin 4 → Nat :=
  let c0_i32_62 : BitVec 32 := 0#32
  let c1_i32_63 : BitVec 32 := 1#32
  let c5504_i32 : BitVec 32 := 5504#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 5504, v148.toNat]
def k0_mult18 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off18 (i : grid0.Coords) : Fin 4 → Nat :=
  let c0_i32_71 : BitVec 32 := 0#32
  let c1_i32_72 : BitVec 32 := 1#32
  let c6192_i32 : BitVec 32 := 6192#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 6192, v158.toNat]
def k0_cond11 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c9_i32 : BitVec 32 := 9#32
  let v53 : BitVec 1 := Scalar.cmpi .eq arg1 c9_i32
  let v54 : BitVec 1 := Scalar.andi v16 v53
  let v55 : BitVec 32 := Scalar.extui v54
  let c0_i32_20 : BitVec 32 := 0#32
  let v56 : BitVec 1 := Scalar.cmpi .ne v55 c0_i32_20
  v56

def k0_mult19 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off19 (i : grid0.Coords) : Fin 4 → Nat :=
  let c0_i32_62 : BitVec 32 := 0#32
  let c1_i32_63 : BitVec 32 := 1#32
  let c6192_i32 : BitVec 32 := 6192#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 6192, v148.toNat]
def k0_mult20 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off20 (i : grid0.Coords) : Fin 4 → Nat :=
  let c0_i32_71 : BitVec 32 := 0#32
  let c1_i32_72 : BitVec 32 := 1#32
  let c6880_i32 : BitVec 32 := 6880#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 6880, v158.toNat]
def k0_cond12 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c10_i32 : BitVec 32 := 10#32
  let v57 : BitVec 1 := Scalar.cmpi .eq arg1 c10_i32
  let v58 : BitVec 1 := Scalar.andi v16 v57
  let v59 : BitVec 32 := Scalar.extui v58
  let c0_i32_21 : BitVec 32 := 0#32
  let v60 : BitVec 1 := Scalar.cmpi .ne v59 c0_i32_21
  v60

def k0_mult21 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off21 (i : grid0.Coords) : Fin 4 → Nat :=
  let c0_i32_62 : BitVec 32 := 0#32
  let c1_i32_63 : BitVec 32 := 1#32
  let c6880_i32 : BitVec 32 := 6880#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 6880, v148.toNat]
def k0_mult22 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off22 (i : grid0.Coords) : Fin 4 → Nat :=
  let c0_i32_71 : BitVec 32 := 0#32
  let c1_i32_72 : BitVec 32 := 1#32
  let c7568_i32 : BitVec 32 := 7568#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 7568, v158.toNat]
def k0_cond13 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c11_i32 : BitVec 32 := 11#32
  let v61 : BitVec 1 := Scalar.cmpi .eq arg1 c11_i32
  let v62 : BitVec 1 := Scalar.andi v16 v61
  let v63 : BitVec 32 := Scalar.extui v62
  let c0_i32_22 : BitVec 32 := 0#32
  let v64 : BitVec 1 := Scalar.cmpi .ne v63 c0_i32_22
  v64

def k0_mult23 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off23 (i : grid0.Coords) : Fin 4 → Nat :=
  let c0_i32_62 : BitVec 32 := 0#32
  let c1_i32_63 : BitVec 32 := 1#32
  let c7568_i32 : BitVec 32 := 7568#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 7568, v148.toNat]
def k0_mult24 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off24 (i : grid0.Coords) : Fin 4 → Nat :=
  let c0_i32_71 : BitVec 32 := 0#32
  let c1_i32_72 : BitVec 32 := 1#32
  let c8256_i32 : BitVec 32 := 8256#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 8256, v158.toNat]
def k0_cond14 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c12_i32 : BitVec 32 := 12#32
  let v65 : BitVec 1 := Scalar.cmpi .eq arg1 c12_i32
  let v66 : BitVec 1 := Scalar.andi v16 v65
  let v67 : BitVec 32 := Scalar.extui v66
  let c0_i32_23 : BitVec 32 := 0#32
  let v68 : BitVec 1 := Scalar.cmpi .ne v67 c0_i32_23
  v68

def k0_mult25 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off25 (i : grid0.Coords) : Fin 4 → Nat :=
  let c0_i32_62 : BitVec 32 := 0#32
  let c1_i32_63 : BitVec 32 := 1#32
  let c8256_i32 : BitVec 32 := 8256#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 8256, v148.toNat]
def k0_mult26 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off26 (i : grid0.Coords) : Fin 4 → Nat :=
  let c0_i32_71 : BitVec 32 := 0#32
  let c1_i32_72 : BitVec 32 := 1#32
  let c8944_i32 : BitVec 32 := 8944#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 8944, v158.toNat]
def k0_cond15 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c13_i32 : BitVec 32 := 13#32
  let v69 : BitVec 1 := Scalar.cmpi .eq arg1 c13_i32
  let v70 : BitVec 1 := Scalar.andi v16 v69
  let v71 : BitVec 32 := Scalar.extui v70
  let c0_i32_24 : BitVec 32 := 0#32
  let v72 : BitVec 1 := Scalar.cmpi .ne v71 c0_i32_24
  v72

def k0_mult27 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off27 (i : grid0.Coords) : Fin 4 → Nat :=
  let c0_i32_62 : BitVec 32 := 0#32
  let c1_i32_63 : BitVec 32 := 1#32
  let c8944_i32 : BitVec 32 := 8944#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 8944, v148.toNat]
def k0_mult28 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off28 (i : grid0.Coords) : Fin 4 → Nat :=
  let c0_i32_71 : BitVec 32 := 0#32
  let c1_i32_72 : BitVec 32 := 1#32
  let c9632_i32 : BitVec 32 := 9632#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 9632, v158.toNat]
def k0_cond16 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c14_i32 : BitVec 32 := 14#32
  let v73 : BitVec 1 := Scalar.cmpi .eq arg1 c14_i32
  let v74 : BitVec 1 := Scalar.andi v16 v73
  let v75 : BitVec 32 := Scalar.extui v74
  let c0_i32_25 : BitVec 32 := 0#32
  let v76 : BitVec 1 := Scalar.cmpi .ne v75 c0_i32_25
  v76

def k0_mult29 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off29 (i : grid0.Coords) : Fin 4 → Nat :=
  let c0_i32_62 : BitVec 32 := 0#32
  let c1_i32_63 : BitVec 32 := 1#32
  let c9632_i32 : BitVec 32 := 9632#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 9632, v148.toNat]
def k0_mult30 (i : grid0.Coords) : BitVec 32 :=
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  v157
def k0_off30 (i : grid0.Coords) : Fin 4 → Nat :=
  let c0_i32_71 : BitVec 32 := 0#32
  let c1_i32_72 : BitVec 32 := 1#32
  let c10320_i32 : BitVec 32 := 10320#32
  let c0_i32_70 : BitVec 32 := 0#32
  let arg0 : BitVec 32 := BitVec.ofNat 32 (i 0).val
  let c1_i32_68 : BitVec 32 := 1#32
  let v155 : BitVec 32 := Scalar.addi arg0 c1_i32_68
  let c512_i32_69 : BitVec 32 := 512#32
  let v156 : BitVec 32 := Scalar.muli v155 c512_i32_69
  let v157 : BitVec 32 := Scalar.addi c0_i32_70 v156
  let v158 : BitVec 32 := v157
  ![0, 1, 10320, v158.toNat]
def k0_cond17 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let arg1 : BitVec 32 := BitVec.ofNat 32 (i 1).val
  let c15_i32 : BitVec 32 := 15#32
  let v77 : BitVec 1 := Scalar.cmpi .eq arg1 c15_i32
  let v78 : BitVec 1 := Scalar.andi v16 v77
  let v79 : BitVec 32 := Scalar.extui v78
  let c0_i32_26 : BitVec 32 := 0#32
  let v80 : BitVec 1 := Scalar.cmpi .ne v79 c0_i32_26
  v80

def k0_mult31 (i : grid0.Coords) : BitVec 32 :=
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  v147
def k0_off31 (i : grid0.Coords) : Fin 4 → Nat :=
  let c0_i32_62 : BitVec 32 := 0#32
  let c1_i32_63 : BitVec 32 := 1#32
  let c10320_i32 : BitVec 32 := 10320#32
  let c0_i32_61 : BitVec 32 := 0#32
  let arg0 : BitVec 32 := BitVec.ofNat 32 (i 0).val
  let c1_i32_60 : BitVec 32 := 1#32
  let v145 : BitVec 32 := Scalar.addi arg0 c1_i32_60
  let c512_i32 : BitVec 32 := 512#32
  let v146 : BitVec 32 := Scalar.muli v145 c512_i32
  let v147 : BitVec 32 := Scalar.addi c0_i32_61 v146
  let v148 : BitVec 32 := v147
  ![0, 1, 10320, v148.toNat]
def k0_cond18 (i : grid0.Coords) : BitVec 1 :=
  let arg0 : BitVec 32 := BitVec.ofNat 32 (i 0).val
  let c2_i32_27 : BitVec 32 := 2#32
  let v81 : BitVec 32 := Scalar.addi arg0 c2_i32_27
  let c8_i32_28 : BitVec 32 := 8#32
  let v82 : BitVec 1 := Scalar.cmpi .slt v81 c8_i32_28
  let arg1 : BitVec 32 := BitVec.ofNat 32 (i 1).val
  let c15_i32_29 : BitVec 32 := 15#32
  let v83 : BitVec 1 := Scalar.cmpi .eq arg1 c15_i32_29
  let v84 : BitVec 1 := Scalar.andi v82 v83
  let v85 : BitVec 32 := Scalar.extui v84
  let c0_i32_30 : BitVec 32 := 0#32
  let v86 : BitVec 1 := Scalar.cmpi .ne v85 c0_i32_30
  v86

def k0_mult32 (i : grid0.Coords) : BitVec 32 :=
  let c0_i32_61 : BitVec 32 := 0#32
  let arg0 : BitVec 32 := BitVec.ofNat 32 (i 0).val
  let c2_i32_60 : BitVec 32 := 2#32
  let v145 : BitVec 32 := Scalar.addi arg0 c2_i32_60
  let c512_i32 : BitVec 32 := 512#32
  let v146 : BitVec 32 := Scalar.muli v145 c512_i32
  let v147 : BitVec 32 := Scalar.addi c0_i32_61 v146
  v147
def k0_off32 (i : grid0.Coords) : Fin 4 → Nat :=
  let c0_i32_62 : BitVec 32 := 0#32
  let c1_i32_63 : BitVec 32 := 1#32
  let c0_i32_68 : BitVec 32 := 0#32
  let c0_i32_61 : BitVec 32 := 0#32
  let arg0 : BitVec 32 := BitVec.ofNat 32 (i 0).val
  let c2_i32_60 : BitVec 32 := 2#32
  let v145 : BitVec 32 := Scalar.addi arg0 c2_i32_60
  let c512_i32 : BitVec 32 := 512#32
  let v146 : BitVec 32 := Scalar.muli v145 c512_i32
  let v147 : BitVec 32 := Scalar.addi c0_i32_61 v146
  let v148 : BitVec 32 := v147
  ![0, 1, 0, v148.toNat]
def k0_mult33 (i : grid0.Coords) : BitVec 32 :=
  let arg1 : BitVec 32 := BitVec.ofNat 32 (i 1).val
  let c15_i32_31 : BitVec 32 := 15#32
  let v87 : BitVec 32 := Scalar.minsi arg1 c15_i32_31
  let c16_i32_38 : BitVec 32 := 16#32
  let c0_i32_39 : BitVec 32 := 0#32
  let v105 : BitVec 1 := Scalar.cmpi .eq c16_i32_38 c0_i32_39
  let c1_i32_40 : BitVec 32 := 1#32
  let v106 : BitVec 32 := Scalar.select v105 c1_i32_40 c16_i32_38
  let v107 : BitVec 32 := Scalar.remsi v87 v106
  let c0_i32_42 : BitVec 32 := 0#32
  let v109 : BitVec 1 := Scalar.cmpi .slt v107 c0_i32_42
  let c0_i32_43 : BitVec 32 := 0#32
  let v110 : BitVec 1 := Scalar.cmpi .slt v106 c0_i32_43
  let v111 : BitVec 1 := Scalar.xori v109 v110
  let c0_i32_41 : BitVec 32 := 0#32
  let v108 : BitVec 1 := Scalar.cmpi .ne v107 c0_i32_41
  let v112 : BitVec 1 := Scalar.andi v111 v108
  let v113 : BitVec 32 := Scalar.addi v107 v106
  let v114 : BitVec 32 := Scalar.select v112 v113 v107
  let c688_i32 : BitVec 32 := 688#32
  let v115 : BitVec 32 := Scalar.muli v114 c688_i32
  v115
def k0_off33 (i : grid0.Coords) : Fin 3 → Nat :=
  let arg1 : BitVec 32 := BitVec.ofNat 32 (i 1).val
  let c15_i32_31 : BitVec 32 := 15#32
  let v87 : BitVec 32 := Scalar.minsi arg1 c15_i32_31
  let c2_i32_44 : BitVec 32 := 2#32
  let c0_i32_45 : BitVec 32 := 0#32
  let v117 : BitVec 1 := Scalar.cmpi .eq c2_i32_44 c0_i32_45
  let c1_i32_46 : BitVec 32 := 1#32
  let v118 : BitVec 32 := Scalar.select v117 c1_i32_46 c2_i32_44
  let v119 : BitVec 32 := Scalar.remsi v87 v118
  let c0_i32_48 : BitVec 32 := 0#32
  let v121 : BitVec 1 := Scalar.cmpi .slt v119 c0_i32_48
  let c0_i32_49 : BitVec 32 := 0#32
  let v122 : BitVec 1 := Scalar.cmpi .slt v118 c0_i32_49
  let v123 : BitVec 1 := Scalar.xori v121 v122
  let c0_i32_47 : BitVec 32 := 0#32
  let v120 : BitVec 1 := Scalar.cmpi .ne v119 c0_i32_47
  let v124 : BitVec 1 := Scalar.andi v123 v120
  let v125 : BitVec 32 := Scalar.addi v119 v118
  let v126 : BitVec 32 := Scalar.select v124 v125 v119
  let v127 : Index := Scalar.indexCast v126
  let c0 : Index := 0#32
  let c0_50 : Index := 0#32
  ![v127.toNat, 0, 0]
def k0_off34 (i : grid0.Coords) : Fin 4 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v131 : BitVec 32 := Scalar.subi c1_i32_51 v9
  let v132 : Index := Scalar.indexCast v131
  let arg1 : BitVec 32 := BitVec.ofNat 32 (i 1).val
  let c15_i32_31 : BitVec 32 := 15#32
  let v87 : BitVec 32 := Scalar.minsi arg1 c15_i32_31
  let c0_i32_32 : BitVec 32 := 0#32
  let v89 : BitVec 1 := Scalar.cmpi .sgt v87 c0_i32_32
  let v90 : BitVec 32 := Scalar.extui v89
  let c0_i32_33 : BitVec 32 := 0#32
  let v91 : BitVec 1 := Scalar.cmpi .slt v87 c0_i32_33
  let v92 : BitVec 32 := Scalar.extui v91
  let v93 : BitVec 32 := Scalar.subi v90 v92
  let c16_i32 : BitVec 32 := 16#32
  let c0_i32_34 : BitVec 32 := 0#32
  let v94 : BitVec 1 := Scalar.cmpi .sgt c16_i32 c0_i32_34
  let v95 : BitVec 32 := Scalar.extui v94
  let c0_i32_35 : BitVec 32 := 0#32
  let v96 : BitVec 1 := Scalar.cmpi .slt c16_i32 c0_i32_35
  let v97 : BitVec 32 := Scalar.extui v96
  let v98 : BitVec 32 := Scalar.subi v95 v97
  let v99 : BitVec 1 := Scalar.cmpi .ne v93 v98
  let v100 : BitVec 32 := Scalar.remsi v87 c16_i32
  let c0_i32_36 : BitVec 32 := 0#32
  let v101 : BitVec 1 := Scalar.cmpi .ne v100 c0_i32_36
  let v102 : BitVec 1 := Scalar.andi v99 v101
  let v88 : BitVec 32 := Scalar.divsi v87 c16_i32
  let c1_i32_37 : BitVec 32 := 1#32
  let v103 : BitVec 32 := Scalar.subi v88 c1_i32_37
  let v104 : BitVec 32 := Scalar.select v102 v103 v88
  let v133 : Index := Scalar.indexCast v104
  let c16_i32_38 : BitVec 32 := 16#32
  let c0_i32_39 : BitVec 32 := 0#32
  let v105 : BitVec 1 := Scalar.cmpi .eq c16_i32_38 c0_i32_39
  let c1_i32_40 : BitVec 32 := 1#32
  let v106 : BitVec 32 := Scalar.select v105 c1_i32_40 c16_i32_38
  let v107 : BitVec 32 := Scalar.remsi v87 v106
  let c0_i32_42 : BitVec 32 := 0#32
  let v109 : BitVec 1 := Scalar.cmpi .slt v107 c0_i32_42
  let c0_i32_43 : BitVec 32 := 0#32
  let v110 : BitVec 1 := Scalar.cmpi .slt v106 c0_i32_43
  let v111 : BitVec 1 := Scalar.xori v109 v110
  let c0_i32_41 : BitVec 32 := 0#32
  let v108 : BitVec 1 := Scalar.cmpi .ne v107 c0_i32_41
  let v112 : BitVec 1 := Scalar.andi v111 v108
  let v113 : BitVec 32 := Scalar.addi v107 v106
  let v114 : BitVec 32 := Scalar.select v112 v113 v107
  let c688_i32 : BitVec 32 := 688#32
  let v115 : BitVec 32 := Scalar.muli v114 c688_i32
  let v116 : BitVec 32 := v115
  let v134 : Index := Scalar.indexCast v116
  let c0_52 : Index := 0#32
  ![v132.toNat, v133.toNat, v134.toNat, 0]
def k0_off35 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v139 : Index := Scalar.indexCast v9
  let c0_55 : Index := 0#32
  let c0_56 : Index := 0#32
  let c0_57 : Index := 0#32
  ![v139.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference3Ideal.lean ====
abbrev S8192x11008 : Shape := ⟨2, ![8192, 11008]⟩
abbrev S1x2x11008x4096 : Shape := ⟨4, ![1, 2, 11008, 4096]⟩
abbrev S1x1x11008x4096 : Shape := ⟨4, ![1, 1, 11008, 4096]⟩
abbrev S11008x4096 : Shape := ⟨2, ![11008, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x2x11008x4096, .f32⟩
  | .hbm, ⟨2, _⟩ => ⟨S8192x11008, .f32⟩
  | .hbm, ⟨3, _⟩ => ⟨S1x1x11008x4096, .f32⟩
  | .hbm, ⟨4, _⟩ => ⟨S11008x4096, .f32⟩
  | .hbm, ⟨5, _⟩ => ⟨S8192x4096, .f32⟩
  | .hbm, ⟨6, _⟩ => ⟨S8192x4096, .bf16⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S9216x4096 : Shape := ⟨2, ![9216, 4096]⟩
abbrev S1x4096x17408 : Shape := ⟨3, ![1, 4096, 17408]⟩
abbrev S8192x17408 : Shape := ⟨2, ![8192, 17408]⟩
abbrev S1024x4096 : Shape := ⟨2, ![1024, 4096]⟩
abbrev S1024x1024 : Shape := ⟨2, ![1024, 1024]⟩
abbrev S2x1x4096x1024 : Shape := ⟨4, ![2, 1, 4096, 1024]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1x512x1024 : Shape := ⟨4, ![1, 1, 512, 1024]⟩
abbrev S1x1x4096x1024 : Shape := ⟨4, ![1, 1, 4096, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x17408, .f32⟩
  | .hbm, ⟨2, _⟩ => ⟨S8192x17408, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S2x1x4096x1024, .bf16⟩
  | .local _ .vmem, ⟨5, _⟩ => ⟨S2x512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c0_i32_7 : BitVec 32 := 0#32
  let v17 : BitVec 1 := Scalar.cmpi .eq arg1 c0_i32_7
  let v18 : BitVec 1 := Scalar.andi v16 v17
  let v19 : BitVec 32 := Scalar.extui v18
  let c0_i32_8 : BitVec 32 := 0#32
  let v20 : BitVec 1 := Scalar.cmpi .ne v19 c0_i32_8
  v20

def k0_mult1 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off1 (i : grid0.Coords) : Fin 3 → Nat :=
  let c0_i32_53 : BitVec 32 := 0#32
  let c0_i32_58 : BitVec 32 := 0#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 0, v115.toNat]
def k0_mult2 (i : grid0.Coords) : BitVec 32 :=
  let c0_i32_61 : BitVec 32 := 0#32
  let arg0 : BitVec 32 := BitVec.ofNat 32 (i 0).val
  let c1_i32_59 : BitVec 32 := 1#32
  let v122 : BitVec 32 := Scalar.addi arg0 c1_i32_59
  let c1024_i32_60 : BitVec 32 := 1024#32
  let v123 : BitVec 32 := Scalar.muli v122 c1024_i32_60
  let v124 : BitVec 32 := Scalar.addi c0_i32_61 v123
  v124
def k0_off2 (i : grid0.Coords) : Fin 3 → Nat :=
  let c0_i32_62 : BitVec 32 := 0#32
  let c512_i32_67 : BitVec 32 := 512#32
  let c0_i32_61 : BitVec 32 := 0#32
  let arg0 : BitVec 32 := BitVec.ofNat 32 (i 0).val
  let c1_i32_59 : BitVec 32 := 1#32
  let v122 : BitVec 32 := Scalar.addi arg0 c1_i32_59
  let c1024_i32_60 : BitVec 32 := 1024#32
  let v123 : BitVec 32 := Scalar.muli v122 c1024_i32_60
  let v124 : BitVec 32 := Scalar.addi c0_i32_61 v123
  let v125 : BitVec 32 := v124
  ![0, 512, v125.toNat]
def k0_cond3 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c1_i32_9 : BitVec 32 := 1#32
  let v21 : BitVec 1 := Scalar.cmpi .eq arg1 c1_i32_9
  let v22 : BitVec 1 := Scalar.andi v16 v21
  let v23 : BitVec 32 := Scalar.extui v22
  let c0_i32_10 : BitVec 32 := 0#32
  let v24 : BitVec 1 := Scalar.cmpi .ne v23 c0_i32_10
  v24

def k0_mult3 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off3 (i : grid0.Coords) : Fin 3 → Nat :=
  let c0_i32_53 : BitVec 32 := 0#32
  let c512_i32_58 : BitVec 32 := 512#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 512, v115.toNat]
def k0_mult4 (i : grid0.Coords) : BitVec 32 :=
  let c0_i32_61 : BitVec 32 := 0#32
  let arg0 : BitVec 32 := BitVec.ofNat 32 (i 0).val
  let c1_i32_59 : BitVec 32 := 1#32
  let v122 : BitVec 32 := Scalar.addi arg0 c1_i32_59
  let c1024_i32_60 : BitVec 32 := 1024#32
  let v123 : BitVec 32 := Scalar.muli v122 c1024_i32_60
  let v124 : BitVec 32 := Scalar.addi c0_i32_61 v123
  v124
def k0_off4 (i : grid0.Coords) : Fin 3 → Nat :=
  let c0_i32_62 : BitVec 32 := 0#32
  let c1024_i32_67 : BitVec 32 := 1024#32
  let c0_i32_61 : BitVec 32 := 0#32
  let arg0 : BitVec 32 := BitVec.ofNat 32 (i 0).val
  let c1_i32_59 : BitVec 32 := 1#32
  let v122 : BitVec 32 := Scalar.addi arg0 c1_i32_59
  let c1024_i32_60 : BitVec 32 := 1024#32
  let v123 : BitVec 32 := Scalar.muli v122 c1024_i32_60
  let v124 : BitVec 32 := Scalar.addi c0_i32_61 v123
  let v125 : BitVec 32 := v124
  ![0, 1024, v125.toNat]
def k0_cond4 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c2_i32_11 : BitVec 32 := 2#32
  let v25 : BitVec 1 := Scalar.cmpi .eq arg1 c2_i32_11
  let v26 : BitVec 1 := Scalar.andi v16 v25
  let v27 : BitVec 32 := Scalar.extui v26
  let c0_i32_12 : BitVec 32 := 0#32
  let v28 : BitVec 1 := Scalar.cmpi .ne v27 c0_i32_12
  v28

def k0_mult5 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off5 (i : grid0.Coords) : Fin 3 → Nat :=
  let c0_i32_53 : BitVec 32 := 0#32
  let c1024_i32_58 : BitVec 32 := 1024#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 1024, v115.toNat]
def k0_mult6 (i : grid0.Coords) : BitVec 32 :=
  let c0_i32_61 : BitVec 32 := 0#32
  let arg0 : BitVec 32 := BitVec.ofNat 32 (i 0).val
  let c1_i32_59 : BitVec 32 := 1#32
  let v122 : BitVec 32 := Scalar.addi arg0 c1_i32_59
  let c1024_i32_60 : BitVec 32 := 1024#32
  let v123 : BitVec 32 := Scalar.muli v122 c1024_i32_60
  let v124 : BitVec 32 := Scalar.addi c0_i32_61 v123
  v124
def k0_off6 (i : grid0.Coords) : Fin 3 → Nat :=
  let c0_i32_62 : BitVec 32 := 0#32
  let c1536_i32 : BitVec 32 := 1536#32
  let c0_i32_61 : BitVec 32 := 0#32
  let arg0 : BitVec 32 := BitVec.ofNat 32 (i 0).val
  let c1_i32_59 : BitVec 32 := 1#32
  let v122 : BitVec 32 := Scalar.addi arg0 c1_i32_59
  let c1024_i32_60 : BitVec 32 := 1024#32
  let v123 : BitVec 32 := Scalar.muli v122 c1024_i32_60
  let v124 : BitVec 32 := Scalar.addi c0_i32_61 v123
  let v125 : BitVec 32 := v124
  ![0, 1536, v125.toNat]
def k0_cond5 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c3_i32 : BitVec 32 := 3#32
  let v29 : BitVec 1 := Scalar.cmpi .eq arg1 c3_i32
  let v30 : BitVec 1 := Scalar.andi v16 v29
  let v31 : BitVec 32 := Scalar.extui v30
  let c0_i32_13 : BitVec 32 := 0#32
  let v32 : BitVec 1 := Scalar.cmpi .ne v31 c0_i32_13
  v32

def k0_mult7 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off7 (i : grid0.Coords) : Fin 3 → Nat :=
  let c0_i32_53 : BitVec 32 := 0#32
  let c1536_i32 : BitVec 32 := 1536#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 1536, v115.toNat]
def k0_mult8 (i : grid0.Coords) : BitVec 32 :=
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  v124
def k0_off8 (i : grid0.Coords) : Fin 3 → Nat :=
  let c0_i32_61 : BitVec 32 := 0#32
  let c2048_i32 : BitVec 32 := 2048#32
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  let v125 : BitVec 32 := v124
  ![0, 2048, v125.toNat]
def k0_cond6 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c4_i32 : BitVec 32 := 4#32
  let v33 : BitVec 1 := Scalar.cmpi .eq arg1 c4_i32
  let v34 : BitVec 1 := Scalar.andi v16 v33
  let v35 : BitVec 32 := Scalar.extui v34
  let c0_i32_14 : BitVec 32 := 0#32
  let v36 : BitVec 1 := Scalar.cmpi .ne v35 c0_i32_14
  v36

def k0_mult9 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off9 (i : grid0.Coords) : Fin 3 → Nat :=
  let c0_i32_53 : BitVec 32 := 0#32
  let c2048_i32 : BitVec 32 := 2048#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 2048, v115.toNat]
def k0_mult10 (i : grid0.Coords) : BitVec 32 :=
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  v124
def k0_off10 (i : grid0.Coords) : Fin 3 → Nat :=
  let c0_i32_61 : BitVec 32 := 0#32
  let c2560_i32 : BitVec 32 := 2560#32
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  let v125 : BitVec 32 := v124
  ![0, 2560, v125.toNat]
def k0_cond7 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c5_i32 : BitVec 32 := 5#32
  let v37 : BitVec 1 := Scalar.cmpi .eq arg1 c5_i32
  let v38 : BitVec 1 := Scalar.andi v16 v37
  let v39 : BitVec 32 := Scalar.extui v38
  let c0_i32_15 : BitVec 32 := 0#32
  let v40 : BitVec 1 := Scalar.cmpi .ne v39 c0_i32_15
  v40

def k0_mult11 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off11 (i : grid0.Coords) : Fin 3 → Nat :=
  let c0_i32_53 : BitVec 32 := 0#32
  let c2560_i32 : BitVec 32 := 2560#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 2560, v115.toNat]
def k0_mult12 (i : grid0.Coords) : BitVec 32 :=
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  v124
def k0_off12 (i : grid0.Coords) : Fin 3 → Nat :=
  let c0_i32_61 : BitVec 32 := 0#32
  let c3072_i32 : BitVec 32 := 3072#32
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  let v125 : BitVec 32 := v124
  ![0, 3072, v125.toNat]
def k0_cond8 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c6_i32 : BitVec 32 := 6#32
  let v41 : BitVec 1 := Scalar.cmpi .eq arg1 c6_i32
  let v42 : BitVec 1 := Scalar.andi v16 v41
  let v43 : BitVec 32 := Scalar.extui v42
  let c0_i32_16 : BitVec 32 := 0#32
  let v44 : BitVec 1 := Scalar.cmpi .ne v43 c0_i32_16
  v44

def k0_mult13 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off13 (i : grid0.Coords) : Fin 3 → Nat :=
  let c0_i32_53 : BitVec 32 := 0#32
  let c3072_i32 : BitVec 32 := 3072#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 3072, v115.toNat]
def k0_mult14 (i : grid0.Coords) : BitVec 32 :=
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  v124
def k0_off14 (i : grid0.Coords) : Fin 3 → Nat :=
  let c0_i32_61 : BitVec 32 := 0#32
  let c3584_i32 : BitVec 32 := 3584#32
  let c0_i32_60 : BitVec 32 := 0#32
  let arg0 : BitVec 32 := BitVec.ofNat 32 (i 0).val
  let c1_i32_58 : BitVec 32 := 1#32
  let v122 : BitVec 32 := Scalar.addi arg0 c1_i32_58
  let c1024_i32_59 : BitVec 32 := 1024#32
  let v123 : BitVec 32 := Scalar.muli v122 c1024_i32_59
  let v124 : BitVec 32 := Scalar.addi c0_i32_60 v123
  let v125 : BitVec 32 := v124
  ![0, 3584, v125.toNat]
def k0_cond9 (i : grid0.Coords) : BitVec 1 :=
  let arg0 : BitVec 32 := BitVec.ofNat 32 (i 0).val
  let c1_i32_6 : BitVec 32 := 1#32
  let v15 : BitVec 32 := Scalar.addi arg0 c1_i32_6
  let c17_i32 : BitVec 32 := 17#32
  let v16 : BitVec 1 := Scalar.cmpi .slt v15 c17_i32
  let arg1 : BitVec 32 := BitVec.ofNat 32 (i 1).val
  let c7_i32 : BitVec 32 := 7#32
  let v45 : BitVec 1 := Scalar.cmpi .eq arg1 c7_i32
  let v46 : BitVec 1 := Scalar.andi v16 v45
  let v47 : BitVec 32 := Scalar.extui v46
  let c0_i32_17 : BitVec 32 := 0#32
  let v48 : BitVec 1 := Scalar.cmpi .ne v47 c0_i32_17
  v48

def k0_mult15 (i : grid0.Coords) : BitVec 32 :=
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  v114
def k0_off15 (i : grid0.Coords) : Fin 3 → Nat :=
  let c0_i32_53 : BitVec 32 := 0#32
  let c3584_i32 : BitVec 32 := 3584#32
  let c0_i32_52 : BitVec 32 := 0#32
  let arg0 : BitVec 32 := BitVec.ofNat 32 (i 0).val
  let c1_i32_51 : BitVec 32 := 1#32
  let v112 : BitVec 32 := Scalar.addi arg0 c1_i32_51
  let c1024_i32 : BitVec 32 := 1024#32
  let v113 : BitVec 32 := Scalar.muli v112 c1024_i32
  let v114 : BitVec 32 := Scalar.addi c0_i32_52 v113
  let v115 : BitVec 32 := v114
  ![0, 3584, v115.toNat]
def k0_cond10 (i : grid0.Coords) : BitVec 1 :=
  let arg0 : BitVec 32 := BitVec.ofNat 32 (i 0).val
  let c2_i32_18 : BitVec 32 := 2#32
  let v49 : BitVec 32 := Scalar.addi arg0 c2_i32_18
  let c17_i32_19 : BitVec 32 := 17#32
  let v50 : BitVec 1 := Scalar.cmpi .slt v49 c17_i32_19
  let arg1 : BitVec 32 := BitVec.ofNat 32 (i 1).val
  let c7_i32_20 : BitVec 32 := 7#32
  let v51 : BitVec 1 := Scalar.cmpi .eq arg1 c7_i32_20
  let v52 : BitVec 1 := Scalar.andi v50 v51
  let v53 : BitVec 32 := Scalar.extui v52
  let c0_i32_21 : BitVec 32 := 0#32
  let v54 : BitVec 1 := Scalar.cmpi .ne v53 c0_i32_21
  v54

def k0_mult16 (i : grid0.Coords) : BitVec 32 :=
  let c0_i32_52 : BitVec 32 := 0#32
  let arg0 : BitVec 32 := BitVec.ofNat 32 (i 0).val
  let c2_i32_51 : BitVec 32 := 2#32
  let v112 : BitVec 32 := Scalar.addi arg0 c2_i32_51
  let c1024_i32 : BitVec 32 := 1024#32
  let v113 : BitVec 32 := Scalar.muli v112 c1024_i32
  let v114 : BitVec 32 := Scalar.addi c0_i32_52 v113
  v114
def k0_off16 (i : grid0.Coords) : Fin 3 → Nat :=
  let c0_i32_53 : BitVec 32 := 0#32
  let c0_i32_58 : BitVec 32 := 0#32
  let c0_i32_52 : BitVec 32 := 0#32
  let arg0 : BitVec 32 := BitVec.ofNat 32 (i 0).val
  let c2_i32_51 : BitVec 32 := 2#32
  let v112 : BitVec 32 := Scalar.addi arg0 c2_i32_51
  let c1024_i32 : BitVec 32 := 1024#32
  let v113 : BitVec 32 := Scalar.muli v112 c1024_i32
  let v114 : BitVec 32 := Scalar.addi c0_i32_52 v113
  let v115 : BitVec 32 := v114
  ![0, 0, v115.toNat]
def k0_mult17 (i : grid0.Coords) : BitVec 32 :=
  let arg1 : BitVec 32 := BitVec.ofNat 32 (i 1).val
  let c7_i32_22 : BitVec 32 := 7#32
  let v55 : BitVec 32 := Scalar.minsi arg1 c7_i32_22
  let c8_i32_29 : BitVec 32 := 8#32
  let c0_i32_30 : BitVec 32 := 0#32
  let v73 : BitVec 1 := Scalar.cmpi .eq c8_i32_29 c0_i32_30
  let c1_i32_31 : BitVec 32 := 1#32
  let v74 : BitVec 32 := Scalar.select v73 c1_i32_31 c8_i32_29
  let v75 : BitVec 32 := Scalar.remsi v55 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let c512_i32 : BitVec 32 := 512#32
  let v83 : BitVec 32 := Scalar.muli v82 c512_i32
  v83
def k0_off17 (i : grid0.Coords) : Fin 3 → Nat :=
  let arg1 : BitVec 32 := BitVec.ofNat 32 (i 1).val
  let c7_i32_22 : BitVec 32 := 7#32
  let v55 : BitVec 32 := Scalar.minsi arg1 c7_i32_22
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v55 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v95 : Index := Scalar.indexCast v94
  let c0 : Index := 0#32
  let c0_41 : Index := 0#32
  ![v95.toNat, 0, 0]
def k0_off18 (i : grid0.Coords) : Fin 4 → Nat :=
  let c1_i32_42 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v99 : BitVec 32 := Scalar.subi c1_i32_42 v9
  let v100 : Index := Scalar.indexCast v99
  let arg1 : BitVec 32 := BitVec.ofNat 32 (i 1).val
  let c7_i32_22 : BitVec 32 := 7#32
  let v55 : BitVec 32 := Scalar.minsi arg1 c7_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c8_i32 : BitVec 32 := 8#32
  let c0_i32_25 : BitVec 32 := 0#32
  let v62 : BitVec 1 := Scalar.cmpi .sgt c8_i32 c0_i32_25
  let v63 : BitVec 32 := Scalar.extui v62
  let c0_i32_26 : BitVec 32 := 0#32
  let v64 : BitVec 1 := Scalar.cmpi .slt c8_i32 c0_i32_26
  let v65 : BitVec 32 := Scalar.extui v64
  let v66 : BitVec 32 := Scalar.subi v63 v65
  let v67 : BitVec 1 := Scalar.cmpi .ne v61 v66
  let v68 : BitVec 32 := Scalar.remsi v55 c8_i32
  let c0_i32_27 : BitVec 32 := 0#32
  let v69 : BitVec 1 := Scalar.cmpi .ne v68 c0_i32_27
  let v70 : BitVec 1 := Scalar.andi v67 v69
  let v56 : BitVec 32 := Scalar.divsi v55 c8_i32
  let c1_i32_28 : BitVec 32 := 1#32
  let v71 : BitVec 32 := Scalar.subi v56 c1_i32_28
  let v72 : BitVec 32 := Scalar.select v70 v71 v56
  let v101 : Index := Scalar.indexCast v72
  let c8_i32_29 : BitVec 32 := 8#32
  let c0_i32_30 : BitVec 32 := 0#32
  let v73 : BitVec 1 := Scalar.cmpi .eq c8_i32_29 c0_i32_30
  let c1_i32_31 : BitVec 32 := 1#32
  let v74 : BitVec 32 := Scalar.select v73 c1_i32_31 c8_i32_29
  let v75 : BitVec 32 := Scalar.remsi v55 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let c512_i32 : BitVec 32 := 512#32
  let v83 : BitVec 32 := Scalar.muli v82 c512_i32
  let v84 : BitVec 32 := v83
  let v102 : Index := Scalar.indexCast v84
  let c0_43 : Index := 0#32
  ![v100.toNat, v101.toNat, v102.toNat, 0]
def k0_off19 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c0_46 : Index := 0#32
  let c0_47 : Index := 0#32
  let c0_48 : Index := 0#32
  ![v107.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S9216x4096 : Shape := ⟨2, ![9216, 4096]⟩
abbrev S1x4096x17408 : Shape := ⟨3, ![1, 4096, 17408]⟩
abbrev S8192x4096 : Shape := ⟨2, ![8192, 4096]⟩
abbrev S4096x17408 : Shape := ⟨2, ![4096, 17408]⟩
abbrev S8192x17408 : Shape := ⟨2, ![8192, 17408]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x17408, .f32⟩
  | .hbm, ⟨2, _⟩ => ⟨S8192x4096, .bf16⟩
  | .hbm, ⟨3, _⟩ => ⟨S8192x4096, .f32⟩
  | .hbm, ⟨4, _⟩ => ⟨S4096x17408, .f32⟩
  | .hbm, ⟨5, _⟩ => ⟨S8192x17408, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S5x9x4096 : Shape := ⟨3, ![5, 9, 4096]⟩
abbrev S1x4096 : Shape := ⟨2, ![1, 4096]⟩
abbrev S256x4096 : Shape := ⟨2, ![256, 4096]⟩
abbrev S1x9x4096 : Shape := ⟨3, ![1, 9, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S5x9x4096, .f32⟩
  | .hbm, ⟨3, _⟩ => ⟨S1x4096, .f32⟩
  | .hbm, ⟨4, _⟩ => ⟨S8192x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x9x4096, .f32⟩
  | .local _ .vmem, ⟨5, _⟩ => ⟨S1x9x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x4096 : Shape := ⟨2, ![8192, 4096]⟩
abbrev S5x9x4096 : Shape := ⟨3, ![5, 9, 4096]⟩
abbrev S1x4096 : Shape := ⟨2, ![1, 4096]⟩
abbrev S4x2048x4096 : Shape := ⟨3, ![4, 2048, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S5x9x4096, .f32⟩
  | .hbm, ⟨3, _⟩ => ⟨S1x4096, .f32⟩
  | .hbm, ⟨4, _⟩ => ⟨S8192x4096, .f32⟩
  | .hbm, ⟨5, _⟩ => ⟨S4x2048x4096, .f32⟩
  | .hbm, ⟨6, _⟩ => ⟨S4x2048x4096, .f32⟩
  | .hbm, ⟨7, _⟩ => ⟨S4x1x4096, .f32⟩
  | .hbm, ⟨8, _⟩ => ⟨S_, .f32⟩
  | .hbm, ⟨9, _⟩ => ⟨S4x1x4096, .f32⟩
  | .hbm, ⟨10, _⟩ => ⟨S4x1x4096, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S8x4096 : Shape := ⟨2, ![8, 4096]⟩
abbrev S1x4096x36864 : Shape := ⟨3, ![1, 4096, 36864]⟩
abbrev S1x36864 : Shape := ⟨2, ![1, 36864]⟩
abbrev S8x8192 : Shape := ⟨2, ![8, 8192]⟩
abbrev S1x4096x512 : Shape := ⟨3, ![1, 4096, 512]⟩
abbrev S1x512 : Shape := ⟨2, ![1, 512]⟩
abbrev S8x512 : Shape := ⟨2, ![8, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x36864, .f32⟩
  | .hbm, ⟨2, _⟩ => ⟨S1x36864, .f32⟩
  | .hbm, ⟨3, _⟩ => ⟨S8x8192, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x4096 : Shape := ⟨2, ![8, 4096]⟩
abbrev S1x4096x36864 : Shape := ⟨3, ![1, 4096, 36864]⟩
abbrev S1x36864 : Shape := ⟨2, ![1, 36864]⟩
abbrev S_ : Shape := ⟨0, ![]⟩
abbrev S1x4096x8192 : Shape := ⟨3, ![1, 4096, 8192]⟩
abbrev S4096x8192 : Shape := ⟨2, ![4096, 8192]⟩
abbrev S8x8192 : Shape := ⟨2, ![8, 8192]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x36864, .f32⟩
  | .hbm, ⟨2, _⟩ => ⟨S1x36864, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x8192, .f32⟩
  | .hbm, ⟨13, _⟩ => ⟨S4096x8192, .f32⟩
  | .hbm, ⟨14, _⟩ => ⟨S8x8192, .f32⟩
  | .hbm, ⟨15, _⟩ => ⟨S1x8192, .f32⟩
  | .hbm, ⟨16, _⟩ => ⟨S8x8192, .f32⟩
  | .hbm, ⟨17, _⟩ => ⟨S8x8192, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel7.lean ====
abbrev S8192x4096 : Shape := ⟨2, ![8192, 4096]⟩
abbrev S1024x4096 : Shape := ⟨2, ![1024, 4096]⟩
abbrev S5x2x4096 : Shape := ⟨3, ![5, 2, 4096]⟩
abbrev S1x4096 : Shape := ⟨2, ![1, 4096]⟩
abbrev S9216x4096 : Shape := ⟨2, ![9216, 4096]⟩
abbrev S256x4096 : Shape := ⟨2, ![256, 4096]⟩
abbrev S1x2x4096 : Shape := ⟨3, ![1, 2, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S5x2x4096, .f32⟩
  | .hbm, ⟨3, _⟩ => ⟨S1x4096, .f32⟩
  | .hbm, ⟨4, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x2x4096, .f32⟩
  | .local _ .vmem, ⟨5, _⟩ => ⟨S1x2x4096, .f32⟩
  | .local _ .vmem, ⟨6, _⟩ => ⟨S1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x4096 : Shape := ⟨2, ![8192, 4096]⟩
abbrev S1024x4096 : Shape := ⟨2, ![1024, 4096]⟩
abbrev S5x2x4096 : Shape := ⟨3, ![5, 2, 4096]⟩
abbrev S1x4096 : Shape := ⟨2, ![1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x1x4096 : Shape := ⟨3, ![4, 1, 4096]⟩
abbrev S1024 : Shape := ⟨1, ![1024]⟩
abbrev S1024x1 : Shape := ⟨2, ![1024, 1]⟩
abbrev S9216x4096 : Shape := ⟨2, ![9216, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S5x2x4096, .f32⟩
  | .hbm, ⟨3, _⟩ => ⟨S1x4096, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4x1x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x2048x4096, .f32⟩
  | .hbm, ⟨26, _⟩ => ⟨S4x2048x4096, .f32⟩
  | .hbm, ⟨27, _⟩ => ⟨S4x1x4096, .f32⟩
  | .hbm, ⟨28, _⟩ => ⟨S4x2048x4096, .f32⟩
  | .hbm, ⟨29, _⟩ => ⟨S4x2048x4096, .f32⟩
  | .hbm, ⟨30, _⟩ => ⟨S1024x4096, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x1, .f32⟩
  | .hbm, ⟨41, _⟩ => ⟨S1024x4096, .f32⟩
  | .hbm, ⟨42, _⟩ => ⟨S1024x4096, .f32⟩
  | .hbm, ⟨43, _⟩ => ⟨S1024x4096, .f32⟩
  | .hbm, ⟨44, _⟩ => ⟨S1024x4096, .f32⟩
  | .hbm, ⟨45, _⟩ => ⟨S1x1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1024x4096, .f32⟩
  | .hbm, ⟨51, _⟩ => ⟨S1024x4096, .f32⟩
  | .hbm, ⟨52, _⟩ => ⟨S1x1x4096, .f32⟩
  | .hbm, ⟨53, _⟩ => ⟨S1x4096, .f32⟩
  | .hbm, ⟨54, _⟩ => ⟨S1024x4096, .f32⟩
  | .hbm, ⟨55, _⟩ => ⟨S1024x4096, .f32⟩
  | .hbm, ⟨56, _⟩ => ⟨S8192x4096, .f32⟩
  | .hbm, ⟨57, _⟩ => ⟨S9216x4096, .f32⟩
  | .hbm, ⟨58, _⟩ => ⟨S9216x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel8.lean ====
abbrev S1024x1024 : Shape := ⟨2, ![1024, 1024]⟩
abbrev S1x128 : Shape := ⟨2, ![1, 128]⟩
abbrev S1024x512 : Shape := ⟨2, ![1024, 512]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1x128, .f32⟩
  | .hbm, ⟨2, _⟩ => ⟨S1024x512, .bf16⟩
  | .hbm, ⟨3, _⟩ => ⟨S1024x512, .bf16⟩
  | .local _ .vmem, ⟨0, _⟩ => ⟨S256x1024, .f32⟩
  | .local _ .vmem, ⟨1, _⟩ => ⟨S256x1024, .f32⟩
  | .local _ .vmem, ⟨2, _⟩ => ⟨S1x128, .f32⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S1024x1024 : Shape := ⟨2, ![1024, 1024]⟩
abbrev S1x128 : Shape := ⟨2, ![1, 128]⟩
abbrev S1024x512 : Shape := ⟨2, ![1024, 512]⟩
abbrev S1024x4x128 : Shape := ⟨3, ![1024, 4, 128]⟩
abbrev S_ : Shape := ⟨0, ![]⟩
abbrev S1024x4 : Shape := ⟨2, ![1024, 4]⟩
abbrev S1024x4x1 : Shape := ⟨3, ![1024, 4, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x128, .f32⟩
  | .hbm, ⟨2, _⟩ => ⟨S1024x512, .f32⟩
  | .hbm, ⟨3, _⟩ => ⟨S1024x4x128, .f32⟩
  | .hbm, ⟨4, _⟩ => ⟨S1024x4x128, .f32⟩
  | .hbm, ⟨5, _⟩ => ⟨S_, .f32⟩
  | .hbm, ⟨6, _⟩ => ⟨S1024x4, .f32⟩
  | .hbm, ⟨7, _⟩ => ⟨S1024x4x1, .f32⟩
  | .hbm, ⟨8, _⟩ => ⟨S_, .f32⟩
  | .hbm, ⟨9, _⟩ => ⟨S1024x4x1, .f32⟩
  | .hbm, ⟨10, _⟩ => ⟨S1024x4x1, .f32⟩
  | .hbm, ⟨11, _⟩ => ⟨S_, .f32⟩
  | .hbm, ⟨12, _⟩ => ⟨S1024x4x1, .f32⟩
  | .hbm, ⟨13, _⟩ => ⟨S1024x4x1, .f32⟩
  | .hbm, ⟨14, _⟩ => ⟨S1024x4x1, .f32⟩
  | .hbm, ⟨15, _⟩ => ⟨S1024x4x128, .f32⟩
  | .hbm, ⟨16, _⟩ => ⟨S1024x4x128, .f32⟩
  | .hbm, ⟨17, _⟩ => ⟨S1x1x128, .f32⟩
  | .hbm, ⟨18, _⟩ => ⟨S1024x4x128, .f32⟩
  | .hbm, ⟨19, _⟩ => ⟨S1024x4x128, .f32⟩
  | .hbm, ⟨20, _⟩ => ⟨S1024x512, .f32⟩
  | .hbm, ⟨21, _⟩ => ⟨S1024x512, .bf16⟩
  | .hbm, ⟨22, _⟩ => ⟨S1024x512, .f32⟩
  | .hbm, ⟨23, _⟩ => ⟨S1024x512, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel9.lean ====
abbrev S4x2x1024x2048 : Shape := ⟨4, ![4, 2, 1024, 2048]⟩
abbrev S1024x1024 : Shape := ⟨2, ![1024, 1024]⟩
abbrev S4x2048x2048 : Shape := ⟨3, ![4, 2048, 2048]⟩
abbrev S4x2048x6144 : Shape := ⟨3, ![4, 2048, 6144]⟩
abbrev S1x2048 : Shape := ⟨2, ![1, 2048]⟩
abbrev S1x1x1024x512 : Shape := ⟨4, ![1, 1, 1024, 512]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S4x2x1024x2048, .bf16⟩
  | .hbm, ⟨1, _⟩ => ⟨S4x2x1024x2048, .bf16⟩
  | .hbm, ⟨2, _⟩ => ⟨S1024x1024, .bf16⟩
  | .hbm, ⟨3, _⟩ => ⟨S1024x1024, .bf16⟩
  | .hbm, ⟨4, _⟩ => ⟨S4x2048x2048, .f32⟩
  | .hbm, ⟨5, _⟩ => ⟨S4x2048x6144, .f32⟩
  | .hbm, ⟨6, _⟩ => ⟨S1x2048, .f32⟩
  | .hbm, ⟨7, _⟩ => ⟨S4x2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x512, .f32⟩
  | .local _ .vmem, ⟨11, _⟩ => ⟨S1x512, .f32⟩
  | .local _ .vmem, ⟨12, _⟩ => ⟨S1x1024x512, .bf16⟩
  | .local _ .vmem, ⟨13, _⟩ => ⟨S1x1024x512, .bf16⟩
  | _, _ => ⟨S4x2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference9Ideal.lean ====
abbrev S4x2x1024x2048 : Shape := ⟨4, ![4, 2, 1024, 2048]⟩
abbrev S1024x1024 : Shape := ⟨2, ![1024, 1024]⟩
abbrev S4x2048x2048 : Shape := ⟨3, ![4, 2048, 2048]⟩
abbrev S4x2048x6144 : Shape := ⟨3, ![4, 2048, 6144]⟩
abbrev S1x2048 : Shape := ⟨2, ![1, 2048]⟩
abbrev S4x2x2048x1024 : Shape := ⟨4, ![4, 2, 2048, 1024]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2x1024x2048, .bf16⟩
  | .hbm, ⟨1, _⟩ => ⟨S4x2x1024x2048, .bf16⟩
  | .hbm, ⟨2, _⟩ => ⟨S1024x1024, .bf16⟩
  | .hbm, ⟨3, _⟩ => ⟨S1024x1024, .bf16⟩
  | .hbm, ⟨4, _⟩ => ⟨S4x2048x2048, .f32⟩
  | .hbm, ⟨5, _⟩ => ⟨S4x2048x6144, .f32⟩
  | .hbm, ⟨6, _⟩ => ⟨S1x2048, .f32⟩
  | .hbm, ⟨7, _⟩ => ⟨S1024x1024, .f32⟩
  | .hbm, ⟨8, _⟩ => ⟨S4x2x1024x2048, .f32⟩
  | .hbm, ⟨9, _⟩ => ⟨S4x2x2048x1024, .f32⟩
  | .hbm, ⟨10, _⟩ => ⟨S4x2x1024x2048, .f32⟩
  | .hbm, ⟨11, _⟩ => ⟨S1024x1024, .f32⟩
  | .hbm, ⟨12, _⟩ => ⟨S4x2x1024x2048, .f32⟩
  | .hbm, ⟨13, _⟩ => ⟨S4x2x2048x1024, .f32⟩
  | .hbm, ⟨14, _⟩ => ⟨S4x2x1024x2048, .f32⟩
  | .hbm, ⟨15, _⟩ => ⟨S4x2x1024x2048, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .bf16⟩
  | _, _ => ⟨S4x2x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S8192x4096 : Shape := ⟨2, ![8192, 4096]⟩
abbrev S9216x4096 : Shape := ⟨2, ![9216, 4096]⟩
abbrev S5x9x4096 : Shape := ⟨3, ![5, 9, 4096]⟩
abbrev S1x4096 : Shape := ⟨2, ![1, 4096]⟩
abbrev S256x4096 : Shape := ⟨2, ![256, 4096]⟩
abbrev S1x9x4096 : Shape := ⟨3, ![1, 9, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S9216x4096, .f32⟩
  | .hbm, ⟨2, _⟩ => ⟨S5x9x4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x9x4096, .f32⟩
  | .local _ .vmem, ⟨5, _⟩ => ⟨S1x9x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x4096 : Shape := ⟨2, ![8192, 4096]⟩
abbrev S9216x4096 : Shape := ⟨2, ![9216, 4096]⟩
abbrev S5x9x4096 : Shape := ⟨3, ![5, 9, 4096]⟩
abbrev S1x4096 : Shape := ⟨2, ![1, 4096]⟩
abbrev S4x2048x4096 : Shape := ⟨3, ![4, 2048, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S9216x4096, .f32⟩
  | .hbm, ⟨2, _⟩ => ⟨S5x9x4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .hbm, ⟨7, _⟩ => ⟨S8192x4096, .f32⟩
  | .hbm, ⟨8, _⟩ => ⟨S4x2048x4096, .f32⟩
  | .hbm, ⟨9, _⟩ => ⟨S4x1x4096, .f32⟩
  | .hbm, ⟨10, _⟩ => ⟨S4x2048x4096, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x4096, .f32⟩
  | .hbm, ⟨41, _⟩ => ⟨S4x2048x4096, .f32⟩
  | .hbm, ⟨42, _⟩ => ⟨S1x1x4096, .f32⟩
  | .hbm, ⟨43, _⟩ => ⟨S4x2048x4096, .f32⟩
  | .hbm, ⟨44, _⟩ => ⟨S4x2048x4096, .f32⟩
  | .hbm, ⟨45, _⟩ => ⟨S4x1x4096, .f32⟩
  | .hbm, ⟨46, _⟩ => ⟨S_, .f32⟩
  | .hbm, ⟨47, _⟩ => ⟨S4x1x4096, .f32⟩
  | .hbm, ⟨48, _⟩ => ⟨S4x1x4096, .f32⟩
  | .hbm, ⟨49, _⟩ => ⟨S4x2048x4096, .f32⟩
  | .hbm, ⟨50, _⟩ => ⟨S4x2048x4096, .f32⟩
  | .hbm, ⟨51, _⟩ => ⟨S4x1x4096, .f32⟩
  | .hbm, ⟨52, _⟩ => ⟨S4x2048x4096, .f32⟩
  | .hbm, ⟨53, _⟩ => ⟨S4x2048x4096, .f32⟩
  | .hbm, ⟨54, _⟩ => ⟨S8192x4096, .f32⟩
  | .hbm, ⟨55, _⟩ => ⟨S8192x4096, .f32⟩
  | .hbm, ⟨56, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel11.lean ====
abbrev S4x2x1024x2048 : Shape := ⟨4, ![4, 2, 1024, 2048]⟩
abbrev S1024x1024 : Shape := ⟨2, ![1024, 1024]⟩
abbrev S4x2048x6144 : Shape := ⟨3, ![4, 2048, 6144]⟩
abbrev S1x2048 : Shape := ⟨2, ![1, 2048]⟩
abbrev S4x2048x2048 : Shape := ⟨3, ![4, 2048, 2048]⟩
abbrev S1x1x1024x512 : Shape := ⟨4, ![1, 1, 1024, 512]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2x1024x2048, .bf16⟩
  | .hbm, ⟨1, _⟩ => ⟨S4x2x1024x2048, .bf16⟩
  | .hbm, ⟨2, _⟩ => ⟨S1024x1024, .bf16⟩
  | .hbm, ⟨3, _⟩ => ⟨S1024x1024, .bf16⟩
  | .hbm, ⟨4, _⟩ => ⟨S4x2048x6144, .f32⟩
  | .hbm, ⟨5, _⟩ => ⟨S1x2048, .f32⟩
  | .hbm, ⟨6, _⟩ => ⟨S4x2048x2048, .f32⟩
  | .hbm, ⟨7, _⟩ => ⟨S4x2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x512, .f32⟩
  | .local _ .vmem, ⟨11, _⟩ => ⟨S1x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .bf16⟩
  | .local _ .vmem, ⟨15, _⟩ => ⟨S1x1024x512, .bf16⟩
  | _, _ => ⟨S4x2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference11Ideal.lean ====
abbrev S4x2x1024x2048 : Shape := ⟨4, ![4, 2, 1024, 2048]⟩
abbrev S1024x1024 : Shape := ⟨2, ![1024, 1024]⟩
abbrev S4x2048x6144 : Shape := ⟨3, ![4, 2048, 6144]⟩
abbrev S1x2048 : Shape := ⟨2, ![1, 2048]⟩
abbrev S4x2x2048x1024 : Shape := ⟨4, ![4, 2, 2048, 1024]⟩
abbrev S4x2048x2048 : Shape := ⟨3, ![4, 2048, 2048]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2x1024x2048, .bf16⟩
  | .hbm, ⟨1, _⟩ => ⟨S4x2x1024x2048, .bf16⟩
  | .hbm, ⟨2, _⟩ => ⟨S1024x1024, .bf16⟩
  | .hbm, ⟨3, _⟩ => ⟨S1024x1024, .bf16⟩
  | .hbm, ⟨4, _⟩ => ⟨S4x2048x6144, .f32⟩
  | .hbm, ⟨5, _⟩ => ⟨S1x2048, .f32⟩
  | .hbm, ⟨6, _⟩ => ⟨S1024x1024, .f32⟩
  | .hbm, ⟨7, _⟩ => ⟨S4x2x1024x2048, .f32⟩
  | .hbm, ⟨8, _⟩ => ⟨S4x2x2048x1024, .f32⟩
  | .hbm, ⟨9, _⟩ => ⟨S4x2x1024x2048, .f32⟩
  | .hbm, ⟨10, _⟩ => ⟨S1024x1024, .f32⟩
  | .hbm, ⟨11, _⟩ => ⟨S4x2x1024x2048, .f32⟩
  | .hbm, ⟨12, _⟩ => ⟨S4x2x2048x1024, .f32⟩
  | .hbm, ⟨13, _⟩ => ⟨S4x2x1024x2048, .f32⟩
  | .hbm, ⟨14, _⟩ => ⟨S4x2x1024x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .bf16⟩
  | _, _ => ⟨S4x2x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel12.lean ====
abbrev S4x2048x2048 : Shape := ⟨3, ![4, 2048, 2048]⟩
abbrev S1024x1024 : Shape := ⟨2, ![1024, 1024]⟩
abbrev S1024x4096 : Shape := ⟨2, ![1024, 4096]⟩
abbrev S4x2x1024x2048 : Shape := ⟨4, ![4, 2, 1024, 2048]⟩
abbrev S1x2048x256 : Shape := ⟨3, ![1, 2048, 256]⟩
abbrev S1024x256 : Shape := ⟨2, ![1024, 256]⟩
abbrev S1x2x1024x256 : Shape := ⟨4, ![1, 2, 1024, 256]⟩
abbrev S1x1024x256 : Shape := ⟨3, ![1, 1024, 256]⟩
abbrev S1x1x1024x256 : Shape := ⟨4, ![1, 1, 1024, 256]⟩

abbrev nBuf : Space → Nat
  | .hbm => 11
  | .vmem => 20
  | .smem => 0
  | _ => 0

abbrev bufTy : (tb : Table) → Fin (tcTables nBuf tb) → BufTy
  | .hbm, ⟨0, _⟩ => ⟨S4x2048x2048, .bf16⟩
  | .hbm, ⟨1, _⟩ => ⟨S1024x1024, .bf16⟩
  | .hbm, ⟨2, _⟩ => ⟨S1024x1024, .bf16⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S4x2x1024x2048, .bf16⟩
  | .hbm, ⟨10, _⟩ => ⟨S4x2x1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1x2x1024x256, .bf16⟩
  | .local _ .vmem, ⟨17, _⟩ => ⟨S1x2x1024x256, .bf16⟩
  | .local _ .vmem, ⟨18, _⟩ => ⟨S1x2x1024x256, .bf16⟩
  | .local _ .vmem, ⟨19, _⟩ => ⟨S1x2x1024x256, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S4x2048x2048 : Shape := ⟨3, ![4, 2048, 2048]⟩
abbrev S1024x1024 : Shape := ⟨2, ![1024, 1024]⟩
abbrev S1024x4096 : Shape := ⟨2, ![1024, 4096]⟩
abbrev S4x2x1024x2048 : Shape := ⟨4, ![4, 2, 1024, 2048]⟩
abbrev S4x2x2048x1024 : Shape := ⟨4, ![4, 2, 2048, 1024]⟩
abbrev S1024 : Shape := ⟨1, ![1024]⟩
abbrev S1024x1 : Shape := ⟨2, ![1024, 1]⟩
abbrev S_ : Shape := ⟨0, ![]⟩
abbrev S1024x2048 : Shape := ⟨2, ![1024, 2048]⟩
abbrev S4x1x1024x2048 : Shape := ⟨4, ![4, 1, 1024, 2048]⟩
abbrev S4x1024x2048 : Shape := ⟨3, ![4, 1024, 2048]⟩
abbrev S1x1024x2048 : Shape := ⟨3, ![1, 1024, 2048]⟩

abbrev nBuf : Space → Nat
  | .hbm => 146
  | .vmem => 0
  | .smem => 0
  | _ => 0

abbrev hbmTy0_0 (i : Nat) : BufTy := match i % 128 with
  | 0 => ⟨S4x2048x2048, .bf16⟩
  | 1 => ⟨S1024x1024, .bf16⟩
  | 2 => ⟨S1024x1024, .bf16⟩
  | 3 => ⟨S1024x4096, .f32⟩
  | 4 => ⟨S1024x4096, .f32⟩
  | 5 => ⟨S1024x4096, .f32⟩
  | 6 => ⟨S1024x4096, .f32⟩
  | 7 => ⟨S1024x4096, .f32⟩
  | 8 => ⟨S1024x4096, .f32⟩
  | 9 => ⟨S4x2048x2048, .f32⟩
  | 10 => ⟨S4x2x1024x2048, .f32⟩
  | 11 => ⟨S1024x1024, .f32⟩
  | 12 => ⟨S4x2x2048x1024, .f32⟩
  | 13 => ⟨S4x2x1024x2048, .f32⟩
  | 14 => ⟨S1024x1024, .f32⟩
  | 15 => ⟨S4x2x2048x1024, .f32⟩
  | 16 => ⟨S4x2x1024x2048, .f32⟩
  | 17 => ⟨S1024, .i32⟩
  | 18 => ⟨S1024x1, .i32⟩
  | 19 => ⟨S_, .i32⟩
  | 20 => ⟨S1024x1, .i32⟩
  | 21 => ⟨S1024x1, .i1⟩
  | 22 => ⟨S1024x2048, .f32⟩
  | 23 => ⟨S1024x2048, .f32⟩
  | 24 => ⟨S4x1x1024x2048, .f32⟩
  | 25 => ⟨S4x1024x2048, .f32⟩
  | 26 => ⟨S1x1024x2048, .f32⟩
  | 27 => ⟨S4x1024x2048, .f32⟩
  | 28 => ⟨S4x1024x2048, .f32⟩
  | 29 => ⟨S4x1x1024x2048, .f32⟩
  | 30 => ⟨S4x1024x2048, .f32⟩
  | 31 => ⟨S1x1024x2048, .f32⟩
  | 32 => ⟨S4x1024x2048, .f32⟩
  | 33 => ⟨S4x1024x2048, .f32⟩
  | 34 => ⟨S4x1024x2048, .f32⟩
  | 35 => ⟨S4x1024x2048, .i1⟩
  | 36 => ⟨S4x1024x2048, .f32⟩
  | 37 => ⟨S4x1x1024x2048, .f32⟩
  | 38 => ⟨S4x1024x2048, .f32⟩
  | 39 => ⟨S1x1024x2048, .f32⟩
  | 40 => ⟨S4x1024x2048, .f32⟩
  | 41 => ⟨S4x1024x2048, .f32⟩
  | 42 => ⟨S4x1x1024x2048, .f32⟩
  | 43 => ⟨S4x1024x2048, .f32⟩
  | 44 => ⟨S1x1024x2048, .f32⟩
  | 45 => ⟨S4x1024x2048, .f32⟩
  | 46 => ⟨S4x1024x2048, .f32⟩
  | 47 => ⟨S4x1024x2048, .f32⟩
  | 48 => ⟨S4x1024x2048, .i1⟩
  | 49 => ⟨S4x1024x2048, .f32⟩
  | 50 => ⟨S1024x2048, .f32⟩
  | 51 => ⟨S1024x2048, .f32⟩
  | 52 => ⟨S4x1x1024x2048, .f32⟩
  | 53 => ⟨S4x1024x2048, .f32⟩
  | 54 => ⟨S1x1024x2048, .f32⟩
  | 55 => ⟨S4x1024x2048, .f32⟩
  | 56 => ⟨S4x1024x2048, .f32⟩
  | 57 => ⟨S4x1x1024x2048, .f32⟩
  | 58 => ⟨S4x1024x2048, .f32⟩
  | 59 => ⟨S1x1024x2048, .f32⟩
  | 60 => ⟨S4x1024x2048, .f32⟩
  | 61 => ⟨S4x1024x2048, .f32⟩
  | 62 => ⟨S4x1024x2048, .f32⟩
  | 63 => ⟨S4x1024x2048, .i1⟩
  | 64 => ⟨S4x1024x2048, .f32⟩
  | 65 => ⟨S4x1x1024x2048, .f32⟩
  | 66 => ⟨S4x1024x2048, .f32⟩
  | 67 => ⟨S1x1024x2048, .f32⟩
  | 68 => ⟨S4x1024x2048, .f32⟩
  | 69 => ⟨S4x1024x2048, .f32⟩
  | 70 => ⟨S4x1x1024x2048, .f32⟩
  | 71 => ⟨S4x1024x2048, .f32⟩
  | 72 => ⟨S1x1024x2048, .f32⟩
  | 73 => ⟨S4x1024x2048, .f32⟩
  | 74 => ⟨S4x1024x2048, .f32⟩
  | 75 => ⟨S4x1024x2048, .f32⟩
  | 76 => ⟨S4x1024x2048, .i1⟩
  | 77 => ⟨S4x1024x2048, .f32⟩
  | 78 => ⟨S1024x2048, .f32⟩
  | 79 => ⟨S1024x2048, .f32⟩
  | 80 => ⟨S4x1x1024x2048, .f32⟩
  | 81 => ⟨S4x1024x2048, .f32⟩
  | 82 => ⟨S1x1024x2048, .f32⟩
  | 83 => ⟨S4x1024x2048, .f32⟩
  | 84 => ⟨S4x1024x2048, .f32⟩
  | 85 => ⟨S4x1x1024x2048, .f32⟩
  | 86 => ⟨S4x1024x2048, .f32⟩
  | 87 => ⟨S1x1024x2048, .f32⟩
  | 88 => ⟨S4x1024x2048, .f32⟩
  | 89 => ⟨S4x1024x2048, .f32⟩
  | 90 => ⟨S4x1024x2048, .f32⟩
  | 91 => ⟨S4x1024x2048, .i1⟩
  | 92 => ⟨S4x1024x2048, .f32⟩
  | 93 => ⟨S4x1x1024x2048, .f32⟩
  | 94 => ⟨S4x1024x2048, .f32⟩
  | 95 => ⟨S1x1024x2048, .f32⟩
  | 96 => ⟨S4x1024x2048, .f32⟩
  | 97 => ⟨S4x1024x2048, .f32⟩
  | 98 => ⟨S4x1x1024x2048, .f32⟩
  | 99 => ⟨S4x1024x2048, .f32⟩
  | 100 => ⟨S1x1024x2048, .f32⟩
  | 101 => ⟨S4x1024x2048, .f32⟩
  | 102 => ⟨S4x1024x2048, .f32⟩
  | 103 => ⟨S4x1024x2048, .f32⟩
  | 104 => ⟨S4x1024x2048, .i1⟩
  | 105 => ⟨S4x1024x2048, .f32⟩
  | 106 => ⟨S1024x2048, .f32⟩
  | 107 => ⟨S1024x2048, .f32⟩
  | 108 => ⟨S4x1x1024x2048, .f32⟩
  | 109 => ⟨S4x1024x2048, .f32⟩
  | 110 => ⟨S1x1024x2048, .f32⟩
  | 111 => ⟨S4x1024x2048, .f32⟩
  | 112 => ⟨S4x1024x2048, .f32⟩
  | 113 => ⟨S4x1x1024x2048, .f32⟩
  | 114 => ⟨S4x1024x2048, .f32⟩
  | 115 => ⟨S1x1024x2048, .f32⟩
  | 116 => ⟨S4x1024x2048, .f32⟩
  | 117 => ⟨S4x1024x2048, .f32⟩
  | 118 => ⟨S4x1024x2048, .f32⟩
  | 119 => ⟨S4x1024x2048, .i1⟩
  | 120 => ⟨S4x1024x2048, .f32⟩
  | 121 => ⟨S4x1x1024x2048, .f32⟩
  | 122 => ⟨S4x1024x2048, .f32⟩
  | 123 => ⟨S1x1024x2048, .f32⟩
  | 124 => ⟨S4x1024x2048, .f32⟩
  | 125 => ⟨S4x1024x2048, .f32⟩
  | 126 => ⟨S4x1x1024x2048, .f32⟩
  | 127 => ⟨S4x1024x2048, .f32⟩
  | _ => ⟨S4x2048x2048, .bf16⟩

abbrev hbmTy0_1 (i : Nat) : BufTy := match i % 128 with
  | 0 => ⟨S1x1024x2048, .f32⟩
  | 1 => ⟨S4x1024x2048, .f32⟩
  | 2 => ⟨S4x1024x2048, .f32⟩
  | 3 => ⟨S4x1024x2048, .f32⟩
  | 4 => ⟨S4x1024x2048, .i1⟩
  | 5 => ⟨S4x1024x2048, .f32⟩
  | 6 => ⟨S4x1024x2048, .f32⟩
  | 7 => ⟨S4x1024x2048, .f32⟩
  | 8 => ⟨S4x1x1024x2048, .f32⟩
  | 9 => ⟨S4x1x1024x2048, .f32⟩
  | 10 => ⟨S4x2x1024x2048, .f32⟩
  | 11 => ⟨S4x2x1024x2048, .bf16⟩
  | 12 => ⟨S4x1024x2048, .f32⟩
  | 13 => ⟨S4x1024x2048, .f32⟩
  | 14 => ⟨S4x1x1024x2048, .f32⟩
  | 15 => ⟨S4x1x1024x2048, .f32⟩
  | 16 => ⟨S4x2x1024x2048, .f32⟩
  | 17 => ⟨S4x2x1024x2048, .bf16⟩
  | _ => ⟨S4x2048x2048, .bf16⟩

abbrev hbmTy (i : Nat) : BufTy := match i / 128 with
  | 0 => hbmTy0_0 i
  | 1 => hbmTy0_1 i
  | _ => ⟨S4x2048x2048, .bf16⟩

abbrev bufTy : (tb : Table) → Fin (tcTables nBuf tb) → BufTy
  | .hbm, ⟨i, _⟩ => hbmTy i
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call2_v0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_call3_v0 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_call4_v0 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_call5_v0 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_call6_v0 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_call7_v0 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩

abbrev nD : Nat := 1
abbrev τ : Topo := Topo.v7x

variable {F : FTy → Type} [FloatOps F]
-- ==== Proof.Softmax.lean ====
/- The arithmetic of the attention over the extended reals, apart from every array: the softmax the kernel
   takes in powers of two, dividing once at the end, is the softmax of the exponential function, divided
   weight by weight before the values are summed. -/
module

public import Idealize.ShloMosaic.PureOps.Ideal
public import Idealize.ShloMosaic.PureOps.Ideal.Laws

@[expose] public section

noncomputable section

namespace Cert.Attention

open Idealize.ShloMosaic

/-- The finite sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals, whatever the summands. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The running maximum from `-∞` of finitely many values is attained. -/
theorem fold_max_eq {ι : Type*} [Fintype ι] (f : ι → EReal) (i : ι) (h : ∀ j, f j ≤ f i) :
    (Finset.univ : Finset ι).fold max ⊥ f = f i :=
  le_antisymm ((Finset.fold_max_le _).2 ⟨bot_le, fun j _ => h j⟩)
    ((Finset.le_fold_max _).2 (Or.inr ⟨i, Finset.mem_univ i, le_rfl⟩))

/-- SOFTMAX. Scores `s`; the kernel reads them as they are and takes powers of two, the other side reads them
    multiplied by `log 2` and takes exponentials. Weighting any extended reals `v` and dividing once by the sum of
    the weights is dividing each weight first. -/
theorem softmax {ι : Type*} [Fintype ι] [Nonempty ι] (s : ι → ℝ) (S R v : ι → EReal)
    (hS : ∀ t, S t = (s t : EReal)) (hR : ∀ t, R t = ((Real.log 2 * s t : ℝ) : EReal)) :
    Ideal.div (∑ t, Ideal.exp2 (S t - Finset.univ.fold max ⊥ S) * v t)
        (∑ t, Ideal.exp2 (S t - Finset.univ.fold max ⊥ S))
      = ∑ t, v t * Ideal.div (Ideal.exp (R t - max ⊥ (Finset.univ.fold max ⊥ R)))
          (∑ u, Ideal.exp (R u - max ⊥ (Finset.univ.fold max ⊥ R))) := by
  obtain ⟨i, -, hi⟩ := Finset.exists_max_image Finset.univ s Finset.univ_nonempty
  have hlog : 0 ≤ Real.log 2 := Real.log_nonneg (by norm_num)
  have mS : Finset.univ.fold max ⊥ S = S i := fold_max_eq S i fun j => by
    rw [hS, hS]; exact_mod_cast hi j (Finset.mem_univ j)
  have mR : Finset.univ.fold max ⊥ R = R i := fold_max_eq R i fun j => by
    rw [hR, hR, EReal.coe_le_coe_iff]; exact mul_le_mul_of_nonneg_left (hi j (Finset.mem_univ j)) hlog
  have eS : ∀ t, Ideal.exp2 (S t - Finset.univ.fold max ⊥ S) = ((Real.exp (Real.log 2 * (s t - s i)) : ℝ) : EReal) := by
    intro t
    rw [mS, hS, hS, ← EReal.coe_sub, Ideal.exp2_coe]
    exact congrArg _ (Real.rpow_def_of_pos (by norm_num) _)
  have eR : ∀ t, Ideal.exp (R t - max ⊥ (Finset.univ.fold max ⊥ R)) = ((Real.exp (Real.log 2 * (s t - s i)) : ℝ) : EReal) := by
    intro t
    rw [mR, max_eq_right bot_le, hR, hR, ← EReal.coe_sub, Ideal.exp_coe, mul_sub]
  simp only [eS, eR, ← coe_sum]
  have hpos : 0 < ∑ t, Real.exp (Real.log 2 * (s t - s i)) :=
    Finset.sum_pos (fun t _ => Real.exp_pos _) Finset.univ_nonempty
  rw [Ideal.div_coe hpos.ne', sum_mul_coe _ _ (by positivity)]
  refine Finset.sum_congr rfl fun t _ => ?_
  rw [Ideal.div_coe hpos.ne', mul_comm _ (v t), mul_assoc]

/-- The kernel's score of a query and a key, both finite, is a real number. -/
theorem score_coe {δ : Type*} [Fintype δ] (a b : δ → ℝ) (q k : δ → EReal) (hq : ∀ d, q d = (a d : EReal)) (hk : ∀ d, k d = (b d : EReal)) :
    ∑ d, q d * k d = ((∑ d, a d * b d : ℝ) : EReal) := by
  rw [coe_sum]; exact Finset.sum_congr rfl fun d _ => by rw [hq, hk, EReal.coe_mul]

/-- The pattern of 128. -/
theorem ofBits_128 : Ideal.ofBits .f32 0x43000000#32 = ((128 : ℝ) : EReal) := by
  simp [Ideal.ofBits, Ideal.ieee, -EReal.coe_mul]; norm_num

/-- The pattern of 2. -/
theorem ofBits_2 : Ideal.ofBits .f32 0x40000000#32 = ((2 : ℝ) : EReal) := by
  simp [Ideal.ofBits, Ideal.ieee, -EReal.coe_mul]; norm_num

/-- The pattern of `-∞`. -/
theorem ofBits_neg_inf : Ideal.ofBits .f32 0xFF800000#32 = ⊥ := by simp [Ideal.ofBits, Ideal.ieee]

/-- The pattern of `+∞`. -/
theorem ofBits_inf : Ideal.ofBits .f32 0x7F800000#32 = ⊤ := by simp [Ideal.ofBits, Ideal.ieee]

/-- The other side's score, of the same query multiplied by `√128 · log 2` and divided by `√128` after the sum, is `log 2`
    times the kernel's. -/
theorem score_scaled {δ : Type*} [Fintype δ] (a b : δ → ℝ) (q k : δ → EReal) (hq : ∀ d, q d = (a d : EReal)) (hk : ∀ d, k d = (b d : EReal)) :
    Ideal.div (∑ d, k d * (q d * (Ideal.sqrt (Ideal.ofBits .f32 0x43000000#32) * Ideal.log (Ideal.ofBits .f32 0x40000000#32))))
        (Ideal.sqrt (Ideal.ofBits .f32 0x43000000#32))
      = ((Real.log 2 * ∑ d, a d * b d : ℝ) : EReal) := by
  have hs : Ideal.sqrt (Ideal.ofBits .f32 0x43000000#32) = ((Real.sqrt 128 : ℝ) : EReal) := by
    rw [ofBits_128, Ideal.sqrt_coe, if_neg (by norm_num)]
  have hl : Ideal.log (Ideal.ofBits .f32 0x40000000#32) = ((Real.log 2 : ℝ) : EReal) := by
    rw [ofBits_2, Ideal.log_coe, if_neg (by norm_num)]
  have h0 : Real.sqrt 128 ≠ 0 := (Real.sqrt_pos.2 (by norm_num)).ne'
  have hsum : ∑ d, k d * (q d * (((Real.sqrt 128 : ℝ) : EReal) * ((Real.log 2 : ℝ) : EReal)))
      = ((∑ d, b d * (a d * (Real.sqrt 128 * Real.log 2)) : ℝ) : EReal) := by
    rw [coe_sum]
    exact Finset.sum_congr rfl fun d _ => by rw [hq, hk, EReal.coe_mul, EReal.coe_mul, EReal.coe_mul]
  rw [hs, hl, hsum, Ideal.div_coe h0, ← EReal.coe_mul, EReal.coe_eq_coe_iff, Finset.mul_sum, Finset.sum_mul]
  refine Finset.sum_congr rfl fun d _ => ?_
  field_simp

end Cert.Attention

end
-- ==== Proof.Finite.lean ====
/- What the precondition says of an array read over the extended reals: every query and every key is a real number. -/
module

public import proofs.«01_k».proof.Proof.Gen.Pre_finite_scores
public import Idealize.ShloMosaic.Lib.Pointwise
public import proofs.«01_k».proof.Proof.Softmax

@[expose] public section

set_option maxRecDepth 16384

noncomputable section

namespace Cert.Attention

open Idealize.ShloMosaic

/-- A conjunction of two bits is one only if both are. -/
theorem and_eq_one : ∀ a b : BitVec 1, IntOp.andi a b = 1#1 ↔ a = 1#1 ∧ b = 1#1 := by decide

/-- A conjunction taken over a whole array holds only if it holds at every element. -/
theorem all_of_reduce {s t u : Shape} {axes : List (Fin s.rank)} [Subsingleton t.Idx] (x : s.Idx → BitVec 1) (init : u.Idx → BitVec 1)
    (h : s.ReducesTo axes t) (hu : 0 < u.numel) (j : t.Idx) (e : Host.reduce IntOp.andi x init h hu j = 1#1) (i : s.Idx) : x i = 1#1 := by
  rw [Host.reduce_eq_fold] at e
  exact ((Finset.fold_op_rel_iff_and (r := fun _ w => w = 1#1) (c := 1#1) (fun {_ y z} => and_eq_one y z)).1 e).2 i
    (Finset.mem_filter.2 ⟨Finset.mem_univ i, Subsingleton.elim _ _⟩)

/-- A value whose absolute value is below `+∞` is a real number. -/
theorem exists_real {x : EReal} (h : max x (-x) < ⊤) : ∃ r : ℝ, x = (r : EReal) := by
  induction x with
  | bot => simp at h
  | top => simp at h
  | coe r => exact ⟨r, rfl⟩

instance : Subsingleton (Cert.Pre_finite_scores.S_.Idx) := ⟨fun a b => funext fun i => i.elim0⟩

open Cert.Pre_finite_scores in
/-- Under the precondition every query and every key is a real number. -/
theorem finite [Cert.Pre_finite_scores.Facts] (q : FVec Ideal S8192x2048 .bf16) (k v : FVec Ideal S4x2304x512 .bf16)
    (h : Cert.Pre_finite_scores.fn (F := Ideal) q k v = fun _ => 1#1) :
    (∀ i, ∃ r : ℝ, q i = (r : EReal)) ∧ ∀ i, ∃ r : ℝ, k i = (r : EReal) := by
  have h0 : IntOp.andi _ _ = 1#1 := congrFun h (fun i => i.elim0)
  obtain ⟨hq, hk⟩ := (and_eq_one _ _).1 h0
  have key : ∀ x : EReal, Ideal.cmp .olt (max x (-x)) (Ideal.ofBits .f32 0x7F800000#32) = 1#1 → ∃ r : ℝ, x = (r : EReal) := by
    intro x hx
    refine exists_real ?_
    rw [ofBits_inf] at hx
    by_contra hn
    simp [Ideal.cmp, hn] at hx
  exact ⟨fun i => key _ (all_of_reduce _ _ _ _ _ hq i), fun i => key _ (all_of_reduce _ _ _ _ _ hk i)⟩

end Cert.Attention

end
-- ==== Proof.Ref.lean ====
/- The reference's attention read at an index: scores, weights and weighted values of the arrays, and what the result
   holds at a row and a column. -/
module

public import proofs.«01_k».proof.Proof.Gen.ReferenceIdeal.Run
public import Idealize.ShloMosaic.Lib.Pointwise
public import proofs.«01_k».proof.Proof.Softmax

@[expose] public section

set_option maxRecDepth 16384

noncomputable section

namespace Cert.Attention

open Idealize.ShloMosaic Idealize.ShloMosaic.TcCoe Idealize.SL.Sem
open Cert.ReferenceIdeal Cert.ReferenceIdeal.Gen

/-- The scores, one per batch, key head, query of the head's group, query position and key position. -/
def score (q : FVec Ideal S8192x2048 .bf16) (k : FVec Ideal S4x2304x512 .bf16) : FVec Ideal S4x4x4x2048x2304 .f32 :=
  Host.divf (transpose S4x4x4x2048x2304 [0, 1, 4, 3, 2] (Host.dotGeneral dot_S4x2304x4x128_S4x2048x4x4x128_S4x4x2304x2048x4_3_4_1_13_02_02 none (shapeCast _ (extf .f32 k bitsLt_bf16_f32) shapeCasts_S4x2304x512_S4x2304x4x128) (shapeCast _ (mulf (extf .f32 q bitsLt_bf16_f32) (broadcastInDim S8192x2048 ![] bcast_S_S8192x2048 (mulf (Host.sqrt (constant S_ .f32 0x43000000#32)) (Host.log (constant S_ .f32 0x40000000#32))))) shapeCasts_S8192x2048_S4x2048x4x4x128)) transposes_S4x4x2304x2048x4_S4x4x4x2048x2304_0_1_4_3_2) (broadcastInDim S4x4x4x2048x2304 ![] bcast_S_S4x4x4x2048x2304 (Host.sqrt (constant S_ .f32 0x43000000#32)))

/-- The greatest score of every query. -/
def top (s : FVec Ideal S4x4x4x2048x2304 .f32) : FVec Ideal S4x4x4x2048 .f32 :=
  Host.reduce FloatOps.maximumf s (constant S_ .f32 0xFF800000#32) reducesTo_S4x4x4x2048x2304_S4x4x4x2048_d4 h_S_

/-- The weights before they are normalised, from the scores and their maxima. -/
def weight (s : FVec Ideal S4x4x4x2048x2304 .f32) (M : FVec Ideal S4x4x4x2048 .f32) : FVec Ideal S4x4x4x2048x2304 .f32 :=
  Host.exp (subf s (broadcastInDim S4x4x4x2048x2304 ![0, 1, 2, 3, 4] bcast_S4x4x4x2048x1_S4x4x4x2048x2304_0_1_2_3_4 (broadcastInDim S4x4x4x2048x1 ![0, 1, 2, 3] bcast_S4x4x4x2048_S4x4x4x2048x1_0_1_2_3 (maximumf (broadcastInDim S4x4x4x2048 ![] bcast_S_S4x4x4x2048 (constant S_ .f32 0xFF800000#32)) M))))

/-- The values under the normalised weights, laid out as the result. -/
def out (p : FVec Ideal S4x4x4x2048x2304 .f32) (v : FVec Ideal S4x2304x512 .bf16) : FVec Ideal S8192x2048 .bf16 :=
  truncf .bf16 (shapeCast _ (transpose S4x2048x4x4x128 [0, 4, 1, 3, 2] (Host.dotGeneral dot_S4x2304x4x128_S4x4x4x2048x2304_S4x4x128x4x2048_1_4_3_23_02_01 none (shapeCast _ (extf .f32 v bitsLt_bf16_f32) shapeCasts_S4x2304x512_S4x2304x4x128) (extf .f32 (truncf .bf16 (Host.divf p (broadcastInDim S4x4x4x2048x2304 ![0, 1, 2, 3, 4] bcast_S4x4x4x2048x1_S4x4x4x2048x2304_0_1_2_3_4 (broadcastInDim S4x4x4x2048x1 ![0, 1, 2, 3] bcast_S4x4x4x2048_S4x4x4x2048x1_0_1_2_3 (Host.reduceAdd p (constant S_ .f32 0x00000000#32) reducesTo_S4x4x4x2048x2304_S4x4x4x2048_d4 h_S_)))) bitsLt_bf16_f32) bitsLt_bf16_f32)) transposes_S4x4x128x4x2048_S4x2048x4x4x128_0_4_1_3_2) shapeCasts_S4x2048x4x4x128_S8192x2048) bitsLt_bf16_f32

/-- The reference's result is these parts put together. -/
def ref (q : FVec Ideal S8192x2048 .bf16) (k v : FVec Ideal S4x2304x512 .bf16) : FVec Ideal S8192x2048 .bf16 :=
  out (weight (score q k) (top (score q k))) v

/-- The run's result is `ref` of the arguments. -/
theorem run_eq (m : (ℓ : Loc nD τ sig) → Buf (Elt Ideal) ℓ) (c : Dev nD) :
    Cert.ReferenceIdeal.Value.res_main_v31 m c
      = ref (m ((c.tc : Thread nD τ).loc main_arg0)) (m ((c.tc : Thread nD τ).loc main_arg1)) (m ((c.tc : Thread nD τ).loc main_arg2)) := rfl

/-- A score: the key against the query multiplied by `√128 · log 2`, the sum divided by `√128`. -/
theorem score_at (q : FVec Ideal S8192x2048 .bf16) (k : FVec Ideal S4x2304x512 .bf16) (b h g : Fin 4) (i : Fin 2048) (t : Fin 2304) :
    score q k (ix5 b h g i t)
      = Ideal.div (∑ d : Fin 128, k (ix3 b t ⟨h * 128 + d, by omega⟩) * (q (ix2 ⟨b * 2048 + i, by omega⟩ ⟨h * 512 + g * 128 + d, by omega⟩)
          * (Ideal.sqrt (Ideal.ofBits .f32 0x43000000#32) * Ideal.log (Ideal.ofBits .f32 0x40000000#32))))
        (Ideal.sqrt (Ideal.ofBits .f32 0x43000000#32)) := by
  pointwise [score]

/-- A maximum along the last of five axes, whatever the sizes. -/
theorem max_last {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (fun x y : EReal => max x y) x init h hu (ix4 a b c d)
      = Finset.univ.fold max (init (Shape.Idx.first hu)) (fun k : Fin n4 => x (ix5 a b c d k)) :=
  (Host.reduce_eq_fold _ x init h hu _).trans (h.fold_fiber_r5_a4 _ _ _ x)

/-- A greatest score is the maximum over the key positions. -/
theorem top_at (s : FVec Ideal S4x4x4x2048x2304 .f32) (b h g : Fin 4) (i : Fin 2048) :
    top s (ix4 b h g i) = Finset.univ.fold max ⊥ (fun t : Fin 2304 => s (ix5 b h g i t)) :=
  (max_last s _ reducesTo_S4x4x4x2048x2304_S4x4x4x2048_d4 h_S_ b h g i).trans
    (congrArg (fun e => Finset.univ.fold max e (fun t : Fin 2304 => s (ix5 b h g i t))) ofBits_neg_inf)

/-- A weight: the exponential of the score less the greatest. -/
theorem weight_at (s : FVec Ideal S4x4x4x2048x2304 .f32) (M : FVec Ideal S4x4x4x2048 .f32) (b h g : Fin 4) (i : Fin 2048) (t : Fin 2304) :
    weight s M (ix5 b h g i t) = Ideal.exp (s (ix5 b h g i t) - max ⊥ (M (ix4 b h g i))) := by
  rw [← ofBits_neg_inf]
  pointwise [weight]

/-- The result at row `r` and column `j`: the values of the batch `r / 2048` and the key head `j / 512`, under the weights of
    the query `r % 2048` of the group's head `j / 128 % 4`, each divided by their sum. -/
theorem out_at (p : FVec Ideal S4x4x4x2048x2304 .f32) (v : FVec Ideal S4x2304x512 .bf16) (r : Fin 8192) (j : Fin 2048) :
    out p v (ix2 r j)
      = ∑ t : Fin 2304, v (ix3 ⟨r / 2048, by omega⟩ t ⟨j / 512 * 128 + j % 128, by omega⟩)
          * Ideal.div (p (ix5 ⟨r / 2048, by omega⟩ ⟨j / 512, by omega⟩ ⟨j / 128 % 4, by omega⟩ ⟨r % 2048, by omega⟩ t))
            (∑ u : Fin 2304, p (ix5 ⟨r / 2048, by omega⟩ ⟨j / 512, by omega⟩ ⟨j / 128 % 4, by omega⟩ ⟨r % 2048, by omega⟩ u)) := by
  pointwise [out]

end Cert.Attention

end
-- ==== Proof.Value.lean ====
/- The kernel's attention read at an index: one head's rows against the staged keys and values, and the array after the run. -/
module

public import proofs.«01_k».proof.Proof.Gen.KernelIdeal.Value
public import Idealize.ShloMosaic.Lib.Pipeline.ValueKit
public import proofs.«01_k».proof.Proof.Ref
public import proofs.«01_k».proof.Proof.Softmax

@[expose] public section

set_option maxRecDepth 16384

noncomputable section

namespace Cert.Attention

open Idealize.ShloMosaic Idealize.ShloMosaic.TcCoe Idealize.SL.Sem
open Idealize.ShloMosaic.Pipeline (Dat)
open Cert.KernelIdeal Cert.KernelIdeal.Gen

/-- What the body computes for one head of 128 columns of the query block: powers of two of the scores less their maximum,
    weighting the values, divided by the weights' sum. -/
theorem head_at (k v : FVec Ideal S1x2304x128 .bf16) (q : FVec Ideal S512x128 .bf16) (r : Fin 512) (d : Fin 128) :
    k0_pay5 (F := Ideal) k v q (ix2 r d)
      = Ideal.div (∑ t : Fin 2304, Ideal.exp2 ((∑ e : Fin 128, q (ix2 r e) * k (ix3 0 t e))
            - Finset.univ.fold max ⊥ (fun u : Fin 2304 => ∑ e : Fin 128, q (ix2 r e) * k (ix3 0 u e))) * v (ix3 0 t d))
          (∑ t : Fin 2304, Ideal.exp2 ((∑ e : Fin 128, q (ix2 r e) * k (ix3 0 t e))
            - Finset.univ.fold max ⊥ (fun u : Fin 2304 => ∑ e : Fin 128, q (ix2 r e) * k (ix3 0 u e)))) := by
  rw [← ofBits_neg_inf]
  pointwise [k0_pay5, k0_pay3, k0_pay4]
  rfl

/-- The other three heads' payloads are the same computation. -/
theorem pay6_eq (k v : FVec Ideal S1x2304x128 .bf16) (q : FVec Ideal S512x128 .bf16) : k0_pay6 (F := Ideal) k v q = k0_pay5 k v q := rfl
theorem pay1_eq (k v : FVec Ideal S1x2304x128 .bf16) (q : FVec Ideal S512x128 .bf16) : k0_pay1 (F := Ideal) (k0_pay3 k) (k0_pay4 v) q = k0_pay5 k v q := rfl
theorem pay2_eq (k v : FVec Ideal S1x2304x128 .bf16) (q : FVec Ideal S512x128 .bf16) : k0_pay2 (F := Ideal) (k0_pay3 k) (k0_pay4 v) q = k0_pay5 k v q := rfl

/-- THE EQUATION: a head's result, of queries, keys and values that lie in the arrays as the batch and head say, is the
    reference's at the place. -/
theorem head_eq (Q : FVec Ideal S8192x2048 .bf16) (K V : FVec Ideal S4x2304x512 .bf16)
    (hQ : ∀ i, ∃ r : ℝ, Q i = (r : EReal)) (hK : ∀ i, ∃ r : ℝ, K i = (r : EReal))
    (k v : FVec Ideal S1x2304x128 .bf16) (q : FVec Ideal S512x128 .bf16) (r : Fin 512) (d : Fin 128) (i : Fin 8192) (j : Fin 2048)
    (hd : (d : ℕ) = j % 128)
    (hq : ∀ e : Fin 128, q (ix2 r e) = Q (ix2 i ⟨j / 128 * 128 + e, by omega⟩))
    (hk : ∀ (t : Fin 2304) (e : Fin 128), k (ix3 0 t e) = K (ix3 ⟨i / 2048, by omega⟩ t ⟨j / 512 * 128 + e, by omega⟩))
    (hv : ∀ (t : Fin 2304) (e : Fin 128), v (ix3 0 t e) = V (ix3 ⟨i / 2048, by omega⟩ t ⟨j / 512 * 128 + e, by omega⟩)) :
    k0_pay5 (F := Ideal) k v q (ix2 r d) = ref Q K V (ix2 i j) := by
  choose a ha using hQ
  choose b hb using hK
  rw [head_at, ref, out_at]
  simp only [weight_at, top_at]
  have e1 : ∀ t : Fin 2304, v (ix3 0 t d) = V (ix3 ⟨i / 2048, by omega⟩ t ⟨j / 512 * 128 + j % 128, by omega⟩) := by
    intro t; rw [hv]; simp only [hd]
  simp only [e1]
  refine softmax (fun t : Fin 2304 => ∑ e : Fin 128, a (ix2 i ⟨j / 128 * 128 + e, by omega⟩)
      * b (ix3 ⟨i / 2048, by omega⟩ t ⟨j / 512 * 128 + e, by omega⟩)) _ _ _ (fun t => ?_) (fun t => ?_)
  · exact score_coe _ _ _ _ (fun e => (hq e).trans (ha _)) (fun e => (hk t e).trans (hb _))
  · rw [score_at]
    have hi : ∀ e : Fin 128, Q (ix2 (⟨(i : ℕ) / 2048 * 2048 + (i : ℕ) % 2048, by omega⟩ : Fin 8192)
        (⟨(j : ℕ) / 512 * 512 + (j : ℕ) / 128 % 4 * 128 + e, by omega⟩ : Fin 2048))
        = (a (ix2 i ⟨j / 128 * 128 + e, by omega⟩) : EReal) := by
      intro e
      rw [← ha]
      have h1 : (⟨(i : ℕ) / 2048 * 2048 + (i : ℕ) % 2048, by omega⟩ : Fin 8192) = i := Fin.ext (by simp only; omega)
      have h2 : (⟨(j : ℕ) / 512 * 512 + (j : ℕ) / 128 % 4 * 128 + e, by omega⟩ : Fin 2048) = ⟨j / 128 * 128 + e, by omega⟩ :=
        Fin.ext (by simp only; omega)
      rw [h1, h2]
    exact score_scaled _ _ _ _ hi (fun e => hb _)

variable (m : (ℓ : Loc nD τ sig) → Buf (Elt Ideal) ℓ)

/-- The windows' block indices at every grid point. -/
theorem idx : ∀ t : Fin cfg0.N, win0_0.index t = ![t.val / 16 * 4 + t.val % 4, t.val / 4 % 4]
    ∧ win0_1.index t = ![t.val / 16, 0, t.val / 4 % 4] ∧ win0_2.index t = ![t.val / 16, 0, t.val / 4 % 4]
    ∧ win0_3.index t = ![t.val / 16 * 4 + t.val % 4, t.val / 4 % 4] :=
  (by decide +kernel : ∀ t : Fin grid0.N, _)

/-- One head's columns of a block: `head_eq` at the block of the point `t`, the head `g` of its group. -/
theorem piece (c : Dev nD) (t : Fin cfg0.N) (hQ : ∀ i, ∃ r : ℝ, m ((c : Thread nD τ).loc main_arg0) i = (r : EReal))
    (hK : ∀ i, ∃ r : ℝ, m ((c : Thread nD τ).loc main_arg1) i = (r : EReal))
    (k v : FVec Ideal S1x2304x128 .bf16) (q : FVec Ideal S512x128 .bf16) (x : S512x128.Idx) (y : S512x512.Idx) (g : ℕ)
    (h0 : (y 0 : ℕ) = x 0) (h1 : (y 1 : ℕ) = g * 128 + x 1)
    (hg : g < 4) (hk : ∀ (u : Fin 2304) (e : Fin 128), k (ix3 0 u e) = iblk m c 1 t (ix3 0 u e))
    (hv : ∀ (u : Fin 2304) (e : Fin 128), v (ix3 0 u e) = iblk m c 2 t (ix3 0 u e))
    (hq : ∀ (r : Fin 512) (e : Fin 128) (l : Fin 512), (l : ℕ) = g * 128 + e → q (ix2 r e) = iblk m c 0 t (ix2 r l)) :
    k0_pay5 (F := Ideal) k v q x = ref (m ((c : Thread nD τ).loc main_arg0)) (m ((c : Thread nD τ).loc main_arg1))
      (m ((c : Thread nD τ).loc main_arg2)) (((cfg0.win 3).blk t).view.emb y) := by
  have ht : t.val < 64 := t.isLt
  have z0 : (((cfg0.win 3).blk t).view.emb y 0 : ℕ) = (t.val / 16 * 4 + t.val % 4) * 512 + x 0 := by
    blk_simp [idx t] <;> try omega
  have z1 : (((cfg0.win 3).blk t).view.emb y 1 : ℕ) = t.val / 4 % 4 * 512 + (g * 128 + x 1) := by
    blk_simp [idx t] <;> try omega
  generalize ((cfg0.win 3).blk t).view.emb y = z at z0 z1 ⊢
  obtain ⟨i, j, rfl⟩ : ∃ (i : Fin 8192) (j : Fin 2048), z = (ix2 i j : S8192x2048.Idx) := ⟨z 0, z 1, eq_ix2 z⟩
  obtain ⟨r, d, rfl⟩ : ∃ (r : Fin 512) (d : Fin 128), x = (ix2 r d : S512x128.Idx) := ⟨x 0, x 1, eq_ix2 x⟩
  replace z0 : (i : ℕ) = (t.val / 16 * 4 + t.val % 4) * 512 + r := z0
  replace z1 : (j : ℕ) = t.val / 4 % 4 * 512 + (g * 128 + d) := z1
  refine head_eq _ _ _ hQ hK k v q r d i j (by omega) (fun e => ?_) (fun u e => ?_) (fun u e => ?_)
  · rw [hq r e ⟨g * 128 + e, by omega⟩ rfl]
    blk_ext [iblk, V, idx t]
  · rw [hk]
    blk_ext [iblk, V, idx t]
  · rw [hv]
    blk_ext [iblk, V, idx t]

/-- The result array after the run is the reference's function of the arguments. -/
theorem final (c : Dev nD) (hQ : ∀ i, ∃ r : ℝ, m ((c : Thread nD τ).loc main_arg0) i = (r : EReal))
    (hK : ∀ i, ∃ r : ℝ, m ((c : Thread nD τ).loc main_arg1) i = (r : EReal)) :
    (dats m 0 c).arrAt 3 (cfgs 0).N = ref (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  canon_tiles x h
  case piece0 =>
    refine (congrFun (pay2_eq (View.ld (iblk m c 1 t) r0_0) (View.ld (iblk m c 2 t) r0_0) (View.ld (iblk m c 0 t) r0_4)) x).trans
      (piece m c t hQ hK _ _ _ x y 3 h0 h1 (by omega) ?_ ?_ ?_) <;> intros <;> pointwise <;> blk_ext
  case piece1 =>
    refine (congrFun (pay1_eq (View.ld (iblk m c 1 t) r0_0) (View.ld (iblk m c 2 t) r0_0) (View.ld (iblk m c 0 t) r0_3)) x).trans
      (piece m c t hQ hK _ _ _ x y 2 h0 h1 (by omega) ?_ ?_ ?_) <;> intros <;> pointwise <;> blk_ext
  case piece2 =>
    refine (congrFun (pay6_eq (View.ld (iblk m c 1 t) r0_0) (View.ld (iblk m c 2 t) r0_0) (View.ld (iblk m c 0 t) r0_2)) x).trans
      (piece m c t hQ hK _ _ _ x y 1 h0 h1 (by omega) ?_ ?_ ?_) <;> intros <;> pointwise <;> blk_ext
  case piece3 =>
    refine piece m c t hQ hK _ _ _ x y 0 h0 (by omega) (by omega) ?_ ?_ ?_ <;> intros <;> pointwise <;> blk_ext

end Cert.Attention

end
-- ==== Proof.Attention.lean ====
/- The claims about the attention that are not generated: the reference's run, and the two programs' equal results. -/
module

public import proofs.«01_k».proof.Defs
public import proofs.«01_k».proof.Proof.Finite
public import proofs.«01_k».proof.Proof.Value
public import Idealize.ShloMosaic.Lib.Claim

@[expose] public section

set_option maxRecDepth 16384

noncomputable section

namespace Cert.Attention

open Idealize.ShloMosaic Idealize.SL.Sem

/-- The reference over the extended reals runs, keeps its arguments and has no counters. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The attention's two programs leave equal results when queries and keys are finite. -/
theorem equal : Cert.algebraic_KernelIdeal_ReferenceIdeal_pre_finite_scores := by
  pair_intro
  · run_from Cert.KernelIdeal.Gen.run_main m g
  · run_from Cert.ReferenceIdeal.Value.run m' g'
    have hf := finite _ _ _ (hpre c)
    rw [run_eq, (hagree c).1, (hagree c).2.1, (hagree c).2.2]
    exact (final m c hf.1 hf.2).symm

end Cert.Attention

end
-- ==== Proof.GateSetup.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers that the kernel addresses itself -/

/-- The resident weight tiles, in bf16: tile `n` lies in half `n % 2`, the gate's part before the other's. -/
abbrev wbM : Memref sig .tc .vmem S2x2x4096x512 .bf16 := Memref.whole cc0_scratch0
/-- The two landing slots for chunks of the weights, in f32. -/
abbrev stM : Memref sig .tc .vmem S2x1024x512 .f32 := Memref.whole cc0_scratch1
/-- The gate's weights, left in HBM, -/
abbrev gM : Memref sig .tc .hbm S1x2x4096x11008 .f32 := Memref.whole main_arg1
/-- and those of the product that it gates. -/
abbrev uM : Memref sig .tc .hbm S1x2x4096x11008 .f32 := Memref.whole main_arg2
/-- The one or the other. -/
def srcM : Bool → Memref sig .tc .hbm S1x2x4096x11008 .f32
  | false => gM
  | true => uM

theorem inb_slot (s : Fin 2) : ∀ a, (![s.val, 0, 0] : Fin 3 → Nat) a + S1x1024x512.size a ≤ S2x1024x512.size a := by
  have := s.isLt; intro a; fin_cases a <;> simp <;> omega
theorem inb_slotN (s : Fin 2) : ∀ a, (![s.val, 0, 0] : Fin 3 → Nat) a + S1x1024x256.size a ≤ S2x1024x512.size a := by
  have := s.isLt; intro a; fin_cases a <;> simp <;> omega
theorem inb_chunk (n : ℕ) (x : Fin 8) :
    ∀ a, (![0, 1, 1024 * (x.val % 4), 512 * (n % 21)] : Fin 4 → Nat) a + S1x1x1024x512.size a ≤ S1x2x4096x11008.size a := by
  have := x.isLt; have := Nat.mod_lt n (show 0 < 21 by decide); intro a; fin_cases a <;> simp <;> omega
theorem inb_chunkN (x : Fin 8) :
    ∀ a, (![0, 1, 1024 * (x.val % 4), 10752] : Fin 4 → Nat) a + S1x1x1024x256.size a ≤ S1x2x4096x11008.size a := by
  have := x.isLt; intro a; fin_cases a <;> simp <;> omega
theorem inb_cell (s : Fin 2) : ∀ a, (![s.val] : Fin 1 → Nat) a + S1.size a ≤ S2.size a := by
  have := s.isLt; intro a; fin_cases a <;> simp <;> omega

/-- Landing slot `s`, -/
def slotM (s : Fin 2) : Memref sig .tc .vmem S1024x512 .f32 :=
  (stM.slice (Rect.unit (s := S2x1024x512) ![s.val, 0, 0] S1x1024x512.size (inb_slot s)) (fun _ => rfl)).squeeze S1024x512 squeezes_S1x1024x512_S1024x512
/-- and the half of it that the last tile, half as wide as the others, lands in. -/
def slotN (s : Fin 2) : Memref sig .tc .vmem S1024x256 .f32 :=
  (stM.slice (Rect.unit (s := S2x1024x512) ![s.val, 0, 0] S1x1024x256.size (inb_slotN s)) (fun _ => rfl)).squeeze S1024x256 squeezes_S1x1024x256_S1024x256
/-- Chunk `x` of tile `n`: four chunks of 1024 rows of the gate's weights, then four of the others', at columns `512 n …`; -/
def chunkM (n : ℕ) (x : Fin 8) : Memref sig .tc .hbm S1024x512 .f32 :=
  ((srcM (decide (4 ≤ x.val))).slice (Rect.unit (s := S1x2x4096x11008) ![0, 1, 1024 * (x.val % 4), 512 * (n % 21)] S1x1x1024x512.size (inb_chunk n x)) (fun _ => rfl)).squeeze S1024x512 squeezes_S1x1x1024x512_S1024x512
/-- those of the last tile are 256 columns wide. -/
def chunkN (x : Fin 8) : Memref sig .tc .hbm S1024x256 .f32 :=
  ((srcM (decide (4 ≤ x.val))).slice (Rect.unit (s := S1x2x4096x11008) ![0, 1, 1024 * (x.val % 4), 10752] S1x1x1024x256.size (inb_chunkN x)) (fun _ => rfl)).squeeze S1024x256 squeezes_S1x1x1024x256_S1024x256
/-- The semaphore of slot `s`. -/
def cellM (s : Fin 2) : DmaSems sig S_ :=
  (cc0_scratch2.slice (Rect.unit (s := S2) ![s.val] S1.size (inb_cell s))).squeeze S_ squeezes_S1_S_
abbrev cellL (s : Fin 2) : SemLoc sig := SemLoc.dma (cellM s).sem
theorem cellL_0 : cellL 0 = SemLoc.dma 4 := by decide
theorem cellL_1 : cellL 1 = SemLoc.dma 5 := by decide

/-- A chunk as a transfer spells it, at any offsets that are those of chunk `x` of tile `n`. -/
theorem chunk_of_off (o : Fin 4 → Nat) (h : ∀ a, o a + S1x1x1024x512.size a ≤ S1x2x4096x11008.size a) (n : ℕ) (x : Fin 8)
    (e : o = ![0, 1, 1024 * (x.val % 4), 512 * (n % 21)]) :
    ((srcM (decide (4 ≤ x.val))).slice (Rect.unit (s := S1x2x4096x11008) o S1x1x1024x512.size h) (fun _ => rfl)).squeeze S1024x512 squeezes_S1x1x1024x512_S1024x512 = chunkM n x := by
  subst e; rfl
theorem chunk_of_offN (o : Fin 4 → Nat) (h : ∀ a, o a + S1x1x1024x256.size a ≤ S1x2x4096x11008.size a) (x : Fin 8)
    (e : o = ![0, 1, 1024 * (x.val % 4), 10752]) :
    ((srcM (decide (4 ≤ x.val))).slice (Rect.unit (s := S1x2x4096x11008) o S1x1x1024x256.size h) (fun _ => rfl)).squeeze S1024x256 squeezes_S1x1x1024x256_S1024x256 = chunkN x := by
  subst e; rfl

/-! ## The branches and the offsets, in the coordinates -/

/-- Branch `x` of the eight waits is taken in the points of column `x`, where the next tile is a wide one; -/
def waitCond (i : grid0.Coords) (x : Fin 8) : BitVec 1 :=
  (![k0_cond2 i, k0_cond3 i, k0_cond4 i, k0_cond5 i, k0_cond6 i, k0_cond7 i, k0_cond8 i, k0_cond9 i] : Fin 8 → BitVec 1) x
theorem waitCond_iff : ∀ (x : Fin 8) (i : grid0.Coords), waitCond i x = 1#1 ↔ (i 0).val + 1 < 21 ∧ (i 1).val = x.val := by
  decide +kernel
/-- of eight more, where it is the narrow one. -/
def narrowCond (i : grid0.Coords) (x : Fin 8) : BitVec 1 :=
  (![k0_cond10 i, k0_cond11 i, k0_cond12 i, k0_cond13 i, k0_cond14 i, k0_cond15 i, k0_cond16 i, k0_cond17 i] : Fin 8 → BitVec 1) x
theorem narrowCond_iff : ∀ (x : Fin 8) (i : grid0.Coords), narrowCond i x = 1#1 ↔ (i 0).val + 1 = 21 ∧ (i 1).val = x.val := by
  decide +kernel
/-- The word of the first branch: taken at the first point alone. -/
abbrev firstCond (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
theorem firstCond_iff : ∀ i : grid0.Coords, firstCond i = 1#1 ↔ (i 0).val = 0 ∧ (i 1).val = 0 := by decide +kernel
theorem startCond_iff : ∀ i : grid0.Coords, k0_cond18 i = 1#1 ↔ (i 0).val + 2 < 21 ∧ (i 1).val = 7 := by decide +kernel
theorem startNarrow_iff : ∀ i : grid0.Coords, k0_cond19 i = 1#1 ↔ (i 0).val + 2 = 21 ∧ (i 1).val = 7 := by decide +kernel
theorem wideCond_iff : ∀ i : grid0.Coords, k0_cond20 i = 1#1 ↔ (i 0).val < 21 := by decide +kernel
theorem lastCond_iff : ∀ i : grid0.Coords, k0_cond21 i = 1#1 ↔ (i 0).val = 21 := by decide +kernel
theorem next_tile : ∀ i : grid0.Coords, (i 0).val + 1 < 21 → 512 * (((i 0).val + 1) % 21) = 512 * (i 0).val + 512 := by decide +kernel
theorem next_tile₂ : ∀ i : grid0.Coords, (i 0).val + 2 < 21 → 512 * (((i 0).val + 2) % 21) = 512 * (i 0).val + 1024 := by decide +kernel
theorem narrow_tile : ∀ i : grid0.Coords, (i 0).val + 1 = 21 → 512 * (i 0).val + 512 = 10752 := by decide +kernel
theorem narrow_tile₂ : ∀ i : grid0.Coords, (i 0).val + 2 = 21 → 512 * (i 0).val + 1024 = 10752 := by decide +kernel

/-- A transfer's source of 512 columns, as the program spells it, -/
abbrev spelt (M : Memref sig .tc .hbm S1x2x4096x11008 .f32) (o : Fin 4 → Nat) (h : ∀ a, o a + S1x1x1024x512.size a ≤ S1x2x4096x11008.size a) : Memref sig .tc .hbm S1024x512 .f32 :=
  (M.slice (Rect.unit (s := S1x2x4096x11008) o S1x1x1024x512.size h) (fun _ => rfl)).squeeze S1024x512 squeezes_S1x1x1024x512_S1024x512
/-- and one of 256. -/
abbrev speltN (M : Memref sig .tc .hbm S1x2x4096x11008 .f32) (o : Fin 4 → Nat) (h : ∀ a, o a + S1x1x1024x256.size a ≤ S1x2x4096x11008.size a) : Memref sig .tc .hbm S1024x256 .f32 :=
  (M.slice (Rect.unit (s := S1x2x4096x11008) o S1x1x1024x256.size h) (fun _ => rfl)).squeeze S1024x256 squeezes_S1x1x1024x256_S1024x256
theorem next_off (i : grid0.Coords) (x y : Fin 8) (h : waitCond i y = 1#1) {o : Fin 4 → Nat} (ho : o = ![0, 1, 1024 * (x.val % 4), 512 * (i 0).val + 512]) :
    o = ![0, 1, 1024 * (x.val % 4), 512 * (((i 0).val + 1) % 21)] := by rw [ho, next_tile i ((waitCond_iff y i).mp h).1]
theorem narrow_off (i : grid0.Coords) (x y : Fin 8) (h : narrowCond i y = 1#1) {o : Fin 4 → Nat} (ho : o = ![0, 1, 1024 * (x.val % 4), 512 * (i 0).val + 512]) :
    o = ![0, 1, 1024 * (x.val % 4), 10752] := by rw [ho, narrow_tile i ((narrowCond_iff y i).mp h).1]

/-- The sources of the waits and starts of the branches, each the chunk it names. -/
@[sl_canon] theorem canon_off1 (i : grid0.Coords) (h : k0_cond2 i = 1#1) : spelt gM (k0_off1 i) (k0_off1_inb i h) = chunkM ((i 0).val + 1) 0 :=
  chunk_of_off _ _ _ 0 (next_off i 0 0 h (k0_off1_eq i))
@[sl_canon] theorem canon_off2 (i : grid0.Coords) (h : k0_cond2 i = 1#1) : spelt gM (k0_off2 i) (k0_off2_inb i h) = chunkM ((i 0).val + 1) 1 :=
  chunk_of_off _ _ _ 1 (next_off i 1 0 h (k0_off2_eq i))
@[sl_canon] theorem canon_off3 (i : grid0.Coords) (h : k0_cond3 i = 1#1) : spelt gM (k0_off3 i) (k0_off3_inb i h) = chunkM ((i 0).val + 1) 1 :=
  chunk_of_off _ _ _ 1 (next_off i 1 1 h (k0_off3_eq i))
@[sl_canon] theorem canon_off4 (i : grid0.Coords) (h : k0_cond3 i = 1#1) : spelt gM (k0_off4 i) (k0_off4_inb i h) = chunkM ((i 0).val + 1) 2 :=
  chunk_of_off _ _ _ 2 (next_off i 2 1 h (k0_off4_eq i))
@[sl_canon] theorem canon_off5 (i : grid0.Coords) (h : k0_cond4 i = 1#1) : spelt gM (k0_off5 i) (k0_off5_inb i h) = chunkM ((i 0).val + 1) 2 :=
  chunk_of_off _ _ _ 2 (next_off i 2 2 h (k0_off5_eq i))
@[sl_canon] theorem canon_off6 (i : grid0.Coords) (h : k0_cond4 i = 1#1) : spelt gM (k0_off6 i) (k0_off6_inb i h) = chunkM ((i 0).val + 1) 3 :=
  chunk_of_off _ _ _ 3 (next_off i 3 2 h (k0_off6_eq i))
@[sl_canon] theorem canon_off7 (i : grid0.Coords) (h : k0_cond5 i = 1#1) : spelt gM (k0_off7 i) (k0_off7_inb i h) = chunkM ((i 0).val + 1) 3 :=
  chunk_of_off _ _ _ 3 (next_off i 3 3 h (k0_off7_eq i))
@[sl_canon] theorem canon_off8 (i : grid0.Coords) (h : k0_cond5 i = 1#1) : spelt uM (k0_off8 i) (k0_off8_inb i h) = chunkM ((i 0).val + 1) 4 :=
  chunk_of_off _ _ _ 4 (next_off i 4 3 h (k0_off8_eq i))
@[sl_canon] theorem canon_off9 (i : grid0.Coords) (h : k0_cond6 i = 1#1) : spelt uM (k0_off9 i) (k0_off9_inb i h) = chunkM ((i 0).val + 1) 4 :=
  chunk_of_off _ _ _ 4 (next_off i 4 4 h (k0_off9_eq i))
@[sl_canon] theorem canon_off10 (i : grid0.Coords) (h : k0_cond6 i = 1#1) : spelt uM (k0_off10 i) (k0_off10_inb i h) = chunkM ((i 0).val + 1) 5 :=
  chunk_of_off _ _ _ 5 (next_off i 5 4 h (k0_off10_eq i))
@[sl_canon] theorem canon_off11 (i : grid0.Coords) (h : k0_cond7 i = 1#1) : spelt uM (k0_off11 i) (k0_off11_inb i h) = chunkM ((i 0).val + 1) 5 :=
  chunk_of_off _ _ _ 5 (next_off i 5 5 h (k0_off11_eq i))
@[sl_canon] theorem canon_off12 (i : grid0.Coords) (h : k0_cond7 i = 1#1) : spelt uM (k0_off12 i) (k0_off12_inb i h) = chunkM ((i 0).val + 1) 6 :=
  chunk_of_off _ _ _ 6 (next_off i 6 5 h (k0_off12_eq i))
@[sl_canon] theorem canon_off13 (i : grid0.Coords) (h : k0_cond8 i = 1#1) : spelt uM (k0_off13 i) (k0_off13_inb i h) = chunkM ((i 0).val + 1) 6 :=
  chunk_of_off _ _ _ 6 (next_off i 6 6 h (k0_off13_eq i))
@[sl_canon] theorem canon_off14 (i : grid0.Coords) (h : k0_cond8 i = 1#1) : spelt uM (k0_off14 i) (k0_off14_inb i h) = chunkM ((i 0).val + 1) 7 :=
  chunk_of_off _ _ _ 7 (next_off i 7 6 h (k0_off14_eq i))
@[sl_canon] theorem canon_off15 (i : grid0.Coords) (h : k0_cond9 i = 1#1) : spelt uM (k0_off15 i) (k0_off15_inb i h) = chunkM ((i 0).val + 1) 7 :=
  chunk_of_off _ _ _ 7 (next_off i 7 7 h (k0_off15_eq i))
@[sl_canon] theorem canon_off16 (i : grid0.Coords) (h : k0_cond10 i = 1#1) : speltN gM (k0_off16 i) (k0_off16_inb i h) = chunkN 0 :=
  chunk_of_offN _ _ 0 (narrow_off i 0 0 h (k0_off16_eq i))
@[sl_canon] theorem canon_off17 (i : grid0.Coords) (h : k0_cond10 i = 1#1) : speltN gM (k0_off17 i) (k0_off17_inb i h) = chunkN 1 :=
  chunk_of_offN _ _ 1 (narrow_off i 1 0 h (k0_off17_eq i))
@[sl_canon] theorem canon_off18 (i : grid0.Coords) (h : k0_cond11 i = 1#1) : speltN gM (k0_off18 i) (k0_off18_inb i h) = chunkN 1 :=
  chunk_of_offN _ _ 1 (narrow_off i 1 1 h (k0_off18_eq i))
@[sl_canon] theorem canon_off19 (i : grid0.Coords) (h : k0_cond11 i = 1#1) : speltN gM (k0_off19 i) (k0_off19_inb i h) = chunkN 2 :=
  chunk_of_offN _ _ 2 (narrow_off i 2 1 h (k0_off19_eq i))
@[sl_canon] theorem canon_off20 (i : grid0.Coords) (h : k0_cond12 i = 1#1) : speltN gM (k0_off20 i) (k0_off20_inb i h) = chunkN 2 :=
  chunk_of_offN _ _ 2 (narrow_off i 2 2 h (k0_off20_eq i))
@[sl_canon] theorem canon_off21 (i : grid0.Coords) (h : k0_cond12 i = 1#1) : speltN gM (k0_off21 i) (k0_off21_inb i h) = chunkN 3 :=
  chunk_of_offN _ _ 3 (narrow_off i 3 2 h (k0_off21_eq i))
@[sl_canon] theorem canon_off22 (i : grid0.Coords) (h : k0_cond13 i = 1#1) : speltN gM (k0_off22 i) (k0_off22_inb i h) = chunkN 3 :=
  chunk_of_offN _ _ 3 (narrow_off i 3 3 h (k0_off22_eq i))
@[sl_canon] theorem canon_off23 (i : grid0.Coords) (h : k0_cond13 i = 1#1) : speltN uM (k0_off23 i) (k0_off23_inb i h) = chunkN 4 :=
  chunk_of_offN _ _ 4 (narrow_off i 4 3 h (k0_off23_eq i))
@[sl_canon] theorem canon_off24 (i : grid0.Coords) (h : k0_cond14 i = 1#1) : speltN uM (k0_off24 i) (k0_off24_inb i h) = chunkN 4 :=
  chunk_of_offN _ _ 4 (narrow_off i 4 4 h (k0_off24_eq i))
@[sl_canon] theorem canon_off25 (i : grid0.Coords) (h : k0_cond14 i = 1#1) : speltN uM (k0_off25 i) (k0_off25_inb i h) = chunkN 5 :=
  chunk_of_offN _ _ 5 (narrow_off i 5 4 h (k0_off25_eq i))
@[sl_canon] theorem canon_off26 (i : grid0.Coords) (h : k0_cond15 i = 1#1) : speltN uM (k0_off26 i) (k0_off26_inb i h) = chunkN 5 :=
  chunk_of_offN _ _ 5 (narrow_off i 5 5 h (k0_off26_eq i))
@[sl_canon] theorem canon_off27 (i : grid0.Coords) (h : k0_cond15 i = 1#1) : speltN uM (k0_off27 i) (k0_off27_inb i h) = chunkN 6 :=
  chunk_of_offN _ _ 6 (narrow_off i 6 5 h (k0_off27_eq i))
@[sl_canon] theorem canon_off28 (i : grid0.Coords) (h : k0_cond16 i = 1#1) : speltN uM (k0_off28 i) (k0_off28_inb i h) = chunkN 6 :=
  chunk_of_offN _ _ 6 (narrow_off i 6 6 h (k0_off28_eq i))
@[sl_canon] theorem canon_off29 (i : grid0.Coords) (h : k0_cond16 i = 1#1) : speltN uM (k0_off29 i) (k0_off29_inb i h) = chunkN 7 :=
  chunk_of_offN _ _ 7 (narrow_off i 7 6 h (k0_off29_eq i))
@[sl_canon] theorem canon_off30 (i : grid0.Coords) (h : k0_cond17 i = 1#1) : speltN uM (k0_off30 i) (k0_off30_inb i h) = chunkN 7 :=
  chunk_of_offN _ _ 7 (narrow_off i 7 7 h (k0_off30_eq i))
@[sl_canon] theorem canon_off31 (i : grid0.Coords) (h : k0_cond18 i = 1#1) : spelt gM (k0_off31 i) (k0_off31_inb i h) = chunkM ((i 0).val + 2) 0 :=
  chunk_of_off _ _ _ 0 ((k0_off31_eq i).trans (by rw [next_tile₂ i ((startCond_iff i).mp h).1]; rfl))
@[sl_canon] theorem canon_off32 (i : grid0.Coords) (h : k0_cond19 i = 1#1) : speltN gM (k0_off32 i) (k0_off32_inb i h) = chunkN 0 :=
  chunk_of_offN _ _ 0 ((k0_off32_eq i).trans (by rw [narrow_tile₂ i ((startNarrow_iff i).mp h).1]; rfl))

section Ring
variable (c : Dev nD)

/-- The contents of a memref's buffer on core `c`. -/
abbrev Cont {sp : Space} {S : Shape} {e : EltTy} (M : Memref sig .tc sp S e) : Type := Buf (Elt F) (M.view.loc (c : Thread nD τ))
/-- What every buffer of core `c` holds: of it, the weights' buffers are read. -/
abbrev Weights : Type := (b : Ref sig .tc) → Buf (Elt F) ((c : Thread nD τ).loc b)

variable (W : Weights (F := F) c)

/-- Each slot borrows its chunks from a share of its own of the weights. -/
abbrev shareOf (s : Fin 2) : PosShare TreeShare := if s.val = 0 then fullShare.left else fullShare.right
/-- Slot `s` held at `f`, -/
abbrev slotP (s : Fin 2) (f : Cont (F := F) c (slotM s)) : sProp 𝕄 := (slotM s).view.loc (c : Thread nD τ) ↦[(slotM s).view.set]{fullShare} f
/-- and the half of it where the narrow tile lands. -/
abbrev slotNP (s : Fin 2) (f : Cont (F := F) c (slotN s)) : sProp 𝕄 := (slotN s).view.loc (c : Thread nD τ) ↦[(slotN s).view.set]{fullShare} f
abbrev cellP (s : Fin 2) : sProp 𝕄 := semVal ((c : Thread nD τ), cellL s) 0
/-- A part of the weights, of slot `s`'s share, -/
abbrev partP {S : Shape} (M : Memref sig .tc .hbm S .f32) (s : Fin 2) : sProp 𝕄 := M.view.loc (c : Thread nD τ) ↦[M.view.set]{shareOf s} W M.view.ref
/-- and what that share has beside it in the same buffer. -/
abbrev coP {S : Shape} (M : Memref sig .tc .hbm S .f32) (s : Fin 2) : sProp 𝕄 := M.view.loc (c : Thread nD τ) ↦[Finset.univ \ M.view.set]{shareOf s} W M.view.ref
/-- All of the share of one of the two weights' buffers, -/
abbrev bufP (b : Bool) (s : Fin 2) : sProp 𝕄 := (srcM b).view.loc (c : Thread nD τ) ↦[Finset.univ]{shareOf s} W (srcM b).view.ref
/-- and of both. -/
def allP (s : Fin 2) : sProp 𝕄 := iprop(bufP c W false s ∗ bufP c W true s)
/-- What is left of a slot's share beside chunk `x` of tile `n`, -/
def leftP (s : Fin 2) (n : ℕ) (x : Fin 8) : sProp 𝕄 := iprop(coP c W (chunkM n x) s ∗ bufP c W (!decide (4 ≤ x.val)) s)
/-- and beside the narrow one. -/
def leftNP (s : Fin 2) (x : Fin 8) : sProp 𝕄 := iprop(coP c W (chunkN x) s ∗ bufP c W (!decide (4 ≤ x.val)) s)
/-- Slot `s` after chunk `x` of tile `n` has landed in it over `f`; -/
abbrev landed (s : Fin 2) (n : ℕ) (x : Fin 8) (f : Cont (F := F) c (slotM s)) : Cont (F := F) c (slotM s) :=
  (slotM s).view.writes (Elt F) f [⟨Rect.whole S1024x512, ReadAs.same.apply ((chunkM n x).view.read (Elt F) (W (chunkM n x).view.ref))⟩]
/-- the same of the narrow tile. -/
abbrev landedN (s : Fin 2) (x : Fin 8) (f : Cont (F := F) c (slotN s)) : Cont (F := F) c (slotN s) :=
  (slotN s).view.writes (Elt F) f [⟨Rect.whole S1024x256, ReadAs.same.apply ((chunkN x).view.read (Elt F) (W (chunkN x).view.ref))⟩]
/-- The transfer of that chunk into slot `s`, in flight: it will hand over the slot and the chunk; -/
abbrev flightP (s : Fin 2) (n : ℕ) (x : Fin 8) (f : Cont (F := F) c (slotM s)) : sProp 𝕄 :=
  Transfers.Flight countersEmb (c : Thread nD τ) (cellL s) default ((slotM s).view.amount (cellL s))
    iprop(slotP c s (landed c W s n x f) ∗ partP c W (chunkM n x) s)
/-- the same of the narrow tile. -/
abbrev flightNP (s : Fin 2) (x : Fin 8) (f : Cont (F := F) c (slotN s)) : sProp 𝕄 :=
  Transfers.Flight countersEmb (c : Thread nD τ) (cellL s) default ((slotN s).view.amount (cellL s))
    iprop(slotNP c s (landedN c W s x f) ∗ partP c W (chunkN x) s)

theorem part_split {S : Shape} (M : Memref sig .tc .hbm S .f32) (s : Fin 2) :
    (M.view.loc (c : Thread nD τ) ↦[Finset.univ]{shareOf s} W M.view.ref : sProp 𝕄) ⊣⊢ iprop(partP c W M s ∗ coP c W M s) :=
  pointsTo_split_subset (Finset.subset_univ _)

/-- A slot's share is a chunk and what is left beside it: for any part of the one buffer or the other, -/
theorem all_split_of {S : Shape} (M : Memref sig .tc .hbm S .f32) (s : Fin 2) (b : Bool)
    (e : (M.view.loc (c : Thread nD τ) ↦[Finset.univ]{shareOf s} W M.view.ref : sProp 𝕄) = bufP c W b s) :
    allP (F := F) c W s ⊣⊢ iprop(partP c W M s ∗ coP c W M s ∗ bufP c W (!b) s) := by
  have h := part_split (F := F) c W M s
  rw [e] at h
  unfold allP
  cases b
  · constructor
    · iintro ⟨Hg, Hu⟩
      ihave Hg := h.1 $$ Hg
      icases Hg with ⟨Hp, Hc⟩
      isplitl [Hp]; · iexact Hp
      isplitl [Hc]; · iexact Hc
      iexact Hu
    · iintro ⟨Hp, Hc, Hu⟩
      isplitl [Hp Hc]
      · iapply h.2
        isplitl [Hp]; · iexact Hp
        iexact Hc
      iexact Hu
  · constructor
    · iintro ⟨Hg, Hu⟩
      ihave Hu := h.1 $$ Hu
      icases Hu with ⟨Hp, Hc⟩
      isplitl [Hp]; · iexact Hp
      isplitl [Hc]; · iexact Hc
      iexact Hg
    · iintro ⟨Hp, Hc, Hg⟩
      isplitl [Hg]; · iexact Hg
      iapply h.2
      isplitl [Hp]; · iexact Hp
      iexact Hc
/-- for a chunk, -/
theorem all_split (s : Fin 2) (n : ℕ) (x : Fin 8) : allP (F := F) c W s ⊣⊢ iprop(partP c W (chunkM n x) s ∗ leftP c W s n x) :=
  all_split_of c W (chunkM n x) s (decide (4 ≤ x.val)) rfl
/-- and for a narrow one. -/
theorem all_splitN (s : Fin 2) (x : Fin 8) : allP (F := F) c W s ⊣⊢ iprop(partP c W (chunkN x) s ∗ leftNP c W s x) :=
  all_split_of c W (chunkN x) s (decide (4 ≤ x.val)) rfl
/-- The weights are the two slots' shares of them. -/
theorem shares_split :
    iprop(((c : Thread nD τ).loc main_arg1 ↦{fullShare} W main_arg1 : sProp 𝕄) ∗ ((c : Thread nD τ).loc main_arg2 ↦{fullShare} W main_arg2)) ⊣⊢ iprop(allP (F := F) c W 0 ∗ allP c W 1) := by
  have h1 : ((c : Thread nD τ).loc main_arg1 ↦{fullShare} W main_arg1 : sProp 𝕄) ⊣⊢ iprop(bufP c W false 0 ∗ bufP c W false 1) := pointsTo_share (PosShare.mem_left_op_right fullShare)
  have h2 : ((c : Thread nD τ).loc main_arg2 ↦{fullShare} W main_arg2 : sProp 𝕄) ⊣⊢ iprop(bufP c W true 0 ∗ bufP c W true 1) := pointsTo_share (PosShare.mem_left_op_right fullShare)
  unfold allP
  constructor
  · iintro ⟨Hg, Hu⟩
    ihave Hg := h1.1 $$ Hg
    ihave Hu := h2.1 $$ Hu
    icases Hg with ⟨Hg0, Hg1⟩
    icases Hu with ⟨Hu0, Hu1⟩
    isplitl [Hg0 Hu0]
    · isplitl [Hg0]; · iexact Hg0
      iexact Hu0
    isplitl [Hg1]; · iexact Hg1
    iexact Hu1
  · iintro ⟨⟨Hg0, Hu0⟩, Hg1, Hu1⟩
    isplitl [Hg0 Hg1]
    · iapply h1.2
      isplitl [Hg0]; · iexact Hg0
      iexact Hg1
    iapply h2.2
    isplitl [Hu0]; · iexact Hu0
    iexact Hu1

end Ring

/-! ## The slots tile their buffer -/

abbrev slotSet (s : Fin 2) : Finset S2x1024x512.Idx := (Rect.unit (s := S2x1024x512) ![s.val, 0, 0] S1x1024x512.size (inb_slot s)).set
abbrev slotSetN (s : Fin 2) : Finset S2x1024x512.Idx := (Rect.unit (s := S2x1024x512) ![s.val, 0, 0] S1x1024x256.size (inb_slotN s)).set
theorem slotSet_eq (s : Fin 2) : (slotM s).view.set = slotSet s := by
  simp only [slotM, Memref.view_squeeze, View.set_reshape]; exact View.set_slice_whole _ _
theorem slotSetN_eq (s : Fin 2) : (slotN s).view.set = slotSetN s := by
  simp only [slotN, Memref.view_squeeze, View.set_reshape]; exact View.set_slice_whole _ _
theorem slotSetN_subset (s : Fin 2) : slotSetN s ⊆ slotSet s := by
  intro i hi
  rw [Rect.mem_set_unit] at hi ⊢
  intro a
  have := hi a
  fin_cases a <;> simp at this ⊢ <;> omega
theorem slots_disjoint (s s' : Fin 2) (h : s ≠ s') : Disjoint (slotSet s) (slotSet s') :=
  Ring.lead_disjoint (s := S2x1024x512) (0 : Fin 3) 1 (fun s : Fin 2 => (![s.val, 0, 0] : Fin 3 → Nat)) S1x1024x512.size inb_slot (fun s => by simp) rfl s s' h
theorem slots_cover : Finset.univ.biUnion slotSet = Finset.univ :=
  Ring.lead_cover (s := S2x1024x512) (0 : Fin 3) 1 (fun s : Fin 2 => (![s.val, 0, 0] : Fin 3 → Nat)) S1x1024x512.size inb_slot (fun s => by simp)
    (fun s a ha => by fin_cases a <;> first | exact absurd rfl ha | rfl) rfl (fun a ha => by fin_cases a <;> first | exact absurd rfl ha | rfl) rfl
theorem slotP_eq (c : Dev nD) (s : Fin 2) (f) : slotP (F := F) c s f = (((c : Thread nD τ).loc cc0_scratch1) ↦[slotSet s]{fullShare} f : sProp 𝕄) := by
  unfold slotP; rw [slotSet_eq]; rfl
theorem slotNP_eq (c : Dev nD) (s : Fin 2) (f) : slotNP (F := F) c s f = (((c : Thread nD τ).loc cc0_scratch1) ↦[slotSetN s]{fullShare} f : sProp 𝕄) := by
  unfold slotNP; rw [slotSetN_eq]; rfl
/-- What a slot has beside its narrow half. -/
def slotRestP (c : Dev nD) (s : Fin 2) (f : Cont (F := F) c stM) : sProp 𝕄 := ((c : Thread nD τ).loc cc0_scratch1) ↦[slotSet s \ slotSetN s]{fullShare} f
theorem slot_split (c : Dev nD) (s : Fin 2) (f : Cont (F := F) c stM) : slotP (F := F) c s f ⊣⊢ iprop(slotNP c s f ∗ slotRestP c s f) := by
  have h : (((c : Thread nD τ).loc cc0_scratch1) ↦[slotSet s]{fullShare} f : sProp 𝕄) ⊣⊢ iprop((((c : Thread nD τ).loc cc0_scratch1) ↦[slotSetN s]{fullShare} f) ∗ slotRestP c s f) :=
    pointsTo_split_subset (slotSetN_subset s)
  rw [← slotP_eq c s f, ← slotNP_eq c s f] at h
  exact h

/-! ## The body's second part -/

/-- What the body does after its transfers: the chunk that has landed is narrowed into the next tile's half, and the
    block of the rows is multiplied by the present tile's two parts; the last tile is narrower than the others. -/
def product (i : grid0.Coords) (arg2 : Memref sig .tc .vmem S1024x4096 .bf16) (harg2 : arg2.IsWhole) (arg5 : Memref sig .tc .vmem S1024x512 .bf16) (harg5 : arg5.IsWhole) (arg1 : BitVec 32) :
    Prog (TpuEff nD τ sig (Elt F) Λ₀ .tc) PUnit := do
  if k0_h20 : k0_cond20 i = 1#1 then do
    let ⟨v116, v128, v131, v136, v137⟩ : Σ' (v116 : BitVec 32) (v128 : BitVec 32) (v131 : BitVec 32) (v136 : BitVec 1), BitVec 32 ← k0_part7 i arg2 harg2 gM (Memref.isWhole_whole _) uM (Memref.isWhole_whole _) arg5 harg5 wbM (Memref.isWhole_whole _) stM (Memref.isWhole_whole _) cc0_scratch2 arg1
    let v140 : Vec F S1x1024x512 .f32 ← Prog.lift (.load stM (Rect.unit (s := S2x1024x512) (k0_off33 i) S1x1024x512.size (k0_off33_inb i k0_h20)).toLoadRect (View.loadsAt_vmem h_S1x1024x512))
    let v147 : Vec F S1x1x1024x512 .bf16 ← Prog.lift (.load wbM (Rect.unit (s := S2x2x4096x512) (k0_off34 i) S1x1x1024x512.size (k0_off34_inb i k0_h20)).toLoadRect (View.loadsAt_vmem h_S1x1x1024x512))
    Prog.lift (.store wbM (Rect.unit (s := S2x2x4096x512) (k0_off34 i) S1x1x1024x512.size (k0_off34_inb i k0_h20)) (k0_pay1 v140) Finset.univ (View.stores_vmem h_S1x1x1024x512 ((Memref.isWhole_whole cc0_scratch0).storeExact_slice rfl _ (k0_off34_packedbf16 i k0_h20)) (fun _ => rfl)) (.inl rfl))
    let v150 : Vec F S1024x4096 .bf16 ← Prog.lift (.load arg2 (Rect.unit (s := S1024x4096) ![0, 0] S1024x4096.size inb_S1024x4096_S1024x4096_0_0).toLoadRect (View.loadsAt_vmem h_S1024x4096))
    let v152 : Vec F S1x1x4096x512 .bf16 ← Prog.lift (.load wbM (Rect.unit (s := S2x2x4096x512) (k0_off35 i) S1x1x4096x512.size (k0_off35_inb i k0_h20)).toLoadRect (View.loadsAt_vmem h_S1x1x4096x512))
    let v155 : Vec F S1024x4096 .bf16 ← Prog.lift (.load arg2 (Rect.unit (s := S1024x4096) ![0, 0] S1024x4096.size inb_S1024x4096_S1024x4096_0_0).toLoadRect (View.loadsAt_vmem h_S1024x4096))
    let v157 : Vec F S1x1x4096x512 .bf16 ← Prog.lift (.load wbM (Rect.unit (s := S2x2x4096x512) (k0_off36 i) S1x1x4096x512.size (k0_off36_inb i k0_h20)).toLoadRect (View.loadsAt_vmem h_S1x1x4096x512))
    let v170 : Vec F S1024x512 .bf16 ← Prog.lift (.load arg5 (Rect.unit (s := S1024x512) ![0, 0] S1024x512.size inb_S1024x512_S1024x512_0_0).toLoadRect (View.loadsAt_vmem h_S1024x512))
    Prog.lift (.store arg5 (Rect.unit (s := S1024x512) ![0, 0] S1024x512.size inb_S1024x512_S1024x512_0_0) (k0_pay2 v150 v152 v155 v157) Finset.univ (View.stores_vmem h_S1024x512 (harg5.storeExact_slice rfl _ packedbf16_S1024x512_S1024x512_0_0) (fun _ => rfl)) (.inl rfl))
    pure ⟨⟩
  else do
    pure ⟨⟩
  if k0_h21 : k0_cond21 i = 1#1 then do
    let ⟨v116, v128, v131, v136, v137⟩ : Σ' (v116 : BitVec 32) (v128 : BitVec 32) (v131 : BitVec 32) (v136 : BitVec 1), BitVec 32 ← k0_part8 i arg2 harg2 gM (Memref.isWhole_whole _) uM (Memref.isWhole_whole _) arg5 harg5 wbM (Memref.isWhole_whole _) stM (Memref.isWhole_whole _) cc0_scratch2 arg1
    let v140 : Vec F S1x1024x512 .f32 ← Prog.lift (.load stM (Rect.unit (s := S2x1024x512) (k0_off37 i) S1x1024x512.size (k0_off37_inb i k0_h21)).toLoadRect (View.loadsAt_vmem h_S1x1024x512))
    let v147 : Vec F S1x1x1024x512 .bf16 ← Prog.lift (.load wbM (Rect.unit (s := S2x2x4096x512) (k0_off38 i) S1x1x1024x512.size (k0_off38_inb i k0_h21)).toLoadRect (View.loadsAt_vmem h_S1x1x1024x512))
    Prog.lift (.store wbM (Rect.unit (s := S2x2x4096x512) (k0_off38 i) S1x1x1024x512.size (k0_off38_inb i k0_h21)) (k0_pay3 v140) Finset.univ (View.stores_vmem h_S1x1x1024x512 ((Memref.isWhole_whole cc0_scratch0).storeExact_slice rfl _ (k0_off38_packedbf16 i k0_h21)) (fun _ => rfl)) (.inl rfl))
    let v150 : Vec F S1024x4096 .bf16 ← Prog.lift (.load arg2 (Rect.unit (s := S1024x4096) ![0, 0] S1024x4096.size inb_S1024x4096_S1024x4096_0_0).toLoadRect (View.loadsAt_vmem h_S1024x4096))
    let v152 : Vec F S1x1x4096x256 .bf16 ← Prog.lift (.load wbM (Rect.unit (s := S2x2x4096x512) (k0_off39 i) S1x1x4096x256.size (k0_off39_inb i k0_h21)).toLoadRect (View.loadsAt_vmem h_S1x1x4096x256))
    let v155 : Vec F S1024x4096 .bf16 ← Prog.lift (.load arg2 (Rect.unit (s := S1024x4096) ![0, 0] S1024x4096.size inb_S1024x4096_S1024x4096_0_0).toLoadRect (View.loadsAt_vmem h_S1024x4096))
    let v157 : Vec F S1x1x4096x256 .bf16 ← Prog.lift (.load wbM (Rect.unit (s := S2x2x4096x512) (k0_off40 i) S1x1x4096x256.size (k0_off40_inb i k0_h21)).toLoadRect (View.loadsAt_vmem h_S1x1x4096x256))
    let v170 : Vec F S1024x256 .bf16 ← Prog.lift (.load arg5 (Rect.unit (s := S1024x512) ![0, 0] S1024x256.size inb_S1024x512_S1024x256_0_0).toLoadRect (View.loadsAt_vmem h_S1024x256))
    Prog.lift (.store arg5 (Rect.unit (s := S1024x512) ![0, 0] S1024x256.size inb_S1024x512_S1024x256_0_0) (k0_pay4 v150 v152 v155 v157) Finset.univ (View.stores_vmem h_S1024x256 (harg5.storeExact_slice rfl _ packedbf16_S1024x512_S1024x256_0_0) (fun _ => rfl)) (.inl rfl))
    pure ⟨⟩
  else do
    pure ⟨⟩
  pure ⟨⟩

end Cert.Kernel2Ideal.Gate

end
-- ==== Proof.GateFill.lean ====
module

public import proofs.«01_k».proof.Proof.GateSetup
public import Idealize.ShloMosaic.Lib.Pipeline.FrameBody
public import Idealize.ShloMosaic.Lib.Ring
public import Idealize.ShloMosaic.Lib.WritesUnit
public import Idealize.ShloMosaic.Lib.VecWindow
public import Idealize.ShloMosaic.Lib.Pipeline.Value
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the resident tiles hold -/

/-- The element of the weights under element `y` of a half that holds tile `n`: the same row, in the tile's columns. -/
def srcIdx (n : ℕ) (y : S2x2x4096x512.Idx) : S1x2x4096x11008.Idx := fun a =>
  ⟨(![0, 1, (y 2).val, (512 * n + (y 3).val) % 11008] : Fin 4 → ℕ) a, by
    have h2 : (y 2).val < 4096 := (y 2).isLt
    have h3 := Nat.mod_lt (512 * n + (y 3).val) (show 0 < 11008 by decide)
    fin_cases a <;> simp <;> omega⟩

/-- The weight there, of the gate in the first part and of the other product in the second, narrowed to bf16. -/
def narrowAt {c : Dev nD} (W : Weights (F := F) c) (n : ℕ) (y : S2x2x4096x512.Idx) : Elt F .bf16 :=
  FloatOps.truncf .bf16 bitsLt_bf16_f32 ((srcM (decide (1 ≤ (y 1).val))).view.read (Elt F) (W (srcM (decide (1 ≤ (y 1).val))).view.ref) (srcIdx n y))

/-- The first `m` chunks of tile `n` lie narrowed in the tile's half, in the columns that the weights have. -/
def Filled {c : Dev nD} (W : Weights (F := F) c) (n m : ℕ) (f : Cont (F := F) c wbM) : Prop :=
  ∀ y : S2x2x4096x512.Idx, (y 0).val = n % 2 → 4096 * (y 1).val + (y 2).val < 1024 * m → 512 * n + (y 3).val < 11008 →
    wbM.view.read (Elt F) f y = narrowAt W n y

theorem filled_zero {c : Dev nD} (W : Weights (F := F) c) (n : ℕ) (f : Cont (F := F) c wbM) : Filled W n 0 f :=
  fun y _ h => absurd h (by omega)

/-- A store of chunk `x` of the tile, narrowed, after the chunks before it. -/
theorem filled_next {c : Dev nD} (W : Weights (F := F) c) (n x : ℕ) (f : Cont (F := F) c wbM)
    (L : List (View.Piece (Elt F) S2x2x4096x512 .bf16)) (hL : Filled W n x (wbM.view.writes (Elt F) f L))
    (off : Fin 4 → ℕ) (inb : ∀ a, off a + S1x1x1024x512.size a ≤ S2x2x4096x512.size a) (ho : off = ![n % 2, x / 4, 1024 * (x % 4), 0])
    (p : S1x1x1024x512.Idx → Elt F .bf16)
    (hp : ∀ (j : S1x1x1024x512.Idx) (y : S2x2x4096x512.Idx), 4096 * (y 1).val + (y 2).val = 1024 * x + (j 2).val → (y 3).val = (j 3).val →
      512 * n + (y 3).val < 11008 → p j = narrowAt W n y) :
    Filled W n (x + 1) (wbM.view.writes (Elt F) f (⟨Rect.unit (s := S2x2x4096x512) off S1x1x1024x512.size inb, p⟩ :: L)) := by
  intro y h0 h2 hw
  have hy2 : (y 2).val < 4096 := (y 2).isLt
  have hy1 : (y 1).val < 2 := (y 1).isLt
  have hy3 : (y 3).val < 512 := (y 3).isLt
  by_cases hx : 4096 * (y 1).val + (y 2).val < 1024 * x
  · by_cases h1 : (y 1).val < x / 4
    · rw [View.read_writes_cons_unit_of_not_mem _ _ inb _ _ y ho 1 (Or.inl (by simpa using h1))]
      exact hL y h0 hx hw
    · rw [View.read_writes_cons_unit_of_not_mem _ _ inb _ _ y ho 2 (Or.inl (by simp; omega))]
      exact hL y h0 hx hw
  · let j : S1x1x1024x512.Idx := fun a => ⟨(![0, 0, (y 2).val - 1024 * (x % 4), (y 3).val] : Fin 4 → ℕ) a, by fin_cases a <;> simp <;> omega⟩
    refine (View.read_writes_cons_unit_of_mem (size := S1x1x1024x512.size) wbM.view f inb p L y j ho ?_).trans ?_
    · intro a; fin_cases a <;> simp [j] <;> omega
    exact hp j y (by simp [j]; omega) (by simp [j]) hw

/-- A store into the other half keeps the tile. -/
theorem filled_keep {c : Dev nD} (W : Weights (F := F) c) (n m : ℕ) (f : Cont (F := F) c wbM)
    (L : List (View.Piece (Elt F) S2x2x4096x512 .bf16)) (hL : Filled W n m (wbM.view.writes (Elt F) f L))
    (off : Fin 4 → ℕ) (inb : ∀ a, off a + S1x1x1024x512.size a ≤ S2x2x4096x512.size a) (o o' : ℕ) (ho : off = ![(n + 1) % 2, o, o', 0])
    (p : S1x1x1024x512.Idx → Elt F .bf16) :
    Filled W n m (wbM.view.writes (Elt F) f (⟨Rect.unit (s := S2x2x4096x512) off S1x1x1024x512.size inb, p⟩ :: L)) := by
  intro y h0 h2 hw
  rw [View.read_writes_cons_unit_of_not_mem _ _ inb _ _ y ho 0 (by simp; omega)]
  exact hL y h0 h2 hw

/-! ## What a landed chunk holds -/

/-- Slot `s` holds chunk `x` of tile `n`, in the columns that the weights have: narrowed, it is the tile's. -/
def Holds {c : Dev nD} (W : Weights (F := F) c) (n : ℕ) (x : Fin 8) (s : Fin 2) (g : Cont (F := F) c stM) : Prop :=
  ∀ (z : S2x1024x512.Idx) (y : S2x2x4096x512.Idx), (z 0).val = s.val → 4096 * (y 1).val + (y 2).val = 1024 * x.val + (z 1).val → (y 3).val = (z 2).val →
    512 * n + (y 3).val < 11008 → FloatOps.truncf .bf16 bitsLt_bf16_f32 (stM.view.read (Elt F) g z) = narrowAt W n y

/-- It does when the slot reads as a chunk of a wide tile, -/
theorem holds_wide {c : Dev nD} (W : Weights (F := F) c) (n : ℕ) (hn : n < 21) (x : Fin 8) (s : Fin 2) (g : Cont (F := F) c stM) (hg : (slotM s).view.read (Elt F) g = (chunkM n x).view.read (Elt F) (W (chunkM n x).view.ref)) :
    Holds W n x s g := by
  intro z y hz hr hq hw
  have h1 : (z 1).val < 1024 := (z 1).isLt
  have h2 : (z 2).val < 512 := (z 2).isLt
  have h3 : (y 2).val < 4096 := (y 2).isLt
  have h4 : (y 1).val < 2 := (y 1).isLt
  have hx := x.isLt
  let j : S1024x512.Idx := fun a => ⟨(![(z 1).val, (z 2).val] : Fin 2 → ℕ) a, by fin_cases a <;> simp <;> omega⟩
  let k : S1x1024x512.Idx := fun a => ⟨(![0, (z 1).val, (z 2).val] : Fin 3 → ℕ) a, by fin_cases a <;> simp <;> omega⟩
  let k' : S1x1x1024x512.Idx := fun a => ⟨(![0, 0, (z 1).val, (z 2).val] : Fin 4 → ℕ) a, by fin_cases a <;> simp <;> omega⟩
  have e : shapeCast S1024x512 (stM.view.readAt (Elt F) (Rect.unit (s := S2x1024x512) ![s.val, 0, 0] S1x1024x512.size (inb_slot s)).toLoadRect g) squeezes_S1x1024x512_S1024x512.numel_eq
      = shapeCast S1024x512 ((srcM (decide (4 ≤ x.val))).view.readAt (Elt F) (Rect.unit (s := S1x2x4096x11008) ![0, 1, 1024 * (x.val % 4), 512 * (n % 21)] S1x1x1024x512.size (inb_chunk n x)).toLoadRect (W (srcM (decide (4 ≤ x.val))).view.ref)) squeezes_S1x1x1024x512_S1024x512.numel_eq := hg
  have e := congrFun e j
  rw [shapeCast_apply _ _ j k (by rw [Shape.rowMajor_val_three, Shape.rowMajor_val_two]; simp [j, k]),
    shapeCast_apply _ _ j k' (by rw [Shape.rowMajor_val_four, Shape.rowMajor_val_two]; simp [j, k'])] at e
  unfold narrowAt
  rw [show decide (1 ≤ (y 1).val) = decide (4 ≤ x.val) from decide_eq_decide.mpr (by omega)]
  refine congrArg (FloatOps.truncf .bf16 bitsLt_bf16_f32) (Eq.trans (congrArg (stM.view.read (Elt F) g) (funext fun a => Fin.ext ?_)) (e.trans (congrArg ((srcM (decide (4 ≤ x.val))).view.read (Elt F) (W (srcM (decide (4 ≤ x.val))).view.ref)) (funext fun a => Fin.ext ?_))))
  · fin_cases a <;> simp [LoadRect.idx, Rect.unit, k] <;> omega
  · have e1 := Nat.mod_eq_of_lt hw
    have e2 := Nat.mod_eq_of_lt hn
    fin_cases a <;> simp [srcIdx, LoadRect.idx, Rect.unit, k'] <;> omega

/-- or its half as a chunk of the narrow one. -/
theorem holds_narrow {c : Dev nD} (W : Weights (F := F) c) (n : ℕ) (hn : n = 21) (x : Fin 8) (s : Fin 2) (g : Cont (F := F) c stM) (hg : (slotN s).view.read (Elt F) g = (chunkN x).view.read (Elt F) (W (chunkN x).view.ref)) :
    Holds W n x s g := by
  intro z y hz hr hq hw
  have h1 : (z 1).val < 1024 := (z 1).isLt
  have h2 : (z 2).val < 512 := (z 2).isLt
  have h3 : (y 2).val < 4096 := (y 2).isLt
  have h4 : (y 1).val < 2 := (y 1).isLt
  have hx := x.isLt
  let j : S1024x256.Idx := fun a => ⟨(![(z 1).val, (z 2).val] : Fin 2 → ℕ) a, by fin_cases a <;> simp <;> omega⟩
  let k : S1x1024x256.Idx := fun a => ⟨(![0, (z 1).val, (z 2).val] : Fin 3 → ℕ) a, by fin_cases a <;> simp <;> omega⟩
  let k' : S1x1x1024x256.Idx := fun a => ⟨(![0, 0, (z 1).val, (z 2).val] : Fin 4 → ℕ) a, by fin_cases a <;> simp <;> omega⟩
  have e : shapeCast S1024x256 (stM.view.readAt (Elt F) (Rect.unit (s := S2x1024x512) ![s.val, 0, 0] S1x1024x256.size (inb_slotN s)).toLoadRect g) squeezes_S1x1024x256_S1024x256.numel_eq
      = shapeCast S1024x256 ((srcM (decide (4 ≤ x.val))).view.readAt (Elt F) (Rect.unit (s := S1x2x4096x11008) ![0, 1, 1024 * (x.val % 4), 10752] S1x1x1024x256.size (inb_chunkN x)).toLoadRect (W (srcM (decide (4 ≤ x.val))).view.ref)) squeezes_S1x1x1024x256_S1024x256.numel_eq := hg
  have e := congrFun e j
  rw [shapeCast_apply _ _ j k (by rw [Shape.rowMajor_val_three, Shape.rowMajor_val_two]; simp [j, k]),
    shapeCast_apply _ _ j k' (by rw [Shape.rowMajor_val_four, Shape.rowMajor_val_two]; simp [j, k'])] at e
  unfold narrowAt
  rw [show decide (1 ≤ (y 1).val) = decide (4 ≤ x.val) from decide_eq_decide.mpr (by omega)]
  refine congrArg (FloatOps.truncf .bf16 bitsLt_bf16_f32) (Eq.trans (congrArg (stM.view.read (Elt F) g) (funext fun a => Fin.ext ?_)) (e.trans (congrArg ((srcM (decide (4 ≤ x.val))).view.read (Elt F) (W (srcM (decide (4 ≤ x.val))).view.ref)) (funext fun a => Fin.ext ?_))))
  · fin_cases a <;> simp [LoadRect.idx, Rect.unit, k] <;> omega
  · fin_cases a <;> simp [srcIdx, LoadRect.idx, Rect.unit, k'] <;> omega

/-- A chunk that has landed is held: a wide one, -/
theorem holds_landed {c : Dev nD} (W : Weights (F := F) c) (n : ℕ) (hn : n < 21) (x : Fin 8) (s : Fin 2) (f : Cont (F := F) c (slotM s)) :
    Holds W n x s (landed c W s n x f) :=
  holds_wide W n hn x s _ (View.read_writes_whole _ _ _)
/-- A slot is had again of its two parts: in its narrow half it is the one's, -/
theorem slot_join_at (c : Dev nD) (s : Fin 2) (g f' : Cont (F := F) c stM) :
    iprop(slotNP c s g ∗ slotRestP c s f') ⊢ slotP (F := F) c s ((slotSetN s).piecewise g f') := by
  have h : iprop((((c : Thread nD τ).loc cc0_scratch1) ↦[slotSetN s]{fullShare} g) ∗ slotRestP c s f')
      ⊢ (((c : Thread nD τ).loc cc0_scratch1) ↦[slotSet s]{fullShare} ((slotSetN s).piecewise g f') : sProp 𝕄) := pointsTo_join_subset (slotSetN_subset s)
  exact (Entails.of_eq (congrArg (fun X : sProp 𝕄 => iprop(X ∗ slotRestP c s f')) (slotNP_eq c s g))).trans (h.trans (Entails.of_eq (slotP_eq c s _).symm))
/-- so that it holds a narrow chunk which has landed there. -/
theorem slot_join (c : Dev nD) (W : Weights (F := F) c) (x : Fin 8) (s : Fin 2) (f : Cont (F := F) c (slotN s)) (f' : Cont (F := F) c stM) :
    iprop(slotNP c s (landedN c W s x f) ∗ slotRestP c s f') ⊢ iprop(∃ g, ⌜Holds W 21 x s g⌝ ∗ slotP (F := F) c s g) := by
  refine (slot_join_at c s (landedN c W s x f) f').trans ?_
  iintro H
  iexists _
  isplitr; swap; · iexact H
  ipureintro
  refine holds_narrow W 21 rfl x s _ ?_
  refine (View.read_congr (v := (slotN s).view) (f := (slotSetN s).piecewise (landedN c W s x f : Cont (F := F) c stM) f') (g := landedN c W s x f) fun i hi => ?_).trans (View.read_writes_whole _ _ _)
  rw [slotSetN_eq] at hi
  exact Finset.piecewise_eq_of_mem _ _ _ hi

/-- A slot that a chunk has just been copied into holds it. -/
theorem wide_write {c : Dev nD} (s : Fin 2) (g : Cont (F := F) c stM) (w v : S1024x512.Idx → Elt F .f32) (hw : w = v) :
    (slotM s).view.read (Elt F) ((slotM s).view.write (Elt F) g w Finset.univ) = v :=
  (View.read_write_univ _ _).trans hw
/-- A copy into the other slot keeps it. -/
theorem wide_other {c : Dev nD} (s s' : Fin 2) (h : s ≠ s') (g : Cont (F := F) c stM) (w : S1024x512.Idx → Elt F .f32) (v : S1024x512.Idx → Elt F .f32)
    (hg : (slotM s).view.read (Elt F) g = v) :
    (slotM s).view.read (Elt F) ((slotM s').view.write (Elt F) g w Finset.univ) = v := by
  refine (View.read_congr (v := (slotM s).view) (f := (slotM s').view.write (Elt F) g w Finset.univ) (g := g) fun i hi => View.write_of_not_mem (v := (slotM s').view) g w Finset.univ fun hi' => ?_).trans hg
  have hi' : i ∈ (slotM s').view.set := hi'
  rw [slotSet_eq] at hi hi'
  exact Finset.disjoint_left.mp (slots_disjoint s s' h) hi hi'

/-- A load of the slot that holds a chunk, narrowed, is the chunk's part of the tile. -/
theorem holds_pay {c : Dev nD} (W : Weights (F := F) c) (n : ℕ) (x : Fin 8) (s : Fin 2) (g : Cont (F := F) c stM) (hg : Holds W n x s g)
    (off : Fin 3 → ℕ) (inb : ∀ a, off a + S1x1024x512.size a ≤ S2x1024x512.size a) (ho : off = ![s.val, 0, 0])
    (j : S1x1x1024x512.Idx) (y : S2x2x4096x512.Idx) (h2 : 4096 * (y 1).val + (y 2).val = 1024 * x.val + (j 2).val) (h3 : (y 3).val = (j 3).val)
    (hw : 512 * n + (y 3).val < 11008) :
    k0_pay1 (stM.view.readAt (Elt F) (Rect.unit (s := S2x1024x512) off S1x1024x512.size inb).toLoadRect g) j = narrowAt W n y := by
  subst ho
  have hj2 : (j 2).val < 1024 := (j 2).isLt
  have hj3 : (j 3).val < 512 := (j 3).isLt
  have j0 : (j 0).val < 1 := (j 0).isLt
  have j1 : (j 1).val < 1 := (j 1).isLt
  let k : S1x1024x512.Idx := fun a => ⟨(![0, (j 2).val, (j 3).val] : Fin 3 → ℕ) a, by fin_cases a <;> simp <;> omega⟩
  unfold k0_pay1
  dsimp only
  let j' : S1024x512.Idx := fun a => ⟨(![(j 2).val, (j 3).val] : Fin 2 → ℕ) a, by fin_cases a <;> simp <;> omega⟩
  refine (shapeCast_apply _ _ j j' (by rw [Shape.rowMajor_val_two, Shape.rowMajor_val_four]; simp [j']; omega)).trans ?_
  refine (congrArg (FloatOps.truncf .bf16 bitsLt_bf16_f32) (shapeCast_apply _ _ j' k (by rw [Shape.rowMajor_val_three, Shape.rowMajor_val_two]; simp [k, j']))).trans ?_
  refine hg _ y ?_ ?_ ?_ hw
  · simp [LoadRect.idx, Rect.unit, k]
  · simp [LoadRect.idx, Rect.unit, k]; omega
  · simp [LoadRect.idx, Rect.unit, k]; omega

end Cert.Kernel2Ideal.Gate

end
-- ==== Proof.GateWait.lean ====
module

public import proofs.«01_k».proof.Proof.GateSetup
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The wait and the start of a point -/

/-- Which of eight waits a point in column `x` takes. -/
theorem wait_here (i : grid0.Coords) (x : Fin 8) (hn : (i 0).val + 1 < 21) (hx : (i 1).val = x.val) (y : Fin 8) :
    if y = x then waitCond i y = 1#1 else ¬ waitCond i y = 1#1 := by
  split
  · exact (waitCond_iff y i).mpr ⟨hn, by subst y; exact hx⟩
  · exact fun h => absurd (Fin.ext (((waitCond_iff y i).mp h).2.symm.trans hx)) ‹_›
theorem narrow_here (i : grid0.Coords) (x : Fin 8) (hn : (i 0).val + 1 = 21) (hx : (i 1).val = x.val) (y : Fin 8) :
    if y = x then narrowCond i y = 1#1 else ¬ narrowCond i y = 1#1 := by
  split
  · exact (narrowCond_iff y i).mpr ⟨hn, by subst y; exact hx⟩
  · exact fun h => absurd (Fin.ext (((narrowCond_iff y i).mp h).2.symm.trans hx)) ‹_›
/-- Which it does not: a wide one where the next tile is not wide, a narrow one where it is not the narrow one. -/
theorem wait_none (i : grid0.Coords) (hn : ¬ (i 0).val + 1 < 21) (y : Fin 8) : ¬ waitCond i y = 1#1 :=
  fun h => hn ((waitCond_iff y i).mp h).1
theorem narrow_none (i : grid0.Coords) (hn : ¬ (i 0).val + 1 = 21) (y : Fin 8) : ¬ narrowCond i y = 1#1 :=
  fun h => hn ((narrowCond_iff y i).mp h).1
/-- The first branch is not taken after the first point. -/
theorem first_off (i : grid0.Coords) (h0 : ¬ ((i 0).val = 0 ∧ (i 1).val = 0)) : ¬ firstCond i = 1#1 :=
  fun h => h0 ((firstCond_iff i).mp h)
/-- The starts of a later tile's first chunk are in the last column alone. -/
theorem start_off (i : grid0.Coords) (h : (i 1).val ≠ 7) : ¬ k0_cond18 i = 1#1 := fun e => h ((startCond_iff i).mp e).2
theorem startN_off (i : grid0.Coords) (h : (i 1).val ≠ 7) : ¬ k0_cond19 i = 1#1 := fun e => h ((startNarrow_iff i).mp e).2

/-- The whole body at the memrefs it is called with. -/
abbrev bodyOf (i : grid0.Coords) (arg2 : Memref sig .tc .vmem S1024x4096 .bf16) (harg2 : arg2.IsWhole) (arg5 : Memref sig .tc .vmem S1024x512 .bf16) (harg5 : arg5.IsWhole) :
    Prog (TpuEff nD τ sig (Elt F) Λ₀ .tc) PUnit :=
  cc0_ffn_gate_up i arg2 harg2 gM (Memref.isWhole_whole _) uM (Memref.isWhole_whole _) arg5 harg5 wbM (Memref.isWhole_whole _) stM (Memref.isWhole_whole _) cc0_scratch2
/-- Its second part, at the word the first part leaves. -/
abbrev productOf (i : grid0.Coords) (arg2 : Memref sig .tc .vmem S1024x4096 .bf16) (harg2 : arg2.IsWhole) (arg5 : Memref sig .tc .vmem S1024x512 .bf16) (harg5 : arg5.IsWhole) :
    Prog (TpuEff nD τ sig (Elt F) Λ₀ .tc) PUnit :=
  product i arg2 harg2 arg5 harg5 (BitVec.ofNat 32 (i 1).val)

set_option maxHeartbeats 4000000 in
/-- A point in column `x < 7` where the next tile is a wide one, not the first: the chunk `x` of the next tile lands, and its
    chunk `x + 1` is started into the other slot; the body's second part is still to run. -/
theorem wait_start (c : Dev nD) (i : grid0.Coords) (arg2 : Memref sig .tc .vmem S1024x4096 .bf16) (harg2 : arg2.IsWhole) (arg5 : Memref sig .tc .vmem S1024x512 .bf16) (harg5 : arg5.IsWhole)
    (W : Weights (F := F) c) (h0 : ¬ ((i 0).val = 0 ∧ (i 1).val = 0)) (hn : (i 0).val + 1 < 21) (x x' : Fin 8) (s s' : Fin 2) (hx : (i 1).val = x.val)
    (hcase : (x = 0 ∧ x' = 1 ∧ s = 0 ∧ s' = 1) ∨ (x = 1 ∧ x' = 2 ∧ s = 1 ∧ s' = 0) ∨ (x = 2 ∧ x' = 3 ∧ s = 0 ∧ s' = 1) ∨ (x = 3 ∧ x' = 4 ∧ s = 1 ∧ s' = 0) ∨ (x = 4 ∧ x' = 5 ∧ s = 0 ∧ s' = 1) ∨ (x = 5 ∧ x' = 6 ∧ s = 1 ∧ s' = 0) ∨ (x = 6 ∧ x' = 7 ∧ s = 0 ∧ s' = 1))
    (f : Cont (F := F) c (slotM s)) (f' : Cont (F := F) c (slotM s')) (B : Waits sig Unit) (K : PUnit → sProp 𝕄) :
    iprop(flightP c W s ((i 0).val + 1) x f ∗ cellP c s' ∗ slotP c s' f' ∗ partP c W (chunkM ((i 0).val + 1) x') s' ∗ owes (c : Thread nD τ) 0 B
        ∗ (iprop(slotP c s (landed c W s ((i 0).val + 1) x f) ∗ partP c W (chunkM ((i 0).val + 1) x) s ∗ cellP c s
            ∗ flightP c W s' ((i 0).val + 1) x' f' ∗ (∃ B', owes (c : Thread nD τ) 0 B'))
          -∗ wp frame (wpE (defs₀ (F := F)) Variants.none c none) Set.univ (productOf i arg2 harg2 arg5 harg5) K))
      ⊢ wp frame (wpE (defs₀ (F := F)) Variants.none c none) Set.univ (bodyOf i arg2 harg2 arg5 harg5) K := by
  have h1 := first_off i h0
  have hw := wait_here i x hn hx
  have hv := narrow_none i (by omega)
  have h7' : (i 1).val ≠ 7 := by rcases hcase with ⟨e, -⟩ | ⟨e, -⟩ | ⟨e, -⟩ | ⟨e, -⟩ | ⟨e, -⟩ | ⟨e, -⟩ | ⟨e, -⟩ <;> subst e <;> rw [hx] <;> decide
  have h18 := start_off i h7'
  have h19 := startN_off i h7'
  have hcanon0 : (stM.slice (Rect.unit (s := S2x1024x512) ![0, 0, 0] S1x1024x512.size inb_S2x1024x512_S1x1024x512_0_0_0) (fun _ => rfl)).squeeze S1024x512 squeezes_S1x1024x512_S1024x512 = slotM 0 := rfl
  have hcanon1 : (stM.slice (Rect.unit (s := S2x1024x512) ![1, 0, 0] S1x1024x512.size inb_S2x1024x512_S1x1024x512_1_0_0) (fun _ => rfl)).squeeze S1024x512 squeezes_S1x1024x512_S1024x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (stM.slice (Rect.unit (s := S2x1024x512) ![0, 0, 0] S1x1024x256.size inb_S2x1024x512_S1x1024x256_0_0_0) (fun _ => rfl)).squeeze S1024x256 squeezes_S1x1024x256_S1024x256 = slotN 0 := rfl
  have hcanon5 : (stM.slice (Rect.unit (s := S2x1024x512) ![1, 0, 0] S1x1024x256.size inb_S2x1024x512_S1x1024x256_1_0_0) (fun _ => rfl)).squeeze S1024x256 squeezes_S1x1024x256_S1024x256 = slotN 1 := rfl
  rcases hcase with ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩
  all_goals
    have h2 : if (0 : Fin 8) = _ then k0_cond2 i = 1#1 else ¬ k0_cond2 i = 1#1 := hw 0
    have h3 : if (1 : Fin 8) = _ then k0_cond3 i = 1#1 else ¬ k0_cond3 i = 1#1 := hw 1
    have h4 : if (2 : Fin 8) = _ then k0_cond4 i = 1#1 else ¬ k0_cond4 i = 1#1 := hw 2
    have h5 : if (3 : Fin 8) = _ then k0_cond5 i = 1#1 else ¬ k0_cond5 i = 1#1 := hw 3
    have h6 : if (4 : Fin 8) = _ then k0_cond6 i = 1#1 else ¬ k0_cond6 i = 1#1 := hw 4
    have h7 : if (5 : Fin 8) = _ then k0_cond7 i = 1#1 else ¬ k0_cond7 i = 1#1 := hw 5
    have h8 : if (6 : Fin 8) = _ then k0_cond8 i = 1#1 else ¬ k0_cond8 i = 1#1 := hw 6
    have h9 : if (7 : Fin 8) = _ then k0_cond9 i = 1#1 else ¬ k0_cond9 i = 1#1 := hw 7
    have h10 : ¬ k0_cond10 i = 1#1 := hv 0
    have h11 : ¬ k0_cond11 i = 1#1 := hv 1
    have h12 : ¬ k0_cond12 i = 1#1 := hv 2
    have h13 : ¬ k0_cond13 i = 1#1 := hv 3
    have h14 : ¬ k0_cond14 i = 1#1 := hv 4
    have h15 : ¬ k0_cond15 i = 1#1 := hv 5
    have h16 : ¬ k0_cond16 i = 1#1 := hv 6
    have h17 : ¬ k0_cond17 i = 1#1 := hv 7
    simp only [Fin.reduceEq, Fin.isValue, ↓reduceIte] at h2 h3 h4 h5 h6 h7 h8 h9
    iintro ⟨Hf, Hc, Hs, Hh, HW, Hk⟩
    sl_exec
    unfold productOf product
    iapply Hk
    isplitl [Hf_dst]; · iexact Hf_dst
    isplitl [Hf_src]; · iexact Hf_src
    isplitl [Hf]; · iexact Hf
    isplitl [Hc]; · iexact Hc
    iexists _; iexact HW

set_option maxHeartbeats 4000000 in
/-- The same where the next tile is the narrow one. -/
theorem narrow_start (c : Dev nD) (i : grid0.Coords) (arg2 : Memref sig .tc .vmem S1024x4096 .bf16) (harg2 : arg2.IsWhole) (arg5 : Memref sig .tc .vmem S1024x512 .bf16) (harg5 : arg5.IsWhole)
    (W : Weights (F := F) c) (h0 : ¬ ((i 0).val = 0 ∧ (i 1).val = 0)) (hn : (i 0).val + 1 = 21) (x x' : Fin 8) (s s' : Fin 2) (hx : (i 1).val = x.val)
    (hcase : (x = 0 ∧ x' = 1 ∧ s = 0 ∧ s' = 1) ∨ (x = 1 ∧ x' = 2 ∧ s = 1 ∧ s' = 0) ∨ (x = 2 ∧ x' = 3 ∧ s = 0 ∧ s' = 1) ∨ (x = 3 ∧ x' = 4 ∧ s = 1 ∧ s' = 0) ∨ (x = 4 ∧ x' = 5 ∧ s = 0 ∧ s' = 1) ∨ (x = 5 ∧ x' = 6 ∧ s = 1 ∧ s' = 0) ∨ (x = 6 ∧ x' = 7 ∧ s = 0 ∧ s' = 1))
    (f : Cont (F := F) c (slotN s)) (f' : Cont (F := F) c (slotN s')) (B : Waits sig Unit) (K : PUnit → sProp 𝕄) :
    iprop(flightNP c W s x f ∗ cellP c s' ∗ slotNP c s' f' ∗ partP c W (chunkN x') s' ∗ owes (c : Thread nD τ) 0 B
        ∗ (iprop(slotNP c s (landedN c W s x f) ∗ partP c W (chunkN x) s ∗ cellP c s
            ∗ flightNP c W s' x' f' ∗ (∃ B', owes (c : Thread nD τ) 0 B'))
          -∗ wp frame (wpE (defs₀ (F := F)) Variants.none c none) Set.univ (productOf i arg2 harg2 arg5 harg5) K))
      ⊢ wp frame (wpE (defs₀ (F := F)) Variants.none c none) Set.univ (bodyOf i arg2 harg2 arg5 harg5) K := by
  have h1 := first_off i h0
  have hw := wait_none i (by omega)
  have hv := narrow_here i x hn hx
  have h7' : (i 1).val ≠ 7 := by rcases hcase with ⟨e, -⟩ | ⟨e, -⟩ | ⟨e, -⟩ | ⟨e, -⟩ | ⟨e, -⟩ | ⟨e, -⟩ | ⟨e, -⟩ <;> subst e <;> rw [hx] <;> decide
  have h18 := start_off i h7'
  have h19 := startN_off i h7'
  have hcanon0 : (stM.slice (Rect.unit (s := S2x1024x512) ![0, 0, 0] S1x1024x512.size inb_S2x1024x512_S1x1024x512_0_0_0) (fun _ => rfl)).squeeze S1024x512 squeezes_S1x1024x512_S1024x512 = slotM 0 := rfl
  have hcanon1 : (stM.slice (Rect.unit (s := S2x1024x512) ![1, 0, 0] S1x1024x512.size inb_S2x1024x512_S1x1024x512_1_0_0) (fun _ => rfl)).squeeze S1024x512 squeezes_S1x1024x512_S1024x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (stM.slice (Rect.unit (s := S2x1024x512) ![0, 0, 0] S1x1024x256.size inb_S2x1024x512_S1x1024x256_0_0_0) (fun _ => rfl)).squeeze S1024x256 squeezes_S1x1024x256_S1024x256 = slotN 0 := rfl
  have hcanon5 : (stM.slice (Rect.unit (s := S2x1024x512) ![1, 0, 0] S1x1024x256.size inb_S2x1024x512_S1x1024x256_1_0_0) (fun _ => rfl)).squeeze S1024x256 squeezes_S1x1024x256_S1024x256 = slotN 1 := rfl
  rcases hcase with ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩
  all_goals
    have h2 : ¬ k0_cond2 i = 1#1 := hw 0
    have h3 : ¬ k0_cond3 i = 1#1 := hw 1
    have h4 : ¬ k0_cond4 i = 1#1 := hw 2
    have h5 : ¬ k0_cond5 i = 1#1 := hw 3
    have h6 : ¬ k0_cond6 i = 1#1 := hw 4
    have h7 : ¬ k0_cond7 i = 1#1 := hw 5
    have h8 : ¬ k0_cond8 i = 1#1 := hw 6
    have h9 : ¬ k0_cond9 i = 1#1 := hw 7
    have h10 : if (0 : Fin 8) = _ then k0_cond10 i = 1#1 else ¬ k0_cond10 i = 1#1 := hv 0
    have h11 : if (1 : Fin 8) = _ then k0_cond11 i = 1#1 else ¬ k0_cond11 i = 1#1 := hv 1
    have h12 : if (2 : Fin 8) = _ then k0_cond12 i = 1#1 else ¬ k0_cond12 i = 1#1 := hv 2
    have h13 : if (3 : Fin 8) = _ then k0_cond13 i = 1#1 else ¬ k0_cond13 i = 1#1 := hv 3
    have h14 : if (4 : Fin 8) = _ then k0_cond14 i = 1#1 else ¬ k0_cond14 i = 1#1 := hv 4
    have h15 : if (5 : Fin 8) = _ then k0_cond15 i = 1#1 else ¬ k0_cond15 i = 1#1 := hv 5
    have h16 : if (6 : Fin 8) = _ then k0_cond16 i = 1#1 else ¬ k0_cond16 i = 1#1 := hv 6
    have h17 : if (7 : Fin 8) = _ then k0_cond17 i = 1#1 else ¬ k0_cond17 i = 1#1 := hv 7
    simp only [Fin.reduceEq, Fin.isValue, ↓reduceIte] at h10 h11 h12 h13 h14 h15 h16 h17
    iintro ⟨Hf, Hc, Hs, Hh, HW, Hk⟩
    sl_exec
    unfold productOf product
    iapply Hk
    isplitl [Hf_dst]; · iexact Hf_dst
    isplitl [Hf_src]; · iexact Hf_src
    isplitl [Hf]; · iexact Hf
    isplitl [Hc]; · iexact Hc
    iexists _; iexact HW

end Cert.Kernel2Ideal.Gate

end
-- ==== Proof.GateFirst.lean ====
module

public import proofs.«01_k».proof.Proof.GateFill
public import proofs.«01_k».proof.Proof.GateWait
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first tile, brought in whole before the first product -/

/-- `filled_next` for a store of what a slot held when it was loaded. -/
theorem filled_load {c : Dev nD} (W : Weights (F := F) c) (n x : ℕ) (hn : n < 21) (hx : x < 8) (s : Fin 2) (f : Cont (F := F) c wbM)
    (L : List (View.Piece (Elt F) S2x2x4096x512 .bf16)) (g : Cont (F := F) c stM)
    (off : Fin 4 → ℕ) (inb : ∀ a, off a + S1x1x1024x512.size a ≤ S2x2x4096x512.size a) (ho : off = ![n % 2, x / 4, 1024 * (x % 4), 0])
    (off' : Fin 3 → ℕ) (inb' : ∀ a, off' a + S1x1024x512.size a ≤ S2x1024x512.size a) (ho' : off' = ![s.val, 0, 0])
    (hg : (slotM s).view.read (Elt F) g = (chunkM n ⟨x, hx⟩).view.read (Elt F) (W (chunkM n ⟨x, hx⟩).view.ref)) (hL : Filled W n x (wbM.view.writes (Elt F) f L)) :
    Filled W n (x + 1) (wbM.view.writes (Elt F) f (⟨Rect.unit (s := S2x2x4096x512) off S1x1x1024x512.size inb,
      k0_pay1 (stM.view.readAt (Elt F) (Rect.unit (s := S2x1024x512) off' S1x1024x512.size inb').toLoadRect g)⟩ :: L)) :=
  filled_next W n x f L hL off inb ho _ fun j y h2 h3 hw => holds_pay W n ⟨x, hx⟩ s g (holds_wide W n hn ⟨x, hx⟩ s g hg) off' inb' ho' j y h2 h3 hw

/-- The part of the body that brings in tile 0. -/
def prologueOf (i : grid0.Coords) (arg2 : Memref sig .tc .vmem S1024x4096 .bf16) (harg2 : arg2.IsWhole) (arg5 : Memref sig .tc .vmem S1024x512 .bf16) (harg5 : arg5.IsWhole) :
    Prog (TpuEff nD τ sig (Elt F) Λ₀ .tc) PUnit := do
  k0_part1 i arg2 harg2 gM (Memref.isWhole_whole _) uM (Memref.isWhole_whole _) arg5 harg5 wbM (Memref.isWhole_whole _) stM (Memref.isWhole_whole _) cc0_scratch2
  k0_part2 i arg2 harg2 gM (Memref.isWhole_whole _) uM (Memref.isWhole_whole _) arg5 harg5 wbM (Memref.isWhole_whole _) stM (Memref.isWhole_whole _) cc0_scratch2
  k0_part3 i arg2 harg2 gM (Memref.isWhole_whole _) uM (Memref.isWhole_whole _) arg5 harg5 wbM (Memref.isWhole_whole _) stM (Memref.isWhole_whole _) cc0_scratch2
  k0_part4 i arg2 harg2 gM (Memref.isWhole_whole _) uM (Memref.isWhole_whole _) arg5 harg5 wbM (Memref.isWhole_whole _) stM (Memref.isWhole_whole _) cc0_scratch2
  k0_part5 i arg2 harg2 gM (Memref.isWhole_whole _) uM (Memref.isWhole_whole _) arg5 harg5 wbM (Memref.isWhole_whole _) stM (Memref.isWhole_whole _) cc0_scratch2
  k0_part6 i arg2 harg2 gM (Memref.isWhole_whole _) uM (Memref.isWhole_whole _) arg5 harg5 wbM (Memref.isWhole_whole _) stM (Memref.isWhole_whole _) cc0_scratch2

set_option sl_exec.dmaWindow true
set_option maxHeartbeats 8000000 in
/-- With the weights, the resident tiles and the slots whole, it leaves tile 0 narrowed in its half. -/
theorem prologue (c : Dev nD) (i : grid0.Coords) (arg2 : Memref sig .tc .vmem S1024x4096 .bf16) (harg2 : arg2.IsWhole) (arg5 : Memref sig .tc .vmem S1024x512 .bf16) (harg5 : arg5.IsWhole)
    (W : Weights (F := F) c) (d0 : Cont (F := F) c wbM) (d1 : Cont (F := F) c stM) (B : Waits sig Unit) (K : PUnit → sProp 𝕄) :
    iprop((gM.view.loc (c : Thread nD τ) ↦{fullShare} W main_arg1) ∗ (uM.view.loc (c : Thread nD τ) ↦{fullShare} W main_arg2) ∗ (wbM.view.loc (c : Thread nD τ) ↦{fullShare} d0) ∗ (stM.view.loc (c : Thread nD τ) ↦{fullShare} d1)
        ∗ cellP c 0 ∗ cellP c 1 ∗ owes (c : Thread nD τ) 0 B
        ∗ (iprop((gM.view.loc (c : Thread nD τ) ↦{fullShare} W main_arg1) ∗ (uM.view.loc (c : Thread nD τ) ↦{fullShare} W main_arg2) ∗ (∃ f, ⌜Filled W 0 8 f⌝ ∗ (wbM.view.loc (c : Thread nD τ) ↦{fullShare} f))
            ∗ (∃ g, stM.view.loc (c : Thread nD τ) ↦{fullShare} g) ∗ cellP c 0 ∗ cellP c 1 ∗ (∃ B', owes (c : Thread nD τ) 0 B')) -∗ K ⟨⟩))
      ⊢ wp frame (wpE (defs₀ (F := F)) Variants.none c none) Set.univ (prologueOf i arg2 harg2 arg5 harg5) K := by
  unfold prologueOf
  iintro ⟨HWg, HWu, Hwb, Hst, Hc0, Hc1, HW, Hk⟩
  sl_exec
  sl_step
  iapply Hk
  isplitl [HWg]; · iexact HWg
  isplitl [HWu]; · iexact HWu
  isplitl [Hwb]
  · iexists _
    isplitr; swap; · iexact Hwb
    ipureintro
    refine filled_load W 0 7 (by decide) (by decide) 1 d0 _ _ _ _ rfl _ _ rfl (wide_write (c := c) 1 _ _ _ rfl) ?_
    iterate 3
      refine filled_load W 0 _ (by decide) (by decide) 0 d0 _ _ _ _ rfl _ _ rfl (wide_other (c := c) 0 1 (by decide) _ _ _ (wide_write (c := c) 0 _ _ _ rfl)) ?_
      refine filled_load W 0 _ (by decide) (by decide) 1 d0 _ _ _ _ rfl _ _ rfl (wide_other (c := c) 1 0 (by decide) _ _ _ (wide_write (c := c) 1 _ _ _ rfl)) ?_
    refine filled_load W 0 _ (by decide) (by decide) 0 d0 _ _ _ _ rfl _ _ rfl (wide_other (c := c) 0 1 (by decide) _ _ _ (wide_write (c := c) 0 _ _ _ rfl)) ?_
    exact filled_zero W 0 d0
  isplitl [Hst]; · iexists _; iexact Hst
  isplitl [Hc0]; · iexact Hc0
  isplitl [Hc1]; · iexact Hc1
  iexists _; iexact HW

end Cert.Kernel2Ideal.Gate

end
-- ==== Proof.GateStart.lean ====
module

public import proofs.«01_k».proof.Proof.GateFirst
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point -/

/-- Six programs in a row before a seventh, read as one before it. -/
theorem six_before {α : Type} (p₁ p₂ p₃ p₄ p₅ p₆ : Prog (TpuEff nD τ sig (Elt F) Λ₀ .tc) PUnit) (k : PUnit → Prog (TpuEff nD τ sig (Elt F) Λ₀ .tc) α) :
    (p₁ >>= fun _ => p₂ >>= fun _ => p₃ >>= fun _ => p₄ >>= fun _ => p₅ >>= fun _ => p₆ >>= k)
      = ((do p₁; p₂; p₃; p₄; p₅; p₆) >>= k) := by
  simp only [bind_assoc]

set_option maxHeartbeats 4000000 in
/-- The first point: tile 0 is brought in whole, and the first two chunks of the next tile are started, the first of
    them waited for. -/
theorem wait_first (c : Dev nD) (i : grid0.Coords) (arg2 : Memref sig .tc .vmem S1024x4096 .bf16) (harg2 : arg2.IsWhole) (arg5 : Memref sig .tc .vmem S1024x512 .bf16) (harg5 : arg5.IsWhole)
    (h0 : (i 0).val = 0) (h0' : (i 1).val = 0)
    (W : Weights (F := F) c) (d0 : Cont (F := F) c wbM) (d1 : Cont (F := F) c stM) (B : Waits sig Unit) (K : PUnit → sProp 𝕄) :
    iprop(((gM.view.loc (c : Thread nD τ) ↦{fullShare} W main_arg1) ∗ (uM.view.loc (c : Thread nD τ) ↦{fullShare} W main_arg2)) ∗ (wbM.view.loc (c : Thread nD τ) ↦{fullShare} d0) ∗ (stM.view.loc (c : Thread nD τ) ↦{fullShare} d1)
        ∗ cellP c 0 ∗ cellP c 1 ∗ owes (c : Thread nD τ) 0 B
        ∗ (iprop((∃ f, ⌜Filled W 0 8 f⌝ ∗ (wbM.view.loc (c : Thread nD τ) ↦{fullShare} f))
            ∗ (∃ g, slotP c 0 (landed c W 0 ((i 0).val + 1) 0 g)) ∗ allP c W 0 ∗ cellP c 0
            ∗ (∃ g, flightP c W 1 ((i 0).val + 1) 1 g) ∗ leftP c W 1 ((i 0).val + 1) 1 ∗ (∃ B', owes (c : Thread nD τ) 0 B'))
          -∗ wp frame (wpE (defs₀ (F := F)) Variants.none c none) Set.univ (productOf i arg2 harg2 arg5 harg5) K))
      ⊢ wp frame (wpE (defs₀ (F := F)) Variants.none c none) Set.univ (bodyOf i arg2 harg2 arg5 harg5) K := by
  have h1 : firstCond i = 1#1 := (firstCond_iff i).mpr ⟨h0, h0'⟩
  have hw := wait_here i 0 (by omega) h0'
  have hv := narrow_none i (by omega)
  have h18 := start_off i (by omega)
  have h19 := startN_off i (by omega)
  have hcanon0 : (stM.slice (Rect.unit (s := S2x1024x512) ![0, 0, 0] S1x1024x512.size inb_S2x1024x512_S1x1024x512_0_0_0) (fun _ => rfl)).squeeze S1024x512 squeezes_S1x1024x512_S1024x512 = slotM 0 := rfl
  have hcanon1 : (stM.slice (Rect.unit (s := S2x1024x512) ![1, 0, 0] S1x1024x512.size inb_S2x1024x512_S1x1024x512_1_0_0) (fun _ => rfl)).squeeze S1024x512 squeezes_S1x1024x512_S1024x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (stM.slice (Rect.unit (s := S2x1024x512) ![0, 0, 0] S1x1024x256.size inb_S2x1024x512_S1x1024x256_0_0_0) (fun _ => rfl)).squeeze S1024x256 squeezes_S1x1024x256_S1024x256 = slotN 0 := rfl
  have hcanon5 : (stM.slice (Rect.unit (s := S2x1024x512) ![1, 0, 0] S1x1024x256.size inb_S2x1024x512_S1x1024x256_1_0_0) (fun _ => rfl)).squeeze S1024x256 squeezes_S1x1024x256_S1024x256 = slotN 1 := rfl
  have hcanon6 : (gM.slice (Rect.unit (s := S1x2x4096x11008) ![0, 1, 0, 512] S1x1x1024x512.size inb_S1x2x4096x11008_S1x1x1024x512_0_1_0_512) (fun _ => rfl)).squeeze S1024x512 squeezes_S1x1x1024x512_S1024x512 = chunkM ((i 0).val + 1) 0 :=
    chunk_of_off _ _ _ 0 (by rw [h0]; rfl)
  have h2 : if (0 : Fin 8) = 0 then k0_cond2 i = 1#1 else ¬ k0_cond2 i = 1#1 := hw 0
  have h3 : if (1 : Fin 8) = 0 then k0_cond3 i = 1#1 else ¬ k0_cond3 i = 1#1 := hw 1
  have h4 : if (2 : Fin 8) = 0 then k0_cond4 i = 1#1 else ¬ k0_cond4 i = 1#1 := hw 2
  have h5 : if (3 : Fin 8) = 0 then k0_cond5 i = 1#1 else ¬ k0_cond5 i = 1#1 := hw 3
  have h6 : if (4 : Fin 8) = 0 then k0_cond6 i = 1#1 else ¬ k0_cond6 i = 1#1 := hw 4
  have h7 : if (5 : Fin 8) = 0 then k0_cond7 i = 1#1 else ¬ k0_cond7 i = 1#1 := hw 5
  have h8 : if (6 : Fin 8) = 0 then k0_cond8 i = 1#1 else ¬ k0_cond8 i = 1#1 := hw 6
  have h9 : if (7 : Fin 8) = 0 then k0_cond9 i = 1#1 else ¬ k0_cond9 i = 1#1 := hw 7
  have h10 : ¬ k0_cond10 i = 1#1 := hv 0
  have h11 : ¬ k0_cond11 i = 1#1 := hv 1
  have h12 : ¬ k0_cond12 i = 1#1 := hv 2
  have h13 : ¬ k0_cond13 i = 1#1 := hv 3
  have h14 : ¬ k0_cond14 i = 1#1 := hv 4
  have h15 : ¬ k0_cond15 i = 1#1 := hv 5
  have h16 : ¬ k0_cond16 i = 1#1 := hv 6
  have h17 : ¬ k0_cond17 i = 1#1 := hv 7
  simp only [Fin.reduceEq, Fin.isValue, ↓reduceIte] at h2 h3 h4 h5 h6 h7 h8 h9
  iintro ⟨⟨HWg, HWu⟩, Hwb, Hst, Hc0, Hc1, HW, Hk⟩
  unfold bodyOf
  rw [cc0_ffn_gate_up_eq_skeleton]
  unfold cc0_ffn_gate_up_skel
  rw [wp_bind, k0_part9_eq_skeleton]
  unfold k0_part9_skel
  dsimp (config := { proj := false }) only
  rw [dif_pos h1, six_before, wp_bind]
  iapply (prologue c i arg2 harg2 arg5 harg5 W d0 d1 B _)
  isplitl [HWg]; · iexact HWg
  isplitl [HWu]; · iexact HWu
  isplitl [Hwb]; · iexact Hwb
  isplitl [Hst]; · iexact Hst
  isplitl [Hc0]; · iexact Hc0
  isplitl [Hc1]; · iexact Hc1
  isplitl [HW]; · iexact HW
  iintro ⟨HWg, HWu, ⟨%fw, %hfw, Hwb⟩, Hst, Hc0, Hc1, ⟨%B', HW⟩⟩
  ihave HWs := (shares_split c W).1 $$ [HWg HWu]
  · isplitl [HWg]; · iexact HWg
    iexact HWu
  icases HWs with ⟨HW0, HW1⟩
  ihave H0 := (all_split c W 0 ((i 0).val + 1) 0).1 $$ HW0
  icases H0 with ⟨Hh0, Hl0⟩
  ihave H1 := (all_split c W 1 ((i 0).val + 1) 1).1 $$ HW1
  icases H1 with ⟨Hh1, Hl1⟩
  ihave Hss := (Ring.slots2_split (U := Pipeline.UD sig nD τ) (ℓ := (c : Thread nD τ).loc cc0_scratch1) (q := fullShare) slotSet slots_disjoint slots_cover
    (slotP c 0) (slotP c 1) (slotP_eq c 0) (slotP_eq c 1)) $$ Hst
  icases Hss with ⟨⟨%g0, Hs0⟩, ⟨%g1, Hs1⟩⟩
  sl_exec
  unfold productOf product
  iapply Hk
  isplitl [Hwb]
  · iexists fw; isplitr; swap; · iexact Hwb
    ipureintro; exact hfw
  isplitl [Hs0]; · iexists _; iexact Hs0
  isplitl [Hh0 Hl0]
  · iapply (all_split c W 0 ((i 0).val + 1) 0).2
    isplitl [Hh0]; · iexact Hh0
    iexact Hl0
  isplitl [Hc0]; · iexact Hc0
  isplitl [Hc1]; · iexists _; iexact Hc1
  isplitl [Hl1]; · iexact Hl1
  iexists _; iexact HW

end Cert.Kernel2Ideal.Gate

end
-- ==== Proof.GateTurn.lean ====
module

public import proofs.«01_k».proof.Proof.GateWait
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- A point in the last column, the tile after the next a wide one: the next tile's last chunk lands, and the first chunk
    of the tile after it is started. -/
theorem wait_start_last (c : Dev nD) (i : grid0.Coords) (arg2 : Memref sig .tc .vmem S1024x4096 .bf16) (harg2 : arg2.IsWhole) (arg5 : Memref sig .tc .vmem S1024x512 .bf16) (harg5 : arg5.IsWhole)
    (W : Weights (F := F) c) (hn : (i 0).val + 2 < 21) (hx : (i 1).val = (7 : Fin 8).val)
    (f : Cont (F := F) c (slotM 1)) (f' : Cont (F := F) c (slotM 0)) (B : Waits sig Unit) (K : PUnit → sProp 𝕄) :
    iprop(flightP c W 1 ((i 0).val + 1) 7 f ∗ cellP c 0 ∗ slotP c 0 f' ∗ partP c W (chunkM ((i 0).val + 2) 0) 0 ∗ owes (c : Thread nD τ) 0 B
        ∗ (iprop(slotP c 1 (landed c W 1 ((i 0).val + 1) 7 f) ∗ partP c W (chunkM ((i 0).val + 1) 7) 1 ∗ cellP c 1 ∗ flightP c W 0 ((i 0).val + 2) 0 f' ∗ (∃ B', owes (c : Thread nD τ) 0 B'))
          -∗ wp frame (wpE (defs₀ (F := F)) Variants.none c none) Set.univ (productOf i arg2 harg2 arg5 harg5) K))
      ⊢ wp frame (wpE (defs₀ (F := F)) Variants.none c none) Set.univ (bodyOf i arg2 harg2 arg5 harg5) K := by
  have h1 := first_off i (fun h => absurd (h.2.symm.trans hx) (by decide))
  have hw := wait_here i 7 (by omega) hx
  have hv := narrow_none i (by omega)
  have h18 := (startCond_iff i).mpr ⟨hn, hx⟩
  have h19 : ¬ k0_cond19 i = 1#1 := fun h => absurd ((startNarrow_iff i).mp h).1 (by omega)
  have hcanon0 : (stM.slice (Rect.unit (s := S2x1024x512) ![0, 0, 0] S1x1024x512.size inb_S2x1024x512_S1x1024x512_0_0_0) (fun _ => rfl)).squeeze S1024x512 squeezes_S1x1024x512_S1024x512 = slotM 0 := rfl
  have hcanon1 : (stM.slice (Rect.unit (s := S2x1024x512) ![1, 0, 0] S1x1024x512.size inb_S2x1024x512_S1x1024x512_1_0_0) (fun _ => rfl)).squeeze S1024x512 squeezes_S1x1024x512_S1024x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (stM.slice (Rect.unit (s := S2x1024x512) ![0, 0, 0] S1x1024x256.size inb_S2x1024x512_S1x1024x256_0_0_0) (fun _ => rfl)).squeeze S1024x256 squeezes_S1x1024x256_S1024x256 = slotN 0 := rfl
  have hcanon5 : (stM.slice (Rect.unit (s := S2x1024x512) ![1, 0, 0] S1x1024x256.size inb_S2x1024x512_S1x1024x256_1_0_0) (fun _ => rfl)).squeeze S1024x256 squeezes_S1x1024x256_S1024x256 = slotN 1 := rfl
  have h2 : if (0 : Fin 8) = 7 then k0_cond2 i = 1#1 else ¬ k0_cond2 i = 1#1 := hw 0
  have h3 : if (1 : Fin 8) = 7 then k0_cond3 i = 1#1 else ¬ k0_cond3 i = 1#1 := hw 1
  have h4 : if (2 : Fin 8) = 7 then k0_cond4 i = 1#1 else ¬ k0_cond4 i = 1#1 := hw 2
  have h5 : if (3 : Fin 8) = 7 then k0_cond5 i = 1#1 else ¬ k0_cond5 i = 1#1 := hw 3
  have h6 : if (4 : Fin 8) = 7 then k0_cond6 i = 1#1 else ¬ k0_cond6 i = 1#1 := hw 4
  have h7 : if (5 : Fin 8) = 7 then k0_cond7 i = 1#1 else ¬ k0_cond7 i = 1#1 := hw 5
  have h8 : if (6 : Fin 8) = 7 then k0_cond8 i = 1#1 else ¬ k0_cond8 i = 1#1 := hw 6
  have h9 : if (7 : Fin 8) = 7 then k0_cond9 i = 1#1 else ¬ k0_cond9 i = 1#1 := hw 7
  have h10 : ¬ k0_cond10 i = 1#1 := hv 0
  have h11 : ¬ k0_cond11 i = 1#1 := hv 1
  have h12 : ¬ k0_cond12 i = 1#1 := hv 2
  have h13 : ¬ k0_cond13 i = 1#1 := hv 3
  have h14 : ¬ k0_cond14 i = 1#1 := hv 4
  have h15 : ¬ k0_cond15 i = 1#1 := hv 5
  have h16 : ¬ k0_cond16 i = 1#1 := hv 6
  have h17 : ¬ k0_cond17 i = 1#1 := hv 7
  simp only [Fin.reduceEq, Fin.isValue, ↓reduceIte] at h2 h3 h4 h5 h6 h7 h8 h9
  iintro ⟨Hf, Hc, Hs, Hh, HW, Hk⟩
  sl_exec
  unfold productOf product
  iapply Hk
  isplitl [Hf_dst]; · iexact Hf_dst
  isplitl [Hf_src]; · iexact Hf_src
  isplitl [Hf]; · iexact Hf
  isplitl [Hc]; · iexact Hc
  iexists _; iexact HW

set_option maxHeartbeats 2000000 in
/-- The same, the tile after the next the narrow one. -/
theorem wait_start_narrow (c : Dev nD) (i : grid0.Coords) (arg2 : Memref sig .tc .vmem S1024x4096 .bf16) (harg2 : arg2.IsWhole) (arg5 : Memref sig .tc .vmem S1024x512 .bf16) (harg5 : arg5.IsWhole)
    (W : Weights (F := F) c) (hn : (i 0).val + 2 = 21) (hx : (i 1).val = (7 : Fin 8).val)
    (f : Cont (F := F) c (slotM 1)) (f' : Cont (F := F) c (slotN 0)) (B : Waits sig Unit) (K : PUnit → sProp 𝕄) :
    iprop(flightP c W 1 ((i 0).val + 1) 7 f ∗ cellP c 0 ∗ slotNP c 0 f' ∗ partP c W (chunkN 0) 0 ∗ owes (c : Thread nD τ) 0 B
        ∗ (iprop(slotP c 1 (landed c W 1 ((i 0).val + 1) 7 f) ∗ partP c W (chunkM ((i 0).val + 1) 7) 1 ∗ cellP c 1 ∗ flightNP c W 0 0 f' ∗ (∃ B', owes (c : Thread nD τ) 0 B'))
          -∗ wp frame (wpE (defs₀ (F := F)) Variants.none c none) Set.univ (productOf i arg2 harg2 arg5 harg5) K))
      ⊢ wp frame (wpE (defs₀ (F := F)) Variants.none c none) Set.univ (bodyOf i arg2 harg2 arg5 harg5) K := by
  have h1 := first_off i (fun h => absurd (h.2.symm.trans hx) (by decide))
  have hw := wait_here i 7 (by omega) hx
  have hv := narrow_none i (by omega)
  have h19 := (startNarrow_iff i).mpr ⟨hn, hx⟩
  have h18 : ¬ k0_cond18 i = 1#1 := fun h => absurd ((startCond_iff i).mp h).1 (by omega)
  have hcanon0 : (stM.slice (Rect.unit (s := S2x1024x512) ![0, 0, 0] S1x1024x512.size inb_S2x1024x512_S1x1024x512_0_0_0) (fun _ => rfl)).squeeze S1024x512 squeezes_S1x1024x512_S1024x512 = slotM 0 := rfl
  have hcanon1 : (stM.slice (Rect.unit (s := S2x1024x512) ![1, 0, 0] S1x1024x512.size inb_S2x1024x512_S1x1024x512_1_0_0) (fun _ => rfl)).squeeze S1024x512 squeezes_S1x1024x512_S1024x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (stM.slice (Rect.unit (s := S2x1024x512) ![0, 0, 0] S1x1024x256.size inb_S2x1024x512_S1x1024x256_0_0_0) (fun _ => rfl)).squeeze S1024x256 squeezes_S1x1024x256_S1024x256 = slotN 0 := rfl
  have hcanon5 : (stM.slice (Rect.unit (s := S2x1024x512) ![1, 0, 0] S1x1024x256.size inb_S2x1024x512_S1x1024x256_1_0_0) (fun _ => rfl)).squeeze S1024x256 squeezes_S1x1024x256_S1024x256 = slotN 1 := rfl
  have h2 : if (0 : Fin 8) = 7 then k0_cond2 i = 1#1 else ¬ k0_cond2 i = 1#1 := hw 0
  have h3 : if (1 : Fin 8) = 7 then k0_cond3 i = 1#1 else ¬ k0_cond3 i = 1#1 := hw 1
  have h4 : if (2 : Fin 8) = 7 then k0_cond4 i = 1#1 else ¬ k0_cond4 i = 1#1 := hw 2
  have h5 : if (3 : Fin 8) = 7 then k0_cond5 i = 1#1 else ¬ k0_cond5 i = 1#1 := hw 3
  have h6 : if (4 : Fin 8) = 7 then k0_cond6 i = 1#1 else ¬ k0_cond6 i = 1#1 := hw 4
  have h7 : if (5 : Fin 8) = 7 then k0_cond7 i = 1#1 else ¬ k0_cond7 i = 1#1 := hw 5
  have h8 : if (6 : Fin 8) = 7 then k0_cond8 i = 1#1 else ¬ k0_cond8 i = 1#1 := hw 6
  have h9 : if (7 : Fin 8) = 7 then k0_cond9 i = 1#1 else ¬ k0_cond9 i = 1#1 := hw 7
  have h10 : ¬ k0_cond10 i = 1#1 := hv 0
  have h11 : ¬ k0_cond11 i = 1#1 := hv 1
  have h12 : ¬ k0_cond12 i = 1#1 := hv 2
  have h13 : ¬ k0_cond13 i = 1#1 := hv 3
  have h14 : ¬ k0_cond14 i = 1#1 := hv 4
  have h15 : ¬ k0_cond15 i = 1#1 := hv 5
  have h16 : ¬ k0_cond16 i = 1#1 := hv 6
  have h17 : ¬ k0_cond17 i = 1#1 := hv 7
  simp only [Fin.reduceEq, Fin.isValue, ↓reduceIte] at h2 h3 h4 h5 h6 h7 h8 h9
  iintro ⟨Hf, Hc, Hs, Hh, HW, Hk⟩
  sl_exec
  unfold productOf product
  iapply Hk
  isplitl [Hf_dst]; · iexact Hf_dst
  isplitl [Hf_src]; · iexact Hf_src
  isplitl [Hf]; · iexact Hf
  isplitl [Hc]; · iexact Hc
  iexists _; iexact HW

set_option maxHeartbeats 2000000 in
/-- The last column of the last tile but one: the last chunk of all lands. -/
theorem wait_end (c : Dev nD) (i : grid0.Coords) (arg2 : Memref sig .tc .vmem S1024x4096 .bf16) (harg2 : arg2.IsWhole) (arg5 : Memref sig .tc .vmem S1024x512 .bf16) (harg5 : arg5.IsWhole)
    (W : Weights (F := F) c) (hn : (i 0).val + 1 = 21) (hx : (i 1).val = (7 : Fin 8).val)
    (f : Cont (F := F) c (slotN 1)) (B : Waits sig Unit) (K : PUnit → sProp 𝕄) :
    iprop(flightNP c W 1 7 f ∗ owes (c : Thread nD τ) 0 B
        ∗ (iprop(slotNP c 1 (landedN c W 1 7 f) ∗ partP c W (chunkN 7) 1 ∗ cellP c 1 ∗ (∃ B', owes (c : Thread nD τ) 0 B'))
          -∗ wp frame (wpE (defs₀ (F := F)) Variants.none c none) Set.univ (productOf i arg2 harg2 arg5 harg5) K))
      ⊢ wp frame (wpE (defs₀ (F := F)) Variants.none c none) Set.univ (bodyOf i arg2 harg2 arg5 harg5) K := by
  have h1 := first_off i (fun h => absurd (h.2.symm.trans hx) (by decide))
  have hw := wait_none i (by omega)
  have hv := narrow_here i 7 (by omega) hx
  have h18 : ¬ k0_cond18 i = 1#1 := fun h => absurd ((startCond_iff i).mp h).1 (by omega)
  have h19 : ¬ k0_cond19 i = 1#1 := fun h => absurd ((startNarrow_iff i).mp h).1 (by omega)
  have hcanon0 : (stM.slice (Rect.unit (s := S2x1024x512) ![0, 0, 0] S1x1024x512.size inb_S2x1024x512_S1x1024x512_0_0_0) (fun _ => rfl)).squeeze S1024x512 squeezes_S1x1024x512_S1024x512 = slotM 0 := rfl
  have hcanon1 : (stM.slice (Rect.unit (s := S2x1024x512) ![1, 0, 0] S1x1024x512.size inb_S2x1024x512_S1x1024x512_1_0_0) (fun _ => rfl)).squeeze S1024x512 squeezes_S1x1024x512_S1024x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (stM.slice (Rect.unit (s := S2x1024x512) ![0, 0, 0] S1x1024x256.size inb_S2x1024x512_S1x1024x256_0_0_0) (fun _ => rfl)).squeeze S1024x256 squeezes_S1x1024x256_S1024x256 = slotN 0 := rfl
  have hcanon5 : (stM.slice (Rect.unit (s := S2x1024x512) ![1, 0, 0] S1x1024x256.size inb_S2x1024x512_S1x1024x256_1_0_0) (fun _ => rfl)).squeeze S1024x256 squeezes_S1x1024x256_S1024x256 = slotN 1 := rfl
  have h2 : ¬ k0_cond2 i = 1#1 := hw 0
  have h3 : ¬ k0_cond3 i = 1#1 := hw 1
  have h4 : ¬ k0_cond4 i = 1#1 := hw 2
  have h5 : ¬ k0_cond5 i = 1#1 := hw 3
  have h6 : ¬ k0_cond6 i = 1#1 := hw 4
  have h7 : ¬ k0_cond7 i = 1#1 := hw 5
  have h8 : ¬ k0_cond8 i = 1#1 := hw 6
  have h9 : ¬ k0_cond9 i = 1#1 := hw 7
  have h10 : if (0 : Fin 8) = 7 then k0_cond10 i = 1#1 else ¬ k0_cond10 i = 1#1 := hv 0
  have h11 : if (1 : Fin 8) = 7 then k0_cond11 i = 1#1 else ¬ k0_cond11 i = 1#1 := hv 1
  have h12 : if (2 : Fin 8) = 7 then k0_cond12 i = 1#1 else ¬ k0_cond12 i = 1#1 := hv 2
  have h13 : if (3 : Fin 8) = 7 then k0_cond13 i = 1#1 else ¬ k0_cond13 i = 1#1 := hv 3
  have h14 : if (4 : Fin 8) = 7 then k0_cond14 i = 1#1 else ¬ k0_cond14 i = 1#1 := hv 4
  have h15 : if (5 : Fin 8) = 7 then k0_cond15 i = 1#1 else ¬ k0_cond15 i = 1#1 := hv 5
  have h16 : if (6 : Fin 8) = 7 then k0_cond16 i = 1#1 else ¬ k0_cond16 i = 1#1 := hv 6
  have h17 : if (7 : Fin 8) = 7 then k0_cond17 i = 1#1 else ¬ k0_cond17 i = 1#1 := hv 7
  simp only [Fin.reduceEq, Fin.isValue, ↓reduceIte] at h10 h11 h12 h13 h14 h15 h16 h17
  iintro ⟨Hf, HW, Hk⟩
  sl_exec
  unfold productOf product
  iapply Hk
  isplitl [Hf_dst]; · iexact Hf_dst
  isplitl [Hf_src]; · iexact Hf_src
  isplitl [Hf]; · iexact Hf
  iexists _; iexact HW

set_option maxHeartbeats 2000000 in
/-- The last tile: nothing is waited for and nothing started. -/
theorem wait_idle (c : Dev nD) (i : grid0.Coords) (arg2 : Memref sig .tc .vmem S1024x4096 .bf16) (harg2 : arg2.IsWhole) (arg5 : Memref sig .tc .vmem S1024x512 .bf16) (harg5 : arg5.IsWhole)
    (hn : (i 0).val = 21) (B : Waits sig Unit) (K : PUnit → sProp 𝕄) :
    iprop(owes (c : Thread nD τ) 0 B
        ∗ (iprop(∃ B', owes (c : Thread nD τ) 0 B')
          -∗ wp frame (wpE (defs₀ (F := F)) Variants.none c none) Set.univ (productOf i arg2 harg2 arg5 harg5) K))
      ⊢ wp frame (wpE (defs₀ (F := F)) Variants.none c none) Set.univ (bodyOf i arg2 harg2 arg5 harg5) K := by
  have h1 := first_off i (fun h => by omega)
  have hw := wait_none i (by omega)
  have hv := narrow_none i (by omega)
  have h18 : ¬ k0_cond18 i = 1#1 := fun h => absurd ((startCond_iff i).mp h).1 (by omega)
  have h19 : ¬ k0_cond19 i = 1#1 := fun h => absurd ((startNarrow_iff i).mp h).1 (by omega)
  have h2 : ¬ k0_cond2 i = 1#1 := hw 0
  have h3 : ¬ k0_cond3 i = 1#1 := hw 1
  have h4 : ¬ k0_cond4 i = 1#1 := hw 2
  have h5 : ¬ k0_cond5 i = 1#1 := hw 3
  have h6 : ¬ k0_cond6 i = 1#1 := hw 4
  have h7 : ¬ k0_cond7 i = 1#1 := hw 5
  have h8 : ¬ k0_cond8 i = 1#1 := hw 6
  have h9 : ¬ k0_cond9 i = 1#1 := hw 7
  have h10 : ¬ k0_cond10 i = 1#1 := hv 0
  have h11 : ¬ k0_cond11 i = 1#1 := hv 1
  have h12 : ¬ k0_cond12 i = 1#1 := hv 2
  have h13 : ¬ k0_cond13 i = 1#1 := hv 3
  have h14 : ¬ k0_cond14 i = 1#1 := hv 4
  have h15 : ¬ k0_cond15 i = 1#1 := hv 5
  have h16 : ¬ k0_cond16 i = 1#1 := hv 6
  have h17 : ¬ k0_cond17 i = 1#1 := hv 7
  iintro ⟨HW, Hk⟩
  sl_exec
  unfold productOf product
  iapply Hk
  iexists _; iexact HW

end Cert.Kernel2Ideal.Gate

end
-- ==== Proof.GateRing.lean ====
module

public import proofs.«01_k».proof.Proof.GateStart
public import proofs.«01_k».proof.Proof.GateTurn
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The transfers, point by point -/

/-- The slot and the chunk that are in flight before point `k`, the tile that the chunk is of, and the number of the
    points that have a chunk to wait for. -/
abbrev slotOf (k : ℕ) : Fin 2 := ⟨k % 2, Nat.mod_lt _ (by decide)⟩
abbrev chunkOf (k : ℕ) : Fin 8 := ⟨k % 8, Nat.mod_lt _ (by decide)⟩
abbrev tileOn (k : ℕ) : ℕ := k / 8 + 1
abbrev lastK : ℕ := 168

section Ring
variable (c : Dev nD) (W : Weights (F := F) c)

/-- Slot `s` free: nothing in flight into it, and all of its share of the weights at hand. -/
def freeP (s : Fin 2) : sProp 𝕄 := iprop(cellP c s ∗ (∃ f, slotP (F := F) c s f) ∗ allP c W s)
/-- Chunk `x` of tile `n` in flight into slot `s`; of the narrow tile it takes the slot's first 256 columns, and the
    others stay at hand. -/
def busyP (s : Fin 2) (n : ℕ) (x : Fin 8) : sProp 𝕄 :=
  if n < 21 then iprop((∃ f, flightP c W s n x f) ∗ leftP c W s n x)
  else iprop((∃ f, flightNP c W s x f) ∗ leftNP c W s x ∗ (∃ f, slotRestP c s f))
/-- What the kernel holds of its slots and of the weights before point `k`. -/
def ringP (k : ℕ) : sProp 𝕄 :=
  if k = 0 then iprop(((gM.view.loc (c : Thread nD τ) ↦{fullShare} W main_arg1) ∗ (uM.view.loc (c : Thread nD τ) ↦{fullShare} W main_arg2)) ∗ (∃ d, stM.view.loc (c : Thread nD τ) ↦{fullShare} d) ∗ cellP c 0 ∗ cellP c 1)
  else if k < lastK then iprop(busyP c W (slotOf k) (tileOn k) (chunkOf k) ∗ freeP c W (slotOf (k + 1)))
  else iprop(freeP c W (slotOf k) ∗ freeP c W (slotOf (k + 1)))
/-- What it holds beside slot `slotOf k`, in the course of point `k`. -/
def restP (k : ℕ) : sProp 𝕄 :=
  iprop(cellP c (slotOf k) ∗ allP c W (slotOf k)
    ∗ if k + 1 < lastK then busyP c W (slotOf (k + 1)) (tileOn (k + 1)) (chunkOf (k + 1)) else freeP c W (slotOf (k + 1)))

/-- With that slot it is what is held before the next point. -/
theorem ring_next (k : ℕ) : iprop((∃ g, slotP (F := F) c (slotOf k) g) ∗ restP c W k) ⊢ ringP c W (k + 1) := by
  unfold ringP restP
  rw [if_neg (Nat.succ_ne_zero k)]
  have e : slotOf (k + 1 + 1) = slotOf k := Fin.ext (show (k + 1 + 1) % 2 = k % 2 by omega)
  rw [e]
  by_cases h : k + 1 < lastK
  · rw [if_pos h, if_pos h]
    unfold freeP
    iintro ⟨Hs, Hc, Ha, Hb⟩
    isplitl [Hb]; · iexact Hb
    isplitl [Hc]; · iexact Hc
    isplitl [Hs]; · iexact Hs
    iexact Ha
  · rw [if_neg h, if_neg h]
    iintro ⟨Hs, Hc, Ha, Hb⟩
    isplitl [Hb]; · iexact Hb
    unfold freeP
    isplitl [Hc]; · iexact Hc
    isplitl [Hs]; · iexact Hs
    iexact Ha

/-- The resident tiles before point `k`: the present one whole, and of the next one the chunks that have been narrowed. -/
def Stored (k : ℕ) (f : Cont (F := F) c wbM) : Prop :=
  Filled W (k / 8) 8 f ∧ (k < lastK → Filled W (tileOn k) (k % 8) f)

theorem stored_next (k : ℕ) (hk : k + 1 < 176) (f : Cont (F := F) c wbM) (h : Filled W (k / 8) 8 f)
    (h' : k < lastK → Filled W (tileOn k) (k % 8 + 1) f) : Stored c W (k + 1) f := by
  by_cases h7 : k % 8 = 7
  · have e : (k + 1) / 8 = k / 8 + 1 := by omega
    have e' : (k + 1) % 8 = 0 := by omega
    refine ⟨?_, fun _ => ?_⟩
    · rw [e]; have := h' (by show k < 168; omega); rwa [h7] at this
    · rw [e']; exact filled_zero W _ f
  · have e : (k + 1) / 8 = k / 8 := by omega
    have e' : (k + 1) % 8 = k % 8 + 1 := by omega
    refine ⟨by rw [e]; exact h, fun hl => ?_⟩
    unfold tileOn; rw [e, e']; exact h' (by omega)

end Ring

theorem coords_eq : ∀ t : Fin grid0.N, (grid0.coords t 0).val = t.val / 8 ∧ (grid0.coords t 1).val = t.val % 8 := by decide +kernel
theorem steps_eq : ∀ k : Fin 176, ¬ k.val % 8 = 7 → (chunkOf k.val = 0 ∧ chunkOf (k.val + 1) = 1 ∧ slotOf k.val = 0 ∧ slotOf (k.val + 1) = 1) ∨ (chunkOf k.val = 1 ∧ chunkOf (k.val + 1) = 2 ∧ slotOf k.val = 1 ∧ slotOf (k.val + 1) = 0) ∨ (chunkOf k.val = 2 ∧ chunkOf (k.val + 1) = 3 ∧ slotOf k.val = 0 ∧ slotOf (k.val + 1) = 1) ∨ (chunkOf k.val = 3 ∧ chunkOf (k.val + 1) = 4 ∧ slotOf k.val = 1 ∧ slotOf (k.val + 1) = 0) ∨ (chunkOf k.val = 4 ∧ chunkOf (k.val + 1) = 5 ∧ slotOf k.val = 0 ∧ slotOf (k.val + 1) = 1) ∨ (chunkOf k.val = 5 ∧ chunkOf (k.val + 1) = 6 ∧ slotOf k.val = 1 ∧ slotOf (k.val + 1) = 0) ∨ (chunkOf k.val = 6 ∧ chunkOf (k.val + 1) = 7 ∧ slotOf k.val = 0 ∧ slotOf (k.val + 1) = 1) := by decide +kernel

set_option maxHeartbeats 4000000 in
/-- The transfers of point `t`: the resident tiles stay (at the first point the first one is brought in), and where a
    chunk was in flight the point's slot holds it when the product begins. -/
theorem transfers_step (c : Dev nD) (t : Fin grid0.N) (arg2 : Memref sig .tc .vmem S1024x4096 .bf16) (harg2 : arg2.IsWhole) (arg5 : Memref sig .tc .vmem S1024x512 .bf16) (harg5 : arg5.IsWhole)
    (W : Weights (F := F) c) (B : Waits sig Unit) (K : PUnit → sProp 𝕄) :
    iprop((∃ f, ⌜1 ≤ t.val → Stored c W t.val f⌝ ∗ (wbM.view.loc (c : Thread nD τ) ↦{fullShare} f)) ∗ ringP c W t.val ∗ owes (c : Thread nD τ) 0 B
        ∗ (iprop((∃ f, ⌜Stored c W t.val f⌝ ∗ (wbM.view.loc (c : Thread nD τ) ↦{fullShare} f))
            ∗ (∃ g, ⌜t.val < lastK → Holds W (tileOn t.val) (chunkOf t.val) (slotOf t.val) g⌝ ∗ slotP c (slotOf t.val) g)
            ∗ restP c W t.val ∗ (∃ B', owes (c : Thread nD τ) 0 B'))
          -∗ wp frame (wpE (defs₀ (F := F)) Variants.none c none) Set.univ (productOf (grid0.coords t) arg2 harg2 arg5 harg5) K))
      ⊢ wp frame (wpE (defs₀ (F := F)) Variants.none c none) Set.univ (bodyOf (grid0.coords t) arg2 harg2 arg5 harg5) K := by
  have hN : t.val < 176 := lt_of_lt_of_eq t.isLt N_0
  obtain ⟨e0, e1⟩ := coords_eq t
  unfold restP
  by_cases h0 : t.val = 0
  · have h := wait_first (F := F) c (grid0.coords t) arg2 harg2 arg5 harg5 (by omega) (by omega) W
    have hs : slotOf t.val = 0 := Fin.ext (show t.val % 2 = 0 by omega)
    have hs' : slotOf (t.val + 1) = 1 := Fin.ext (show (t.val + 1) % 2 = 1 by omega)
    have hx : chunkOf t.val = 0 := Fin.ext (show t.val % 8 = 0 by omega)
    have hx' : chunkOf (t.val + 1) = 1 := Fin.ext (show (t.val + 1) % 8 = 1 by omega)
    have hn : tileOn t.val = (grid0.coords t 0).val + 1 := by unfold tileOn; omega
    have hn' : tileOn (t.val + 1) = (grid0.coords t 0).val + 1 := by unfold tileOn; omega
    rw [if_pos (show t.val + 1 < lastK by show _ < 168; omega), hs, hs', hx, hx', hn, hn']
    unfold ringP busyP; rw [if_pos h0, if_pos (by omega)]
    iintro ⟨⟨%f, -, Hwb⟩, ⟨HWs, ⟨%d, Hst⟩, Hc0, Hc1⟩, HW, Hk⟩
    iapply (h f d B K)
    isplitl [HWs]; · iexact HWs
    isplitl [Hwb]; · iexact Hwb
    isplitl [Hst]; · iexact Hst
    isplitl [Hc0]; · iexact Hc0
    isplitl [Hc1]; · iexact Hc1
    isplitl [HW]; · iexact HW
    iintro ⟨⟨%f', %hf', Hwb⟩, ⟨%g, Hs⟩, Ha, Hc, Hf, Hl, HW⟩
    iapply Hk
    isplitl [Hwb]
    · iexists f'; isplitr; swap; · iexact Hwb
      ipureintro
      refine ⟨by rw [show t.val / 8 = 0 by omega]; exact hf', fun _ => ?_⟩
      rw [show t.val % 8 = 0 by omega]; exact filled_zero W _ _
    isplitl [Hs]
    · iexists _; isplitr; swap; · iexact Hs
      ipureintro; exact fun _ => holds_landed W _ (by omega) _ _ g
    isplitl [Hc Ha Hf Hl]
    · isplitl [Hc]; · iexact Hc
      isplitl [Ha]; · iexact Ha
      isplitl [Hf]; · iexact Hf
      iexact Hl
    iexact HW
  by_cases hl : t.val < lastK
  · have hl' : t.val < 168 := hl
    unfold ringP; rw [if_neg h0, if_pos hl]
    have hn : tileOn t.val = (grid0.coords t 0).val + 1 := by unfold tileOn; omega
    by_cases h7 : t.val % 8 = 7
    · have hs : slotOf t.val = 1 := Fin.ext (show t.val % 2 = 1 by omega)
      have hs' : slotOf (t.val + 1) = 0 := Fin.ext (show (t.val + 1) % 2 = 0 by omega)
      have hx : chunkOf t.val = 7 := Fin.ext h7
      have hx' : chunkOf (t.val + 1) = 0 := Fin.ext (show (t.val + 1) % 8 = 0 by omega)
      have hi : (grid0.coords t 1).val = (7 : Fin 8).val := by rw [e1, h7]; rfl
      by_cases he : t.val + 1 < lastK
      · have he' : t.val + 1 < 168 := he
        have hn' : tileOn (t.val + 1) = (grid0.coords t 0).val + 2 := by unfold tileOn; omega
        rw [if_pos he, hs, hs', hx, hx', hn, hn']
        by_cases hw : (grid0.coords t 0).val + 2 < 21
        · have h := wait_start_last (F := F) c (grid0.coords t) arg2 harg2 arg5 harg5 W hw hi
          unfold busyP; rw [if_pos (by omega), if_pos hw]
          unfold freeP
          iintro ⟨Hwb, ⟨⟨⟨%f, Hf⟩, Hl⟩, Hc, ⟨%f', Hs'⟩, Ha⟩, HW, Hk⟩
          ihave H2 := (all_split c W 0 ((grid0.coords t 0).val + 2) 0).1 $$ Ha
          icases H2 with ⟨Hh, Hl'⟩
          iapply (h f f' B K)
          isplitl [Hf]; · iexact Hf
          isplitl [Hc]; · iexact Hc
          isplitl [Hs']; · iexact Hs'
          isplitl [Hh]; · iexact Hh
          isplitl [HW]; · iexact HW
          iintro ⟨Hs, Hh, Hc, Hf, HW⟩
          iapply Hk
          isplitl [Hwb]
          · icases Hwb with ⟨%fw, %hw, Hwb⟩
            iexists fw; isplitr; · ipureintro; exact hw (by omega)
            iexact Hwb
          isplitl [Hs]
          · iexists _; isplitr; swap; · iexact Hs
            ipureintro; exact fun _ => holds_landed W _ (by omega) _ _ f
          isplitl [Hc Hh Hl Hf Hl']
          · isplitl [Hc]; · iexact Hc
            isplitl [Hh Hl]
            · iapply (all_split c W 1 ((grid0.coords t 0).val + 1) 7).2
              isplitl [Hh]; · iexact Hh
              iexact Hl
            isplitl [Hf]; · iexists _; iexact Hf
            iexact Hl'
          iexact HW
        · have h := wait_start_narrow (F := F) c (grid0.coords t) arg2 harg2 arg5 harg5 W (by omega) hi
          unfold busyP; rw [if_pos (by omega), if_neg hw]
          unfold freeP
          iintro ⟨Hwb, ⟨⟨⟨%f, Hf⟩, Hl⟩, Hc, ⟨%f', Hs'⟩, Ha⟩, HW, Hk⟩
          ihave H2 := (all_splitN c W 0 0).1 $$ Ha
          icases H2 with ⟨Hh, Hl'⟩
          ihave H3 := (slot_split c 0 f').1 $$ Hs'
          icases H3 with ⟨Hs', Hr'⟩
          iapply (h f f' B K)
          isplitl [Hf]; · iexact Hf
          isplitl [Hc]; · iexact Hc
          isplitl [Hs']; · iexact Hs'
          isplitl [Hh]; · iexact Hh
          isplitl [HW]; · iexact HW
          iintro ⟨Hs, Hh, Hc, Hf, HW⟩
          iapply Hk
          isplitl [Hwb]
          · icases Hwb with ⟨%fw, %hw, Hwb⟩
            iexists fw; isplitr; · ipureintro; exact hw (by omega)
            iexact Hwb
          isplitl [Hs]
          · iexists _; isplitr; swap; · iexact Hs
            ipureintro; exact fun _ => holds_landed W _ (by omega) _ _ f
          isplitl [Hc Hh Hl Hf Hl' Hr']
          · isplitl [Hc]; · iexact Hc
            isplitl [Hh Hl]
            · iapply (all_split c W 1 ((grid0.coords t 0).val + 1) 7).2
              isplitl [Hh]; · iexact Hh
              iexact Hl
            isplitl [Hf]; · iexists _; iexact Hf
            isplitl [Hl']; · iexact Hl'
            iexists _; iexact Hr'
          iexact HW
      · have he' : ¬ t.val + 1 < 168 := he
        have h := wait_end (F := F) c (grid0.coords t) arg2 harg2 arg5 harg5 W (by omega) hi
        rw [if_neg he, hs, hs', hx, hn, show (grid0.coords t 0).val + 1 = 21 by omega]
        unfold busyP; rw [if_neg (by omega)]
        iintro ⟨Hwb, ⟨⟨⟨%f, Hf⟩, Hl, ⟨%fr, Hrs⟩⟩, Hfr⟩, HW, Hk⟩
        iapply (h f B K)
        isplitl [Hf]; · iexact Hf
        isplitl [HW]; · iexact HW
        iintro ⟨Hs, Hh, Hc, HW⟩
        iapply Hk
        isplitl [Hwb]
        · icases Hwb with ⟨%fw, %hw, Hwb⟩
          iexists fw; isplitr; · ipureintro; exact hw (by omega)
          iexact Hwb
        isplitl [Hs Hrs]
        · ihave Hj := (slot_join c W _ _ f fr) $$ [Hs Hrs]
          · isplitl [Hs]; · iexact Hs
            iexact Hrs
          icases Hj with ⟨%g, %hg, Hs⟩
          iexists g; isplitr; swap; · iexact Hs
          ipureintro; exact fun _ => hg
        isplitl [Hc Hh Hl Hfr]
        · isplitl [Hc]; · iexact Hc
          isplitl [Hh Hl]
          · iapply (all_splitN c W 1 7).2
            isplitl [Hh]; · iexact Hh
            iexact Hl
          iexact Hfr
        iexact HW
    · have hn' : tileOn (t.val + 1) = (grid0.coords t 0).val + 1 := by unfold tileOn; omega
      rw [if_pos (show t.val + 1 < lastK by show _ < 168; omega), hn, hn']
      by_cases hw : (grid0.coords t 0).val + 1 < 21
      · have h := wait_start (F := F) c (grid0.coords t) arg2 harg2 arg5 harg5 W (by omega) hw (chunkOf t.val) (chunkOf (t.val + 1)) (slotOf t.val) (slotOf (t.val + 1)) e1
          (steps_eq ⟨t.val, hN⟩ h7)
        unfold busyP; rw [if_pos hw, if_pos hw]
        unfold freeP
        iintro ⟨Hwb, ⟨⟨⟨%f, Hf⟩, Hl⟩, Hc, ⟨%f', Hs'⟩, Ha⟩, HW, Hk⟩
        ihave H2 := (all_split c W (slotOf (t.val + 1)) ((grid0.coords t 0).val + 1) (chunkOf (t.val + 1))).1 $$ Ha
        icases H2 with ⟨Hh, Hl'⟩
        iapply (h f f' B K)
        isplitl [Hf]; · iexact Hf
        isplitl [Hc]; · iexact Hc
        isplitl [Hs']; · iexact Hs'
        isplitl [Hh]; · iexact Hh
        isplitl [HW]; · iexact HW
        iintro ⟨Hs, Hh, Hc, Hf, HW⟩
        iapply Hk
        isplitl [Hwb]
        · icases Hwb with ⟨%fw, %hw, Hwb⟩
          iexists fw; isplitr; · ipureintro; exact hw (by omega)
          iexact Hwb
        isplitl [Hs]
        · iexists _; isplitr; swap; · iexact Hs
          ipureintro; exact fun _ => holds_landed W _ (by omega) _ _ f
        isplitl [Hc Hh Hl Hf Hl']
        · isplitl [Hc]; · iexact Hc
          isplitl [Hh Hl]
          · iapply (all_split c W (slotOf t.val) ((grid0.coords t 0).val + 1) (chunkOf t.val)).2
            isplitl [Hh]; · iexact Hh
            iexact Hl
          isplitl [Hf]; · iexists _; iexact Hf
          iexact Hl'
        iexact HW
      · have h := narrow_start (F := F) c (grid0.coords t) arg2 harg2 arg5 harg5 W (by omega) (by omega) (chunkOf t.val) (chunkOf (t.val + 1)) (slotOf t.val) (slotOf (t.val + 1)) e1
          (steps_eq ⟨t.val, hN⟩ h7)
        rw [show (grid0.coords t 0).val + 1 = 21 by omega]
        unfold busyP; rw [if_neg (by omega), if_neg (by omega)]
        unfold freeP
        iintro ⟨Hwb, ⟨⟨⟨%f, Hf⟩, Hl, ⟨%fr, Hrs⟩⟩, Hc, ⟨%f', Hs'⟩, Ha⟩, HW, Hk⟩
        ihave H2 := (all_splitN c W (slotOf (t.val + 1)) (chunkOf (t.val + 1))).1 $$ Ha
        icases H2 with ⟨Hh, Hl'⟩
        ihave H3 := (slot_split c (slotOf (t.val + 1)) f').1 $$ Hs'
        icases H3 with ⟨Hs', Hr'⟩
        iapply (h f f' B K)
        isplitl [Hf]; · iexact Hf
        isplitl [Hc]; · iexact Hc
        isplitl [Hs']; · iexact Hs'
        isplitl [Hh]; · iexact Hh
        isplitl [HW]; · iexact HW
        iintro ⟨Hs, Hh, Hc, Hf, HW⟩
        iapply Hk
        isplitl [Hwb]
        · icases Hwb with ⟨%fw, %hw, Hwb⟩
          iexists fw; isplitr; · ipureintro; exact hw (by omega)
          iexact Hwb
        isplitl [Hs Hrs]
        · ihave Hj := (slot_join c W _ _ f fr) $$ [Hs Hrs]
          · isplitl [Hs]; · iexact Hs
            iexact Hrs
          icases Hj with ⟨%g, %hg, Hs⟩
          iexists g; isplitr; swap; · iexact Hs
          ipureintro; exact fun _ => hg
        isplitl [Hc Hh Hl Hf Hl' Hr']
        · isplitl [Hc]; · iexact Hc
          isplitl [Hh Hl]
          · iapply (all_splitN c W (slotOf t.val) (chunkOf t.val)).2
            isplitl [Hh]; · iexact Hh
            iexact Hl
          isplitl [Hf]; · iexists _; iexact Hf
          isplitl [Hl']; · iexact Hl'
          iexists _; iexact Hr'
        iexact HW
  · have hl' : ¬ t.val < 168 := hl
    have h := wait_idle (F := F) c (grid0.coords t) arg2 harg2 arg5 harg5 (by omega) B K
    unfold ringP; rw [if_neg h0, if_neg hl, if_neg (show ¬ t.val + 1 < lastK by show ¬ _ < 168; omega)]
    unfold freeP
    iintro ⟨⟨%fw, %hw, Hwb⟩, ⟨⟨Hc, ⟨%g, Hs⟩, Ha⟩, Hfr⟩, HW, Hk⟩
    iapply h
    isplitl [HW]; · iexact HW
    iintro HW
    iapply Hk
    isplitl [Hwb]
    · iexists fw; isplitr; · ipureintro; exact hw (by omega)
      iexact Hwb
    isplitl [Hs]
    · iexists g; isplitr; · ipureintro; exact fun h => absurd h hl
      iexact Hs
    isplitl [Hc Ha Hfr]
    · isplitl [Hc]; · iexact Hc
      isplitl [Ha]; · iexact Ha
      iexact Hfr
    iexact HW

end Cert.Kernel2Ideal.Gate

end
-- ==== Proof.GateProduct.lean ====
module

public import proofs.«01_k».proof.Proof.GateFill
public import proofs.«01_k».proof.Proof.GateWait
public import Idealize.ShloMosaic.Lib.VecWindow
public import Idealize.ShloMosaic.Lib.WritesUnit
public import Idealize.ShloMosaic.Lib.Pipeline.Value
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The product -/

/-- The slot that a point narrows, by its parity. -/
def colSlot (i : grid0.Coords) : Fin 2 := ⟨(i 1).val % 2, Nat.mod_lt _ (by decide)⟩
theorem off33_eq : ∀ i : grid0.Coords, k0_off33 i = ![(colSlot i).val, 0, 0] := by decide +kernel
instance (priority := high) closed33 (i : grid0.Coords) : ClosedOff (k0_off33 i) := ⟨![(colSlot i).val, 0, 0], off33_eq i⟩
theorem off37_eq : ∀ i : grid0.Coords, k0_off37 i = ![(colSlot i).val, 0, 0] := by decide +kernel
instance (priority := high) closed37 (i : grid0.Coords) : ClosedOff (k0_off37 i) := ⟨![(colSlot i).val, 0, 0], off37_eq i⟩
theorem off34_eq : ∀ i : grid0.Coords, k0_off34 i = ![((i 0).val + 1) % 2, (i 1).val / 4, 1024 * ((i 1).val % 4), 0] := by decide +kernel
instance (priority := high) closed34 (i : grid0.Coords) : ClosedOff (k0_off34 i) := ⟨![((i 0).val + 1) % 2, (i 1).val / 4, 1024 * ((i 1).val % 4), 0], off34_eq i⟩
theorem off38_eq : ∀ i : grid0.Coords, k0_off38 i = ![((i 0).val + 1) % 2, (i 1).val / 4, 1024 * ((i 1).val % 4), 0] := by decide +kernel
instance (priority := high) closed38 (i : grid0.Coords) : ClosedOff (k0_off38 i) := ⟨![((i 0).val + 1) % 2, (i 1).val / 4, 1024 * ((i 1).val % 4), 0], off38_eq i⟩
theorem off35_eq : ∀ i : grid0.Coords, k0_off35 i = ![(i 0).val % 2, 0, 0, 0] := by decide +kernel
instance (priority := high) closed35 (i : grid0.Coords) : ClosedOff (k0_off35 i) := ⟨![(i 0).val % 2, 0, 0, 0], off35_eq i⟩
theorem off36_eq : ∀ i : grid0.Coords, k0_off36 i = ![(i 0).val % 2, 1, 0, 0] := by decide +kernel
instance (priority := high) closed36 (i : grid0.Coords) : ClosedOff (k0_off36 i) := ⟨![(i 0).val % 2, 1, 0, 0], off36_eq i⟩
theorem off39_eq : ∀ i : grid0.Coords, k0_off39 i = ![(i 0).val % 2, 0, 0, 0] := by decide +kernel
instance (priority := high) closed39 (i : grid0.Coords) : ClosedOff (k0_off39 i) := ⟨![(i 0).val % 2, 0, 0, 0], off39_eq i⟩
theorem off40_eq : ∀ i : grid0.Coords, k0_off40 i = ![(i 0).val % 2, 1, 0, 0] := by decide +kernel
instance (priority := high) closed40 (i : grid0.Coords) : ClosedOff (k0_off40 i) := ⟨![(i 0).val % 2, 1, 0, 0], off40_eq i⟩

/-- The weight under row `k` and column `q` of tile `n`, narrowed to bf16: of the gate for `false`, of the other
    product for `true`. -/
def partAt {c : Dev nD} (W : Weights (F := F) c) (n : ℕ) (b : Bool) (k q : ℕ) : Elt F .bf16 :=
  FloatOps.truncf .bf16 bitsLt_bf16_f32 ((srcM b).view.read (Elt F) (W (srcM b).view.ref) fun a =>
    ⟨(![0, 1, k % 4096, (512 * n + q) % 11008] : Fin 4 → ℕ) a, by
      have h2 := Nat.mod_lt k (show 0 < 4096 by decide)
      have h3 := Nat.mod_lt (512 * n + q) (show 0 < 11008 by decide)
      fin_cases a <;> simp <;> omega⟩)

/-- Tile `n` of one of the two weights, 512 columns wide, -/
def wideOf {c : Dev nD} (W : Weights (F := F) c) (n : ℕ) (b : Bool) : S1x1x4096x512.Idx → Elt F .bf16 := fun y => partAt W n b (y 2).val (y 3).val
/-- and its first 256 columns. -/
def narrowOf {c : Dev nD} (W : Weights (F := F) c) (n : ℕ) (b : Bool) : S1x1x4096x256.Idx → Elt F .bf16 := fun y => partAt W n b (y 2).val (y 3).val

/-- What a resident tile reads as, in terms of rows and columns of the weights. -/
theorem narrowAt_part {c : Dev nD} (W : Weights (F := F) c) (n : ℕ) (b : Bool) (y : S2x2x4096x512.Idx) (hb : (y 1).val = b.toNat) :
    narrowAt W n y = partAt W n b (y 2).val (y 3).val := by
  have h2 : (y 2).val < 4096 := (y 2).isLt
  obtain rfl : b = decide (1 ≤ (y 1).val) := by cases b <;> simp [hb]
  unfold narrowAt partAt
  refine congrArg (FloatOps.truncf .bf16 bitsLt_bf16_f32) (congrArg (View.read (Elt F) _ _) (funext fun a => Fin.ext ?_))
  fin_cases a <;> simp [srcIdx, Nat.mod_eq_of_lt h2]

/-- A load of a half that holds wide tile `n` is the tile, -/
theorem load_wide {c : Dev nD} (W : Weights (F := F) c) (n : ℕ) (hn : n < 21) (f : Cont (F := F) c wbM) (hf : Filled W n 8 f) (b : Bool)
    (off : Fin 4 → ℕ) (inb : ∀ a, off a + S1x1x4096x512.size a ≤ S2x2x4096x512.size a) (ho : off = ![n % 2, b.toNat, 0, 0]) :
    wbM.view.readAt (Elt F) (Rect.unit (s := S2x2x4096x512) off S1x1x4096x512.size inb).toLoadRect f = wideOf W n b := by
  subst ho
  funext y
  have h0 : (y 0).val < 1 := (y 0).isLt
  have h1 : (y 1).val < 1 := (y 1).isLt
  have h2 : (y 2).val < 4096 := (y 2).isLt
  have h3 : (y 3).val < 512 := (y 3).isLt
  have hb : b.toNat ≤ 1 := b.toNat_le
  refine (hf _ ?_ ?_ ?_).trans ((narrowAt_part W n b _ ?_).trans ?_)
  · simp [LoadRect.idx, Rect.unit]; omega
  · simp [LoadRect.idx, Rect.unit]; omega
  · simp [LoadRect.idx, Rect.unit]; omega
  · simp [LoadRect.idx, Rect.unit]; omega
  · simp [LoadRect.idx, Rect.unit, wideOf]

/-- and a load of 256 columns of the half that holds the narrow one is that one. -/
theorem load_narrow {c : Dev nD} (W : Weights (F := F) c) (n : ℕ) (hn : n = 21) (f : Cont (F := F) c wbM) (hf : Filled W n 8 f) (b : Bool)
    (off : Fin 4 → ℕ) (inb : ∀ a, off a + S1x1x4096x256.size a ≤ S2x2x4096x512.size a) (ho : off = ![n % 2, b.toNat, 0, 0]) :
    wbM.view.readAt (Elt F) (Rect.unit (s := S2x2x4096x512) off S1x1x4096x256.size inb).toLoadRect f = narrowOf W n b := by
  subst ho
  funext y
  have h0 : (y 0).val < 1 := (y 0).isLt
  have h1 : (y 1).val < 1 := (y 1).isLt
  have h2 : (y 2).val < 4096 := (y 2).isLt
  have h3 : (y 3).val < 256 := (y 3).isLt
  have hb : b.toNat ≤ 1 := b.toNat_le
  refine (hf _ ?_ ?_ ?_).trans ((narrowAt_part W n b _ ?_).trans ?_)
  · simp [LoadRect.idx, Rect.unit]; omega
  · simp [LoadRect.idx, Rect.unit]; omega
  · simp [LoadRect.idx, Rect.unit]; omega
  · simp [LoadRect.idx, Rect.unit]; omega
  · simp [LoadRect.idx, Rect.unit, narrowOf]

/-- The element of a 256-column block under an element of a 512-column one. -/
def narrowIdx (y : S1024x512.Idx) : S1024x256.Idx := fun a =>
  ⟨(![(y 0).val, (y 1).val % 256] : Fin 2 → ℕ) a, by
    have h0 : (y 0).val < 1024 := (y 0).isLt
    have h1 := Nat.mod_lt (y 1).val (show 0 < 256 by decide)
    fin_cases a <;> simp <;> omega⟩

/-- The block that a point of tile `n` stores, in the columns that the result has. -/
def outOf {c : Dev nD} (W : Weights (F := F) c) (n : ℕ) (a : S1024x4096.Idx → Elt F .bf16) : S1024x512.Idx → Elt F .bf16 := fun y =>
  if n = 21 then k0_pay4 a (narrowOf W n false) a (narrowOf W n true) (narrowIdx y) else k0_pay2 a (wideOf W n false) a (wideOf W n true) y

set_option maxHeartbeats 4000000 in
/-- The product of a point: it narrows what the point's slot holds into the next tile's half, and stores the gated
    product of the block of rows and the tile that lies in the half of the present one. -/
theorem product_run (c : Dev nD) (i : grid0.Coords) (arg2 : Memref sig .tc .vmem S1024x4096 .bf16) (harg2 : arg2.IsWhole) (arg5 : Memref sig .tc .vmem S1024x512 .bf16) (harg5 : arg5.IsWhole)
    (W : Weights (F := F) c) (a : S1024x4096.Idx → Elt F .bf16) (fw : Cont (F := F) c wbM) (hfw : Filled W (i 0).val 8 fw)
    (s : Fin 2) (hs : s.val = (i 1).val % 2) (g : Cont (F := F) c stM) (B : Waits sig Unit) (K : PUnit → sProp 𝕄) :
    iprop(owns (c : Thread nD τ) arg2 fullShare a ∗ (∃ o, owns (c : Thread nD τ) arg5 fullShare o) ∗ (wbM.view.loc (c : Thread nD τ) ↦{fullShare} fw) ∗ slotP c s g ∗ owes (c : Thread nD τ) 0 B
        ∗ (iprop(owns (c : Thread nD τ) arg2 fullShare a
            ∗ (∃ X, ⌜∀ y : S1024x512.Idx, 512 * (i 0).val + (y 1).val < 11008 → X y = outOf W (i 0).val a y⌝ ∗ owns (c : Thread nD τ) arg5 fullShare X)
            ∗ (∃ f, ⌜Filled W (i 0).val 8 f ∧ ∀ x : Fin 8, (i 1).val = x.val → Filled W ((i 0).val + 1) x.val fw → Holds W ((i 0).val + 1) x s g → Filled W ((i 0).val + 1) (x.val + 1) f⌝
                ∗ (wbM.view.loc (c : Thread nD τ) ↦{fullShare} f))
            ∗ slotP c s g ∗ owes (c : Thread nD τ) 0 B) -∗ K ⟨⟩))
      ⊢ wp frame (wpE (defs₀ (F := F)) Variants.none c none) Set.univ (productOf i arg2 harg2 arg5 harg5) K := by
  obtain rfl : s = colSlot i := Fin.ext hs
  have hb : (i 0).val < 22 := (i 0).isLt
  rcases Nat.lt_or_ge (i 0).val 21 with hi | hi
  · have h20 : k0_cond20 i = 1#1 := (wideCond_iff i).mpr hi
    have h21 : ¬ k0_cond21 i = 1#1 := fun h => by have := (lastCond_iff i).mp h; omega
    unfold owns
    iintro ⟨⟨%fa, %ha, Ha⟩, ⟨%o, %fo, -, Ho⟩, Hwb, Hst, HW, Hk⟩
    unfold productOf product
    sl_exec
    sl_step
    iapply Hk
    isplitl [Ha]
    · iexists fa; isplitr; · ipureintro; exact ha
      iexact Ha
    have hkeep := filled_keep W (i 0).val 8 fw [] hfw (k0_off34 i) (k0_off34_inb i ‹_›) _ _ (off34_eq i)
    isplitl [Ho]
    · iexists _; isplitr; swap
      · iexists _; isplitr; swap; · iexact Ho
        ipureintro; rfl
      ipureintro
      intro y hy
      refine (View.read_writes_cons_unit_of_mem (size := S1024x512.size) arg5.view fo _ _ [] y y rfl fun a => by fin_cases a <;> simp).trans ?_
      refine Eq.trans ?_ (if_neg (fun h => by omega)).symm
      exact congrFun (congr (congr (congr (congrArg (k0_pay2 (F := F)) ((View.readAt_full arg2.view fa _).trans ha)) (load_wide W (i 0).val hi _ (hkeep _) false _ _ (off35_eq i))) ((View.readAt_full arg2.view fa _).trans ha)) (load_wide W (i 0).val hi _ (hkeep _) true _ _ (off36_eq i))) y
    isplitl [Hwb]
    · iexists _; isplitr; swap; · iexact Hwb
      ipureintro
      refine ⟨hkeep _, fun x hx h1 h2 => ?_⟩
      refine filled_next W _ _ fw [] h1 _ _ ((off34_eq i).trans (by rw [hx])) _ fun j y e2 e3 e4 => holds_pay W _ x (colSlot i) g h2 _ _ (off33_eq i) j y e2 e3 e4
    isplitl [Hst]; · iexact Hst
    iexact HW
  · have hl : (i 0).val = 21 := by omega
    have h20 : ¬ k0_cond20 i = 1#1 := fun h => by have := (wideCond_iff i).mp h; omega
    have h21 : k0_cond21 i = 1#1 := (lastCond_iff i).mpr hl
    unfold owns
    iintro ⟨⟨%fa, %ha, Ha⟩, ⟨%o, %fo, -, Ho⟩, Hwb, Hst, HW, Hk⟩
    unfold productOf product
    sl_exec
    sl_step
    iapply Hk
    isplitl [Ha]
    · iexists fa; isplitr; · ipureintro; exact ha
      iexact Ha
    have hkeep := filled_keep W (i 0).val 8 fw [] hfw (k0_off38 i) (k0_off38_inb i ‹_›) _ _ (off38_eq i)
    isplitl [Ho]
    · iexists _; isplitr; swap
      · iexists _; isplitr; swap; · iexact Ho
        ipureintro; rfl
      ipureintro
      intro y hy
      have hy1 : (y 1).val < 256 := by omega
      refine (View.read_writes_cons_unit_of_mem (size := S1024x256.size) arg5.view fo _ _ [] y (narrowIdx y) rfl fun a => by fin_cases a <;> simp [narrowIdx, Nat.mod_eq_of_lt hy1]).trans ?_
      refine Eq.trans ?_ (if_pos (show (i 0).val = 21 by omega)).symm
      exact congrFun (congr (congr (congr (congrArg (k0_pay4 (F := F)) ((View.readAt_full arg2.view fa _).trans ha)) (load_narrow W (i 0).val hl _ (hkeep _) false _ _ (off39_eq i))) ((View.readAt_full arg2.view fa _).trans ha)) (load_narrow W (i 0).val hl _ (hkeep _) true _ _ (off40_eq i))) (narrowIdx y)
    isplitl [Hwb]
    · iexists _; isplitr; swap; · iexact Hwb
      ipureintro
      refine ⟨hkeep _, fun x hx h1 h2 => ?_⟩
      refine filled_next W _ _ fw [] h1 _ _ ((off38_eq i).trans (by rw [hx])) _ fun j y e2 e3 e4 => holds_pay W _ x (colSlot i) g h2 _ _ (off37_eq i) j y e2 e3 e4
    isplitl [Hst]; · iexact Hst
    iexact HW

end Cert.Kernel2Ideal.Gate

end
-- ==== Proof.GateRun.lean ====
module

public import proofs.«01_k».proof.Proof.GateRing
public import proofs.«01_k».proof.Proof.GateProduct
public import Idealize.ShloMosaic.Lib.Claim
public import Idealize.ShloMosaic.Lib.Pipeline.FrameBody
public import Idealize.ShloMosaic.Lib.Ring
public import Idealize.ShloMosaic.Lib.Tactic

@[expose] public section

set_option maxRecDepth 16384

noncomputable section

namespace Cert.Kernel2Ideal.Gate

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's set-up -/

/-- Core `c`'s buffers as launched: the program is one region alone. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The weights, which no window stages. -/
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄) = iprop((gM.view.loc (c : Thread nD τ) ↦{fullShare} V m c main_arg1) ∗ (uM.view.loc (c : Thread nD τ) ↦{fullShare} V m c main_arg2)) := by
  rw [BI.bigSep_eq_bigSepL_of_eq [main_arg1, main_arg2] (by decide) (by decide)]; rfl
theorem PhiD0_eq (c : Dev nD) :
    (Pipeline.ΦD osem0 spec0 H0 (V m) c : sProp 𝕄)
      = iprop(((∃ f : Cont (F := F) c wbM, wbM.view.loc (c : Thread nD τ) ↦{fullShare} f) ∗ (∃ f : Cont (F := F) c stM, stM.view.loc (c : Thread nD τ) ↦{fullShare} f))
        ∗ (∃ r, prngReg c r) ∗ (cellP c 0 ∗ cellP c 1) ∗ (gM.view.loc (c : Thread nD τ) ↦{fullShare} V m c main_arg1) ∗ (uM.view.loc (c : Thread nD τ) ↦{fullShare} V m c main_arg2)) := by
  rw [Pipeline.ΦD_eq, scopedRest0_eq, ownSems00_eq, hbmPts0_eq, cellP, cellP, cellL_0, cellL_1]

/-! ## The invariant and the proof data -/

/-- Before point `k`: the generator at some state, the resident tiles filled as far as the points before have come, and
    the slots. -/
def inv (c : Dev nD) (k : ℕ) : sProp 𝕄 :=
  iprop((∃ r, prngReg c r)
    ∗ (∃ f : Cont (F := F) c wbM, ⌜1 ≤ k → k < 176 → Stored c (V m c) k f⌝ ∗ (wbM.view.loc (c : Thread nD τ) ↦{fullShare} f))
    ∗ ringP c (V m c) k)

/-- The block that point `t` leaves: the gated product of its block of rows and tile `t / 8` of the weights. -/
def outBlk (c : Dev nD) (t : Fin cfg0.N) : S1024x512.Idx → Elt F .bf16 :=
  outOf (c := c) (V m c) (t.val / 8) (iblk m c 0 t)

/-- The proof data: the rows' window keeps its block, the result's window gets the product. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outBlk m c t
  Φ t := inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = outBlk m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]

/-! ## The body at a point -/

abbrev ms0 (t : Fin cfg0.N) : Memref sig .tc .vmem S1024x4096 .bf16 := win0_0.stage (cfg0.slots t 0)
abbrev ms1 (t : Fin cfg0.N) : Memref sig .tc .vmem S1024x512 .bf16 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
/-- What the body leaves: the result's buffer as its block in the columns that the result has. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t)))))

/-- A block's part that is written back ends where the result does. -/
theorem cut_end : ∀ t : Fin grid0.N, 512 * (t.val / 8) + win0_1.xsize (grid0.coords t) (1 : Fin 2) ≤ 11008 := by decide +kernel
/-- Every point stores into the result's buffer. -/
theorem live : ∀ t : Fin grid0.N, idle0 1 (grid0.coords t) = false := by decide +kernel

/-- Contents that are the block in the columns that the result has are all that the point owes. -/
theorem fill_of (c : Dev nD) (t : Fin cfg0.N) (X : S1024x512.Idx → Elt F .bf16)
    (hX : ∀ y : S1024x512.Idx, 512 * (t.val / 8) + (y 1).val < 11008 → X y = outBlk m c t y) :
    win0_1.fill (grid0.coords t) X (win0_1.cut (grid0.coords t) (outBlk m c t)) = X := by
  have e : win0_1.cut (grid0.coords t) (outBlk m c t) = win0_1.cut (grid0.coords t) X := funext fun j => by
    refine (hX _ ?_).symm
    have h : (j (1 : Fin 2)).val < win0_1.xsize (grid0.coords t) (1 : Fin 2) := (j (1 : Fin 2)).isLt
    have h' := cut_end t
    show 512 * (t.val / 8) + (j (1 : Fin 2)).val < 11008
    omega
  rw [e]; exact win0_1.fill_cut _ _

set_option maxHeartbeats 4000000 in
/-- The body at any point: its transfers, then its product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [inv_castSucc m c t, inv_succ m c t]
  unfold Dat.owesAt Pipeline.owesWithin
  rw [show (dats m 0 c).owed t.castSucc = 0 from rfl, show (dats m 0 c).owed t.succ = 0 from rfl]
  simp only [before0]
  rw [after0, after1]
  have hN : t.val < 176 := lt_of_lt_of_eq t.isLt N_0
  obtain ⟨e0, e1⟩ := coords_eq t
  have hT := transfers_step (F := F) c t (ms0 t) (hstage0_0 ((cfg0.slots t 0).cast nbuf0_0)) (ms1 t) (hstage0_1 ((cfg0.slots t 1).cast nbuf0_1)) (V m c)
  have hP := product_run (F := F) c (grid0.coords t) (ms0 t) (hstage0_0 ((cfg0.slots t 0).cast nbuf0_0)) (ms1 t) (hstage0_1 ((cfg0.slots t 1).cast nbuf0_1)) (V m c) (iblk m c 0 t)
  rw [e0] at hP
  unfold inv
  iintro ⟨⟨Hg, ⟨%f, %hf, Hwb⟩, Hr⟩, ⟨%B, -, HW⟩, ⟨%d0, H0⟩, ⟨%d1, H1⟩⟩
  iapply (hT B _)
  isplitl [Hwb]
  · iexists f; isplitr; · ipureintro; exact fun h => hf h hN
    iexact Hwb
  isplitl [Hr]; · iexact Hr
  isplitl [HW]; · iexact HW
  iintro ⟨⟨%f', %hf', Hwb⟩, ⟨%g, %hg, Hs⟩, Hr, ⟨%B', HW⟩⟩
  iapply (hP f' hf'.1 (slotOf t.val) (by rw [e1]; show t.val % 2 = t.val % 8 % 2; omega) g B' _)
  isplitl [H0]; · iexact H0
  isplitl [H1]; · iexists _; iexact H1
  isplitl [Hwb]; · iexact Hwb
  isplitl [Hs]; · iexact Hs
  isplitl [HW]; · iexact HW
  iintro ⟨H0, ⟨%X, %hX, H1⟩, ⟨%f'', %hf'', Hwb⟩, Hs, HW⟩
  isplitl [Hg Hwb Hs Hr]
  · isplitl [Hg]; · iexact Hg
    isplitl [Hwb]
    · iexists f''; isplitr; swap; · iexact Hwb
      ipureintro
      intro _ hk
      exact stored_next c _ t.val hk f'' hf''.1 fun hl => hf''.2 (chunkOf t.val) (by rw [e1]) (hf'.2 hl) (hg hl)
    iapply (ring_next c (V m c) t.val)
    isplitl [Hs]; · iexists g; iexact Hs
    iexact Hr
  isplitl [HW]
  · iexists B'; isplitr; · ipureintro; exact fun _ _ => Or.inl trivial
    iexact HW
  isplitl [H0]; · iexact H0
  iexists X
  rw [fill_of m c t X hX]
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  refine (sound_body m c t).trans (wp_mono _ _ _ fun _ => sep_mono .rfl (sep_mono .rfl (sep_mono .rfl ?_)))
  show _ ⊢ (dats m 0 c).leaves 1 t
  unfold Dat.leaves
  rw [show cfg0.idle 1 (cfg0.grid.coords t) = false from live t]
  exact .rfl

/-! ## The launch -/

/-- What the launch hands the region is the invariant before the first point, -/
theorem hin (c : Dev nD) : Pipeline.ΦD osem0 spec0 H0 (V m) c ⊢ (dats m 0 c).Φ 0 := by
  rw [PhiD0_eq, show (dats m 0 c).Φ 0 = inv m c 0 from rfl]
  unfold inv ringP
  rw [if_pos rfl]
  iintro ⟨⟨⟨%f, Hwb⟩, Hst⟩, Hg, ⟨Hc0, Hc1⟩, HWs⟩
  isplitl [Hg]; · iexact Hg
  isplitl [Hwb]
  · iexists f; isplitr; · ipureintro; exact fun h => absurd h (by omega)
    iexact Hwb
  isplitl [HWs]; · iexact HWs
  isplitl [Hst]; · iexact Hst
  isplitl [Hc0]; · iexact Hc0
  iexact Hc1

/-- and the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = inv m c grid0.N from rfl, show grid0.N = 176 from N_0]
  unfold inv ringP
  rw [if_neg (by decide), if_neg (by decide), show slotOf 176 = 0 from rfl, show slotOf (176 + 1) = 1 from rfl]
  unfold freeP
  iintro ⟨Hg, ⟨%f, -, Hwb⟩, ⟨Hc0, Hs0, Ha0⟩, ⟨Hc1, Hs1, Ha1⟩⟩
  isplitl [Hwb Hs0 Hs1]
  · isplitl [Hwb]; · iexists f; iexact Hwb
    iapply (Ring.slots2_join (U := Pipeline.UD sig nD τ) (ℓ := (c : Thread nD τ).loc cc0_scratch1) (q := fullShare) slotSet slots_disjoint slots_cover
      (slotP c 0) (slotP c 1) (slotP_eq c 0) (slotP_eq c 1))
    isplitl [Hs0]; · iexact Hs0
    iexact Hs1
  isplitl [Hg]; · iexact Hg
  isplitl [Hc0 Hc1]
  · isplitl [Hc0]; · iexact Hc0
    iexact Hc1
  iapply (shares_split c (V m c)).2
  isplitl [Ha0]; · iexact Ha0
  iexact Ha1

set_option backward.isDefEq.respectTransparency.types false in
/-- The run: the result's array ends as the blocks say, the other arrays as launched, and every counter at zero. -/
theorem run_full : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := body_obligation m) (hshare := fun c => (dats m 0 c).share_full fun _ => rfl)
    (howed := fun _ _ => rfl) (V := V m) (hmain := hmain m Variants.none) (hA := A_eq m) (hin := hin m) (hout := hout m)

/-- What the run leaves: the result's array, the arguments, the counters. -/
theorem run_post : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 1,
      ((h.1 c).1 0).trans (((dats m 0 c).arrAt_in 0 rfl _).trans (A_eq m c 0)),
      (h.1 c).2 main_arg1 (Pipeline.mem_restRefs_of main_arg1 (by decide) (by decide)),
      (h.1 c).2 main_arg2 (Pipeline.mem_restRefs_of main_arg2 (by decide) (by decide))⟩, h.2⟩) (run_full m ρ)

/-- The frame: the run ends, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_post m ρ)

end Cert.Kernel2Ideal.Gate

end
-- ==== Proof.GateValue.lean ====
/- The down projection's two programs at the extended reals, the result read at an index, and the claims about it. -/
module

public import proofs.«01_k».proof.Defs
public import proofs.«01_k».proof.Proof.GateRun
public import proofs.«01_k».proof.Proof.Gen.Kernel2.Launch
public import proofs.«01_k».proof.Proof.Gen.Reference2Ideal.Run
public import Idealize.ShloMosaic.Lib.Pipeline.ValueKit
public import Idealize.ShloMosaic.Lib.Claim

@[expose] public section

set_option maxRecDepth 16384

noncomputable section

namespace Cert.Kernel2Ideal.Gate

open Idealize.ShloMosaic Idealize.ShloMosaic.TcCoe Idealize.SL.Sem
open Idealize.ShloMosaic.Pipeline (Dat)
open Cert.Kernel2Ideal Cert.Kernel2Ideal.Gen

/-! ## The gate -/

/-- One half, as the kernel spells it. -/
def half : EReal := Ideal.ofBits .f32 0x3F000000#32

theorem half_eq : half = ((1 / 2 : ℝ) : EReal) := by
  simp [half, Ideal.ofBits, Ideal.ieee, -EReal.coe_mul]; norm_num

/-- On the reals: half of one plus the hyperbolic tangent of half the argument is the logistic function. -/
theorem logistic_real (r : ℝ) : 1 / 2 * Real.tanh (1 / 2 * r) + 1 / 2 = (1 + Real.exp (-r))⁻¹ := by
  have h1 : 0 < Real.exp (1 / 2 * r) := Real.exp_pos _
  have e : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, Real.exp_neg (1 / 2 * r), e]
  field_simp
  ring

/-- The same on the extended reals: the two spellings of the gate agree, at the infinities too. -/
theorem logistic_eq (g : EReal) : half * Ideal.tanh (half * g) + half = Ideal.div 1 (1 + Ideal.exp (-g)) := by
  rw [half_eq]
  induction g with
  | bot =>
    rw [EReal.coe_mul_bot_of_pos (by norm_num), EReal.neg_bot]
    show ((1 / 2 : ℝ) : EReal) * (-1) + ((1 / 2 : ℝ) : EReal) = Ideal.div 1 (1 + ⊤)
    rw [show ((1 : EReal) + ⊤) = ⊤ from EReal.add_top_of_ne_bot (by decide)]
    unfold Ideal.div
    rw [if_neg (by decide), EReal.inv_top, mul_zero, mul_neg, mul_one, ← EReal.coe_neg, ← EReal.coe_add]
    norm_num
  | coe r =>
    have h : Ideal.div 1 (1 + Ideal.exp (-(r : EReal))) = (((1 + Real.exp (-r))⁻¹ : ℝ) : EReal) := by
      have hp : 0 < 1 + Real.exp (-r) := by have := Real.exp_pos (-r); linarith
      rw [← EReal.coe_neg]
      show Ideal.div 1 (1 + ((Real.exp (-r) : ℝ) : EReal)) = _
      rw [← EReal.coe_one, ← EReal.coe_add]
      unfold Ideal.div
      rw [if_neg (by exact_mod_cast hp.ne'), EReal.coe_one, one_mul, ← EReal.coe_inv]
    rw [h, ← EReal.coe_mul]
    show ((1 / 2 : ℝ) : EReal) * ((Real.tanh (1 / 2 * r) : ℝ) : EReal) + _ = _
    rw [← EReal.coe_mul, ← EReal.coe_add, logistic_real]
  | top =>
    rw [EReal.coe_mul_top_of_pos (by norm_num), EReal.neg_top]
    show ((1 / 2 : ℝ) : EReal) * 1 + ((1 / 2 : ℝ) : EReal) = Ideal.div 1 (1 + 0)
    unfold Ideal.div
    rw [add_zero, if_neg one_ne_zero, inv_one, mul_one, mul_one, ← EReal.coe_add]
    norm_num

/-! ## The result at an index -/

/-- A row of the activations times a column of a weight. -/
def dotAt (a : FVec Ideal S8192x4096 .bf16) (w : FVec Ideal S1x2x4096x11008 .f32) (i : Fin 8192) (j : Fin 11008) : EReal :=
  ∑ k : Fin 4096, a (ix2 i k) * w (ix4 0 1 k j)
/-- The gated product of two such, as the reference spells it, -/
def gated (g u : EReal) : EReal := g * Ideal.div 1 (1 + Ideal.exp (-g)) * u
/-- and as the kernel does. -/
theorem gated_eq (g u : EReal) : g * (half * Ideal.tanh (half * g) + half) * u = gated g u := by rw [logistic_eq]; rfl

/-- The kernel's block of a wide tile, at an index, -/
theorem wide_at (a : FVec Ideal S1024x4096 .bf16) (b d : FVec Ideal S1x1x4096x512 .bf16) (r : Fin 1024) (q : Fin 512) :
    k0_pay2 (F := Ideal) a b a d (ix2 r q) = gated (∑ k : Fin 4096, a (ix2 r k) * b (ix4 0 0 k q)) (∑ k : Fin 4096, a (ix2 r k) * d (ix4 0 0 k q)) := by
  rw [← gated_eq]
  unfold half
  pointwise [k0_pay2]

/-- and its block of the narrow one. -/
theorem narrow_at (a : FVec Ideal S1024x4096 .bf16) (b d : FVec Ideal S1x1x4096x256 .bf16) (r : Fin 1024) (q : Fin 256) :
    k0_pay4 (F := Ideal) a b a d (ix2 r q) = gated (∑ k : Fin 4096, a (ix2 r k) * b (ix4 0 0 k q)) (∑ k : Fin 4096, a (ix2 r k) * d (ix4 0 0 k q)) := by
  rw [← gated_eq]
  unfold half
  pointwise [k0_pay4]

/-- A column of a tile is a column of the weights. -/
theorem part_at (c : Dev nD) (W : Weights (F := Ideal) c) (n : ℕ) (k : Fin 4096) (q : ℕ) (j : Fin 11008) (hj : (j : ℕ) = 512 * n + q) :
    partAt W n false k q = W main_arg1 (ix4 0 1 k j) ∧ partAt W n true k q = W main_arg2 (ix4 0 1 k j) := by
  have hk : (k : ℕ) < 4096 := k.isLt
  have hj' : (j : ℕ) < 11008 := j.isLt
  constructor
  · refine congrArg (W main_arg1) (funext fun a => Fin.ext ?_)
    show (![0, 1, (k : ℕ) % 4096, (512 * n + q) % 11008] : Fin 4 → ℕ) a = _
    fin_cases a <;> simp <;> omega
  · refine congrArg (W main_arg2) (funext fun a => Fin.ext ?_)
    show (![0, 1, (k : ℕ) % 4096, (512 * n + q) % 11008] : Fin 4 → ℕ) a = _
    fin_cases a <;> simp <;> omega

/-- The block that a point stores, at an index of a column that the result has. -/
theorem out_at (c : Dev nD) (W : Weights (F := Ideal) c) (n : ℕ) (a : FVec Ideal S1024x4096 .bf16) (r : Fin 1024) (q : Fin 512) (j : Fin 11008) (hj : (j : ℕ) = 512 * n + q) :
    outOf W n a (ix2 r q) = gated (∑ k : Fin 4096, a (ix2 r k) * W main_arg1 (ix4 0 1 k j)) (∑ k : Fin 4096, a (ix2 r k) * W main_arg2 (ix4 0 1 k j)) := by
  unfold outOf
  split
  · rename_i hn
    have hj' : (j : ℕ) < 11008 := j.isLt
    obtain ⟨p, hp⟩ : ∃ p : Fin 256, (p : ℕ) = q := ⟨⟨q, by omega⟩, rfl⟩
    have e : narrowIdx (ix2 r q) = (ix2 r p : S1024x256.Idx) := funext fun b => Fin.ext (by
      have := p.isLt
      fin_cases b <;> simp [narrowIdx] <;> omega)
    rw [e]
    refine (narrow_at _ _ _ r p).trans (congrArg₂ gated ?_ ?_)
    · exact Finset.sum_congr rfl fun k _ => congrArg₂ (· * ·) rfl (part_at c W n k p j (by omega)).1
    · exact Finset.sum_congr rfl fun k _ => congrArg₂ (· * ·) rfl (part_at c W n k p j (by omega)).2
  · refine (wide_at _ _ _ r q).trans (congrArg₂ gated ?_ ?_)
    · exact Finset.sum_congr rfl fun k _ => congrArg₂ (· * ·) rfl (part_at c W n k q j hj).1
    · exact Finset.sum_congr rfl fun k _ => congrArg₂ (· * ·) rfl (part_at c W n k q j hj).2

/-- The reference's term at an index. -/
theorem ref_at (a : FVec Ideal S8192x4096 .bf16) (g u : FVec Ideal S1x2x4096x11008 .f32) (i : Fin 8192) (j : Fin 11008) :
    (truncf (F := Ideal) .bf16 (mulf (mulf (Host.dotGeneral (F := Ideal) Cert.Reference2Ideal.dot_S8192x4096_S4096x11008_S8192x11008_1_0_0_1_n_n none (extf (F := Ideal) .f32 a Cert.Reference2Ideal.Gen.bitsLt_bf16_f32) (shapeCast _ (extractStridedSlice Cert.Reference2Ideal.S1x1x4096x11008 ![0, 1, 0, 0] g Cert.Reference2Ideal.Gen.slices_S1x2x4096x11008_S1x1x4096x11008_0_1_0_0) Cert.Reference2Ideal.Gen.shapeCasts_S1x1x4096x11008_S4096x11008)) (Host.divf (broadcastInDim Cert.Reference2Ideal.S8192x11008 ![] Cert.Reference2Ideal.Gen.bcast_S_S8192x11008 (constant Cert.Reference2Ideal.S_ .f32 0x3F800000#32)) (addf (broadcastInDim Cert.Reference2Ideal.S8192x11008 ![] Cert.Reference2Ideal.Gen.bcast_S_S8192x11008 (constant Cert.Reference2Ideal.S_ .f32 0x3F800000#32)) (Host.exp (Host.negf (Host.dotGeneral (F := Ideal) Cert.Reference2Ideal.dot_S8192x4096_S4096x11008_S8192x11008_1_0_0_1_n_n none (extf (F := Ideal) .f32 a Cert.Reference2Ideal.Gen.bitsLt_bf16_f32) (shapeCast _ (extractStridedSlice Cert.Reference2Ideal.S1x1x4096x11008 ![0, 1, 0, 0] g Cert.Reference2Ideal.Gen.slices_S1x2x4096x11008_S1x1x4096x11008_0_1_0_0) Cert.Reference2Ideal.Gen.shapeCasts_S1x1x4096x11008_S4096x11008))))))) (Host.dotGeneral (F := Ideal) Cert.Reference2Ideal.dot_S8192x4096_S4096x11008_S8192x11008_1_0_0_1_n_n none (extf (F := Ideal) .f32 a Cert.Reference2Ideal.Gen.bitsLt_bf16_f32) (shapeCast _ (extractStridedSlice Cert.Reference2Ideal.S1x1x4096x11008 ![0, 1, 0, 0] u Cert.Reference2Ideal.Gen.slices_S1x2x4096x11008_S1x1x4096x11008_0_1_0_0) Cert.Reference2Ideal.Gen.shapeCasts_S1x1x4096x11008_S4096x11008))) Cert.Reference2Ideal.Gen.bitsLt_bf16_f32 : FVec Ideal S8192x11008 .bf16) (ix2 i j) = gated (dotAt a g i j) (dotAt a u i j) := by
  unfold gated dotAt
  pointwise

variable (m : (ℓ : Loc nD τ sig) → Buf (Elt Ideal) ℓ)

/-- The windows' block indices at every grid point. -/
theorem idx : ∀ t : Fin cfg0.N, win0_0.index t = ![t.val % 8, 0] ∧ win0_1.index t = ![t.val % 8, t.val / 8] :=
  (by decide +kernel : ∀ t : Fin grid0.N, _)

/-- The result's array after the run is the reference's term of the arguments. -/
theorem final (c : Dev nD) (w : S8192x11008.Idx → EReal) (hw : ∀ i j, w (ix2 i j) = gated (dotAt (m ((c : Thread nD τ).loc main_arg0)) (m ((c : Thread nD τ).loc main_arg1)) i j)
      (dotAt (m ((c : Thread nD τ).loc main_arg0)) (m ((c : Thread nD τ).loc main_arg2)) i j)) :
    (dats m 0 c).arrAt 1 cfg0.N = w := by
  refine (dats m 0 c).arrAt_eq_of_covers 1 _ (by decide +kernel) fun t _ y => ?_
  show (dats m 0 c).after 1 t ((cfg0.win 1).xinj (grid0.coords t) y) = w (((cfg0.win 1).blk t).view.emb y)
  rw [after1]
  have ht : t.val < 176 := lt_of_lt_of_eq t.isLt N_0
  have z0 : (((cfg0.win 1).blk t).view.emb y 0 : ℕ) = t.val % 8 * 1024 + y 0 := by
    blk_simp [idx t] <;> try omega
  have z1 : (((cfg0.win 1).blk t).view.emb y 1 : ℕ) = t.val / 8 * 512 + y 1 := by
    blk_simp [idx t] <;> try omega
  have x0 := Pipeline.Window.xinj_val (cfg0.win 1) (grid0.coords t) y 0
  have x1 := Pipeline.Window.xinj_val (cfg0.win 1) (grid0.coords t) y 1
  generalize ((cfg0.win 1).blk t).view.emb y = z at z0 z1 ⊢
  generalize (cfg0.win 1).xinj (grid0.coords t) y = y' at x0 x1 ⊢
  obtain ⟨i, j, rfl⟩ : ∃ (i : Fin 8192) (j : Fin 11008), z = (ix2 i j : S8192x11008.Idx) := ⟨z 0, z 1, eq_ix2 z⟩
  obtain ⟨r, q, rfl⟩ : ∃ (r : Fin 1024) (q : Fin 512), y' = (ix2 r q : S1024x512.Idx) := ⟨y' 0, y' 1, eq_ix2 y'⟩
  replace z0 : (i : ℕ) = t.val % 8 * 1024 + r := z0.trans (congrArg (t.val % 8 * 1024 + ·) x0.symm)
  replace z1 : (j : ℕ) = t.val / 8 * 512 + q := z1.trans (congrArg (t.val / 8 * 512 + ·) x1.symm)
  rw [hw]
  unfold outBlk
  refine (out_at c _ _ _ r q j (by omega)).trans ?_
  unfold dotAt
  refine congrArg₂ gated ?_ ?_ <;> refine Finset.sum_congr rfl fun k _ => congrArg₂ (· * ·) ?_ rfl
  all_goals blk_ext [iblk, V, idx t]

/-! ## The claims -/

/-- The kernel as printed has the same text: its frame is the idealized one's, read over the words. -/
theorem kernel_frame : Cert.quiescent_Kernel2 := fun m g _ => cast (by sl_kernel_rfl) (frame (F := Bits) m g)

/-- The idealized kernel runs, keeps its arguments and leaves its counters at zero. -/
theorem ideal_frame : Cert.quiescent_Kernel2Ideal := fun m g _ => frame m g

/-- The reference runs, keeps its arguments and has no counters. -/
theorem reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The two programs leave equal results. -/
theorem equal : Cert.algebraic_Kernel2Ideal_Reference2Ideal := by
  pair_intro
  · run_from run_post m g
  · run_from Cert.Reference2Ideal.Value.run m' g'
    refine ((final m c _ fun i j => ?_).symm)
    exact ref_at _ _ _ i j

end Cert.Kernel2Ideal.Gate

end
-- ==== Proof.DownSetup.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers that the kernel addresses itself -/

/-- The two resident weight tiles, in bf16: tile `n` lies in half `n % 2`. -/
abbrev wbM : Memref sig .tc .vmem S2x1x11008x512 .bf16 := Memref.whole cc0_scratch0
/-- The two landing slots for chunks of the weights, in f32. -/
abbrev stM : Memref sig .tc .vmem S2x688x512 .f32 := Memref.whole cc0_scratch1
/-- The weights, left in HBM. -/
abbrev whM : Memref sig .tc .hbm S1x2x11008x4096 .f32 := Memref.whole main_arg1

theorem inb_slot (s : Fin 2) : ∀ a, (![s.val, 0, 0] : Fin 3 → Nat) a + S1x688x512.size a ≤ S2x688x512.size a := by
  have := s.isLt; intro a; fin_cases a <;> simp <;> omega
theorem inb_chunk (n : ℕ) (x : Fin 16) :
    ∀ a, (![0, 1, 688 * x.val, 512 * (n % 8)] : Fin 4 → Nat) a + S1x1x688x512.size a ≤ S1x2x11008x4096.size a := by
  have := x.isLt; have := Nat.mod_lt n (show 0 < 8 by decide); intro a; fin_cases a <;> simp <;> omega
theorem inb_cell (s : Fin 2) : ∀ a, (![s.val] : Fin 1 → Nat) a + S1.size a ≤ S2.size a := by
  have := s.isLt; intro a; fin_cases a <;> simp <;> omega

/-- Landing slot `s`. -/
def slotM (s : Fin 2) : Memref sig .tc .vmem S688x512 .f32 :=
  (stM.slice (Rect.unit (s := S2x688x512) ![s.val, 0, 0] S1x688x512.size (inb_slot s)) (fun _ => rfl)).squeeze S688x512 squeezes_S1x688x512_S688x512
/-- Chunk `x` of tile `n` of the weights: rows `688 x …` and columns `512 n …`. -/
def chunkM (n : ℕ) (x : Fin 16) : Memref sig .tc .hbm S688x512 .f32 :=
  (whM.slice (Rect.unit (s := S1x2x11008x4096) ![0, 1, 688 * x.val, 512 * (n % 8)] S1x1x688x512.size (inb_chunk n x)) (fun _ => rfl)).squeeze S688x512 squeezes_S1x1x688x512_S688x512
/-- The semaphore of slot `s`. -/
def cellM (s : Fin 2) : DmaSems sig S_ :=
  (cc0_scratch2.slice (Rect.unit (s := S2) ![s.val] S1.size (inb_cell s))).squeeze S_ squeezes_S1_S_
abbrev cellL (s : Fin 2) : SemLoc sig := SemLoc.dma (cellM s).sem
theorem cellL_0 : cellL 0 = SemLoc.dma 4 := by decide
theorem cellL_1 : cellL 1 = SemLoc.dma 5 := by decide

/-- A chunk as a transfer spells it, at any offsets that are those of chunk `x` of tile `n`. -/
theorem chunk_of_off (o : Fin 4 → Nat) (h : ∀ a, o a + S1x1x688x512.size a ≤ S1x2x11008x4096.size a) (n : ℕ) (x : Fin 16)
    (e : o = ![0, 1, 688 * x.val, 512 * (n % 8)]) :
    (whM.slice (Rect.unit (s := S1x2x11008x4096) o S1x1x688x512.size h) (fun _ => rfl)).squeeze S688x512 squeezes_S1x1x688x512_S688x512 = chunkM n x := by
  subst e; rfl

/-! ## The branches and the offsets, in the coordinates -/

/-- Branch `x` of the sixteen waits is taken in the points of column `x`, in every tile but the last. -/
def waitCond (i : grid0.Coords) (x : Fin 16) : BitVec 1 :=
  (![k0_cond2 i, k0_cond3 i, k0_cond4 i, k0_cond5 i, k0_cond6 i, k0_cond7 i, k0_cond8 i, k0_cond9 i, k0_cond10 i, k0_cond11 i, k0_cond12 i, k0_cond13 i, k0_cond14 i, k0_cond15 i, k0_cond16 i, k0_cond17 i] : Fin 16 → BitVec 1) x
theorem waitCond_iff : ∀ (x : Fin 16) (i : grid0.Coords), waitCond i x = 1#1 ↔ (i 0).val + 1 < 8 ∧ (i 1).val = x.val := by
  decide +kernel
/-- The word of the first branch: taken at the first point alone. -/
abbrev firstCond (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
theorem firstCond_iff : ∀ i : grid0.Coords, firstCond i = 1#1 ↔ (i 0).val = 0 ∧ (i 1).val = 0 := by decide +kernel
theorem startCond_iff : ∀ i : grid0.Coords, k0_cond18 i = 1#1 ↔ (i 0).val + 2 < 8 ∧ (i 1).val = 15 := by decide +kernel
theorem next_tile : ∀ i : grid0.Coords, (i 0).val + 1 < 8 → 512 * (((i 0).val + 1) % 8) = 512 * (i 0).val + 512 := by decide +kernel
theorem next_tile₂ : ∀ i : grid0.Coords, (i 0).val + 2 < 8 → 512 * (((i 0).val + 2) % 8) = 512 * (i 0).val + 1024 := by decide +kernel

/-- The sources of the waits and starts of the sixteen branches, each the chunk it names. -/
@[sl_canon] theorem canon_off1 (i : grid0.Coords) (h : k0_cond2 i = 1#1) :
    (whM.slice (Rect.unit (s := S1x2x11008x4096) (k0_off1 i) S1x1x688x512.size (k0_off1_inb i h)) (fun _ => rfl)).squeeze S688x512 squeezes_S1x1x688x512_S688x512 = chunkM ((i 0).val + 1) 0 :=
  chunk_of_off _ _ _ _ ((k0_off1_eq i).trans (by rw [next_tile i ((waitCond_iff 0 i).mp h).1]; rfl))
@[sl_canon] theorem canon_off2 (i : grid0.Coords) (h : k0_cond2 i = 1#1) :
    (whM.slice (Rect.unit (s := S1x2x11008x4096) (k0_off2 i) S1x1x688x512.size (k0_off2_inb i h)) (fun _ => rfl)).squeeze S688x512 squeezes_S1x1x688x512_S688x512 = chunkM ((i 0).val + 1) 1 :=
  chunk_of_off _ _ _ _ ((k0_off2_eq i).trans (by rw [next_tile i ((waitCond_iff 0 i).mp h).1]; rfl))
@[sl_canon] theorem canon_off3 (i : grid0.Coords) (h : k0_cond3 i = 1#1) :
    (whM.slice (Rect.unit (s := S1x2x11008x4096) (k0_off3 i) S1x1x688x512.size (k0_off3_inb i h)) (fun _ => rfl)).squeeze S688x512 squeezes_S1x1x688x512_S688x512 = chunkM ((i 0).val + 1) 1 :=
  chunk_of_off _ _ _ _ ((k0_off3_eq i).trans (by rw [next_tile i ((waitCond_iff 1 i).mp h).1]; rfl))
@[sl_canon] theorem canon_off4 (i : grid0.Coords) (h : k0_cond3 i = 1#1) :
    (whM.slice (Rect.unit (s := S1x2x11008x4096) (k0_off4 i) S1x1x688x512.size (k0_off4_inb i h)) (fun _ => rfl)).squeeze S688x512 squeezes_S1x1x688x512_S688x512 = chunkM ((i 0).val + 1) 2 :=
  chunk_of_off _ _ _ _ ((k0_off4_eq i).trans (by rw [next_tile i ((waitCond_iff 1 i).mp h).1]; rfl))
@[sl_canon] theorem canon_off5 (i : grid0.Coords) (h : k0_cond4 i = 1#1) :
    (whM.slice (Rect.unit (s := S1x2x11008x4096) (k0_off5 i) S1x1x688x512.size (k0_off5_inb i h)) (fun _ => rfl)).squeeze S688x512 squeezes_S1x1x688x512_S688x512 = chunkM ((i 0).val + 1) 2 :=
  chunk_of_off _ _ _ _ ((k0_off5_eq i).trans (by rw [next_tile i ((waitCond_iff 2 i).mp h).1]; rfl))
@[sl_canon] theorem canon_off6 (i : grid0.Coords) (h : k0_cond4 i = 1#1) :
    (whM.slice (Rect.unit (s := S1x2x11008x4096) (k0_off6 i) S1x1x688x512.size (k0_off6_inb i h)) (fun _ => rfl)).squeeze S688x512 squeezes_S1x1x688x512_S688x512 = chunkM ((i 0).val + 1) 3 :=
  chunk_of_off _ _ _ _ ((k0_off6_eq i).trans (by rw [next_tile i ((waitCond_iff 2 i).mp h).1]; rfl))
@[sl_canon] theorem canon_off7 (i : grid0.Coords) (h : k0_cond5 i = 1#1) :
    (whM.slice (Rect.unit (s := S1x2x11008x4096) (k0_off7 i) S1x1x688x512.size (k0_off7_inb i h)) (fun _ => rfl)).squeeze S688x512 squeezes_S1x1x688x512_S688x512 = chunkM ((i 0).val + 1) 3 :=
  chunk_of_off _ _ _ _ ((k0_off7_eq i).trans (by rw [next_tile i ((waitCond_iff 3 i).mp h).1]; rfl))
@[sl_canon] theorem canon_off8 (i : grid0.Coords) (h : k0_cond5 i = 1#1) :
    (whM.slice (Rect.unit (s := S1x2x11008x4096) (k0_off8 i) S1x1x688x512.size (k0_off8_inb i h)) (fun _ => rfl)).squeeze S688x512 squeezes_S1x1x688x512_S688x512 = chunkM ((i 0).val + 1) 4 :=
  chunk_of_off _ _ _ _ ((k0_off8_eq i).trans (by rw [next_tile i ((waitCond_iff 3 i).mp h).1]; rfl))
@[sl_canon] theorem canon_off9 (i : grid0.Coords) (h : k0_cond6 i = 1#1) :
    (whM.slice (Rect.unit (s := S1x2x11008x4096) (k0_off9 i) S1x1x688x512.size (k0_off9_inb i h)) (fun _ => rfl)).squeeze S688x512 squeezes_S1x1x688x512_S688x512 = chunkM ((i 0).val + 1) 4 :=
  chunk_of_off _ _ _ _ ((k0_off9_eq i).trans (by rw [next_tile i ((waitCond_iff 4 i).mp h).1]; rfl))
@[sl_canon] theorem canon_off10 (i : grid0.Coords) (h : k0_cond6 i = 1#1) :
    (whM.slice (Rect.unit (s := S1x2x11008x4096) (k0_off10 i) S1x1x688x512.size (k0_off10_inb i h)) (fun _ => rfl)).squeeze S688x512 squeezes_S1x1x688x512_S688x512 = chunkM ((i 0).val + 1) 5 :=
  chunk_of_off _ _ _ _ ((k0_off10_eq i).trans (by rw [next_tile i ((waitCond_iff 4 i).mp h).1]; rfl))
@[sl_canon] theorem canon_off11 (i : grid0.Coords) (h : k0_cond7 i = 1#1) :
    (whM.slice (Rect.unit (s := S1x2x11008x4096) (k0_off11 i) S1x1x688x512.size (k0_off11_inb i h)) (fun _ => rfl)).squeeze S688x512 squeezes_S1x1x688x512_S688x512 = chunkM ((i 0).val + 1) 5 :=
  chunk_of_off _ _ _ _ ((k0_off11_eq i).trans (by rw [next_tile i ((waitCond_iff 5 i).mp h).1]; rfl))
@[sl_canon] theorem canon_off12 (i : grid0.Coords) (h : k0_cond7 i = 1#1) :
    (whM.slice (Rect.unit (s := S1x2x11008x4096) (k0_off12 i) S1x1x688x512.size (k0_off12_inb i h)) (fun _ => rfl)).squeeze S688x512 squeezes_S1x1x688x512_S688x512 = chunkM ((i 0).val + 1) 6 :=
  chunk_of_off _ _ _ _ ((k0_off12_eq i).trans (by rw [next_tile i ((waitCond_iff 5 i).mp h).1]; rfl))
@[sl_canon] theorem canon_off13 (i : grid0.Coords) (h : k0_cond8 i = 1#1) :
    (whM.slice (Rect.unit (s := S1x2x11008x4096) (k0_off13 i) S1x1x688x512.size (k0_off13_inb i h)) (fun _ => rfl)).squeeze S688x512 squeezes_S1x1x688x512_S688x512 = chunkM ((i 0).val + 1) 6 :=
  chunk_of_off _ _ _ _ ((k0_off13_eq i).trans (by rw [next_tile i ((waitCond_iff 6 i).mp h).1]; rfl))
@[sl_canon] theorem canon_off14 (i : grid0.Coords) (h : k0_cond8 i = 1#1) :
    (whM.slice (Rect.unit (s := S1x2x11008x4096) (k0_off14 i) S1x1x688x512.size (k0_off14_inb i h)) (fun _ => rfl)).squeeze S688x512 squeezes_S1x1x688x512_S688x512 = chunkM ((i 0).val + 1) 7 :=
  chunk_of_off _ _ _ _ ((k0_off14_eq i).trans (by rw [next_tile i ((waitCond_iff 6 i).mp h).1]; rfl))
@[sl_canon] theorem canon_off15 (i : grid0.Coords) (h : k0_cond9 i = 1#1) :
    (whM.slice (Rect.unit (s := S1x2x11008x4096) (k0_off15 i) S1x1x688x512.size (k0_off15_inb i h)) (fun _ => rfl)).squeeze S688x512 squeezes_S1x1x688x512_S688x512 = chunkM ((i 0).val + 1) 7 :=
  chunk_of_off _ _ _ _ ((k0_off15_eq i).trans (by rw [next_tile i ((waitCond_iff 7 i).mp h).1]; rfl))
@[sl_canon] theorem canon_off16 (i : grid0.Coords) (h : k0_cond9 i = 1#1) :
    (whM.slice (Rect.unit (s := S1x2x11008x4096) (k0_off16 i) S1x1x688x512.size (k0_off16_inb i h)) (fun _ => rfl)).squeeze S688x512 squeezes_S1x1x688x512_S688x512 = chunkM ((i 0).val + 1) 8 :=
  chunk_of_off _ _ _ _ ((k0_off16_eq i).trans (by rw [next_tile i ((waitCond_iff 7 i).mp h).1]; rfl))
@[sl_canon] theorem canon_off17 (i : grid0.Coords) (h : k0_cond10 i = 1#1) :
    (whM.slice (Rect.unit (s := S1x2x11008x4096) (k0_off17 i) S1x1x688x512.size (k0_off17_inb i h)) (fun _ => rfl)).squeeze S688x512 squeezes_S1x1x688x512_S688x512 = chunkM ((i 0).val + 1) 8 :=
  chunk_of_off _ _ _ _ ((k0_off17_eq i).trans (by rw [next_tile i ((waitCond_iff 8 i).mp h).1]; rfl))
@[sl_canon] theorem canon_off18 (i : grid0.Coords) (h : k0_cond10 i = 1#1) :
    (whM.slice (Rect.unit (s := S1x2x11008x4096) (k0_off18 i) S1x1x688x512.size (k0_off18_inb i h)) (fun _ => rfl)).squeeze S688x512 squeezes_S1x1x688x512_S688x512 = chunkM ((i 0).val + 1) 9 :=
  chunk_of_off _ _ _ _ ((k0_off18_eq i).trans (by rw [next_tile i ((waitCond_iff 8 i).mp h).1]; rfl))
@[sl_canon] theorem canon_off19 (i : grid0.Coords) (h : k0_cond11 i = 1#1) :
    (whM.slice (Rect.unit (s := S1x2x11008x4096) (k0_off19 i) S1x1x688x512.size (k0_off19_inb i h)) (fun _ => rfl)).squeeze S688x512 squeezes_S1x1x688x512_S688x512 = chunkM ((i 0).val + 1) 9 :=
  chunk_of_off _ _ _ _ ((k0_off19_eq i).trans (by rw [next_tile i ((waitCond_iff 9 i).mp h).1]; rfl))
@[sl_canon] theorem canon_off20 (i : grid0.Coords) (h : k0_cond11 i = 1#1) :
    (whM.slice (Rect.unit (s := S1x2x11008x4096) (k0_off20 i) S1x1x688x512.size (k0_off20_inb i h)) (fun _ => rfl)).squeeze S688x512 squeezes_S1x1x688x512_S688x512 = chunkM ((i 0).val + 1) 10 :=
  chunk_of_off _ _ _ _ ((k0_off20_eq i).trans (by rw [next_tile i ((waitCond_iff 9 i).mp h).1]; rfl))
@[sl_canon] theorem canon_off21 (i : grid0.Coords) (h : k0_cond12 i = 1#1) :
    (whM.slice (Rect.unit (s := S1x2x11008x4096) (k0_off21 i) S1x1x688x512.size (k0_off21_inb i h)) (fun _ => rfl)).squeeze S688x512 squeezes_S1x1x688x512_S688x512 = chunkM ((i 0).val + 1) 10 :=
  chunk_of_off _ _ _ _ ((k0_off21_eq i).trans (by rw [next_tile i ((waitCond_iff 10 i).mp h).1]; rfl))
@[sl_canon] theorem canon_off22 (i : grid0.Coords) (h : k0_cond12 i = 1#1) :
    (whM.slice (Rect.unit (s := S1x2x11008x4096) (k0_off22 i) S1x1x688x512.size (k0_off22_inb i h)) (fun _ => rfl)).squeeze S688x512 squeezes_S1x1x688x512_S688x512 = chunkM ((i 0).val + 1) 11 :=
  chunk_of_off _ _ _ _ ((k0_off22_eq i).trans (by rw [next_tile i ((waitCond_iff 10 i).mp h).1]; rfl))
@[sl_canon] theorem canon_off23 (i : grid0.Coords) (h : k0_cond13 i = 1#1) :
    (whM.slice (Rect.unit (s := S1x2x11008x4096) (k0_off23 i) S1x1x688x512.size (k0_off23_inb i h)) (fun _ => rfl)).squeeze S688x512 squeezes_S1x1x688x512_S688x512 = chunkM ((i 0).val + 1) 11 :=
  chunk_of_off _ _ _ _ ((k0_off23_eq i).trans (by rw [next_tile i ((waitCond_iff 11 i).mp h).1]; rfl))
@[sl_canon] theorem canon_off24 (i : grid0.Coords) (h : k0_cond13 i = 1#1) :
    (whM.slice (Rect.unit (s := S1x2x11008x4096) (k0_off24 i) S1x1x688x512.size (k0_off24_inb i h)) (fun _ => rfl)).squeeze S688x512 squeezes_S1x1x688x512_S688x512 = chunkM ((i 0).val + 1) 12 :=
  chunk_of_off _ _ _ _ ((k0_off24_eq i).trans (by rw [next_tile i ((waitCond_iff 11 i).mp h).1]; rfl))
@[sl_canon] theorem canon_off25 (i : grid0.Coords) (h : k0_cond14 i = 1#1) :
    (whM.slice (Rect.unit (s := S1x2x11008x4096) (k0_off25 i) S1x1x688x512.size (k0_off25_inb i h)) (fun _ => rfl)).squeeze S688x512 squeezes_S1x1x688x512_S688x512 = chunkM ((i 0).val + 1) 12 :=
  chunk_of_off _ _ _ _ ((k0_off25_eq i).trans (by rw [next_tile i ((waitCond_iff 12 i).mp h).1]; rfl))
@[sl_canon] theorem canon_off26 (i : grid0.Coords) (h : k0_cond14 i = 1#1) :
    (whM.slice (Rect.unit (s := S1x2x11008x4096) (k0_off26 i) S1x1x688x512.size (k0_off26_inb i h)) (fun _ => rfl)).squeeze S688x512 squeezes_S1x1x688x512_S688x512 = chunkM ((i 0).val + 1) 13 :=
  chunk_of_off _ _ _ _ ((k0_off26_eq i).trans (by rw [next_tile i ((waitCond_iff 12 i).mp h).1]; rfl))
@[sl_canon] theorem canon_off27 (i : grid0.Coords) (h : k0_cond15 i = 1#1) :
    (whM.slice (Rect.unit (s := S1x2x11008x4096) (k0_off27 i) S1x1x688x512.size (k0_off27_inb i h)) (fun _ => rfl)).squeeze S688x512 squeezes_S1x1x688x512_S688x512 = chunkM ((i 0).val + 1) 13 :=
  chunk_of_off _ _ _ _ ((k0_off27_eq i).trans (by rw [next_tile i ((waitCond_iff 13 i).mp h).1]; rfl))
@[sl_canon] theorem canon_off28 (i : grid0.Coords) (h : k0_cond15 i = 1#1) :
    (whM.slice (Rect.unit (s := S1x2x11008x4096) (k0_off28 i) S1x1x688x512.size (k0_off28_inb i h)) (fun _ => rfl)).squeeze S688x512 squeezes_S1x1x688x512_S688x512 = chunkM ((i 0).val + 1) 14 :=
  chunk_of_off _ _ _ _ ((k0_off28_eq i).trans (by rw [next_tile i ((waitCond_iff 13 i).mp h).1]; rfl))
@[sl_canon] theorem canon_off29 (i : grid0.Coords) (h : k0_cond16 i = 1#1) :
    (whM.slice (Rect.unit (s := S1x2x11008x4096) (k0_off29 i) S1x1x688x512.size (k0_off29_inb i h)) (fun _ => rfl)).squeeze S688x512 squeezes_S1x1x688x512_S688x512 = chunkM ((i 0).val + 1) 14 :=
  chunk_of_off _ _ _ _ ((k0_off29_eq i).trans (by rw [next_tile i ((waitCond_iff 14 i).mp h).1]; rfl))
@[sl_canon] theorem canon_off30 (i : grid0.Coords) (h : k0_cond16 i = 1#1) :
    (whM.slice (Rect.unit (s := S1x2x11008x4096) (k0_off30 i) S1x1x688x512.size (k0_off30_inb i h)) (fun _ => rfl)).squeeze S688x512 squeezes_S1x1x688x512_S688x512 = chunkM ((i 0).val + 1) 15 :=
  chunk_of_off _ _ _ _ ((k0_off30_eq i).trans (by rw [next_tile i ((waitCond_iff 14 i).mp h).1]; rfl))
@[sl_canon] theorem canon_off31 (i : grid0.Coords) (h : k0_cond17 i = 1#1) :
    (whM.slice (Rect.unit (s := S1x2x11008x4096) (k0_off31 i) S1x1x688x512.size (k0_off31_inb i h)) (fun _ => rfl)).squeeze S688x512 squeezes_S1x1x688x512_S688x512 = chunkM ((i 0).val + 1) 15 :=
  chunk_of_off _ _ _ _ ((k0_off31_eq i).trans (by rw [next_tile i ((waitCond_iff 15 i).mp h).1]; rfl))
@[sl_canon] theorem canon_off32 (i : grid0.Coords) (h : k0_cond18 i = 1#1) :
    (whM.slice (Rect.unit (s := S1x2x11008x4096) (k0_off32 i) S1x1x688x512.size (k0_off32_inb i h)) (fun _ => rfl)).squeeze S688x512 squeezes_S1x1x688x512_S688x512 = chunkM ((i 0).val + 2) 0 :=
  chunk_of_off _ _ _ _ ((k0_off32_eq i).trans (by rw [next_tile₂ i ((startCond_iff i).mp h).1]; rfl))

section Ring
variable (c : Dev nD)

/-- The contents of a memref's buffer on core `c`. -/
abbrev Cont {sp : Space} {S : Shape} {e : EltTy} (M : Memref sig .tc sp S e) : Type := Buf (Elt F) (M.view.loc (c : Thread nD τ))

variable (W : Cont (F := F) c whM)

/-- Each slot borrows its chunks from a share of its own of the weights. -/
abbrev shareOf (s : Fin 2) : PosShare TreeShare := if s.val = 0 then fullShare.left else fullShare.right
/-- Slot `s` held at `f`. -/
abbrev slotP (s : Fin 2) (f : Cont (F := F) c (slotM s)) : sProp 𝕄 := (slotM s).view.loc (c : Thread nD τ) ↦[(slotM s).view.set]{fullShare} f
abbrev cellP (s : Fin 2) : sProp 𝕄 := semVal ((c : Thread nD τ), cellL s) 0
/-- Chunk `x` of tile `n` of slot `s`'s share of the weights; -/
abbrev chunkP (s : Fin 2) (n : ℕ) (x : Fin 16) : sProp 𝕄 := (chunkM n x).view.loc (c : Thread nD τ) ↦[(chunkM n x).view.set]{shareOf s} W
/-- what is left of that share; -/
def leftP (s : Fin 2) (n : ℕ) (x : Fin 16) : sProp 𝕄 := ((c : Thread nD τ).loc main_arg1) ↦[Finset.univ \ (chunkM n x).view.set]{shareOf s} W
/-- and all of it. -/
abbrev allP (s : Fin 2) : sProp 𝕄 := ((c : Thread nD τ).loc main_arg1) ↦[Finset.univ]{shareOf s} W
/-- Slot `s` after chunk `x` of tile `n` has landed in it over `f`. -/
abbrev landed (s : Fin 2) (n : ℕ) (x : Fin 16) (f : Cont (F := F) c (slotM s)) : Cont (F := F) c (slotM s) :=
  (slotM s).view.writes (Elt F) f [⟨Rect.whole S688x512, ReadAs.same.apply ((chunkM n x).view.read (Elt F) W)⟩]
/-- The transfer of that chunk into slot `s`, in flight: it will hand over the slot and the chunk. -/
abbrev flightP (s : Fin 2) (n : ℕ) (x : Fin 16) (f : Cont (F := F) c (slotM s)) : sProp 𝕄 :=
  Transfers.Flight countersEmb (c : Thread nD τ) (cellL s) default ((slotM s).view.amount (cellL s))
    iprop(slotP c s (landed c W s n x f) ∗ chunkP c W s n x)
theorem all_split (s : Fin 2) (n : ℕ) (x : Fin 16) : allP (F := F) c W s ⊣⊢ iprop(chunkP c W s n x ∗ leftP c W s n x) := by
  unfold leftP; exact pointsTo_split_subset (Finset.subset_univ _)
theorem shares_split : (((c : Thread nD τ).loc main_arg1) ↦{fullShare} W : sProp 𝕄) ⊣⊢ iprop(allP c W 0 ∗ allP c W 1) :=
  pointsTo_share (PosShare.mem_left_op_right fullShare)

end Ring

/-! ## The slots tile their buffer -/

abbrev slotSet (s : Fin 2) : Finset S2x688x512.Idx := (Rect.unit (s := S2x688x512) ![s.val, 0, 0] S1x688x512.size (inb_slot s)).set
theorem slotSet_eq (s : Fin 2) : (slotM s).view.set = slotSet s := by
  simp only [slotM, Memref.view_squeeze, View.set_reshape]; exact View.set_slice_whole _ _
theorem slots_disjoint (s s' : Fin 2) (h : s ≠ s') : Disjoint (slotSet s) (slotSet s') :=
  Ring.lead_disjoint (s := S2x688x512) (0 : Fin 3) 1 (fun s : Fin 2 => (![s.val, 0, 0] : Fin 3 → Nat)) S1x688x512.size inb_slot (fun s => by simp) rfl s s' h
theorem slots_cover : Finset.univ.biUnion slotSet = Finset.univ :=
  Ring.lead_cover (s := S2x688x512) (0 : Fin 3) 1 (fun s : Fin 2 => (![s.val, 0, 0] : Fin 3 → Nat)) S1x688x512.size inb_slot (fun s => by simp)
    (fun s a ha => by fin_cases a <;> first | exact absurd rfl ha | rfl) rfl (fun a ha => by fin_cases a <;> first | exact absurd rfl ha | rfl) rfl
theorem slotP_eq (c : Dev nD) (s : Fin 2) (f) : slotP (F := F) c s f = (((c : Thread nD τ).loc cc0_scratch1) ↦[slotSet s]{fullShare} f : sProp 𝕄) := by
  unfold slotP; rw [slotSet_eq]; rfl

/-! ## The body in two: the weights' transfers, and the product -/

/-- The body's transfers: at the first point the first tile whole, then the wait for a chunk of the next tile and the
    start of the chunk after it. -/
def transfers (i : grid0.Coords) (arg2 : Memref sig .tc .vmem S512x11008 .bf16) (harg2 : arg2.IsWhole) (arg4 : Memref sig .tc .vmem S512x512 .bf16) (harg4 : arg4.IsWhole) :
    Prog (TpuEff nD τ sig (Elt F) Λ₀ .tc) PUnit := do
  let ⟨arg0, arg1, v9, v16, c4_i32⟩ : Σ' (arg0 : BitVec 32) (arg1 : BitVec 32) (v9 : BitVec 32) (v16 : BitVec 1), BitVec 32 ← k0_part13 i arg2 harg2 whM (Memref.isWhole_whole _) arg4 harg4 wbM (Memref.isWhole_whole _) stM (Memref.isWhole_whole _) cc0_scratch2
  let ⟨v67, c0_i32_23⟩ : Σ' (v67 : BitVec 32), BitVec 32 ← k0_part14 i arg2 harg2 whM (Memref.isWhole_whole _) arg4 harg4 wbM (Memref.isWhole_whole _) stM (Memref.isWhole_whole _) cc0_scratch2 arg0 arg1 v16 c4_i32
  let ⟨v87, v104⟩ : Σ' (v87 : BitVec 32), BitVec 32 ← k0_part15 i arg2 harg2 whM (Memref.isWhole_whole _) arg4 harg4 wbM (Memref.isWhole_whole _) stM (Memref.isWhole_whole _) cc0_scratch2 arg0 arg1 v16 v67 c0_i32_23
  pure ⟨⟩

/-- The body's work on a block: the chunk that has landed is narrowed into the next tile's half, and the block of
    the rows is multiplied by the present tile. -/
def product (i : grid0.Coords) (arg2 : Memref sig .tc .vmem S512x11008 .bf16) (harg2 : arg2.IsWhole) (arg4 : Memref sig .tc .vmem S512x512 .bf16) (harg4 : arg4.IsWhole) :
    Prog (TpuEff nD τ sig (Elt F) Λ₀ .tc) PUnit := do
  let ⟨v138, v141⟩ : Σ' (v138 : Vec F S512x11008 .bf16), FVec F S11008x512 .bf16 ← k0_part16 i arg2 harg2 whM (Memref.isWhole_whole _) arg4 harg4 wbM (Memref.isWhole_whole _) stM (Memref.isWhole_whole _) cc0_scratch2 0#32 0#32 0#32
  let v144 : Vec F S512x512 .bf16 ← Prog.lift (.load arg4 (Rect.unit (s := S512x512) ![0, 0] S512x512.size inb_S512x512_S512x512_0_0).toLoadRect (View.loadsAt_vmem h_S512x512))
  Prog.lift (.store arg4 (Rect.unit (s := S512x512) ![0, 0] S512x512.size inb_S512x512_S512x512_0_0) (k0_pay1 v138 v141) Finset.univ (View.stores_vmem h_S512x512 (harg4.storeExact_slice rfl _ packedbf16_S512x512_S512x512_0_0) (fun _ => rfl)) (.inl rfl))
  pure ⟨⟩

set_option maxRecDepth 65536 in
/-- The product does not read the words that the transfers computed. -/
theorem part16_words (i : grid0.Coords) (arg2 : Memref sig .tc .vmem S512x11008 .bf16) (harg2 : arg2.IsWhole) (arg4 : Memref sig .tc .vmem S512x512 .bf16) (harg4 : arg4.IsWhole) (a b d : BitVec 32) :
    k0_part16 (F := F) i arg2 harg2 whM (Memref.isWhole_whole _) arg4 harg4 wbM (Memref.isWhole_whole _) stM (Memref.isWhole_whole _) cc0_scratch2 a b d
      = k0_part16 i arg2 harg2 whM (Memref.isWhole_whole _) arg4 harg4 wbM (Memref.isWhole_whole _) stM (Memref.isWhole_whole _) cc0_scratch2 0#32 0#32 0#32 := by
  rw [k0_part16_eq_skeleton]; rfl

theorem body_split (i : grid0.Coords) (arg2 : Memref sig .tc .vmem S512x11008 .bf16) (harg2 : arg2.IsWhole) (arg4 : Memref sig .tc .vmem S512x512 .bf16) (harg4 : arg4.IsWhole) :
    cc0_ffn_down (F := F) i arg2 harg2 whM (Memref.isWhole_whole _) arg4 harg4 wbM (Memref.isWhole_whole _) stM (Memref.isWhole_whole _) cc0_scratch2
      = (do transfers i arg2 harg2 arg4 harg4; product i arg2 harg2 arg4 harg4) := by
  rw [cc0_ffn_down_eq_skeleton]
  unfold cc0_ffn_down_skel transfers product
  simp only [bind_assoc, pure_bind, part16_words (a := _)]
  refine congrArg _ (funext fun p => ?_)
  obtain ⟨a, b, d, e, g⟩ := p
  simp only [bind_assoc, pure_bind]
  refine congrArg _ (funext fun p => ?_)
  obtain ⟨a', b'⟩ := p
  simp only [bind_assoc, pure_bind]
  refine congrArg _ (funext fun p => ?_)
  obtain ⟨a'', b''⟩ := p
  simp only [bind_assoc, pure_bind, part16_words _ _ _ _ _ d a'' b'']

end Cert.Kernel3Ideal.Down

end
-- ==== Proof.DownFill.lean ====
module

public import proofs.«01_k».proof.Proof.DownSetup
public import Idealize.ShloMosaic.Lib.WritesUnit
public import Idealize.ShloMosaic.Lib.Pipeline.Value

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the resident tiles hold -/

/-- The element of the weights under element `y` of a half that holds tile `n`: the same row, in the tile's columns. -/
def srcIdx (n : ℕ) (y : S2x1x11008x512.Idx) : S1x2x11008x4096.Idx := fun a =>
  ⟨(![0, 1, (y 2).val, 512 * (n % 8) + (y 3).val] : Fin 4 → ℕ) a, by
    have h2 : (y 2).val < 11008 := (y 2).isLt
    have h3 : (y 3).val < 512 := (y 3).isLt
    fin_cases a <;> simp <;> omega⟩

/-- The weight there, narrowed to bf16. -/
def narrowAt {c : Dev nD} (W : Cont (F := F) c whM) (n : ℕ) (y : S2x1x11008x512.Idx) : Elt F .bf16 :=
  FloatOps.truncf .bf16 bitsLt_bf16_f32 (whM.view.read (Elt F) W (srcIdx n y))

/-- The first `m` chunks of tile `n` lie narrowed in the tile's half. -/
def Filled {c : Dev nD} (W : Cont (F := F) c whM) (n m : ℕ) (f : Cont (F := F) c wbM) : Prop :=
  ∀ y : S2x1x11008x512.Idx, (y 0).val = n % 2 → (y 2).val < 688 * m → wbM.view.read (Elt F) f y = narrowAt W n y

theorem filled_zero {c : Dev nD} (W : Cont (F := F) c whM) (n : ℕ) (f : Cont (F := F) c wbM) : Filled W n 0 f :=
  fun y _ h => absurd h (by omega)

/-- A store of chunk `x` of the tile, narrowed, after the chunks before it. -/
theorem filled_next {c : Dev nD} (W : Cont (F := F) c whM) (n x : ℕ) (f : Cont (F := F) c wbM)
    (L : List (View.Piece (Elt F) S2x1x11008x512 .bf16)) (hL : Filled W n x (wbM.view.writes (Elt F) f L))
    (off : Fin 4 → ℕ) (inb : ∀ a, off a + S1x1x688x512.size a ≤ S2x1x11008x512.size a) (ho : off = ![n % 2, 0, 688 * x, 0])
    (p : S1x1x688x512.Idx → Elt F .bf16)
    (hp : ∀ (j : S1x1x688x512.Idx) (y : S2x1x11008x512.Idx), (y 2).val = 688 * x + (j 2).val → (y 3).val = (j 3).val → p j = narrowAt W n y) :
    Filled W n (x + 1) (wbM.view.writes (Elt F) f (⟨Rect.unit (s := S2x1x11008x512) off S1x1x688x512.size inb, p⟩ :: L)) := by
  intro y h0 h2
  by_cases hx : (y 2).val < 688 * x
  · rw [View.read_writes_cons_unit_of_not_mem _ _ inb _ _ y ho 2 (Or.inl (by simpa using hx))]
    exact hL y h0 hx
  · have h1 : (y 1).val < 1 := (y 1).isLt
    have h3 : (y 3).val < 512 := (y 3).isLt
    let j : S1x1x688x512.Idx := fun a => ⟨(![0, 0, (y 2).val - 688 * x, (y 3).val] : Fin 4 → ℕ) a, by fin_cases a <;> simp <;> omega⟩
    refine (View.read_writes_cons_unit_of_mem (size := S1x1x688x512.size) wbM.view f inb p L y j ho ?_).trans ?_
    · intro a; fin_cases a <;> simp [j] <;> omega
    exact hp j y (by simp [j]; omega) (by simp [j])

/-- A store into the other half keeps the tile. -/
theorem filled_keep {c : Dev nD} (W : Cont (F := F) c whM) (n m : ℕ) (f : Cont (F := F) c wbM)
    (L : List (View.Piece (Elt F) S2x1x11008x512 .bf16)) (hL : Filled W n m (wbM.view.writes (Elt F) f L))
    (off : Fin 4 → ℕ) (inb : ∀ a, off a + S1x1x688x512.size a ≤ S2x1x11008x512.size a) (o : ℕ) (ho : off = ![(n + 1) % 2, 0, o, 0])
    (p : S1x1x688x512.Idx → Elt F .bf16) :
    Filled W n m (wbM.view.writes (Elt F) f (⟨Rect.unit (s := S2x1x11008x512) off S1x1x688x512.size inb, p⟩ :: L)) := by
  intro y h0 h2
  rw [View.read_writes_cons_unit_of_not_mem _ _ inb _ _ y ho 0 (by simp; omega)]
  exact hL y h0 h2

/-! ## What a landed chunk holds -/

/-- Slot `s` holds chunk `x` of tile `n`. -/
def Holds {c : Dev nD} (W : Cont (F := F) c whM) (n : ℕ) (x : Fin 16) (s : Fin 2) (g : Cont (F := F) c stM) : Prop :=
  (slotM s).view.read (Elt F) g = (chunkM n x).view.read (Elt F) W

/-- A slot that a chunk has just been copied into holds it. -/
theorem holds_write {c : Dev nD} (W : Cont (F := F) c whM) (n : ℕ) (x : Fin 16) (s : Fin 2) (g : Cont (F := F) c stM) :
    Holds W n x s ((slotM s).view.write (Elt F) g (ReadAs.same.apply ((chunkM n x).view.read (Elt F) W)) Finset.univ) :=
  View.read_write_univ _ _

theorem holds_landed {c : Dev nD} (W : Cont (F := F) c whM) (n : ℕ) (x : Fin 16) (s : Fin 2) (f : Cont (F := F) c (slotM s)) :
    Holds W n x s (landed c W s n x f) := by
  unfold Holds landed
  exact View.read_writes_whole _ _ _

/-- A copy into the other slot keeps it. -/
theorem holds_other {c : Dev nD} (W : Cont (F := F) c whM) (n : ℕ) (x : Fin 16) (s s' : Fin 2) (h : s ≠ s') (g : Cont (F := F) c stM)
    (w : S688x512.Idx → Elt F .f32) (hg : Holds W n x s g) :
    Holds W n x s ((slotM s').view.write (Elt F) g w Finset.univ) := by
  unfold Holds at hg ⊢
  refine (View.read_congr (v := (slotM s).view) (f := (slotM s').view.write (Elt F) g w Finset.univ) (g := g) fun i hi => View.write_of_not_mem (v := (slotM s').view) g w Finset.univ fun hi' => ?_).trans hg
  have hi' : i ∈ (slotM s').view.set := hi'
  rw [slotSet_eq] at hi hi'
  exact Finset.disjoint_left.mp (slots_disjoint s s' h) hi hi'

/-- A load of the slot that holds a chunk, narrowed, is the chunk's part of the tile. -/
theorem holds_pay {c : Dev nD} (W : Cont (F := F) c whM) (n : ℕ) (x : Fin 16) (s : Fin 2) (g : Cont (F := F) c stM) (hg : Holds W n x s g)
    (off : Fin 3 → ℕ) (inb : ∀ a, off a + S1x688x512.size a ≤ S2x688x512.size a) (ho : off = ![s.val, 0, 0])
    (j : S1x1x688x512.Idx) (y : S2x1x11008x512.Idx) (h2 : (y 2).val = 688 * x.val + (j 2).val) (h3 : (y 3).val = (j 3).val) :
    k0_pay20 (stM.view.readAt (Elt F) (Rect.unit (s := S2x688x512) off S1x688x512.size inb).toLoadRect g) j = narrowAt W n y := by
  subst ho
  have e : shapeCast S688x512 (stM.view.readAt (Elt F) (Rect.unit (s := S2x688x512) ![s.val, 0, 0] S1x688x512.size inb).toLoadRect g) shapeCasts_S1x688x512_S688x512
      = shapeCast S688x512 (whM.view.readAt (Elt F) (Rect.unit (s := S1x2x11008x4096) ![0, 1, 688 * x.val, 512 * (n % 8)] S1x1x688x512.size (inb_chunk n x)).toLoadRect W) squeezes_S1x1x688x512_S688x512.numel_eq := hg
  unfold k0_pay20
  dsimp only
  rw [e]
  have e2 : ∀ (v : S1x1x688x512.Idx → Elt F .f32) (h) (h'), shapeCast S1x1x688x512 (truncf .bf16 (shapeCast S688x512 v h) bitsLt_bf16_f32) h' j = FloatOps.truncf .bf16 bitsLt_bf16_f32 (v j) := by
    intro v h h'
    exact congrArg (FloatOps.truncf .bf16 bitsLt_bf16_f32) (congrFun (shapeCast_shapeCast v h h') j)
  rw [e2]
  unfold narrowAt
  refine congrArg (FloatOps.truncf .bf16 bitsLt_bf16_f32) (congrArg (whM.view.read (Elt F) W) (funext fun a => Fin.ext ?_))
  have j0 : (j 0).val < 1 := (j 0).isLt
  have j1 : (j 1).val < 1 := (j 1).isLt
  fin_cases a <;> simp [srcIdx, LoadRect.idx, Rect.unit] <;> omega

end Cert.Kernel3Ideal.Down

end
-- ==== Proof.DownWait.lean ====
module

public import proofs.«01_k».proof.Proof.DownSetup

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The wait and the start of a point -/

/-- Which waits a point in column `x` takes, before the last tile. -/
theorem wait_here (i : grid0.Coords) (x : Fin 16) (hn : (i 0).val + 1 < 8) (hx : (i 1).val = x.val) (y : Fin 16) :
    if y = x then waitCond i y = 1#1 else ¬ waitCond i y = 1#1 := by
  split
  · exact (waitCond_iff y i).mpr ⟨hn, by subst y; exact hx⟩
  · exact fun h => absurd (Fin.ext (((waitCond_iff y i).mp h).2.symm.trans hx)) ‹_›
/-- In the last tile there is none, -/
theorem wait_none (i : grid0.Coords) (hn : ¬ (i 0).val + 1 < 8) (y : Fin 16) : ¬ waitCond i y = 1#1 :=
  fun h => hn ((waitCond_iff y i).mp h).1
/-- and the start of a later tile's first chunk is in the last column alone. -/
theorem start_here (i : grid0.Coords) (x : Fin 16) (hn : (i 0).val + 2 < 8) (hx : (i 1).val = x.val) : x = 15 → k0_cond18 i = 1#1 :=
  fun h => (startCond_iff i).mpr ⟨hn, hx.trans (congrArg Fin.val h)⟩
theorem start_none (i : grid0.Coords) (hn : ¬ (i 0).val + 2 < 8) : ¬ k0_cond18 i = 1#1 :=
  fun h => hn ((startCond_iff i).mp h).1
/-- Off the last column it is not taken. -/
theorem start_off (i : grid0.Coords) (x : Fin 16) (hx : (i 1).val = x.val) : x ≠ 15 → ¬ k0_cond18 i = 1#1 :=
  fun h e => h (Fin.ext (hx.symm.trans ((startCond_iff i).mp e).2))
/-- The first branch is not taken after the first point. -/
theorem first_off (i : grid0.Coords) (h0 : ¬ ((i 0).val = 0 ∧ (i 1).val = 0)) : ¬ firstCond i = 1#1 :=
  fun h => h0 ((firstCond_iff i).mp h)

set_option maxHeartbeats 4000000 in
/-- A point in column `x < 15` before the last tile, not the first: the chunk `x` of the next tile lands, and its
    chunk `x + 1` is started into the other slot. -/
theorem wait_start (c : Dev nD) (i : grid0.Coords) (arg2 : Memref sig .tc .vmem S512x11008 .bf16) (harg2 : arg2.IsWhole) (arg4 : Memref sig .tc .vmem S512x512 .bf16) (harg4 : arg4.IsWhole)
    (W : Cont (F := F) c whM) (h0 : ¬ ((i 0).val = 0 ∧ (i 1).val = 0)) (hn : (i 0).val + 1 < 8) (x x' : Fin 16) (s s' : Fin 2) (hx : (i 1).val = x.val)
    (hcase : (x = 0 ∧ x' = 1 ∧ s = 0 ∧ s' = 1) ∨ (x = 1 ∧ x' = 2 ∧ s = 1 ∧ s' = 0) ∨ (x = 2 ∧ x' = 3 ∧ s = 0 ∧ s' = 1) ∨ (x = 3 ∧ x' = 4 ∧ s = 1 ∧ s' = 0) ∨ (x = 4 ∧ x' = 5 ∧ s = 0 ∧ s' = 1) ∨ (x = 5 ∧ x' = 6 ∧ s = 1 ∧ s' = 0) ∨ (x = 6 ∧ x' = 7 ∧ s = 0 ∧ s' = 1) ∨ (x = 7 ∧ x' = 8 ∧ s = 1 ∧ s' = 0) ∨ (x = 8 ∧ x' = 9 ∧ s = 0 ∧ s' = 1) ∨ (x = 9 ∧ x' = 10 ∧ s = 1 ∧ s' = 0) ∨ (x = 10 ∧ x' = 11 ∧ s = 0 ∧ s' = 1) ∨ (x = 11 ∧ x' = 12 ∧ s = 1 ∧ s' = 0) ∨ (x = 12 ∧ x' = 13 ∧ s = 0 ∧ s' = 1) ∨ (x = 13 ∧ x' = 14 ∧ s = 1 ∧ s' = 0) ∨ (x = 14 ∧ x' = 15 ∧ s = 0 ∧ s' = 1))
    (f : Cont (F := F) c (slotM s)) (f' : Cont (F := F) c (slotM s')) (B : Waits sig Unit) (K : PUnit → sProp 𝕄) :
    iprop(flightP c W s ((i 0).val + 1) x f ∗ cellP c s' ∗ slotP c s' f' ∗ chunkP c W s' ((i 0).val + 1) x' ∗ owes (c : Thread nD τ) 0 B
        ∗ (iprop(slotP c s (landed c W s ((i 0).val + 1) x f) ∗ chunkP c W s ((i 0).val + 1) x ∗ cellP c s
            ∗ flightP c W s' ((i 0).val + 1) x' f' ∗ (∃ B', owes (c : Thread nD τ) 0 B')) -∗ K ⟨⟩))
      ⊢ wp frame (wpE (defs₀ (F := F)) Variants.none c none) Set.univ (transfers i arg2 harg2 arg4 harg4) K := by
  have h1 := first_off i h0
  have hw := wait_here i x hn hx
  have h18 := start_off i x hx
  have hcanon0 : (stM.slice (Rect.unit (s := S2x688x512) ![0, 0, 0] S1x688x512.size inb_S2x688x512_S1x688x512_0_0_0) (fun _ => rfl)).squeeze S688x512 squeezes_S1x688x512_S688x512 = slotM 0 := rfl
  have hcanon1 : (stM.slice (Rect.unit (s := S2x688x512) ![1, 0, 0] S1x688x512.size inb_S2x688x512_S1x688x512_1_0_0) (fun _ => rfl)).squeeze S688x512 squeezes_S1x688x512_S688x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  unfold transfers
  rcases hcase with ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩
  all_goals
    have h2 : if (0 : Fin 16) = _ then k0_cond2 i = 1#1 else ¬ k0_cond2 i = 1#1 := hw 0
    have h3 : if (1 : Fin 16) = _ then k0_cond3 i = 1#1 else ¬ k0_cond3 i = 1#1 := hw 1
    have h4 : if (2 : Fin 16) = _ then k0_cond4 i = 1#1 else ¬ k0_cond4 i = 1#1 := hw 2
    have h5 : if (3 : Fin 16) = _ then k0_cond5 i = 1#1 else ¬ k0_cond5 i = 1#1 := hw 3
    have h6 : if (4 : Fin 16) = _ then k0_cond6 i = 1#1 else ¬ k0_cond6 i = 1#1 := hw 4
    have h7 : if (5 : Fin 16) = _ then k0_cond7 i = 1#1 else ¬ k0_cond7 i = 1#1 := hw 5
    have h8 : if (6 : Fin 16) = _ then k0_cond8 i = 1#1 else ¬ k0_cond8 i = 1#1 := hw 6
    have h9 : if (7 : Fin 16) = _ then k0_cond9 i = 1#1 else ¬ k0_cond9 i = 1#1 := hw 7
    have h10 : if (8 : Fin 16) = _ then k0_cond10 i = 1#1 else ¬ k0_cond10 i = 1#1 := hw 8
    have h11 : if (9 : Fin 16) = _ then k0_cond11 i = 1#1 else ¬ k0_cond11 i = 1#1 := hw 9
    have h12 : if (10 : Fin 16) = _ then k0_cond12 i = 1#1 else ¬ k0_cond12 i = 1#1 := hw 10
    have h13 : if (11 : Fin 16) = _ then k0_cond13 i = 1#1 else ¬ k0_cond13 i = 1#1 := hw 11
    have h14 : if (12 : Fin 16) = _ then k0_cond14 i = 1#1 else ¬ k0_cond14 i = 1#1 := hw 12
    have h15 : if (13 : Fin 16) = _ then k0_cond15 i = 1#1 else ¬ k0_cond15 i = 1#1 := hw 13
    have h16 : if (14 : Fin 16) = _ then k0_cond16 i = 1#1 else ¬ k0_cond16 i = 1#1 := hw 14
    have h17 : if (15 : Fin 16) = _ then k0_cond17 i = 1#1 else ¬ k0_cond17 i = 1#1 := hw 15
    replace h18 := h18 (by decide)
    simp only [Fin.reduceEq, Fin.isValue, ↓reduceIte] at h2 h3 h4 h5 h6 h7 h8 h9 h10 h11 h12 h13 h14 h15 h16 h17
    iintro ⟨Hf, Hc, Hs, Hh, HW, Hk⟩
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17 | sl_exact h18)
    sl_step
    iapply Hk
    isplitl [Hf_dst]; · iexact Hf_dst
    isplitl [Hf_src]; · iexact Hf_src
    isplitl [Hf]; · iexact Hf
    isplitl [Hc]; · iexact Hc
    iexists _; iexact HW

set_option maxHeartbeats 1000000 in
/-- A point in the last column, two tiles or more before the end: the next tile's last chunk lands, and the first
    chunk of the tile after it is started. -/
theorem wait_start_last (c : Dev nD) (i : grid0.Coords) (arg2 : Memref sig .tc .vmem S512x11008 .bf16) (harg2 : arg2.IsWhole) (arg4 : Memref sig .tc .vmem S512x512 .bf16) (harg4 : arg4.IsWhole)
    (W : Cont (F := F) c whM) (hn : (i 0).val + 2 < 8) (hx : (i 1).val = (15 : Fin 16).val)
    (f : Cont (F := F) c (slotM 1)) (f' : Cont (F := F) c (slotM 0)) (B : Waits sig Unit) (K : PUnit → sProp 𝕄) :
    iprop(flightP c W 1 ((i 0).val + 1) 15 f ∗ cellP c 0 ∗ slotP c 0 f' ∗ chunkP c W 0 ((i 0).val + 2) 0 ∗ owes (c : Thread nD τ) 0 B
        ∗ (iprop(slotP c 1 (landed c W 1 ((i 0).val + 1) 15 f) ∗ chunkP c W 1 ((i 0).val + 1) 15 ∗ cellP c 1
            ∗ flightP c W 0 ((i 0).val + 2) 0 f' ∗ (∃ B', owes (c : Thread nD τ) 0 B')) -∗ K ⟨⟩))
      ⊢ wp frame (wpE (defs₀ (F := F)) Variants.none c none) Set.univ (transfers i arg2 harg2 arg4 harg4) K := by
  have h1 := first_off i (fun h => absurd (h.2.symm.trans hx) (by decide))
  have hw := wait_here i 15 (by omega) hx
  have h18 := start_here i 15 hn hx rfl
  have hcanon0 : (stM.slice (Rect.unit (s := S2x688x512) ![0, 0, 0] S1x688x512.size inb_S2x688x512_S1x688x512_0_0_0) (fun _ => rfl)).squeeze S688x512 squeezes_S1x688x512_S688x512 = slotM 0 := rfl
  have hcanon1 : (stM.slice (Rect.unit (s := S2x688x512) ![1, 0, 0] S1x688x512.size inb_S2x688x512_S1x688x512_1_0_0) (fun _ => rfl)).squeeze S688x512 squeezes_S1x688x512_S688x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have h2 : if (0 : Fin 16) = 15 then k0_cond2 i = 1#1 else ¬ k0_cond2 i = 1#1 := hw 0
  have h3 : if (1 : Fin 16) = 15 then k0_cond3 i = 1#1 else ¬ k0_cond3 i = 1#1 := hw 1
  have h4 : if (2 : Fin 16) = 15 then k0_cond4 i = 1#1 else ¬ k0_cond4 i = 1#1 := hw 2
  have h5 : if (3 : Fin 16) = 15 then k0_cond5 i = 1#1 else ¬ k0_cond5 i = 1#1 := hw 3
  have h6 : if (4 : Fin 16) = 15 then k0_cond6 i = 1#1 else ¬ k0_cond6 i = 1#1 := hw 4
  have h7 : if (5 : Fin 16) = 15 then k0_cond7 i = 1#1 else ¬ k0_cond7 i = 1#1 := hw 5
  have h8 : if (6 : Fin 16) = 15 then k0_cond8 i = 1#1 else ¬ k0_cond8 i = 1#1 := hw 6
  have h9 : if (7 : Fin 16) = 15 then k0_cond9 i = 1#1 else ¬ k0_cond9 i = 1#1 := hw 7
  have h10 : if (8 : Fin 16) = 15 then k0_cond10 i = 1#1 else ¬ k0_cond10 i = 1#1 := hw 8
  have h11 : if (9 : Fin 16) = 15 then k0_cond11 i = 1#1 else ¬ k0_cond11 i = 1#1 := hw 9
  have h12 : if (10 : Fin 16) = 15 then k0_cond12 i = 1#1 else ¬ k0_cond12 i = 1#1 := hw 10
  have h13 : if (11 : Fin 16) = 15 then k0_cond13 i = 1#1 else ¬ k0_cond13 i = 1#1 := hw 11
  have h14 : if (12 : Fin 16) = 15 then k0_cond14 i = 1#1 else ¬ k0_cond14 i = 1#1 := hw 12
  have h15 : if (13 : Fin 16) = 15 then k0_cond15 i = 1#1 else ¬ k0_cond15 i = 1#1 := hw 13
  have h16 : if (14 : Fin 16) = 15 then k0_cond16 i = 1#1 else ¬ k0_cond16 i = 1#1 := hw 14
  have h17 : if (15 : Fin 16) = 15 then k0_cond17 i = 1#1 else ¬ k0_cond17 i = 1#1 := hw 15
  simp only [Fin.reduceEq, Fin.isValue, ↓reduceIte] at h2 h3 h4 h5 h6 h7 h8 h9 h10 h11 h12 h13 h14 h15 h16 h17
  unfold transfers
  iintro ⟨Hf, Hc, Hs, Hh, HW, Hk⟩
  sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17 | sl_exact h18)
  sl_step
  iapply Hk
  isplitl [Hf_dst]; · iexact Hf_dst
  isplitl [Hf_src]; · iexact Hf_src
  isplitl [Hf]; · iexact Hf
  isplitl [Hc]; · iexact Hc
  iexists _; iexact HW

set_option maxHeartbeats 1000000 in
/-- The last column of the last tile but one: the last chunk of all lands. -/
theorem wait_end (c : Dev nD) (i : grid0.Coords) (arg2 : Memref sig .tc .vmem S512x11008 .bf16) (harg2 : arg2.IsWhole) (arg4 : Memref sig .tc .vmem S512x512 .bf16) (harg4 : arg4.IsWhole)
    (W : Cont (F := F) c whM) (hn : (i 0).val + 1 < 8) (hn' : ¬ (i 0).val + 2 < 8) (hx : (i 1).val = (15 : Fin 16).val)
    (f : Cont (F := F) c (slotM 1)) (B : Waits sig Unit) (K : PUnit → sProp 𝕄) :
    iprop(flightP c W 1 ((i 0).val + 1) 15 f ∗ owes (c : Thread nD τ) 0 B
        ∗ (iprop(slotP c 1 (landed c W 1 ((i 0).val + 1) 15 f) ∗ chunkP c W 1 ((i 0).val + 1) 15 ∗ cellP c 1
            ∗ (∃ B', owes (c : Thread nD τ) 0 B')) -∗ K ⟨⟩))
      ⊢ wp frame (wpE (defs₀ (F := F)) Variants.none c none) Set.univ (transfers i arg2 harg2 arg4 harg4) K := by
  have h1 := first_off i (fun h => absurd (h.2.symm.trans hx) (by decide))
  have hw := wait_here i 15 hn hx
  have h18 := start_none i hn'
  have hcanon0 : (stM.slice (Rect.unit (s := S2x688x512) ![0, 0, 0] S1x688x512.size inb_S2x688x512_S1x688x512_0_0_0) (fun _ => rfl)).squeeze S688x512 squeezes_S1x688x512_S688x512 = slotM 0 := rfl
  have hcanon1 : (stM.slice (Rect.unit (s := S2x688x512) ![1, 0, 0] S1x688x512.size inb_S2x688x512_S1x688x512_1_0_0) (fun _ => rfl)).squeeze S688x512 squeezes_S1x688x512_S688x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have h2 : if (0 : Fin 16) = 15 then k0_cond2 i = 1#1 else ¬ k0_cond2 i = 1#1 := hw 0
  have h3 : if (1 : Fin 16) = 15 then k0_cond3 i = 1#1 else ¬ k0_cond3 i = 1#1 := hw 1
  have h4 : if (2 : Fin 16) = 15 then k0_cond4 i = 1#1 else ¬ k0_cond4 i = 1#1 := hw 2
  have h5 : if (3 : Fin 16) = 15 then k0_cond5 i = 1#1 else ¬ k0_cond5 i = 1#1 := hw 3
  have h6 : if (4 : Fin 16) = 15 then k0_cond6 i = 1#1 else ¬ k0_cond6 i = 1#1 := hw 4
  have h7 : if (5 : Fin 16) = 15 then k0_cond7 i = 1#1 else ¬ k0_cond7 i = 1#1 := hw 5
  have h8 : if (6 : Fin 16) = 15 then k0_cond8 i = 1#1 else ¬ k0_cond8 i = 1#1 := hw 6
  have h9 : if (7 : Fin 16) = 15 then k0_cond9 i = 1#1 else ¬ k0_cond9 i = 1#1 := hw 7
  have h10 : if (8 : Fin 16) = 15 then k0_cond10 i = 1#1 else ¬ k0_cond10 i = 1#1 := hw 8
  have h11 : if (9 : Fin 16) = 15 then k0_cond11 i = 1#1 else ¬ k0_cond11 i = 1#1 := hw 9
  have h12 : if (10 : Fin 16) = 15 then k0_cond12 i = 1#1 else ¬ k0_cond12 i = 1#1 := hw 10
  have h13 : if (11 : Fin 16) = 15 then k0_cond13 i = 1#1 else ¬ k0_cond13 i = 1#1 := hw 11
  have h14 : if (12 : Fin 16) = 15 then k0_cond14 i = 1#1 else ¬ k0_cond14 i = 1#1 := hw 12
  have h15 : if (13 : Fin 16) = 15 then k0_cond15 i = 1#1 else ¬ k0_cond15 i = 1#1 := hw 13
  have h16 : if (14 : Fin 16) = 15 then k0_cond16 i = 1#1 else ¬ k0_cond16 i = 1#1 := hw 14
  have h17 : if (15 : Fin 16) = 15 then k0_cond17 i = 1#1 else ¬ k0_cond17 i = 1#1 := hw 15
  simp only [Fin.reduceEq, Fin.isValue, ↓reduceIte] at h2 h3 h4 h5 h6 h7 h8 h9 h10 h11 h12 h13 h14 h15 h16 h17
  unfold transfers
  iintro ⟨Hf, HW, Hk⟩
  sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17 | sl_exact h18)
  sl_step
  iapply Hk
  isplitl [Hf_dst]; · iexact Hf_dst
  isplitl [Hf_src]; · iexact Hf_src
  isplitl [Hf]; · iexact Hf
  iexists _; iexact HW

set_option maxHeartbeats 1000000 in
/-- The last tile: nothing is waited for and nothing started. -/
theorem wait_idle (c : Dev nD) (i : grid0.Coords) (arg2 : Memref sig .tc .vmem S512x11008 .bf16) (harg2 : arg2.IsWhole) (arg4 : Memref sig .tc .vmem S512x512 .bf16) (harg4 : arg4.IsWhole)
    (hn : ¬ (i 0).val + 1 < 8) (B : Waits sig Unit) (K : PUnit → sProp 𝕄) :
    iprop(owes (c : Thread nD τ) 0 B ∗ (iprop(∃ B', owes (c : Thread nD τ) 0 B') -∗ K ⟨⟩))
      ⊢ wp frame (wpE (defs₀ (F := F)) Variants.none c none) Set.univ (transfers i arg2 harg2 arg4 harg4) K := by
  have h1 := first_off i (fun h => hn (by omega))
  have hw := wait_none i hn
  have h18 := start_none i (fun h => hn (by omega))
  have h2 : ¬ k0_cond2 i = 1#1 := hw 0
  have h3 : ¬ k0_cond3 i = 1#1 := hw 1
  have h4 : ¬ k0_cond4 i = 1#1 := hw 2
  have h5 : ¬ k0_cond5 i = 1#1 := hw 3
  have h6 : ¬ k0_cond6 i = 1#1 := hw 4
  have h7 : ¬ k0_cond7 i = 1#1 := hw 5
  have h8 : ¬ k0_cond8 i = 1#1 := hw 6
  have h9 : ¬ k0_cond9 i = 1#1 := hw 7
  have h10 : ¬ k0_cond10 i = 1#1 := hw 8
  have h11 : ¬ k0_cond11 i = 1#1 := hw 9
  have h12 : ¬ k0_cond12 i = 1#1 := hw 10
  have h13 : ¬ k0_cond13 i = 1#1 := hw 11
  have h14 : ¬ k0_cond14 i = 1#1 := hw 12
  have h15 : ¬ k0_cond15 i = 1#1 := hw 13
  have h16 : ¬ k0_cond16 i = 1#1 := hw 14
  have h17 : ¬ k0_cond17 i = 1#1 := hw 15
  unfold transfers
  iintro ⟨HW, Hk⟩
  sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17 | sl_exact h18)
  sl_step
  iapply Hk
  iexists _; iexact HW

end Cert.Kernel3Ideal.Down

end
-- ==== Proof.DownFirst.lean ====
module

public import proofs.«01_k».proof.Proof.DownFill
public import proofs.«01_k».proof.Proof.DownWait

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first tile, brought in whole before the first product -/

/-- `filled_next` for a store of what a slot held when it was loaded. -/
theorem filled_load {c : Dev nD} (W : Cont (F := F) c whM) (n x : ℕ) (hx : x < 16) (s : Fin 2) (f : Cont (F := F) c wbM)
    (L : List (View.Piece (Elt F) S2x1x11008x512 .bf16)) (g : Cont (F := F) c stM)
    (off : Fin 4 → ℕ) (inb : ∀ a, off a + S1x1x688x512.size a ≤ S2x1x11008x512.size a) (ho : off = ![n % 2, 0, 688 * x, 0])
    (off' : Fin 3 → ℕ) (inb' : ∀ a, off' a + S1x688x512.size a ≤ S2x688x512.size a) (ho' : off' = ![s.val, 0, 0])
    (hg : Holds W n ⟨x, hx⟩ s g) (hL : Filled W n x (wbM.view.writes (Elt F) f L)) :
    Filled W n (x + 1) (wbM.view.writes (Elt F) f (⟨Rect.unit (s := S2x1x11008x512) off S1x1x688x512.size inb,
      k0_pay20 (stM.view.readAt (Elt F) (Rect.unit (s := S2x688x512) off' S1x688x512.size inb').toLoadRect g)⟩ :: L)) :=
  filled_next W n x f L hL off inb ho _ fun j y h2 h3 => holds_pay W n ⟨x, hx⟩ s g hg off' inb' ho' j y h2 h3

set_option sl_exec.dmaWindow true
set_option maxHeartbeats 8000000 in
/-- The prologue: with the weights, the resident tiles and the slots whole, it leaves tile 0 narrowed in its half. -/
theorem prologue (c : Dev nD) (i : grid0.Coords) (arg2 : Memref sig .tc .vmem S512x11008 .bf16) (harg2 : arg2.IsWhole) (arg4 : Memref sig .tc .vmem S512x512 .bf16) (harg4 : arg4.IsWhole)
    (W : Cont (F := F) c whM) (d0 : Cont (F := F) c wbM) (d1 : Cont (F := F) c stM) (B : Waits sig Unit) (K : PUnit → sProp 𝕄) :
    iprop((whM.view.loc (c : Thread nD τ) ↦{fullShare} W) ∗ (wbM.view.loc (c : Thread nD τ) ↦{fullShare} d0) ∗ (stM.view.loc (c : Thread nD τ) ↦{fullShare} d1)
        ∗ cellP c 0 ∗ cellP c 1 ∗ owes (c : Thread nD τ) 0 B
        ∗ (iprop((whM.view.loc (c : Thread nD τ) ↦{fullShare} W) ∗ (∃ f, ⌜Filled W 0 16 f⌝ ∗ (wbM.view.loc (c : Thread nD τ) ↦{fullShare} f))
            ∗ (∃ g, stM.view.loc (c : Thread nD τ) ↦{fullShare} g) ∗ cellP c 0 ∗ cellP c 1 ∗ (∃ B', owes (c : Thread nD τ) 0 B')) -∗ K ⟨⟩))
      ⊢ wp frame (wpE (defs₀ (F := F)) Variants.none c none) Set.univ (k0_part12 i arg2 harg2 whM (Memref.isWhole_whole _) arg4 harg4 wbM (Memref.isWhole_whole _) stM (Memref.isWhole_whole _) cc0_scratch2) K := by
  iintro ⟨HWh, Hwb, Hst, Hc0, Hc1, HW, Hk⟩
  sl_exec
  sl_step
  iapply Hk
  isplitl [HWh]; · iexact HWh
  isplitl [Hwb]
  · iexists _
    isplitr; swap; · iexact Hwb
    ipureintro
    refine filled_load W 0 15 (by decide) 1 d0 _ _ _ _ rfl _ _ rfl (holds_write W 0 _ 1 _) ?_
    iterate 7
      refine filled_load W 0 _ (by decide) 0 d0 _ _ _ _ rfl _ _ rfl (holds_other W 0 _ 0 1 (by decide) _ _ (holds_write W 0 _ 0 _)) ?_
      refine filled_load W 0 _ (by decide) 1 d0 _ _ _ _ rfl _ _ rfl (holds_other W 0 _ 1 0 (by decide) _ _ (holds_write W 0 _ 1 _)) ?_
    refine filled_load W 0 _ (by decide) 0 d0 _ _ _ _ rfl _ _ rfl (holds_other W 0 _ 0 1 (by decide) _ _ (holds_write W 0 _ 0 _)) ?_
    exact filled_zero W 0 d0
  isplitl [Hst]; · iexists _; iexact Hst
  isplitl [Hc0]; · iexact Hc0
  isplitl [Hc1]; · iexact Hc1
  iexists _; iexact HW

end Cert.Kernel3Ideal.Down

end
-- ==== Proof.DownStart.lean ====
module

public import proofs.«01_k».proof.Proof.DownFirst

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point -/

set_option maxHeartbeats 4000000 in
/-- The first point: tile 0 is brought in whole, and the first two chunks of the next tile are started, the first of
    them waited for. -/
theorem wait_first (c : Dev nD) (i : grid0.Coords) (arg2 : Memref sig .tc .vmem S512x11008 .bf16) (harg2 : arg2.IsWhole) (arg4 : Memref sig .tc .vmem S512x512 .bf16) (harg4 : arg4.IsWhole)
    (h0 : (i 0).val = 0) (h0' : (i 1).val = 0)
    (W : Cont (F := F) c whM) (d0 : Cont (F := F) c wbM) (d1 : Cont (F := F) c stM) (B : Waits sig Unit) (K : PUnit → sProp 𝕄) :
    iprop((whM.view.loc (c : Thread nD τ) ↦{fullShare} W) ∗ (wbM.view.loc (c : Thread nD τ) ↦{fullShare} d0) ∗ (stM.view.loc (c : Thread nD τ) ↦{fullShare} d1)
        ∗ cellP c 0 ∗ cellP c 1 ∗ owes (c : Thread nD τ) 0 B
        ∗ (iprop((∃ f, ⌜Filled W 0 16 f⌝ ∗ (wbM.view.loc (c : Thread nD τ) ↦{fullShare} f))
            ∗ (∃ g, slotP c 0 (landed c W 0 ((i 0).val + 1) 0 g)) ∗ allP c W 0 ∗ cellP c 0
            ∗ (∃ g, flightP c W 1 ((i 0).val + 1) 1 g) ∗ leftP c W 1 ((i 0).val + 1) 1 ∗ (∃ B', owes (c : Thread nD τ) 0 B')) -∗ K ⟨⟩))
      ⊢ wp frame (wpE (defs₀ (F := F)) Variants.none c none) Set.univ (transfers i arg2 harg2 arg4 harg4) K := by
  have h1 : firstCond i = 1#1 := (firstCond_iff i).mpr ⟨h0, h0'⟩
  have hw := wait_here i 0 (by omega) h0'
  have h18 := start_off i 0 h0' (by decide)
  have hcanon0 : (stM.slice (Rect.unit (s := S2x688x512) ![0, 0, 0] S1x688x512.size inb_S2x688x512_S1x688x512_0_0_0) (fun _ => rfl)).squeeze S688x512 squeezes_S1x688x512_S688x512 = slotM 0 := rfl
  have hcanon1 : (stM.slice (Rect.unit (s := S2x688x512) ![1, 0, 0] S1x688x512.size inb_S2x688x512_S1x688x512_1_0_0) (fun _ => rfl)).squeeze S688x512 squeezes_S1x688x512_S688x512 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (whM.slice (Rect.unit (s := S1x2x11008x4096) ![0, 1, 0, 512] S1x1x688x512.size inb_S1x2x11008x4096_S1x1x688x512_0_1_0_512) (fun _ => rfl)).squeeze S688x512 squeezes_S1x1x688x512_S688x512 = chunkM ((i 0).val + 1) 0 :=
    chunk_of_off _ _ _ _ (by rw [h0]; rfl)
  have hcut : ∀ B, iprop((whM.view.loc (c : Thread nD τ) ↦{fullShare} W) ∗ (wbM.view.loc (c : Thread nD τ) ↦{fullShare} d0) ∗ (stM.view.loc (c : Thread nD τ) ↦{fullShare} d1)
        ∗ cellP c 0 ∗ cellP c 1 ∗ owes (c : Thread nD τ) 0 B)
      ⊢ wp frame (wpE (defs₀ (F := F)) Variants.none c none) Set.univ (k0_part12 i arg2 harg2 whM (Memref.isWhole_whole _) arg4 harg4 wbM (Memref.isWhole_whole _) stM (Memref.isWhole_whole _) cc0_scratch2)
        fun _ => iprop((∃ f, ⌜Filled W 0 16 f⌝ ∗ (wbM.view.loc (c : Thread nD τ) ↦{fullShare} f))
          ∗ (∃ g, slotP c 0 g) ∗ (∃ g, slotP c 1 g) ∗ chunkP c W 0 ((i 0).val + 1) 0 ∗ leftP c W 0 ((i 0).val + 1) 0
          ∗ chunkP c W 1 ((i 0).val + 1) 1 ∗ leftP c W 1 ((i 0).val + 1) 1 ∗ cellP c 0 ∗ cellP c 1 ∗ (∃ B', owes (c : Thread nD τ) 0 B')) := by
    intro B
    iintro ⟨HWh, Hwb, Hst, Hc0, Hc1, HW⟩
    iapply (prologue c i arg2 harg2 arg4 harg4 W d0 d1 B _)
    isplitl [HWh]; · iexact HWh
    isplitl [Hwb]; · iexact Hwb
    isplitl [Hst]; · iexact Hst
    isplitl [Hc0]; · iexact Hc0
    isplitl [Hc1]; · iexact Hc1
    isplitl [HW]; · iexact HW
    iintro ⟨HWh, Hwb, Hst, Hc0, Hc1, HW⟩
    ihave HWs := (shares_split c W).1 $$ HWh
    icases HWs with ⟨HW0, HW1⟩
    ihave H0 := (all_split c W 0 ((i 0).val + 1) 0).1 $$ HW0
    icases H0 with ⟨Hh0, Hl0⟩
    ihave H1 := (all_split c W 1 ((i 0).val + 1) 1).1 $$ HW1
    icases H1 with ⟨Hh1, Hl1⟩
    ihave Hss := (Ring.slots2_split (U := Pipeline.UD sig nD τ) (ℓ := (c : Thread nD τ).loc cc0_scratch1) (q := fullShare) slotSet slots_disjoint slots_cover
      (slotP c 0) (slotP c 1) (slotP_eq c 0) (slotP_eq c 1)) $$ Hst
    icases Hss with ⟨Hs0, Hs1⟩
    isplitl [Hwb]; · iexact Hwb
    isplitl [Hs0]; · iexact Hs0
    isplitl [Hs1]; · iexact Hs1
    isplitl [Hh0]; · iexact Hh0
    isplitl [Hl0]; · iexact Hl0
    isplitl [Hh1]; · iexact Hh1
    isplitl [Hl1]; · iexact Hl1
    isplitl [Hc0]; · iexact Hc0
    isplitl [Hc1]; · iexact Hc1
    iexact HW
  have h2 : if (0 : Fin 16) = _ then k0_cond2 i = 1#1 else ¬ k0_cond2 i = 1#1 := hw 0
  have h3 : if (1 : Fin 16) = _ then k0_cond3 i = 1#1 else ¬ k0_cond3 i = 1#1 := hw 1
  have h4 : if (2 : Fin 16) = _ then k0_cond4 i = 1#1 else ¬ k0_cond4 i = 1#1 := hw 2
  have h5 : if (3 : Fin 16) = _ then k0_cond5 i = 1#1 else ¬ k0_cond5 i = 1#1 := hw 3
  have h6 : if (4 : Fin 16) = _ then k0_cond6 i = 1#1 else ¬ k0_cond6 i = 1#1 := hw 4
  have h7 : if (5 : Fin 16) = _ then k0_cond7 i = 1#1 else ¬ k0_cond7 i = 1#1 := hw 5
  have h8 : if (6 : Fin 16) = _ then k0_cond8 i = 1#1 else ¬ k0_cond8 i = 1#1 := hw 6
  have h9 : if (7 : Fin 16) = _ then k0_cond9 i = 1#1 else ¬ k0_cond9 i = 1#1 := hw 7
  have h10 : if (8 : Fin 16) = _ then k0_cond10 i = 1#1 else ¬ k0_cond10 i = 1#1 := hw 8
  have h11 : if (9 : Fin 16) = _ then k0_cond11 i = 1#1 else ¬ k0_cond11 i = 1#1 := hw 9
  have h12 : if (10 : Fin 16) = _ then k0_cond12 i = 1#1 else ¬ k0_cond12 i = 1#1 := hw 10
  have h13 : if (11 : Fin 16) = _ then k0_cond13 i = 1#1 else ¬ k0_cond13 i = 1#1 := hw 11
  have h14 : if (12 : Fin 16) = _ then k0_cond14 i = 1#1 else ¬ k0_cond14 i = 1#1 := hw 12
  have h15 : if (13 : Fin 16) = _ then k0_cond15 i = 1#1 else ¬ k0_cond15 i = 1#1 := hw 13
  have h16 : if (14 : Fin 16) = _ then k0_cond16 i = 1#1 else ¬ k0_cond16 i = 1#1 := hw 14
  have h17 : if (15 : Fin 16) = _ then k0_cond17 i = 1#1 else ¬ k0_cond17 i = 1#1 := hw 15
  simp only [Fin.reduceEq, Fin.isValue, ↓reduceIte] at h2 h3 h4 h5 h6 h7 h8 h9 h10 h11 h12 h13 h14 h15 h16 h17
  unfold transfers
  iintro ⟨HWh, Hwb, Hst, Hc0, Hc1, HW, Hk⟩
  sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17 | sl_exact h18)
  sl_step
  iapply Hk
  isplitl [Hk0_part12_1]
  · iexists _; isplitr; swap; · iexact Hk0_part12_1
    ipureintro; exact hk0_part12_0
  isplitl [Hk0_part12_2]; · iexists _; iexact Hk0_part12_2
  isplitl [Hk0_part12_4 Hk0_part12_5]
  · iapply (all_split c W 0 ((i 0).val + 1) 0).2
    isplitl [Hk0_part12_4]; · iexact Hk0_part12_4
    unfold leftP; iexact Hk0_part12_5
  isplitl [Hk0_part12_8]; · iexact Hk0_part12_8
  isplitl [Hk0_part12_9]; · iexists _; iexact Hk0_part12_9
  isplitl [Hk0_part12_7]; · unfold leftP; iexact Hk0_part12_7
  iexists _; iexact Hk0_part12_10

end Cert.Kernel3Ideal.Down

end
-- ==== Proof.Stream.lean ====
/- Weights streamed through two slots into two resident tiles: what is held between the points of the grid, and how a point
   goes on from it. It is stated over the propositions of a kernel, and used by the down and the input projection. -/
module

public import Idealize.ShloMosaic.Lib.Ring
public import Idealize.ShloMosaic.Lib.Tactic

@[expose] public section

noncomputable section

namespace Cert.Stream

open Idealize.SL Idealize.SL.RA Idealize.SL.BI
open scoped Idealize.SL.BI
open Idealize.SL.BI.BIBase Idealize.SL.BI.Laws Idealize.SL.ProofMode Idealize.SL.Sem

/-- What a kernel holds of its stream: tiles of the weights, `C` chunks each, come through two slots, chunk `k % C` of tile
    `k / C + 1` at point `k` through slot `k % 2`. -/
structure Parts (M : Type) [URA M] (C : ℕ) where
  /-- The contents of the resident tiles, of the staging buffer and of a slot, and the record of the waits. -/
  Tiles : Type
  Stage : Type
  Slot : Type
  Waits : Type
  /-- All of the weights, the resident tiles, the staging buffer, and the waits. -/
  weights : sProp M
  tiles : Tiles → sProp M
  stage : Stage → sProp M
  owed : Waits → sProp M
  /-- A slot's semaphore at zero, the slot, the slot's share of the weights, a chunk of that share and what is left of it. -/
  cell : Fin 2 → sProp M
  slot : Fin 2 → Slot → sProp M
  share : Fin 2 → sProp M
  chunk : Fin 2 → ℕ → Fin C → sProp M
  left : Fin 2 → ℕ → Fin C → sProp M
  /-- A chunk's transfer into a slot, in flight, and what it leaves there. -/
  flight : Fin 2 → ℕ → Fin C → Slot → sProp M
  landed : Fin 2 → ℕ → Fin C → Slot → Slot
  /-- The first chunks of a tile lie in the resident tiles; a slot holds a chunk. -/
  Filled : ℕ → ℕ → Tiles → Prop
  Holds : ℕ → Fin C → Fin 2 → Slot → Prop
  split : ∀ s n x, share s ⊣⊢ iprop(chunk s n x ∗ left s n x)
  filled_zero : ∀ n f, Filled n 0 f
  holds_landed : ∀ s n x f, Holds n x s (landed s n x f)

/-- The slot and the chunk that are in flight before point `k`, and the tile that the chunk is of. -/
abbrev slotOf (k : ℕ) : Fin 2 := ⟨k % 2, Nat.mod_lt _ (by decide)⟩
abbrev chunkOf (C : ℕ) [NeZero C] (k : ℕ) : Fin C := ⟨k % C, Nat.mod_lt _ (NeZero.pos C)⟩
abbrev tileOn (C k : ℕ) : ℕ := k / C + 1

variable {M : Type} [URA M] {C : ℕ} [NeZero C] (S : Parts M C)

namespace Parts

/-- Slot `s` free: nothing in flight into it, and all of its share of the weights at hand. -/
def free (s : Fin 2) : sProp M := iprop(S.cell s ∗ (∃ f, S.slot s f) ∗ S.share s)
/-- Chunk `x` of tile `n` in flight into slot `s`. -/
def busy (s : Fin 2) (n : ℕ) (x : Fin C) : sProp M := iprop((∃ f, S.flight s n x f) ∗ S.left s n x)
/-- What is held of the slots and of the weights before point `k`, of which the first `last` have a chunk to wait for. -/
def ring (last k : ℕ) : sProp M :=
  if k = 0 then iprop(S.weights ∗ (∃ d, S.stage d) ∗ S.cell 0 ∗ S.cell 1)
  else if k < last then iprop(S.busy (slotOf k) (tileOn C k) (chunkOf C k) ∗ S.free (slotOf (k + 1)))
  else iprop(S.free (slotOf k) ∗ S.free (slotOf (k + 1)))
/-- What is held beside slot `slotOf k`, in the course of point `k`. -/
def rest (last k : ℕ) : sProp M :=
  iprop(S.cell (slotOf k) ∗ S.share (slotOf k)
    ∗ if k + 1 < last then S.busy (slotOf (k + 1)) (tileOn C (k + 1)) (chunkOf C (k + 1)) else S.free (slotOf (k + 1)))

/-- With that slot it is what is held before the next point. -/
theorem ring_next (last k : ℕ) : iprop((∃ g, S.slot (slotOf k) g) ∗ S.rest last k) ⊢ S.ring last (k + 1) := by
  unfold ring rest
  rw [if_neg (Nat.succ_ne_zero k), show slotOf (k + 1 + 1) = slotOf k from Fin.ext (show (k + 1 + 1) % 2 = k % 2 by omega)]
  split
  all_goals
    unfold free
    iintro ⟨Hs, Hc, Ha, Hb⟩
    isplitl [Hb]; · iexact Hb
    isplitl [Hc]; · iexact Hc
    isplitl [Hs]; · iexact Hs
    iexact Ha

/-- The resident tiles before point `k`: the present one whole, and of the next one the chunks that have been narrowed. -/
def Stored (last k : ℕ) (f : S.Tiles) : Prop :=
  S.Filled (k / C) C f ∧ (k < last → S.Filled (tileOn C k) (k % C) f)

/-- They go on from point to point, of `T` tiles in all. -/
theorem stored_next (T k : ℕ) (hk : k + 1 < C * T) (f : S.Tiles) (h : S.Filled (k / C) C f)
    (h' : k < C * (T - 1) → S.Filled (tileOn C k) (k % C + 1) f) : S.Stored (C * (T - 1)) (k + 1) f := by
  have hC := NeZero.pos C
  have hq := Nat.mod_add_div k C
  have hm := Nat.mod_lt k hC
  by_cases hl : k % C + 1 = C
  · obtain ⟨e, e'⟩ := (Nat.div_mod_unique (d := k / C + 1) (c := 0) (a := k + 1) hC).mpr ⟨by rw [Nat.mul_succ]; omega, hC⟩
    refine ⟨?_, fun _ => by rw [e']; exact S.filled_zero _ f⟩
    have hT : k / C + 1 < T := by
      refine Nat.lt_of_mul_lt_mul_left (a := C) ?_
      rw [Nat.mul_succ]; omega
    have hle : C * (k / C + 1) ≤ C * (T - 1) := Nat.mul_le_mul_left C (by omega)
    rw [Nat.mul_succ] at hle
    have := h' (by omega)
    rw [hl] at this
    rw [e]; exact this
  · obtain ⟨e, e'⟩ := (Nat.div_mod_unique (d := k / C) (c := k % C + 1) (a := k + 1) hC).mpr ⟨by omega, by omega⟩
    refine ⟨by rw [e]; exact h, fun hl => ?_⟩
    unfold tileOn; rw [e, e']; exact h' (by omega)

/-- What the transfers of point `k` leave: the resident tiles as they were (after the first point's, with the first tile),
    and where a chunk was in flight the point's slot holding it. -/
def after (last k : ℕ) : sProp M :=
  iprop((∃ f, ⌜S.Stored last k f⌝ ∗ S.tiles f) ∗ (∃ g, ⌜k < last → S.Holds (tileOn C k) (chunkOf C k) (slotOf k) g⌝ ∗ S.slot (slotOf k) g)
    ∗ S.rest last k ∗ (∃ B, S.owed B))

/-- The transfers of point `k`, from their four runs: the first point; a point whose chunk lands while the next is
    started; the last point that has a chunk; and a point without one. `Q` is what the transfers are to reach, and `R` their run. -/
theorem step (last k : ℕ) (hlast : 1 < last) (Q R : sProp M) (B : S.Waits)
    (first : k = 0 → ∀ f d, iprop(S.weights ∗ S.tiles f ∗ S.stage d ∗ S.cell 0 ∗ S.cell 1 ∗ S.owed B
      ∗ (iprop((∃ f, ⌜S.Filled 0 C f⌝ ∗ S.tiles f) ∗ (∃ g, S.slot (slotOf k) (S.landed (slotOf k) (tileOn C k) (chunkOf C k) g)) ∗ S.share (slotOf k)
        ∗ S.cell (slotOf k) ∗ (∃ g, S.flight (slotOf (k + 1)) (tileOn C (k + 1)) (chunkOf C (k + 1)) g) ∗ S.left (slotOf (k + 1)) (tileOn C (k + 1)) (chunkOf C (k + 1)) ∗ (∃ B', S.owed B')) -∗ Q)) ⊢ R)
    (next : k ≠ 0 → k + 1 < last → ∀ f f', iprop(S.flight (slotOf k) (tileOn C k) (chunkOf C k) f ∗ S.cell (slotOf (k + 1)) ∗ S.slot (slotOf (k + 1)) f'
        ∗ S.chunk (slotOf (k + 1)) (tileOn C (k + 1)) (chunkOf C (k + 1)) ∗ S.owed B
      ∗ (iprop(S.slot (slotOf k) (S.landed (slotOf k) (tileOn C k) (chunkOf C k) f) ∗ S.chunk (slotOf k) (tileOn C k) (chunkOf C k) ∗ S.cell (slotOf k)
        ∗ S.flight (slotOf (k + 1)) (tileOn C (k + 1)) (chunkOf C (k + 1)) f' ∗ (∃ B', S.owed B')) -∗ Q)) ⊢ R)
    (final : k ≠ 0 → k + 1 = last → ∀ f, iprop(S.flight (slotOf k) (tileOn C k) (chunkOf C k) f ∗ S.owed B
      ∗ (iprop(S.slot (slotOf k) (S.landed (slotOf k) (tileOn C k) (chunkOf C k) f) ∗ S.chunk (slotOf k) (tileOn C k) (chunkOf C k) ∗ S.cell (slotOf k)
        ∗ (∃ B', S.owed B')) -∗ Q)) ⊢ R)
    (idle : last ≤ k → iprop(S.owed B ∗ (iprop(∃ B', S.owed B') -∗ Q)) ⊢ R) :
    iprop((∃ f, ⌜1 ≤ k → S.Stored last k f⌝ ∗ S.tiles f) ∗ S.ring last k ∗ S.owed B ∗ (S.after last k -∗ Q)) ⊢ R := by
  unfold after ring rest
  by_cases h0 : k = 0
  · subst h0
    rw [if_pos rfl, if_pos hlast]
    iintro ⟨⟨%f, -, Ht⟩, ⟨Hw, ⟨%d, Hst⟩, Hc0, Hc1⟩, HW, Hk⟩
    iapply (first rfl f d)
    isplitl [Hw]; · iexact Hw
    isplitl [Ht]; · iexact Ht
    isplitl [Hst]; · iexact Hst
    isplitl [Hc0]; · iexact Hc0
    isplitl [Hc1]; · iexact Hc1
    isplitl [HW]; · iexact HW
    iintro ⟨⟨%f', %hf', Ht⟩, ⟨%g, Hs⟩, Ha, Hc, Hf, Hl, HW⟩
    iapply Hk
    isplitl [Ht]
    · iexists f'; isplitr; swap; · iexact Ht
      ipureintro
      unfold Stored
      rw [Nat.zero_div, Nat.zero_mod]
      exact ⟨hf', fun _ => S.filled_zero _ _⟩
    isplitl [Hs]
    · iexists _; isplitr; swap; · iexact Hs
      ipureintro; exact fun _ => S.holds_landed _ _ _ g
    isplitl [Hc Ha Hf Hl]
    · isplitl [Hc]; · iexact Hc
      isplitl [Ha]; · iexact Ha
      unfold busy
      isplitl [Hf]; · iexact Hf
      iexact Hl
    iexact HW
  rw [if_neg h0]
  by_cases hl : k < last
  · rw [if_pos hl]
    by_cases he : k + 1 < last
    · rw [if_pos he]
      unfold busy free
      iintro ⟨⟨%ft, %ht, Ht⟩, ⟨⟨⟨%f, Hf⟩, Hl⟩, Hc, ⟨%f', Hs'⟩, Ha⟩, HW, Hk⟩
      ihave H2 := (S.split (slotOf (k + 1)) (tileOn C (k + 1)) (chunkOf C (k + 1))).1 $$ Ha
      icases H2 with ⟨Hh, Hl'⟩
      iapply (next h0 he f f')
      isplitl [Hf]; · iexact Hf
      isplitl [Hc]; · iexact Hc
      isplitl [Hs']; · iexact Hs'
      isplitl [Hh]; · iexact Hh
      isplitl [HW]; · iexact HW
      iintro ⟨Hs, Hh, Hc, Hf, HW⟩
      iapply Hk
      isplitl [Ht]
      · iexists ft; isplitr; · ipureintro; exact ht (by omega)
        iexact Ht
      isplitl [Hs]
      · iexists _; isplitr; swap; · iexact Hs
        ipureintro; exact fun _ => S.holds_landed _ _ _ f
      isplitl [Hc Hh Hl Hf Hl']
      · isplitl [Hc]; · iexact Hc
        isplitl [Hh Hl]
        · iapply (S.split (slotOf k) (tileOn C k) (chunkOf C k)).2
          isplitl [Hh]; · iexact Hh
          iexact Hl
        isplitl [Hf]; · iexists _; iexact Hf
        iexact Hl'
      iexact HW
    · rw [if_neg he]
      unfold busy
      iintro ⟨⟨%ft, %ht, Ht⟩, ⟨⟨⟨%f, Hf⟩, Hl⟩, Hfr⟩, HW, Hk⟩
      iapply (final h0 (by omega) f)
      isplitl [Hf]; · iexact Hf
      isplitl [HW]; · iexact HW
      iintro ⟨Hs, Hh, Hc, HW⟩
      iapply Hk
      isplitl [Ht]
      · iexists ft; isplitr; · ipureintro; exact ht (by omega)
        iexact Ht
      isplitl [Hs]
      · iexists _; isplitr; swap; · iexact Hs
        ipureintro; exact fun _ => S.holds_landed _ _ _ f
      isplitl [Hc Hh Hl Hfr]
      · isplitl [Hc]; · iexact Hc
        isplitl [Hh Hl]
        · iapply (S.split (slotOf k) (tileOn C k) (chunkOf C k)).2
          isplitl [Hh]; · iexact Hh
          iexact Hl
        iexact Hfr
      iexact HW
  · rw [if_neg hl, if_neg (show ¬ k + 1 < last by omega)]
    unfold free
    iintro ⟨⟨%ft, %ht, Ht⟩, ⟨⟨Hc, ⟨%g, Hs⟩, Ha⟩, Hfr⟩, HW, Hk⟩
    iapply (idle (by omega))
    isplitl [HW]; · iexact HW
    iintro HW
    iapply Hk
    isplitl [Ht]
    · iexists ft; isplitr; · ipureintro; exact ht (by omega)
      iexact Ht
    isplitl [Hs]
    · iexists g; isplitr; · ipureintro; exact fun h => absurd h hl
      iexact Hs
    isplitl [Hc Ha Hfr]
    · isplitl [Hc]; · iexact Hc
      isplitl [Ha]; · iexact Ha
      iexact Hfr
    iexact HW

end Parts

end Cert.Stream

end
-- ==== Proof.DownRing.lean ====
module

public import proofs.«01_k».proof.Proof.DownStart
public import proofs.«01_k».proof.Proof.DownWait
public import proofs.«01_k».proof.Proof.DownFill
public import proofs.«01_k».proof.Proof.Stream

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Stream (slotOf chunkOf tileOn)
open Idealize.ShloMosaic.Pipeline (Dat Cfg Window BodyObligation cellOf)

variable {F : FTy → Type} [FloatOps F]

local notation "𝕄" => MT nD τ sig Unit (Elt F) ℕ (Pipeline.UD sig nD τ) ℕ

/-! ## The transfers, point by point -/

/-- The number of the points that have a chunk to wait for: those before the last tile. -/
abbrev lastK : ℕ := 16 * (8 - 1)

section Ring
variable (c : Dev nD) (W : Cont (F := F) c whM)

/-- The kernel's stream: the weights' tiles, 16 chunks each. -/
abbrev parts : Cert.Stream.Parts 𝕄 16 where
  Tiles := Cont (F := F) c wbM
  Stage := Cont (F := F) c stM
  Slot := Cont (F := F) c stM
  Waits := Waits sig Unit
  weights := whM.view.loc (c : Thread nD τ) ↦{fullShare} W
  tiles f := wbM.view.loc (c : Thread nD τ) ↦{fullShare} f
  stage d := stM.view.loc (c : Thread nD τ) ↦{fullShare} d
  owed B := owes (c : Thread nD τ) 0 B
  cell := cellP c
  slot s f := slotP c s f
  share := allP c W
  chunk := chunkP c W
  left := leftP c W
  flight s n x f := flightP c W s n x f
  landed s n x f := landed c W s n x f
  Filled := Filled W
  Holds n x s g := Holds W n x s g
  split := all_split c W
  filled_zero := filled_zero W
  holds_landed s n x f := holds_landed W n x s f

/-- What the kernel holds of its slots and of the weights before point `k`, and in the course of it; and the resident tiles. -/
abbrev ringP (k : ℕ) : sProp 𝕄 := (parts c W).ring lastK k
abbrev restP (k : ℕ) : sProp 𝕄 := (parts c W).rest lastK k
abbrev Stored (k : ℕ) (f : Cont (F := F) c wbM) : Prop := (parts c W).Stored lastK k f

end Ring

theorem coords_eq : ∀ t : Fin grid0.N, (grid0.coords t 0).val = t.val / 16 ∧ (grid0.coords t 1).val = t.val % 16 := by decide +kernel
theorem steps_eq : ∀ k : Fin 128, ¬ k.val % 16 = 15 →
    (chunkOf 16 k.val = 0 ∧ chunkOf 16 (k.val + 1) = 1 ∧ slotOf k.val = 0 ∧ slotOf (k.val + 1) = 1)
    ∨ (chunkOf 16 k.val = 1 ∧ chunkOf 16 (k.val + 1) = 2 ∧ slotOf k.val = 1 ∧ slotOf (k.val + 1) = 0)
    ∨ (chunkOf 16 k.val = 2 ∧ chunkOf 16 (k.val + 1) = 3 ∧ slotOf k.val = 0 ∧ slotOf (k.val + 1) = 1)
    ∨ (chunkOf 16 k.val = 3 ∧ chunkOf 16 (k.val + 1) = 4 ∧ slotOf k.val = 1 ∧ slotOf (k.val + 1) = 0)
    ∨ (chunkOf 16 k.val = 4 ∧ chunkOf 16 (k.val + 1) = 5 ∧ slotOf k.val = 0 ∧ slotOf (k.val + 1) = 1)
    ∨ (chunkOf 16 k.val = 5 ∧ chunkOf 16 (k.val + 1) = 6 ∧ slotOf k.val = 1 ∧ slotOf (k.val + 1) = 0)
    ∨ (chunkOf 16 k.val = 6 ∧ chunkOf 16 (k.val + 1) = 7 ∧ slotOf k.val = 0 ∧ slotOf (k.val + 1) = 1)
    ∨ (chunkOf 16 k.val = 7 ∧ chunkOf 16 (k.val + 1) = 8 ∧ slotOf k.val = 1 ∧ slotOf (k.val + 1) = 0)
    ∨ (chunkOf 16 k.val = 8 ∧ chunkOf 16 (k.val + 1) = 9 ∧ slotOf k.val = 0 ∧ slotOf (k.val + 1) = 1)
    ∨ (chunkOf 16 k.val = 9 ∧ chunkOf 16 (k.val + 1) = 10 ∧ slotOf k.val = 1 ∧ slotOf (k.val + 1) = 0)
    ∨ (chunkOf 16 k.val = 10 ∧ chunkOf 16 (k.val + 1) = 11 ∧ slotOf k.val = 0 ∧ slotOf (k.val + 1) = 1)
    ∨ (chunkOf 16 k.val = 11 ∧ chunkOf 16 (k.val + 1) = 12 ∧ slotOf k.val = 1 ∧ slotOf (k.val + 1) = 0)
    ∨ (chunkOf 16 k.val = 12 ∧ chunkOf 16 (k.val + 1) = 13 ∧ slotOf k.val = 0 ∧ slotOf (k.val + 1) = 1)
    ∨ (chunkOf 16 k.val = 13 ∧ chunkOf 16 (k.val + 1) = 14 ∧ slotOf k.val = 1 ∧ slotOf (k.val + 1) = 0)
    ∨ (chunkOf 16 k.val = 14 ∧ chunkOf 16 (k.val + 1) = 15 ∧ slotOf k.val = 0 ∧ slotOf (k.val + 1) = 1) := by decide +kernel

set_option maxHeartbeats 1000000 in
/-- The transfers of point `t`: the resident tiles stay (at the first point the first one is brought in), and where a
    chunk was in flight the point's slot holds it. -/
theorem transfers_step (c : Dev nD) (t : Fin grid0.N) (arg2 : Memref sig .tc .vmem S512x11008 .bf16) (harg2 : arg2.IsWhole) (arg4 : Memref sig .tc .vmem S512x512 .bf16) (harg4 : arg4.IsWhole)
    (W : Cont (F := F) c whM) (B : Waits sig Unit) (K : PUnit → sProp 𝕄) :
    iprop((∃ f, ⌜1 ≤ t.val → Stored c W t.val f⌝ ∗ (wbM.view.loc (c : Thread nD τ) ↦{fullShare} f)) ∗ ringP c W t.val ∗ owes (c : Thread nD τ) 0 B
        ∗ (iprop((∃ f, ⌜Stored c W t.val f⌝ ∗ (wbM.view.loc (c : Thread nD τ) ↦{fullShare} f))
            ∗ (∃ g, ⌜t.val < lastK → Holds W (tileOn 16 t.val) (chunkOf 16 t.val) (slotOf t.val) g⌝ ∗ slotP c (slotOf t.val) g)
            ∗ restP c W t.val ∗ (∃ B', owes (c : Thread nD τ) 0 B')) -∗ K ⟨⟩))
      ⊢ wp frame (wpE (defs₀ (F := F)) Variants.none c none) Set.univ (transfers (grid0.coords t) arg2 harg2 arg4 harg4) K := by
  have hN : t.val < 128 := lt_of_lt_of_eq t.isLt N_0
  obtain ⟨e0, e1⟩ := coords_eq t
  have hn : tileOn 16 t.val = (grid0.coords t 0).val + 1 := by unfold tileOn; omega
  refine (parts c W).step lastK t.val (by decide) (K ⟨⟩) _ B (fun hk f d => ?_) (fun hk hl f f' => ?_) (fun hk hl f => ?_) fun hl => ?_
  · have hs : slotOf t.val = 0 := Fin.ext (show t.val % 2 = 0 by omega)
    have hs' : slotOf (t.val + 1) = 1 := Fin.ext (show (t.val + 1) % 2 = 1 by omega)
    have hx : chunkOf 16 t.val = 0 := Fin.ext (show t.val % 16 = 0 by omega)
    have hx' : chunkOf 16 (t.val + 1) = 1 := Fin.ext (show (t.val + 1) % 16 = 1 by omega)
    have hn' : tileOn 16 (t.val + 1) = (grid0.coords t 0).val + 1 := by unfold tileOn; omega
    rw [hs, hs', hx, hx', hn, hn']
    dsimp only [parts]
    exact wait_first c (grid0.coords t) arg2 harg2 arg4 harg4 (by omega) (by omega) W f d B K
  · have hl' : t.val + 1 < 112 := hl
    rw [hn]
    by_cases h : t.val % 16 = 15
    · have hs : slotOf t.val = 1 := Fin.ext (show t.val % 2 = 1 by omega)
      have hs' : slotOf (t.val + 1) = 0 := Fin.ext (show (t.val + 1) % 2 = 0 by omega)
      have hx : chunkOf 16 t.val = 15 := Fin.ext h
      have hx' : chunkOf 16 (t.val + 1) = 0 := Fin.ext (show (t.val + 1) % 16 = 0 by omega)
      have hn' : tileOn 16 (t.val + 1) = (grid0.coords t 0).val + 2 := by unfold tileOn; omega
      rw [hs, hs', hx, hx', hn']
      dsimp only [parts]
      exact wait_start_last c (grid0.coords t) arg2 harg2 arg4 harg4 W (by omega) (by rw [e1, h]; rfl) f f' B K
    · have hn' : tileOn 16 (t.val + 1) = (grid0.coords t 0).val + 1 := by unfold tileOn; omega
      rw [hn']
      dsimp only [parts]
      exact wait_start c (grid0.coords t) arg2 harg2 arg4 harg4 W (by omega) (by omega) _ _ _ _ e1 (steps_eq ⟨t.val, hN⟩ h) f f' B K
  · have hl' : t.val + 1 = 112 := hl
    have hs : slotOf t.val = 1 := Fin.ext (show t.val % 2 = 1 by omega)
    have hx : chunkOf 16 t.val = 15 := Fin.ext (show t.val % 16 = 15 by omega)
    rw [hn, hs, hx]
    dsimp only [parts]
    exact wait_end c (grid0.coords t) arg2 harg2 arg4 harg4 W (by omega) (by omega) (by rw [e1]; show t.val % 16 = 15; omega) f B K
  · have hl' : 112 ≤ t.val := hl
    dsimp only [parts]
    exact wait_idle c (grid0.coords t) arg2 harg2 arg4 harg4 (by omega) B K

end Cert.Kernel3Ideal.Down

end
-- ==== Proof.DownProduct.lean ====
module

public import proofs.«01_k».proof.Proof.DownFill
public import Idealize.ShloMosaic.Lib.VecWindow

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The product -/

/-- The slot that a point narrows, by its parity. -/
def colSlot (i : grid0.Coords) : Fin 2 := ⟨(i 1).val % 2, Nat.mod_lt _ (by decide)⟩
theorem off33_eq : ∀ i : grid0.Coords, k0_off33 i = ![(colSlot i).val, 0, 0] := by decide +kernel
theorem off34_eq : ∀ i : grid0.Coords, k0_off34 i = ![((i 0).val + 1) % 2, 0, 688 * (i 1).val, 0] := by decide +kernel
theorem off35_eq : ∀ i : grid0.Coords, k0_off35 i = ![(i 0).val % 2, 0, 0, 0] := by decide +kernel
instance (priority := high) closed33 (i : grid0.Coords) : ClosedOff (k0_off33 i) := ⟨![(colSlot i).val, 0, 0], off33_eq i⟩
instance (priority := high) closed34 (i : grid0.Coords) : ClosedOff (k0_off34 i) := ⟨![((i 0).val + 1) % 2, 0, 688 * (i 1).val, 0], off34_eq i⟩
instance (priority := high) closed35 (i : grid0.Coords) : ClosedOff (k0_off35 i) := ⟨![(i 0).val % 2, 0, 0, 0], off35_eq i⟩

/-- The element of the weights under row `k` and column `q` of tile `n`. -/
def tileIdx (n : ℕ) (y : S11008x512.Idx) : S1x2x11008x4096.Idx := fun a =>
  ⟨(![0, 1, (y 0).val, 512 * (n % 8) + (y 1).val] : Fin 4 → ℕ) a, by
    have h2 : (y 0).val < 11008 := (y 0).isLt
    have h3 : (y 1).val < 512 := (y 1).isLt
    fin_cases a <;> simp <;> omega⟩

/-- Tile `n` of the weights, narrowed to bf16. -/
def tileOf {c : Dev nD} (W : Cont (F := F) c whM) (n : ℕ) : S11008x512.Idx → Elt F .bf16 := fun y =>
  FloatOps.truncf .bf16 bitsLt_bf16_f32 (whM.view.read (Elt F) W (tileIdx n y))

/-- A load of a half that holds tile `n` is the tile. -/
theorem load_tile {c : Dev nD} (W : Cont (F := F) c whM) (n : ℕ) (f : Cont (F := F) c wbM) (hf : Filled W n 16 f)
    (off : Fin 4 → ℕ) (inb : ∀ a, off a + S1x1x11008x512.size a ≤ S2x1x11008x512.size a) (ho : off = ![n % 2, 0, 0, 0]) :
    k0_pay21 (wbM.view.readAt (Elt F) (Rect.unit (s := S2x1x11008x512) off S1x1x11008x512.size inb).toLoadRect f) = tileOf W n := by
  subst ho
  funext y
  have h0 : (y 0).val < 11008 := (y 0).isLt
  have h1 : (y 1).val < 512 := (y 1).isLt
  let j : S1x1x11008x512.Idx := fun a => ⟨(![0, 0, (y 0).val, (y 1).val] : Fin 4 → ℕ) a, by fin_cases a <;> simp <;> omega⟩
  unfold k0_pay21
  refine (shapeCast_apply _ _ y j ?_).trans ?_
  · rw [Shape.rowMajor_val_four, Shape.rowMajor_val_two]; simp [j]
  refine (hf _ ?_ ?_).trans ?_
  · simp [LoadRect.idx, Rect.unit, j]
  · simp [LoadRect.idx, Rect.unit, j]; omega
  unfold narrowAt tileOf
  refine congrArg (FloatOps.truncf .bf16 bitsLt_bf16_f32) (congrArg (whM.view.read (Elt F) W) (funext fun a => Fin.ext ?_))
  fin_cases a <;> simp [srcIdx, tileIdx, LoadRect.idx, Rect.unit, j]

set_option maxHeartbeats 4000000 in
/-- The product of a point: it narrows what the point's slot holds into the next tile's half, and stores the block of
    rows times the tile that lies in the half of the present one. -/
theorem product_run (c : Dev nD) (i : grid0.Coords) (arg2 : Memref sig .tc .vmem S512x11008 .bf16) (harg2 : arg2.IsWhole) (arg4 : Memref sig .tc .vmem S512x512 .bf16) (harg4 : arg4.IsWhole)
    (W : Cont (F := F) c whM) (a : S512x11008.Idx → Elt F .bf16) (fw : Cont (F := F) c wbM) (hfw : Filled W (i 0).val 16 fw)
    (s : Fin 2) (hs : s.val = (i 1).val % 2) (g : Cont (F := F) c (slotM s)) (B : Waits sig Unit) (K : PUnit → sProp 𝕄) :
    iprop(owns (c : Thread nD τ) arg2 fullShare a ∗ (∃ o, owns (c : Thread nD τ) arg4 fullShare o) ∗ (wbM.view.loc (c : Thread nD τ) ↦{fullShare} fw) ∗ slotP c s g ∗ owes (c : Thread nD τ) 0 B
        ∗ (iprop(owns (c : Thread nD τ) arg2 fullShare a ∗ owns (c : Thread nD τ) arg4 fullShare (k0_pay1 a (tileOf W (i 0).val))
            ∗ (∃ f, ⌜Filled W (i 0).val 16 f ∧ ∀ x : Fin 16, x.val = (i 1).val → Filled W ((i 0).val + 1) x.val fw → Holds W ((i 0).val + 1) x s g → Filled W ((i 0).val + 1) (x.val + 1) f⌝
                ∗ (wbM.view.loc (c : Thread nD τ) ↦{fullShare} f))
            ∗ slotP c s g ∗ owes (c : Thread nD τ) 0 B) -∗ K ⟨⟩))
      ⊢ wp frame (wpE (defs₀ (F := F)) Variants.none c none) Set.univ (product i arg2 harg2 arg4 harg4) K := by
  obtain rfl : s = colSlot i := Fin.ext hs
  unfold owns
  iintro ⟨⟨%fa, %ha, Ha⟩, ⟨%o, %fo, -, Ho⟩, Hwb, Hst, HW, Hk⟩
  unfold product
  sl_exec
  sl_step
  iapply Hk
  isplitl [Ha]
  · iexists fa; isplitr; · ipureintro; exact ha
    iexact Ha
  have hkeep := filled_keep W (i 0).val 16 fw [] hfw (k0_off34 i) (k0_off34_inb i) _ (off34_eq i)
  isplitl [Ho]
  · iexists _; isplitr; swap; · iexact Ho
    ipureintro
    funext y
    refine (View.read_writes_cons_unit_of_mem (size := S512x512.size) arg4.view fo _ _ [] y y rfl fun a => by fin_cases a <;> simp).trans ?_
    refine congrFun (congrArg₂ k0_pay1 ((View.readAt_full arg2.view fa _).trans ha) ?_) y
    exact load_tile W (i 0).val _ (hkeep _) _ _ (off35_eq i)
  isplitl [Hwb]
  · iexists _; isplitr; swap; · iexact Hwb
    ipureintro
    refine ⟨hkeep _, fun x hx h1 h2 => ?_⟩
    refine filled_next W _ _ fw [] h1 _ _ ((off34_eq i).trans (by rw [hx])) _ fun j y e2 e3 => holds_pay W _ x (colSlot i) g h2 _ _ (off33_eq i) j y e2 e3
  isplitl [Hst]; · iexact Hst
  iexact HW

end Cert.Kernel3Ideal.Down

end
-- ==== Proof.DownRun.lean ====
module

public import proofs.«01_k».proof.Proof.DownRing
public import proofs.«01_k».proof.Proof.DownProduct
public import Idealize.ShloMosaic.Lib.Claim

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Stream (slotOf chunkOf tileOn)
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's set-up -/

/-- Core `c`'s buffers as launched: the program is one region alone. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The weights, which no window stages. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop((whM.view.loc (c : Thread nD τ) ↦{fullShare} V m c main_arg1)) := by
  rw [BI.bigSep_eq_bigSepL_of_eq [main_arg1] (by decide) (by decide)]; rfl
theorem PhiD0_eq (c : Dev nD) :
    (Pipeline.ΦD osem0 spec0 H0 (V m) c : sProp 𝕄)
      = iprop(((∃ f : Cont (F := F) c wbM, wbM.view.loc (c : Thread nD τ) ↦{fullShare} f) ∗ (∃ f : Cont (F := F) c stM, stM.view.loc (c : Thread nD τ) ↦{fullShare} f))
        ∗ (∃ r, prngReg c r) ∗ (cellP c 0 ∗ cellP c 1) ∗ (whM.view.loc (c : Thread nD τ) ↦{fullShare} V m c main_arg1)) := by
  rw [Pipeline.ΦD_eq, scopedRest0_eq, ownSems00_eq, hbmPts0_eq, cellP, cellP, cellL_0, cellL_1]

/-! ## The invariant and the proof data -/

/-- Before point `k`: the generator at some state, the resident tiles filled as far as the points before have come, and
    the slots. -/
def inv (c : Dev nD) (k : ℕ) : sProp 𝕄 :=
  iprop((∃ r, prngReg c r)
    ∗ (∃ f : Cont (F := F) c wbM, ⌜1 ≤ k → k < 128 → Stored c (V m c main_arg1) k f⌝ ∗ (wbM.view.loc (c : Thread nD τ) ↦{fullShare} f))
    ∗ ringP c (V m c main_arg1) k)

/-- The block that point `t` leaves: its block of rows times tile `t / 16` of the weights. -/
def outBlk (c : Dev nD) (t : Fin cfg0.N) : S512x512.Idx → Elt F .bf16 :=
  k0_pay1 (iblk m c 0 t) (tileOf (c := c) (V m c main_arg1) (t.val / 16))

/-- The proof data: the rows' window keeps its block, the result's window gets the product. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outBlk m c t
  Φ t := inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = outBlk m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]

/-! ## The body at a point -/

abbrev ms0 (t : Fin cfg0.N) : Memref sig .tc .vmem S512x11008 .bf16 := win0_0.stage (cfg0.slots t 0)
abbrev ms1 (t : Fin cfg0.N) : Memref sig .tc .vmem S512x512 .bf16 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 4000000 in
/-- The body at any point: its transfers, then its product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [inv_castSucc m c t, inv_succ m c t]
  unfold Dat.owesAt Pipeline.owesWithin
  rw [show (dats m 0 c).owed t.castSucc = 0 from rfl, show (dats m 0 c).owed t.succ = 0 from rfl]
  simp only [before0]
  rw [after0, after1, body_split, wp_bind]
  have hN : t.val < 128 := lt_of_lt_of_eq t.isLt N_0
  obtain ⟨e0, e1⟩ := coords_eq t
  have hT := transfers_step (F := F) c t (ms0 t) (hstage0_0 ((cfg0.slots t 0).cast nbuf0_0)) (ms1 t) (hstage0_1 ((cfg0.slots t 1).cast nbuf0_1)) (V m c main_arg1)
  have hP := product_run (F := F) c (grid0.coords t) (ms0 t) (hstage0_0 ((cfg0.slots t 0).cast nbuf0_0)) (ms1 t) (hstage0_1 ((cfg0.slots t 1).cast nbuf0_1)) (V m c main_arg1) (iblk m c 0 t)
  rw [e0] at hP
  unfold inv
  iintro ⟨⟨Hg, ⟨%f, %hf, Hwb⟩, Hr⟩, ⟨%B, -, HW⟩, ⟨%d0, H0⟩, ⟨%d1, H1⟩⟩
  iapply (hT B _)
  isplitl [Hwb]
  · iexists f; isplitr; · ipureintro; exact fun h => hf h hN
    iexact Hwb
  isplitl [Hr]; · iexact Hr
  isplitl [HW]; · iexact HW
  iintro ⟨⟨%f', %hf', Hwb⟩, ⟨%g, %hg, Hs⟩, Hr, ⟨%B', HW⟩⟩
  iapply (hP f' hf'.1 (slotOf t.val) (by rw [e1]; show t.val % 2 = t.val % 16 % 2; omega) g B' _)
  isplitl [H0]; · iexact H0
  isplitl [H1]; · iexists _; iexact H1
  isplitl [Hwb]; · iexact Hwb
  isplitl [Hs]; · iexact Hs
  isplitl [HW]; · iexact HW
  iintro ⟨H0, H1, ⟨%f'', %hf'', Hwb⟩, Hs, HW⟩
  isplitl [Hg Hwb Hs Hr]
  · isplitl [Hg]; · iexact Hg
    isplitl [Hwb]
    · iexists f''; isplitr; swap; · iexact Hwb
      ipureintro
      intro _ hk
      exact (parts c _).stored_next 8 t.val hk f'' hf''.1 fun hl => hf''.2 (chunkOf 16 t.val) (by rw [e1]) (hf'.2 hl) (hg hl)
    iapply ((parts c (V m c main_arg1)).ring_next lastK t.val)
    isplitl [Hs]; · iexists g; iexact Hs
    iexact Hr
  isplitl [HW]
  · iexists B'; isplitr; · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the launch hands the region is the invariant before the first point, -/
theorem hin (c : Dev nD) : Pipeline.ΦD osem0 spec0 H0 (V m) c ⊢ (dats m 0 c).Φ 0 := by
  rw [PhiD0_eq, show (dats m 0 c).Φ 0 = inv m c 0 from rfl]
  unfold inv ringP Cert.Stream.Parts.ring
  rw [if_pos rfl]
  iintro ⟨⟨⟨%f, Hwb⟩, Hst⟩, Hg, ⟨Hc0, Hc1⟩, HWh⟩
  isplitl [Hg]; · iexact Hg
  isplitl [Hwb]
  · iexists f; isplitr; · ipureintro; exact fun h => absurd h (by omega)
    iexact Hwb
  isplitl [HWh]; · iexact HWh
  isplitl [Hst]; · iexact Hst
  isplitl [Hc0]; · iexact Hc0
  iexact Hc1

/-- and the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = inv m c grid0.N from rfl, show grid0.N = 128 from N_0]
  unfold inv ringP Cert.Stream.Parts.ring
  rw [if_neg (by decide), if_neg (by decide), show slotOf 128 = 0 from rfl, show slotOf (128 + 1) = 1 from rfl]
  unfold Cert.Stream.Parts.free
  iintro ⟨Hg, ⟨%f, -, Hwb⟩, ⟨Hc0, Hs0, Ha0⟩, ⟨Hc1, Hs1, Ha1⟩⟩
  isplitl [Hwb Hs0 Hs1]
  · isplitl [Hwb]; · iexists f; iexact Hwb
    iapply (Ring.slots2_join (U := Pipeline.UD sig nD τ) (ℓ := (c : Thread nD τ).loc cc0_scratch1) (q := fullShare) slotSet slots_disjoint slots_cover
      (slotP c 0) (slotP c 1) (slotP_eq c 0) (slotP_eq c 1))
    isplitl [Hs0]; · iexact Hs0
    iexact Hs1
  isplitl [Hg]; · iexact Hg
  isplitl [Hc0 Hc1]
  · isplitl [Hc0]; · iexact Hc0
    iexact Hc1
  iapply (shares_split c (V m c main_arg1)).2
  isplitl [Ha0]; · iexact Ha0
  iexact Ha1

set_option backward.isDefEq.respectTransparency.types false in
/-- The run: the result's array ends as the blocks say, the other arrays as launched, and every counter at zero. -/
theorem run_full : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What the run leaves: the result's array, the arguments, the counters. -/
theorem run_post : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1 1,
      ((h.1 c).1 0).trans (((dats m 0 c).arrAt_in 0 rfl _).trans (A_eq m c 0)),
      (h.1 c).2 main_arg1 (Pipeline.mem_restRefs_of main_arg1 (by decide) (by decide))⟩, h.2⟩) (run_full m ρ)

/-- The frame: the run ends, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_post m ρ)

end Cert.Kernel3Ideal.Down

end
-- ==== Proof.DownValue.lean ====
/- The down projection's two programs at the extended reals, the result read at an index, and the claims about it. -/
module

public import proofs.«01_k».proof.Defs
public import proofs.«01_k».proof.Proof.DownRun
public import proofs.«01_k».proof.Proof.Gen.Kernel3.Launch
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Kernel3Ideal.Down

open Idealize.ShloMosaic Idealize.ShloMosaic.TcCoe Idealize.SL.Sem
open Idealize.ShloMosaic.Pipeline (Dat)
open Cert.Kernel3Ideal Cert.Kernel3Ideal.Gen

/-- The projection at a row and a column: the row of activations against the column of layer 1's weights. -/
def down (a : FVec Ideal S8192x11008 .bf16) (w : FVec Ideal S1x2x11008x4096 .f32) (i : Fin 8192) (j : Fin 4096) : EReal :=
  ∑ k : Fin 11008, a (ix2 i k) * w (ix4 0 1 k j)

/-- The kernel's product of a block of rows and a tile, at an index. -/
theorem pay_at (a : FVec Ideal S512x11008 .bf16) (b : FVec Ideal S11008x512 .bf16) (r q : Fin 512) :
    k0_pay1 (F := Ideal) a b (ix2 r q) = ∑ k : Fin 11008, a (ix2 r k) * b (ix2 k q) := by
  pointwise [k0_pay1]

/-- The reference's term at an index. -/
theorem ref_at (a : FVec Ideal S8192x11008 .bf16) (w : FVec Ideal S1x2x11008x4096 .f32) (i : Fin 8192) (j : Fin 4096) :
    (truncf (F := Ideal) .bf16 (Host.dotGeneral (F := Ideal) Cert.Reference3Ideal.dot_S8192x11008_S11008x4096_S8192x4096_1_0_0_1_n_n none (extf (F := Ideal) .f32 a Cert.Reference3Ideal.Gen.bitsLt_bf16_f32)
      (shapeCast _ (extractStridedSlice Cert.Reference3Ideal.S1x1x11008x4096 ![0, 1, 0, 0] w Cert.Reference3Ideal.Gen.slices_S1x2x11008x4096_S1x1x11008x4096_0_1_0_0) Cert.Reference3Ideal.Gen.shapeCasts_S1x1x11008x4096_S11008x4096))
      Cert.Reference3Ideal.Gen.bitsLt_bf16_f32 : FVec Ideal S8192x4096 .bf16) (ix2 i j) = down a w i j := by
  unfold down
  pointwise

variable (m : (ℓ : Loc nD τ sig) → Buf (Elt Ideal) ℓ)

/-- The windows' block indices at every grid point. -/
theorem idx : ∀ t : Fin cfg0.N, win0_0.index t = ![t.val % 16, 0] ∧ win0_1.index t = ![t.val % 16, t.val / 16] :=
  (by decide +kernel : ∀ t : Fin grid0.N, _)

/-- The result's array after the run is the reference's term of the arguments. -/
theorem final (c : Dev nD) (w : S8192x4096.Idx → EReal) (hw : ∀ i j, w (ix2 i j) = down (m ((c : Thread nD τ).loc main_arg0)) (m ((c : Thread nD τ).loc main_arg1)) i j) :
    (dats m 0 c).arrAt 1 cfg0.N = w := by
  refine (dats m 0 c).arrAt_eq_of_covers 1 _ (by decide +kernel) fun t _ y => ?_
  blk_simp
  rw [after1]
  have ht : t.val < 128 := lt_of_lt_of_eq t.isLt N_0
  have z0 : (((cfg0.win 1).blk t).view.emb y 0 : ℕ) = t.val % 16 * 512 + y 0 := by
    blk_simp [idx t] <;> try omega
  have z1 : (((cfg0.win 1).blk t).view.emb y 1 : ℕ) = t.val / 16 * 512 + y 1 := by
    blk_simp [idx t] <;> try omega
  generalize ((cfg0.win 1).blk t).view.emb y = z at z0 z1 ⊢
  obtain ⟨i, j, rfl⟩ : ∃ (i : Fin 8192) (j : Fin 4096), z = (ix2 i j : S8192x4096.Idx) := ⟨z 0, z 1, eq_ix2 z⟩
  obtain ⟨r, q, rfl⟩ : ∃ (r : Fin 512) (q : Fin 512), y = (ix2 r q : S512x512.Idx) := ⟨y 0, y 1, eq_ix2 y⟩
  replace z0 : (i : ℕ) = t.val % 16 * 512 + r := z0
  replace z1 : (j : ℕ) = t.val / 16 * 512 + q := z1
  rw [hw]
  unfold outBlk
  refine (pay_at _ _ r q).trans ?_
  unfold down
  refine Finset.sum_congr rfl fun k _ => congrArg₂ (· * ·) ?_ ?_
  · blk_ext [iblk, V, idx t]
  · unfold tileOf
    refine congrArg (m ((c : Thread nD τ).loc main_arg1)) (funext fun a => Fin.ext ?_)
    have hq : (q : ℕ) < 512 := q.isLt
    fin_cases a <;> simp [tileIdx] <;> omega

/-! ## The claims -/

/-- The kernel as printed has the same text: its frame is the idealized one's, read over the words. -/
theorem kernel_frame : Cert.quiescent_Kernel3 := fun m g _ => cast (by sl_kernel_rfl) (frame (F := Bits) m g)

/-- The idealized kernel runs, keeps its arguments and leaves its counters at zero. -/
theorem ideal_frame : Cert.quiescent_Kernel3Ideal := fun m g _ => frame m g

/-- The reference runs, keeps its arguments and has no counters. -/
theorem reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The two programs leave equal results. -/
theorem equal : Cert.algebraic_Kernel3Ideal_Reference3Ideal := by
  pair_intro
  · run_from run_post m g
  · run_from Cert.Reference3Ideal.Value.run m' g'
    refine ((final m c _ fun i j => ?_).symm)
    exact ref_at _ _ i j

end Cert.Kernel3Ideal.Down

end
-- ==== Proof.InSetup.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers that the kernel addresses itself -/

/-- The two resident tiles of the weights, in bf16: tile `n` lies in half `n % 2`. -/
abbrev wbM : Memref sig .tc .vmem S2x1x4096x1024 .bf16 := Memref.whole cc0_scratch0
/-- The two landing slots for chunks of the weights, in f32. -/
abbrev stM : Memref sig .tc .vmem S2x512x1024 .f32 := Memref.whole cc0_scratch1
/-- The weights, left in HBM. -/
abbrev whM : Memref sig .tc .hbm S1x4096x17408 .f32 := Memref.whole main_arg1

theorem inb_slot (s : Fin 2) : ∀ a, (![s.val, 0, 0] : Fin 3 → Nat) a + S1x512x1024.size a ≤ S2x512x1024.size a := by
  have := s.isLt; intro a; fin_cases a <;> simp <;> omega
theorem inb_chunk (n : ℕ) (x : Fin 8) :
    ∀ a, (![0, 512 * x.val, 1024 * (n % 17)] : Fin 3 → Nat) a + S1x512x1024.size a ≤ S1x4096x17408.size a := by
  have := x.isLt; have := Nat.mod_lt n (show 0 < 17 by decide); intro a; fin_cases a <;> simp <;> omega
theorem inb_cell (s : Fin 2) : ∀ a, (![s.val] : Fin 1 → Nat) a + S1.size a ≤ S2.size a := by
  have := s.isLt; intro a; fin_cases a <;> simp <;> omega

/-- Landing slot `s`. -/
def slotM (s : Fin 2) : Memref sig .tc .vmem S512x1024 .f32 :=
  (stM.slice (Rect.unit (s := S2x512x1024) ![s.val, 0, 0] S1x512x1024.size (inb_slot s)) (fun _ => rfl)).squeeze S512x1024 squeezes_S1x512x1024_S512x1024
/-- Chunk `x` of tile `n` of the weights: rows `512 x …` and columns `1024 n …`. -/
def chunkM (n : ℕ) (x : Fin 8) : Memref sig .tc .hbm S512x1024 .f32 :=
  (whM.slice (Rect.unit (s := S1x4096x17408) ![0, 512 * x.val, 1024 * (n % 17)] S1x512x1024.size (inb_chunk n x)) (fun _ => rfl)).squeeze S512x1024 squeezes_S1x512x1024_S512x1024
/-- The semaphore of slot `s`. -/
def cellM (s : Fin 2) : DmaSems sig S_ :=
  (cc0_scratch2.slice (Rect.unit (s := S2) ![s.val] S1.size (inb_cell s))).squeeze S_ squeezes_S1_S_
abbrev cellL (s : Fin 2) : SemLoc sig := SemLoc.dma (cellM s).sem
theorem cellL_0 : cellL 0 = SemLoc.dma 4 := by decide
theorem cellL_1 : cellL 1 = SemLoc.dma 5 := by decide

/-- A chunk as a transfer spells it, at any offsets that are those of chunk `x` of tile `n`. -/
theorem chunk_of_off (o : Fin 3 → Nat) (h : ∀ a, o a + S1x512x1024.size a ≤ S1x4096x17408.size a) (n : ℕ) (x : Fin 8)
    (e : o = ![0, 512 * x.val, 1024 * (n % 17)]) :
    (whM.slice (Rect.unit (s := S1x4096x17408) o S1x512x1024.size h) (fun _ => rfl)).squeeze S512x1024 squeezes_S1x512x1024_S512x1024 = chunkM n x := by
  subst e; rfl

/-! ## The branches and the offsets, in the coordinates -/

/-- Branch `x` of the eight waits is taken in the points of column `x`, in every tile but the last. -/
def waitCond (i : grid0.Coords) (x : Fin 8) : BitVec 1 :=
  (![k0_cond2 i, k0_cond3 i, k0_cond4 i, k0_cond5 i, k0_cond6 i, k0_cond7 i, k0_cond8 i, k0_cond9 i] : Fin 8 → BitVec 1) x
theorem waitCond_iff : ∀ (x : Fin 8) (i : grid0.Coords), waitCond i x = 1#1 ↔ (i 0).val + 1 < 17 ∧ (i 1).val = x.val := by
  decide +kernel
/-- The word of the first branch: taken at the first point alone. -/
abbrev firstCond (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
theorem firstCond_iff : ∀ i : grid0.Coords, firstCond i = 1#1 ↔ (i 0).val = 0 ∧ (i 1).val = 0 := by decide +kernel
theorem startCond_iff : ∀ i : grid0.Coords, k0_cond10 i = 1#1 ↔ (i 0).val + 2 < 17 ∧ (i 1).val = 7 := by decide +kernel
theorem next_tile : ∀ i : grid0.Coords, (i 0).val + 1 < 17 → 1024 * (((i 0).val + 1) % 17) = 1024 * (i 0).val + 1024 := by decide +kernel
theorem next_tile₂ : ∀ i : grid0.Coords, (i 0).val + 2 < 17 → 1024 * (((i 0).val + 2) % 17) = 1024 * (i 0).val + 2048 := by decide +kernel

/-- A wait or a start of the next tile's chunk `x`, at the offsets that the program prints for it. -/
theorem chunk_next (i : grid0.Coords) (o : Fin 3 → Nat) (h : ∀ a, o a + S1x512x1024.size a ≤ S1x4096x17408.size a) (x : Fin 8) (hn : (i 0).val + 1 < 17)
    (e : o = ![0, 512 * x.val, 1024 * (i 0).val + 1024]) :
    (whM.slice (Rect.unit (s := S1x4096x17408) o S1x512x1024.size h) (fun _ => rfl)).squeeze S512x1024 squeezes_S1x512x1024_S512x1024 = chunkM ((i 0).val + 1) x :=
  chunk_of_off _ _ _ _ (e.trans (by rw [next_tile i hn]))

@[sl_canon] theorem canon_off1 (i : grid0.Coords) (h : k0_cond2 i = 1#1) :
    (whM.slice (Rect.unit (s := S1x4096x17408) (k0_off1 i) S1x512x1024.size (k0_off1_inb i h)) (fun _ => rfl)).squeeze S512x1024 squeezes_S1x512x1024_S512x1024 = chunkM ((i 0).val + 1) 0 :=
  chunk_next i _ _ 0 ((waitCond_iff 0 i).mp h).1 (k0_off1_eq i)
@[sl_canon] theorem canon_off2 (i : grid0.Coords) (h : k0_cond2 i = 1#1) :
    (whM.slice (Rect.unit (s := S1x4096x17408) (k0_off2 i) S1x512x1024.size (k0_off2_inb i h)) (fun _ => rfl)).squeeze S512x1024 squeezes_S1x512x1024_S512x1024 = chunkM ((i 0).val + 1) 1 :=
  chunk_next i _ _ 1 ((waitCond_iff 0 i).mp h).1 (k0_off2_eq i)
@[sl_canon] theorem canon_off3 (i : grid0.Coords) (h : k0_cond3 i = 1#1) :
    (whM.slice (Rect.unit (s := S1x4096x17408) (k0_off3 i) S1x512x1024.size (k0_off3_inb i h)) (fun _ => rfl)).squeeze S512x1024 squeezes_S1x512x1024_S512x1024 = chunkM ((i 0).val + 1) 1 :=
  chunk_next i _ _ 1 ((waitCond_iff 1 i).mp h).1 (k0_off3_eq i)
@[sl_canon] theorem canon_off4 (i : grid0.Coords) (h : k0_cond3 i = 1#1) :
    (whM.slice (Rect.unit (s := S1x4096x17408) (k0_off4 i) S1x512x1024.size (k0_off4_inb i h)) (fun _ => rfl)).squeeze S512x1024 squeezes_S1x512x1024_S512x1024 = chunkM ((i 0).val + 1) 2 :=
  chunk_next i _ _ 2 ((waitCond_iff 1 i).mp h).1 (k0_off4_eq i)
@[sl_canon] theorem canon_off5 (i : grid0.Coords) (h : k0_cond4 i = 1#1) :
    (whM.slice (Rect.unit (s := S1x4096x17408) (k0_off5 i) S1x512x1024.size (k0_off5_inb i h)) (fun _ => rfl)).squeeze S512x1024 squeezes_S1x512x1024_S512x1024 = chunkM ((i 0).val + 1) 2 :=
  chunk_next i _ _ 2 ((waitCond_iff 2 i).mp h).1 (k0_off5_eq i)
@[sl_canon] theorem canon_off6 (i : grid0.Coords) (h : k0_cond4 i = 1#1) :
    (whM.slice (Rect.unit (s := S1x4096x17408) (k0_off6 i) S1x512x1024.size (k0_off6_inb i h)) (fun _ => rfl)).squeeze S512x1024 squeezes_S1x512x1024_S512x1024 = chunkM ((i 0).val + 1) 3 :=
  chunk_next i _ _ 3 ((waitCond_iff 2 i).mp h).1 (k0_off6_eq i)
@[sl_canon] theorem canon_off7 (i : grid0.Coords) (h : k0_cond5 i = 1#1) :
    (whM.slice (Rect.unit (s := S1x4096x17408) (k0_off7 i) S1x512x1024.size (k0_off7_inb i h)) (fun _ => rfl)).squeeze S512x1024 squeezes_S1x512x1024_S512x1024 = chunkM ((i 0).val + 1) 3 :=
  chunk_next i _ _ 3 ((waitCond_iff 3 i).mp h).1 (k0_off7_eq i)
@[sl_canon] theorem canon_off8 (i : grid0.Coords) (h : k0_cond5 i = 1#1) :
    (whM.slice (Rect.unit (s := S1x4096x17408) (k0_off8 i) S1x512x1024.size (k0_off8_inb i h)) (fun _ => rfl)).squeeze S512x1024 squeezes_S1x512x1024_S512x1024 = chunkM ((i 0).val + 1) 4 :=
  chunk_next i _ _ 4 ((waitCond_iff 3 i).mp h).1 (k0_off8_eq i)
@[sl_canon] theorem canon_off9 (i : grid0.Coords) (h : k0_cond6 i = 1#1) :
    (whM.slice (Rect.unit (s := S1x4096x17408) (k0_off9 i) S1x512x1024.size (k0_off9_inb i h)) (fun _ => rfl)).squeeze S512x1024 squeezes_S1x512x1024_S512x1024 = chunkM ((i 0).val + 1) 4 :=
  chunk_next i _ _ 4 ((waitCond_iff 4 i).mp h).1 (k0_off9_eq i)
@[sl_canon] theorem canon_off10 (i : grid0.Coords) (h : k0_cond6 i = 1#1) :
    (whM.slice (Rect.unit (s := S1x4096x17408) (k0_off10 i) S1x512x1024.size (k0_off10_inb i h)) (fun _ => rfl)).squeeze S512x1024 squeezes_S1x512x1024_S512x1024 = chunkM ((i 0).val + 1) 5 :=
  chunk_next i _ _ 5 ((waitCond_iff 4 i).mp h).1 (k0_off10_eq i)
@[sl_canon] theorem canon_off11 (i : grid0.Coords) (h : k0_cond7 i = 1#1) :
    (whM.slice (Rect.unit (s := S1x4096x17408) (k0_off11 i) S1x512x1024.size (k0_off11_inb i h)) (fun _ => rfl)).squeeze S512x1024 squeezes_S1x512x1024_S512x1024 = chunkM ((i 0).val + 1) 5 :=
  chunk_next i _ _ 5 ((waitCond_iff 5 i).mp h).1 (k0_off11_eq i)
@[sl_canon] theorem canon_off12 (i : grid0.Coords) (h : k0_cond7 i = 1#1) :
    (whM.slice (Rect.unit (s := S1x4096x17408) (k0_off12 i) S1x512x1024.size (k0_off12_inb i h)) (fun _ => rfl)).squeeze S512x1024 squeezes_S1x512x1024_S512x1024 = chunkM ((i 0).val + 1) 6 :=
  chunk_next i _ _ 6 ((waitCond_iff 5 i).mp h).1 (k0_off12_eq i)
@[sl_canon] theorem canon_off13 (i : grid0.Coords) (h : k0_cond8 i = 1#1) :
    (whM.slice (Rect.unit (s := S1x4096x17408) (k0_off13 i) S1x512x1024.size (k0_off13_inb i h)) (fun _ => rfl)).squeeze S512x1024 squeezes_S1x512x1024_S512x1024 = chunkM ((i 0).val + 1) 6 :=
  chunk_next i _ _ 6 ((waitCond_iff 6 i).mp h).1 (k0_off13_eq i)
@[sl_canon] theorem canon_off14 (i : grid0.Coords) (h : k0_cond8 i = 1#1) :
    (whM.slice (Rect.unit (s := S1x4096x17408) (k0_off14 i) S1x512x1024.size (k0_off14_inb i h)) (fun _ => rfl)).squeeze S512x1024 squeezes_S1x512x1024_S512x1024 = chunkM ((i 0).val + 1) 7 :=
  chunk_next i _ _ 7 ((waitCond_iff 6 i).mp h).1 (k0_off14_eq i)
@[sl_canon] theorem canon_off15 (i : grid0.Coords) (h : k0_cond9 i = 1#1) :
    (whM.slice (Rect.unit (s := S1x4096x17408) (k0_off15 i) S1x512x1024.size (k0_off15_inb i h)) (fun _ => rfl)).squeeze S512x1024 squeezes_S1x512x1024_S512x1024 = chunkM ((i 0).val + 1) 7 :=
  chunk_next i _ _ 7 ((waitCond_iff 7 i).mp h).1 (k0_off15_eq i)
@[sl_canon] theorem canon_off16 (i : grid0.Coords) (h : k0_cond10 i = 1#1) :
    (whM.slice (Rect.unit (s := S1x4096x17408) (k0_off16 i) S1x512x1024.size (k0_off16_inb i h)) (fun _ => rfl)).squeeze S512x1024 squeezes_S1x512x1024_S512x1024 = chunkM ((i 0).val + 2) 0 :=
  chunk_of_off _ _ _ _ ((k0_off16_eq i).trans (by rw [next_tile₂ i ((startCond_iff i).mp h).1]; rfl))

section Ring
variable (c : Dev nD)

/-- The contents of a memref's buffer on core `c`. -/
abbrev Cont {sp : Space} {S : Shape} {e : EltTy} (M : Memref sig .tc sp S e) : Type := Buf (Elt F) (M.view.loc (c : Thread nD τ))

variable (W : Cont (F := F) c whM)

/-- Each slot borrows its chunks from a share of its own of the weights. -/
abbrev shareOf (s : Fin 2) : PosShare TreeShare := if s.val = 0 then fullShare.left else fullShare.right
/-- Slot `s` held at `f`. -/
abbrev slotP (s : Fin 2) (f : Cont (F := F) c (slotM s)) : sProp 𝕄 := (slotM s).view.loc (c : Thread nD τ) ↦[(slotM s).view.set]{fullShare} f
abbrev cellP (s : Fin 2) : sProp 𝕄 := semVal ((c : Thread nD τ), cellL s) 0
/-- Chunk `x` of tile `n` of slot `s`'s share of the weights; -/
abbrev chunkP (s : Fin 2) (n : ℕ) (x : Fin 8) : sProp 𝕄 := (chunkM n x).view.loc (c : Thread nD τ) ↦[(chunkM n x).view.set]{shareOf s} W
/-- what is left of that share; -/
def leftP (s : Fin 2) (n : ℕ) (x : Fin 8) : sProp 𝕄 := ((c : Thread nD τ).loc main_arg1) ↦[Finset.univ \ (chunkM n x).view.set]{shareOf s} W
/-- and all of it. -/
abbrev allP (s : Fin 2) : sProp 𝕄 := ((c : Thread nD τ).loc main_arg1) ↦[Finset.univ]{shareOf s} W
/-- Slot `s` after chunk `x` of tile `n` has landed in it over `f`. -/
abbrev landed (s : Fin 2) (n : ℕ) (x : Fin 8) (f : Cont (F := F) c (slotM s)) : Cont (F := F) c (slotM s) :=
  (slotM s).view.writes (Elt F) f [⟨Rect.whole S512x1024, ReadAs.same.apply ((chunkM n x).view.read (Elt F) W)⟩]
/-- The transfer of that chunk into slot `s`, in flight: it will hand over the slot and the chunk. -/
abbrev flightP (s : Fin 2) (n : ℕ) (x : Fin 8) (f : Cont (F := F) c (slotM s)) : sProp 𝕄 :=
  Transfers.Flight countersEmb (c : Thread nD τ) (cellL s) default ((slotM s).view.amount (cellL s))
    iprop(slotP c s (landed c W s n x f) ∗ chunkP c W s n x)
theorem all_split (s : Fin 2) (n : ℕ) (x : Fin 8) : allP (F := F) c W s ⊣⊢ iprop(chunkP c W s n x ∗ leftP c W s n x) := by
  unfold leftP; exact pointsTo_split_subset (Finset.subset_univ _)
theorem shares_split : (((c : Thread nD τ).loc main_arg1) ↦{fullShare} W : sProp 𝕄) ⊣⊢ iprop(allP c W 0 ∗ allP c W 1) :=
  pointsTo_share (PosShare.mem_left_op_right fullShare)

end Ring

/-! ## The slots tile their buffer -/

abbrev slotSet (s : Fin 2) : Finset S2x512x1024.Idx := (Rect.unit (s := S2x512x1024) ![s.val, 0, 0] S1x512x1024.size (inb_slot s)).set
theorem slotSet_eq (s : Fin 2) : (slotM s).view.set = slotSet s := by
  simp only [slotM, Memref.view_squeeze, View.set_reshape]; exact View.set_slice_whole _ _
theorem slots_disjoint (s s' : Fin 2) (h : s ≠ s') : Disjoint (slotSet s) (slotSet s') :=
  Ring.lead_disjoint (s := S2x512x1024) (0 : Fin 3) 1 (fun s : Fin 2 => (![s.val, 0, 0] : Fin 3 → Nat)) S1x512x1024.size inb_slot (fun s => by simp) rfl s s' h
theorem slots_cover : Finset.univ.biUnion slotSet = Finset.univ :=
  Ring.lead_cover (s := S2x512x1024) (0 : Fin 3) 1 (fun s : Fin 2 => (![s.val, 0, 0] : Fin 3 → Nat)) S1x512x1024.size inb_slot (fun s => by simp)
    (fun s a ha => by fin_cases a <;> first | exact absurd rfl ha | rfl) rfl (fun a ha => by fin_cases a <;> first | exact absurd rfl ha | rfl) rfl
theorem slotP_eq (c : Dev nD) (s : Fin 2) (f) : slotP (F := F) c s f = (((c : Thread nD τ).loc cc0_scratch1) ↦[slotSet s]{fullShare} f : sProp 𝕄) := by
  unfold slotP; rw [slotSet_eq]; rfl

/-! ## The body in two: the weights' transfers, and the product -/

/-- The body's transfers: at the first point the first tile whole, then the wait for a chunk of the next tile and the
    start of the chunk after it. -/
def transfers (i : grid0.Coords) (arg2 : Memref sig .tc .vmem S1024x4096 .bf16) (harg2 : arg2.IsWhole) (arg4 : Memref sig .tc .vmem S1024x1024 .f32) (harg4 : arg4.IsWhole) :
    Prog (TpuEff nD τ sig (Elt F) Λ₀ .tc) PUnit := do
  let ⟨arg0, arg1, v9, v16, c4_i32⟩ : Σ' (arg0 : BitVec 32) (arg1 : BitVec 32) (v9 : BitVec 32) (v16 : BitVec 1), BitVec 32 ← k0_part6 i arg2 harg2 whM (Memref.isWhole_whole _) arg4 harg4 wbM (Memref.isWhole_whole _) stM (Memref.isWhole_whole _) cc0_scratch2
  let ⟨v55, v56, v67, v69⟩ : Σ' (v55 : BitVec 32) (v56 : BitVec 32) (v67 : BitVec 1), BitVec 1 ← k0_part7 i arg2 harg2 whM (Memref.isWhole_whole _) arg4 harg4 wbM (Memref.isWhole_whole _) stM (Memref.isWhole_whole _) cc0_scratch2 arg0 arg1 v16 c4_i32
  pure ⟨⟩

/-- The body's work on a block: the chunk that has landed is narrowed into the next tile's half, and the block of
    the rows is multiplied by the present tile. -/
def product (i : grid0.Coords) (arg2 : Memref sig .tc .vmem S1024x4096 .bf16) (harg2 : arg2.IsWhole) (arg4 : Memref sig .tc .vmem S1024x1024 .f32) (harg4 : arg4.IsWhole) :
    Prog (TpuEff nD τ sig (Elt F) Λ₀ .tc) PUnit := do
  let v106 : Vec F S1024x4096 .bf16 ← k0_part8 i arg2 harg2 whM (Memref.isWhole_whole _) arg4 harg4 wbM (Memref.isWhole_whole _) stM (Memref.isWhole_whole _) cc0_scratch2 0#32 0#32 0#32 0#1 0#1
  let v108 : Vec F S1x1x4096x1024 .bf16 ← Prog.lift (.load wbM (Rect.unit (s := S2x1x4096x1024) (k0_off19 i) S1x1x4096x1024.size (k0_off19_inb i)).toLoadRect (View.loadsAt_vmem h_S1x1x4096x1024))
  let v111 : Vec F S1024x1024 .f32 ← Prog.lift (.load arg4 (Rect.unit (s := S1024x1024) ![0, 0] S1024x1024.size inb_S1024x1024_S1024x1024_0_0).toLoadRect (View.loadsAt_vmem h_S1024x1024))
  Prog.lift (.store arg4 (Rect.unit (s := S1024x1024) ![0, 0] S1024x1024.size inb_S1024x1024_S1024x1024_0_0) (k0_pay1 v106 v108) Finset.univ (View.stores_vmem_bits_univ h_S1024x1024 rfl) (.inl rfl))
  pure ⟨⟩

set_option maxRecDepth 65536 in
/-- The product does not read the words that the transfers computed. -/
theorem part8_words (i : grid0.Coords) (arg2 : Memref sig .tc .vmem S1024x4096 .bf16) (harg2 : arg2.IsWhole) (arg4 : Memref sig .tc .vmem S1024x1024 .f32) (harg4 : arg4.IsWhole) (a b d : BitVec 32) (e g : BitVec 1) :
    k0_part8 (F := F) i arg2 harg2 whM (Memref.isWhole_whole _) arg4 harg4 wbM (Memref.isWhole_whole _) stM (Memref.isWhole_whole _) cc0_scratch2 a b d e g
      = k0_part8 i arg2 harg2 whM (Memref.isWhole_whole _) arg4 harg4 wbM (Memref.isWhole_whole _) stM (Memref.isWhole_whole _) cc0_scratch2 0#32 0#32 0#32 0#1 0#1 := by
  rw [k0_part8_eq_skeleton]; rfl

theorem body_split (i : grid0.Coords) (arg2 : Memref sig .tc .vmem S1024x4096 .bf16) (harg2 : arg2.IsWhole) (arg4 : Memref sig .tc .vmem S1024x1024 .f32) (harg4 : arg4.IsWhole) :
    cc0_in_proj (F := F) i arg2 harg2 whM (Memref.isWhole_whole _) arg4 harg4 wbM (Memref.isWhole_whole _) stM (Memref.isWhole_whole _) cc0_scratch2
      = (do transfers i arg2 harg2 arg4 harg4; product i arg2 harg2 arg4 harg4) := by
  rw [cc0_in_proj_eq_skeleton]
  unfold cc0_in_proj_skel transfers product
  simp only [bind_assoc, pure_bind]
  refine congrArg _ (funext fun p => ?_)
  obtain ⟨a, b, d, e, g⟩ := p
  simp only [bind_assoc, pure_bind]
  refine congrArg _ (funext fun p => ?_)
  obtain ⟨a', b', d', e'⟩ := p
  simp only [bind_assoc, pure_bind, part8_words _ _ _ _ _ d a' b' d' e']

end Cert.Kernel4Ideal.In

end
-- ==== Proof.InFill.lean ====
module

public import proofs.«01_k».proof.Proof.InSetup
public import Idealize.ShloMosaic.Lib.VecWindow
public import Idealize.ShloMosaic.Lib.WritesUnit
public import Idealize.ShloMosaic.Lib.Pipeline.Value

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the resident tiles hold -/

/-- The element of the weights under element `y` of a half that holds tile `n`: the same row, in the tile's columns. -/
def srcIdx (n : ℕ) (y : S2x1x4096x1024.Idx) : S1x4096x17408.Idx := fun a =>
  ⟨(![0, (y 2).val, 1024 * (n % 17) + (y 3).val] : Fin 3 → ℕ) a, by
    have h2 : (y 2).val < 4096 := (y 2).isLt
    have h3 : (y 3).val < 1024 := (y 3).isLt
    fin_cases a <;> simp <;> omega⟩

/-- The weight there, narrowed to bf16. -/
def narrowAt {c : Dev nD} (W : Cont (F := F) c whM) (n : ℕ) (y : S2x1x4096x1024.Idx) : Elt F .bf16 :=
  FloatOps.truncf .bf16 bitsLt_bf16_f32 (whM.view.read (Elt F) W (srcIdx n y))

/-- The first `m` chunks of tile `n` lie narrowed in the tile's half. -/
def Filled {c : Dev nD} (W : Cont (F := F) c whM) (n m : ℕ) (f : Cont (F := F) c wbM) : Prop :=
  ∀ y : S2x1x4096x1024.Idx, (y 0).val = n % 2 → (y 2).val < 512 * m → wbM.view.read (Elt F) f y = narrowAt W n y

theorem filled_zero {c : Dev nD} (W : Cont (F := F) c whM) (n : ℕ) (f : Cont (F := F) c wbM) : Filled W n 0 f :=
  fun y _ h => absurd h (by omega)

/-- A store of chunk `x` of the tile, narrowed, after the chunks before it. -/
theorem filled_next {c : Dev nD} (W : Cont (F := F) c whM) (n x : ℕ) (f : Cont (F := F) c wbM)
    (L : List (View.Piece (Elt F) S2x1x4096x1024 .bf16)) (hL : Filled W n x (wbM.view.writes (Elt F) f L))
    (off : Fin 4 → ℕ) (inb : ∀ a, off a + S1x1x512x1024.size a ≤ S2x1x4096x1024.size a) (ho : off = ![n % 2, 0, 512 * x, 0])
    (p : S1x1x512x1024.Idx → Elt F .bf16)
    (hp : ∀ (j : S1x1x512x1024.Idx) (y : S2x1x4096x1024.Idx), (y 2).val = 512 * x + (j 2).val → (y 3).val = (j 3).val → p j = narrowAt W n y) :
    Filled W n (x + 1) (wbM.view.writes (Elt F) f (⟨Rect.unit (s := S2x1x4096x1024) off S1x1x512x1024.size inb, p⟩ :: L)) := by
  intro y h0 h2
  by_cases hx : (y 2).val < 512 * x
  · rw [View.read_writes_cons_unit_of_not_mem _ _ inb _ _ y ho 2 (Or.inl (by simpa using hx))]
    exact hL y h0 hx
  · have h1 : (y 1).val < 1 := (y 1).isLt
    have h3 : (y 3).val < 1024 := (y 3).isLt
    let j : S1x1x512x1024.Idx := fun a => ⟨(![0, 0, (y 2).val - 512 * x, (y 3).val] : Fin 4 → ℕ) a, by fin_cases a <;> simp <;> omega⟩
    refine (View.read_writes_cons_unit_of_mem (size := S1x1x512x1024.size) wbM.view f inb p L y j ho ?_).trans ?_
    · intro a; fin_cases a <;> simp [j] <;> omega
    exact hp j y (by simp [j]; omega) (by simp [j])

/-- A store into the other half keeps the tile. -/
theorem filled_keep {c : Dev nD} (W : Cont (F := F) c whM) (n m : ℕ) (f : Cont (F := F) c wbM)
    (L : List (View.Piece (Elt F) S2x1x4096x1024 .bf16)) (hL : Filled W n m (wbM.view.writes (Elt F) f L))
    (off : Fin 4 → ℕ) (inb : ∀ a, off a + S1x1x512x1024.size a ≤ S2x1x4096x1024.size a) (o : ℕ) (ho : off = ![(n + 1) % 2, 0, o, 0])
    (p : S1x1x512x1024.Idx → Elt F .bf16) :
    Filled W n m (wbM.view.writes (Elt F) f (⟨Rect.unit (s := S2x1x4096x1024) off S1x1x512x1024.size inb, p⟩ :: L)) := by
  intro y h0 h2
  rw [View.read_writes_cons_unit_of_not_mem _ _ inb _ _ y ho 0 (by simp; omega)]
  exact hL y h0 h2

/-! ## What a landed chunk holds -/

/-- Slot `s` holds chunk `x` of tile `n`. -/
def Holds {c : Dev nD} (W : Cont (F := F) c whM) (n : ℕ) (x : Fin 8) (s : Fin 2) (g : Cont (F := F) c stM) : Prop :=
  (slotM s).view.read (Elt F) g = (chunkM n x).view.read (Elt F) W

/-- A slot that a chunk has just been copied into holds it. -/
theorem holds_write {c : Dev nD} (W : Cont (F := F) c whM) (n : ℕ) (x : Fin 8) (s : Fin 2) (g : Cont (F := F) c stM) :
    Holds W n x s ((slotM s).view.write (Elt F) g (ReadAs.same.apply ((chunkM n x).view.read (Elt F) W)) Finset.univ) :=
  View.read_write_univ _ _

theorem holds_landed {c : Dev nD} (W : Cont (F := F) c whM) (n : ℕ) (x : Fin 8) (s : Fin 2) (f : Cont (F := F) c (slotM s)) :
    Holds W n x s (landed c W s n x f) := by
  unfold Holds landed
  exact View.read_writes_whole _ _ _

/-- A copy into the other slot keeps it. -/
theorem holds_other {c : Dev nD} (W : Cont (F := F) c whM) (n : ℕ) (x : Fin 8) (s s' : Fin 2) (h : s ≠ s') (g : Cont (F := F) c stM)
    (w : S512x1024.Idx → Elt F .f32) (hg : Holds W n x s g) :
    Holds W n x s ((slotM s').view.write (Elt F) g w Finset.univ) := by
  unfold Holds at hg ⊢
  refine (View.read_congr (v := (slotM s).view) (f := (slotM s').view.write (Elt F) g w Finset.univ) (g := g) fun i hi => View.write_of_not_mem (v := (slotM s').view) g w Finset.univ fun hi' => ?_).trans hg
  have hi' : i ∈ (slotM s').view.set := hi'
  rw [slotSet_eq] at hi hi'
  exact Finset.disjoint_left.mp (slots_disjoint s s' h) hi hi'

/-- A load of the slot that holds a chunk, narrowed, is the chunk's part of the tile. -/
theorem holds_pay {c : Dev nD} (W : Cont (F := F) c whM) (n : ℕ) (x : Fin 8) (s : Fin 2) (g : Cont (F := F) c stM) (hg : Holds W n x s g)
    (off : Fin 3 → ℕ) (inb : ∀ a, off a + S1x512x1024.size a ≤ S2x512x1024.size a) (ho : off = ![s.val, 0, 0])
    (j : S1x1x512x1024.Idx) (y : S2x1x4096x1024.Idx) (h2 : (y 2).val = 512 * x.val + (j 2).val) (h3 : (y 3).val = (j 3).val) :
    k0_pay12 (stM.view.readAt (Elt F) (Rect.unit (s := S2x512x1024) off S1x512x1024.size inb).toLoadRect g) j = narrowAt W n y := by
  subst ho
  have e : shapeCast S512x1024 (stM.view.readAt (Elt F) (Rect.unit (s := S2x512x1024) ![s.val, 0, 0] S1x512x1024.size inb).toLoadRect g) shapeCasts_S1x512x1024_S512x1024
      = shapeCast S512x1024 (whM.view.readAt (Elt F) (Rect.unit (s := S1x4096x17408) ![0, 512 * x.val, 1024 * (n % 17)] S1x512x1024.size (inb_chunk n x)).toLoadRect W) squeezes_S1x512x1024_S512x1024.numel_eq := hg
  unfold k0_pay12
  dsimp only
  rw [e]
  have j0 : (j 0).val < 1 := (j 0).isLt
  have j1 : (j 1).val < 1 := (j 1).isLt
  have j2 : (j 2).val < 512 := (j 2).isLt
  have j3 : (j 3).val < 1024 := (j 3).isLt
  let u : S512x1024.Idx := fun a => ⟨(![(j 2).val, (j 3).val] : Fin 2 → ℕ) a, by fin_cases a <;> simp <;> omega⟩
  let v : S1x512x1024.Idx := fun a => ⟨(![0, (j 2).val, (j 3).val] : Fin 3 → ℕ) a, by fin_cases a <;> simp <;> omega⟩
  refine (shapeCast_apply _ _ j u ?_).trans ?_
  · rw [Shape.rowMajor_val_two, Shape.rowMajor_val_four]; simp [u]; omega
  refine (congrArg (FloatOps.truncf .bf16 bitsLt_bf16_f32) (shapeCast_apply _ _ u v ?_)).trans ?_
  · rw [Shape.rowMajor_val_two, Shape.rowMajor_val_three]; simp [u, v]
  unfold narrowAt
  refine congrArg (FloatOps.truncf .bf16 bitsLt_bf16_f32) (congrArg (whM.view.read (Elt F) W) (funext fun a => Fin.ext ?_))
  fin_cases a <;> simp [srcIdx, LoadRect.idx, Rect.unit, v] <;> omega

end Cert.Kernel4Ideal.In

end
-- ==== Proof.InWait.lean ====
module

public import proofs.«01_k».proof.Proof.InSetup

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The wait and the start of a point -/

/-- Which waits a point in column `x` takes, before the last tile. -/
theorem wait_here (i : grid0.Coords) (x : Fin 8) (hn : (i 0).val + 1 < 17) (hx : (i 1).val = x.val) (y : Fin 8) :
    if y = x then waitCond i y = 1#1 else ¬ waitCond i y = 1#1 := by
  split
  · exact (waitCond_iff y i).mpr ⟨hn, by subst y; exact hx⟩
  · exact fun h => absurd (Fin.ext (((waitCond_iff y i).mp h).2.symm.trans hx)) ‹_›
/-- In the last tile there is none, -/
theorem wait_none (i : grid0.Coords) (hn : ¬ (i 0).val + 1 < 17) (y : Fin 8) : ¬ waitCond i y = 1#1 :=
  fun h => hn ((waitCond_iff y i).mp h).1
/-- and the start of a later tile's first chunk is in the last column alone. -/
theorem start_here (i : grid0.Coords) (x : Fin 8) (hn : (i 0).val + 2 < 17) (hx : (i 1).val = x.val) : x = 7 → k0_cond10 i = 1#1 :=
  fun h => (startCond_iff i).mpr ⟨hn, hx.trans (congrArg Fin.val h)⟩
theorem start_none (i : grid0.Coords) (hn : ¬ (i 0).val + 2 < 17) : ¬ k0_cond10 i = 1#1 :=
  fun h => hn ((startCond_iff i).mp h).1
/-- Off the last column it is not taken. -/
theorem start_off (i : grid0.Coords) (x : Fin 8) (hx : (i 1).val = x.val) : x ≠ 7 → ¬ k0_cond10 i = 1#1 :=
  fun h e => h (Fin.ext (hx.symm.trans ((startCond_iff i).mp e).2))
/-- The first branch is not taken after the first point. -/
theorem first_off (i : grid0.Coords) (h0 : ¬ ((i 0).val = 0 ∧ (i 1).val = 0)) : ¬ firstCond i = 1#1 :=
  fun h => h0 ((firstCond_iff i).mp h)

set_option maxHeartbeats 4000000 in
/-- A point in column `x < 7` before the last tile, not the first: the chunk `x` of the next tile lands, and its
    chunk `x + 1` is started into the other slot. -/
theorem wait_start (c : Dev nD) (i : grid0.Coords) (arg2 : Memref sig .tc .vmem S1024x4096 .bf16) (harg2 : arg2.IsWhole) (arg4 : Memref sig .tc .vmem S1024x1024 .f32) (harg4 : arg4.IsWhole)
    (W : Cont (F := F) c whM) (h0 : ¬ ((i 0).val = 0 ∧ (i 1).val = 0)) (hn : (i 0).val + 1 < 17) (x x' : Fin 8) (s s' : Fin 2) (hx : (i 1).val = x.val)
    (hcase : (x = 0 ∧ x' = 1 ∧ s = 0 ∧ s' = 1) ∨ (x = 1 ∧ x' = 2 ∧ s = 1 ∧ s' = 0) ∨ (x = 2 ∧ x' = 3 ∧ s = 0 ∧ s' = 1) ∨ (x = 3 ∧ x' = 4 ∧ s = 1 ∧ s' = 0) ∨ (x = 4 ∧ x' = 5 ∧ s = 0 ∧ s' = 1) ∨ (x = 5 ∧ x' = 6 ∧ s = 1 ∧ s' = 0) ∨ (x = 6 ∧ x' = 7 ∧ s = 0 ∧ s' = 1))
    (f : Cont (F := F) c (slotM s)) (f' : Cont (F := F) c (slotM s')) (B : Waits sig Unit) (K : PUnit → sProp 𝕄) :
    iprop(flightP c W s ((i 0).val + 1) x f ∗ cellP c s' ∗ slotP c s' f' ∗ chunkP c W s' ((i 0).val + 1) x' ∗ owes (c : Thread nD τ) 0 B
        ∗ (iprop(slotP c s (landed c W s ((i 0).val + 1) x f) ∗ chunkP c W s ((i 0).val + 1) x ∗ cellP c s
            ∗ flightP c W s' ((i 0).val + 1) x' f' ∗ (∃ B', owes (c : Thread nD τ) 0 B')) -∗ K ⟨⟩))
      ⊢ wp frame (wpE (defs₀ (F := F)) Variants.none c none) Set.univ (transfers i arg2 harg2 arg4 harg4) K := by
  have h1 := first_off i h0
  have hw := wait_here i x hn hx
  have h10 := start_off i x hx
  have hcanon0 : (stM.slice (Rect.unit (s := S2x512x1024) ![0, 0, 0] S1x512x1024.size inb_S2x512x1024_S1x512x1024_0_0_0) (fun _ => rfl)).squeeze S512x1024 squeezes_S1x512x1024_S512x1024 = slotM 0 := rfl
  have hcanon1 : (stM.slice (Rect.unit (s := S2x512x1024) ![1, 0, 0] S1x512x1024.size inb_S2x512x1024_S1x512x1024_1_0_0) (fun _ => rfl)).squeeze S512x1024 squeezes_S1x512x1024_S512x1024 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  unfold transfers
  rcases hcase with ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩ | ⟨rfl, rfl, rfl, rfl⟩
  all_goals
    have h2 : if (0 : Fin 8) = _ then k0_cond2 i = 1#1 else ¬ k0_cond2 i = 1#1 := hw 0
    have h3 : if (1 : Fin 8) = _ then k0_cond3 i = 1#1 else ¬ k0_cond3 i = 1#1 := hw 1
    have h4 : if (2 : Fin 8) = _ then k0_cond4 i = 1#1 else ¬ k0_cond4 i = 1#1 := hw 2
    have h5 : if (3 : Fin 8) = _ then k0_cond5 i = 1#1 else ¬ k0_cond5 i = 1#1 := hw 3
    have h6 : if (4 : Fin 8) = _ then k0_cond6 i = 1#1 else ¬ k0_cond6 i = 1#1 := hw 4
    have h7 : if (5 : Fin 8) = _ then k0_cond7 i = 1#1 else ¬ k0_cond7 i = 1#1 := hw 5
    have h8 : if (6 : Fin 8) = _ then k0_cond8 i = 1#1 else ¬ k0_cond8 i = 1#1 := hw 6
    have h9 : if (7 : Fin 8) = _ then k0_cond9 i = 1#1 else ¬ k0_cond9 i = 1#1 := hw 7
    replace h10 := h10 (by decide)
    simp only [Fin.reduceEq, Fin.isValue, ↓reduceIte] at h2 h3 h4 h5 h6 h7 h8 h9
    iintro ⟨Hf, Hc, Hs, Hh, HW, Hk⟩
    sl_exec (disch := first | sl_exact h1 | sl_exact h2 | sl_exact h3 | sl_exact h4 | sl_exact h5 | sl_exact h6 | sl_exact h7 | sl_exact h8 | sl_exact h9 | sl_exact h10)
    sl_step
    iapply Hk
    isplitl [Hf_dst]; · iexact Hf_dst
    isplitl [Hf_src]; · iexact Hf_src
    isplitl [Hf]; · iexact Hf
    isplitl [Hc]; · iexact Hc
    iexists _; iexact HW

set_option maxHeartbeats 1000000 in
/-- A point in the last column, two tiles or more before the end: the next tile's last chunk lands, and the first
    chunk of the tile after it is started. -/
theorem wait_start_last (c : Dev nD) (i : grid0.Coords) (arg2 : Memref sig .tc .vmem S1024x4096 .bf16) (harg2 : arg2.IsWhole) (arg4 : Memref sig .tc .vmem S1024x1024 .f32) (harg4 : arg4.IsWhole)
    (W : Cont (F := F) c whM) (hn : (i 0).val + 2 < 17) (hx : (i 1).val = (7 : Fin 8).val)
    (f : Cont (F := F) c (slotM 1)) (f' : Cont (F := F) c (slotM 0)) (B : Waits sig Unit) (K : PUnit → sProp 𝕄) :
    iprop(flightP c W 1 ((i 0).val + 1) 7 f ∗ cellP c 0 ∗ slotP c 0 f' ∗ chunkP c W 0 ((i 0).val + 2) 0 ∗ owes (c : Thread nD τ) 0 B
        ∗ (iprop(slotP c 1 (landed c W 1 ((i 0).val + 1) 7 f) ∗ chunkP c W 1 ((i 0).val + 1) 7 ∗ cellP c 1
            ∗ flightP c W 0 ((i 0).val + 2) 0 f' ∗ (∃ B', owes (c : Thread nD τ) 0 B')) -∗ K ⟨⟩))
      ⊢ wp frame (wpE (defs₀ (F := F)) Variants.none c none) Set.univ (transfers i arg2 harg2 arg4 harg4) K := by
  have h1 := first_off i (fun h => absurd (h.2.symm.trans hx) (by decide))
  have hw := wait_here i 7 (by omega) hx
  have h10 := start_here i 7 hn hx rfl
  have hcanon0 : (stM.slice (Rect.unit (s := S2x512x1024) ![0, 0, 0] S1x512x1024.size inb_S2x512x1024_S1x512x1024_0_0_0) (fun _ => rfl)).squeeze S512x1024 squeezes_S1x512x1024_S512x1024 = slotM 0 := rfl
  have hcanon1 : (stM.slice (Rect.unit (s := S2x512x1024) ![1, 0, 0] S1x512x1024.size inb_S2x512x1024_S1x512x1024_1_0_0) (fun _ => rfl)).squeeze S512x1024 squeezes_S1x512x1024_S512x1024 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have h2 : if (0 : Fin 8) = 7 then k0_cond2 i = 1#1 else ¬ k0_cond2 i = 1#1 := hw 0
  have h3 : if (1 : Fin 8) = 7 then k0_cond3 i = 1#1 else ¬ k0_cond3 i = 1#1 := hw 1
  have h4 : if (2 : Fin 8) = 7 then k0_cond4 i = 1#1 else ¬ k0_cond4 i = 1#1 := hw 2
  have h5 : if (3 : Fin 8) = 7 then k0_cond5 i = 1#1 else ¬ k0_cond5 i = 1#1 := hw 3
  have h6 : if (4 : Fin 8) = 7 then k0_cond6 i = 1#1 else ¬ k0_cond6 i = 1#1 := hw 4
  have h7 : if (5 : Fin 8) = 7 then k0_cond7 i = 1#1 else ¬ k0_cond7 i = 1#1 := hw 5
  have h8 : if (6 : Fin 8) = 7 then k0_cond8 i = 1#1 else ¬ k0_cond8 i = 1#1 := hw 6
  have h9 : if (7 : Fin 8) = 7 then k0_cond9 i = 1#1 else ¬ k0_cond9 i = 1#1 := hw 7
  simp only [Fin.reduceEq, Fin.isValue, ↓reduceIte] at h2 h3 h4 h5 h6 h7 h8 h9
  unfold transfers
  iintro ⟨Hf, Hc, Hs, Hh, HW, Hk⟩
  sl_exec (disch := first | sl_exact h1 | sl_exact h2 | sl_exact h3 | sl_exact h4 | sl_exact h5 | sl_exact h6 | sl_exact h7 | sl_exact h8 | sl_exact h9 | sl_exact h10)
  sl_step
  iapply Hk
  isplitl [Hf_dst]; · iexact Hf_dst
  isplitl [Hf_src]; · iexact Hf_src
  isplitl [Hf]; · iexact Hf
  isplitl [Hc]; · iexact Hc
  iexists _; iexact HW

set_option maxHeartbeats 1000000 in
/-- The last column of the last tile but one: the last chunk of all lands. -/
theorem wait_end (c : Dev nD) (i : grid0.Coords) (arg2 : Memref sig .tc .vmem S1024x4096 .bf16) (harg2 : arg2.IsWhole) (arg4 : Memref sig .tc .vmem S1024x1024 .f32) (harg4 : arg4.IsWhole)
    (W : Cont (F := F) c whM) (hn : (i 0).val + 1 < 17) (hn' : ¬ (i 0).val + 2 < 17) (hx : (i 1).val = (7 : Fin 8).val)
    (f : Cont (F := F) c (slotM 1)) (B : Waits sig Unit) (K : PUnit → sProp 𝕄) :
    iprop(flightP c W 1 ((i 0).val + 1) 7 f ∗ owes (c : Thread nD τ) 0 B
        ∗ (iprop(slotP c 1 (landed c W 1 ((i 0).val + 1) 7 f) ∗ chunkP c W 1 ((i 0).val + 1) 7 ∗ cellP c 1
            ∗ (∃ B', owes (c : Thread nD τ) 0 B')) -∗ K ⟨⟩))
      ⊢ wp frame (wpE (defs₀ (F := F)) Variants.none c none) Set.univ (transfers i arg2 harg2 arg4 harg4) K := by
  have h1 := first_off i (fun h => absurd (h.2.symm.trans hx) (by decide))
  have hw := wait_here i 7 hn hx
  have h10 := start_none i hn'
  have hcanon0 : (stM.slice (Rect.unit (s := S2x512x1024) ![0, 0, 0] S1x512x1024.size inb_S2x512x1024_S1x512x1024_0_0_0) (fun _ => rfl)).squeeze S512x1024 squeezes_S1x512x1024_S512x1024 = slotM 0 := rfl
  have hcanon1 : (stM.slice (Rect.unit (s := S2x512x1024) ![1, 0, 0] S1x512x1024.size inb_S2x512x1024_S1x512x1024_1_0_0) (fun _ => rfl)).squeeze S512x1024 squeezes_S1x512x1024_S512x1024 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have h2 : if (0 : Fin 8) = 7 then k0_cond2 i = 1#1 else ¬ k0_cond2 i = 1#1 := hw 0
  have h3 : if (1 : Fin 8) = 7 then k0_cond3 i = 1#1 else ¬ k0_cond3 i = 1#1 := hw 1
  have h4 : if (2 : Fin 8) = 7 then k0_cond4 i = 1#1 else ¬ k0_cond4 i = 1#1 := hw 2
  have h5 : if (3 : Fin 8) = 7 then k0_cond5 i = 1#1 else ¬ k0_cond5 i = 1#1 := hw 3
  have h6 : if (4 : Fin 8) = 7 then k0_cond6 i = 1#1 else ¬ k0_cond6 i = 1#1 := hw 4
  have h7 : if (5 : Fin 8) = 7 then k0_cond7 i = 1#1 else ¬ k0_cond7 i = 1#1 := hw 5
  have h8 : if (6 : Fin 8) = 7 then k0_cond8 i = 1#1 else ¬ k0_cond8 i = 1#1 := hw 6
  have h9 : if (7 : Fin 8) = 7 then k0_cond9 i = 1#1 else ¬ k0_cond9 i = 1#1 := hw 7
  simp only [Fin.reduceEq, Fin.isValue, ↓reduceIte] at h2 h3 h4 h5 h6 h7 h8 h9
  unfold transfers
  iintro ⟨Hf, HW, Hk⟩
  sl_exec (disch := first | sl_exact h1 | sl_exact h2 | sl_exact h3 | sl_exact h4 | sl_exact h5 | sl_exact h6 | sl_exact h7 | sl_exact h8 | sl_exact h9 | sl_exact h10)
  sl_step
  iapply Hk
  isplitl [Hf_dst]; · iexact Hf_dst
  isplitl [Hf_src]; · iexact Hf_src
  isplitl [Hf]; · iexact Hf
  iexists _; iexact HW

set_option maxHeartbeats 1000000 in
/-- The last tile: nothing is waited for and nothing started. -/
theorem wait_idle (c : Dev nD) (i : grid0.Coords) (arg2 : Memref sig .tc .vmem S1024x4096 .bf16) (harg2 : arg2.IsWhole) (arg4 : Memref sig .tc .vmem S1024x1024 .f32) (harg4 : arg4.IsWhole)
    (hn : ¬ (i 0).val + 1 < 17) (B : Waits sig Unit) (K : PUnit → sProp 𝕄) :
    iprop(owes (c : Thread nD τ) 0 B ∗ (iprop(∃ B', owes (c : Thread nD τ) 0 B') -∗ K ⟨⟩))
      ⊢ wp frame (wpE (defs₀ (F := F)) Variants.none c none) Set.univ (transfers i arg2 harg2 arg4 harg4) K := by
  have h1 := first_off i (fun h => hn (by omega))
  have hw := wait_none i hn
  have h10 := start_none i (fun h => hn (by omega))
  have h2 : ¬ k0_cond2 i = 1#1 := hw 0
  have h3 : ¬ k0_cond3 i = 1#1 := hw 1
  have h4 : ¬ k0_cond4 i = 1#1 := hw 2
  have h5 : ¬ k0_cond5 i = 1#1 := hw 3
  have h6 : ¬ k0_cond6 i = 1#1 := hw 4
  have h7 : ¬ k0_cond7 i = 1#1 := hw 5
  have h8 : ¬ k0_cond8 i = 1#1 := hw 6
  have h9 : ¬ k0_cond9 i = 1#1 := hw 7
  unfold transfers
  iintro ⟨HW, Hk⟩
  sl_exec (disch := first | sl_exact h1 | sl_exact h2 | sl_exact h3 | sl_exact h4 | sl_exact h5 | sl_exact h6 | sl_exact h7 | sl_exact h8 | sl_exact h9 | sl_exact h10)
  sl_step
  iapply Hk
  iexists _; iexact HW

end Cert.Kernel4Ideal.In

end
-- ==== Proof.InFirst.lean ====
module

public import proofs.«01_k».proof.Proof.InFill
public import proofs.«01_k».proof.Proof.InWait

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first tile, brought in whole before the first product -/

/-- `filled_next` for a store of what a slot held when it was loaded. -/
theorem filled_load {c : Dev nD} (W : Cont (F := F) c whM) (n x : ℕ) (hx : x < 8) (s : Fin 2) (f : Cont (F := F) c wbM)
    (L : List (View.Piece (Elt F) S2x1x4096x1024 .bf16)) (g : Cont (F := F) c stM)
    (off : Fin 4 → ℕ) (inb : ∀ a, off a + S1x1x512x1024.size a ≤ S2x1x4096x1024.size a) (ho : off = ![n % 2, 0, 512 * x, 0])
    (off' : Fin 3 → ℕ) (inb' : ∀ a, off' a + S1x512x1024.size a ≤ S2x512x1024.size a) (ho' : off' = ![s.val, 0, 0])
    (hg : Holds W n ⟨x, hx⟩ s g) (hL : Filled W n x (wbM.view.writes (Elt F) f L)) :
    Filled W n (x + 1) (wbM.view.writes (Elt F) f (⟨Rect.unit (s := S2x1x4096x1024) off S1x1x512x1024.size inb,
      k0_pay12 (stM.view.readAt (Elt F) (Rect.unit (s := S2x512x1024) off' S1x512x1024.size inb').toLoadRect g)⟩ :: L)) :=
  filled_next W n x f L hL off inb ho _ fun j y h2 h3 => holds_pay W n ⟨x, hx⟩ s g hg off' inb' ho' j y h2 h3

/-- The part of the body that brings in tile 0; the narrowing of its last two chunks stands in the body itself. -/
def prologueOf (i : grid0.Coords) (arg2 : Memref sig .tc .vmem S1024x4096 .bf16) (harg2 : arg2.IsWhole) (arg4 : Memref sig .tc .vmem S1024x1024 .f32) (harg4 : arg4.IsWhole) :
    Prog (TpuEff nD τ sig (Elt F) Λ₀ .tc) PUnit := do
  k0_part1 i arg2 harg2 whM (Memref.isWhole_whole _) arg4 harg4 wbM (Memref.isWhole_whole _) stM (Memref.isWhole_whole _) cc0_scratch2
  k0_part2 i arg2 harg2 whM (Memref.isWhole_whole _) arg4 harg4 wbM (Memref.isWhole_whole _) stM (Memref.isWhole_whole _) cc0_scratch2
  let v186 : FVec F S512x1024 .bf16 ← k0_part3 i arg2 harg2 whM (Memref.isWhole_whole _) arg4 harg4 wbM (Memref.isWhole_whole _) stM (Memref.isWhole_whole _) cc0_scratch2
  k0_part4 i arg2 harg2 whM (Memref.isWhole_whole _) arg4 harg4 wbM (Memref.isWhole_whole _) stM (Memref.isWhole_whole _) cc0_scratch2 v186
  let v240 : FVec F S512x1024 .bf16 ← k0_part5 i arg2 harg2 whM (Memref.isWhole_whole _) arg4 harg4 wbM (Memref.isWhole_whole _) stM (Memref.isWhole_whole _) cc0_scratch2
  let v241 : Vec F S1x1x512x1024 .bf16 ← Prog.lift (.load wbM (Rect.unit (s := S2x1x4096x1024) ![0, 0, 3072, 0] S1x1x512x1024.size inb_S2x1x4096x1024_S1x1x512x1024_0_0_3072_0).toLoadRect (View.loadsAt_vmem h_S1x1x512x1024))
  Prog.lift (.store wbM (Rect.unit (s := S2x1x4096x1024) ![0, 0, 3072, 0] S1x1x512x1024.size inb_S2x1x4096x1024_S1x1x512x1024_0_0_3072_0) (k0_pay10 v240) Finset.univ (View.stores_vmem h_S1x1x512x1024 ((Memref.isWhole_whole cc0_scratch0).storeExact_slice rfl _ packedbf16_S2x1x4096x1024_S1x1x512x1024_0_0_3072_0) (fun _ => rfl)) (.inl rfl))
  Prog.lift (.waitDma2 ((cc0_scratch2.slice (Rect.unit (s := S2) ![1] S1.size inb_S2_S1_1)).squeeze S_ squeezes_S1_S_).sem
    ((whM.slice (Rect.unit (s := S1x4096x17408) ![0, 3584, 0] S1x512x1024.size inb_S1x4096x17408_S1x512x1024_0_3584_0) (fun _ => rfl)).squeeze S512x1024 squeezes_S1x512x1024_S512x1024)
    ((stM.slice (Rect.unit (s := S2x512x1024) ![1, 0, 0] S1x512x1024.size inb_S2x512x1024_S1x512x1024_1_0_0) (fun _ => rfl)).squeeze S512x1024 squeezes_S1x512x1024_S512x1024)
    ((View.wordExact_bits rfl).reshape _ _) ((View.wordExact_bits rfl).reshape _ _))
  let v250 : Vec F S1x512x1024 .f32 ← Prog.lift (.load stM (Rect.unit (s := S2x512x1024) ![1, 0, 0] S1x512x1024.size inb_S2x512x1024_S1x512x1024_1_0_0).toLoadRect (View.loadsAt_vmem h_S1x512x1024))
  let v253 : Vec F S1x1x512x1024 .bf16 ← Prog.lift (.load wbM (Rect.unit (s := S2x1x4096x1024) ![0, 0, 3584, 0] S1x1x512x1024.size inb_S2x1x4096x1024_S1x1x512x1024_0_0_3584_0).toLoadRect (View.loadsAt_vmem h_S1x1x512x1024))
  Prog.lift (.store wbM (Rect.unit (s := S2x1x4096x1024) ![0, 0, 3584, 0] S1x1x512x1024.size inb_S2x1x4096x1024_S1x1x512x1024_0_0_3584_0) (k0_pay11 v250) Finset.univ (View.stores_vmem h_S1x1x512x1024 ((Memref.isWhole_whole cc0_scratch0).storeExact_slice rfl _ packedbf16_S2x1x4096x1024_S1x1x512x1024_0_0_3584_0) (fun _ => rfl)) (.inl rfl))

/-- Ten programs in a row before another, read as one before it. -/
theorem ten_before {T₃ T₅ T₆ T₉ T₁₀ α : Type} (p₁ p₂ p₈ : Prog (TpuEff nD τ sig (Elt F) Λ₀ .tc) PUnit) (p₃ : Prog (TpuEff nD τ sig (Elt F) Λ₀ .tc) T₃)
    (p₄ : T₃ → Prog (TpuEff nD τ sig (Elt F) Λ₀ .tc) PUnit) (p₅ : Prog (TpuEff nD τ sig (Elt F) Λ₀ .tc) T₅) (p₆ : Prog (TpuEff nD τ sig (Elt F) Λ₀ .tc) T₆)
    (p₇ : T₅ → Prog (TpuEff nD τ sig (Elt F) Λ₀ .tc) PUnit) (p₉ : Prog (TpuEff nD τ sig (Elt F) Λ₀ .tc) T₉) (p₁₀ : Prog (TpuEff nD τ sig (Elt F) Λ₀ .tc) T₁₀)
    (p₁₁ : T₉ → Prog (TpuEff nD τ sig (Elt F) Λ₀ .tc) PUnit) (k : PUnit → Prog (TpuEff nD τ sig (Elt F) Λ₀ .tc) α) :
    (p₁ >>= fun _ => p₂ >>= fun _ => p₃ >>= fun v => p₄ v >>= fun _ => p₅ >>= fun w => p₆ >>= fun _ => p₇ w >>= fun _ => p₈ >>= fun _ => p₉ >>= fun u => p₁₀ >>= fun _ => p₁₁ u >>= k)
      = ((do p₁; p₂; let v ← p₃; p₄ v; let w ← p₅; let _ ← p₆; p₇ w; p₈; let u ← p₉; let _ ← p₁₀; p₁₁ u) >>= k) := by
  simp only [bind_assoc]

set_option sl_exec.dmaWindow true
set_option maxHeartbeats 8000000 in
/-- With the weights, the resident tiles and the slots whole, it leaves tile 0 narrowed in its half. -/
theorem prologue (c : Dev nD) (i : grid0.Coords) (arg2 : Memref sig .tc .vmem S1024x4096 .bf16) (harg2 : arg2.IsWhole) (arg4 : Memref sig .tc .vmem S1024x1024 .f32) (harg4 : arg4.IsWhole)
    (W : Cont (F := F) c whM) (d0 : Cont (F := F) c wbM) (d1 : Cont (F := F) c stM) (B : Waits sig Unit) (K : PUnit → sProp 𝕄) :
    iprop((whM.view.loc (c : Thread nD τ) ↦{fullShare} W) ∗ (wbM.view.loc (c : Thread nD τ) ↦{fullShare} d0) ∗ (stM.view.loc (c : Thread nD τ) ↦{fullShare} d1)
        ∗ cellP c 0 ∗ cellP c 1 ∗ owes (c : Thread nD τ) 0 B
        ∗ (iprop((whM.view.loc (c : Thread nD τ) ↦{fullShare} W) ∗ (∃ f, ⌜Filled W 0 8 f⌝ ∗ (wbM.view.loc (c : Thread nD τ) ↦{fullShare} f))
            ∗ (∃ g, stM.view.loc (c : Thread nD τ) ↦{fullShare} g) ∗ cellP c 0 ∗ cellP c 1 ∗ (∃ B', owes (c : Thread nD τ) 0 B')) -∗ K ⟨⟩))
      ⊢ wp frame (wpE (defs₀ (F := F)) Variants.none c none) Set.univ (prologueOf i arg2 harg2 arg4 harg4) K := by
  unfold prologueOf
  iintro ⟨HWh, Hwb, Hst, Hc0, Hc1, HW, Hk⟩
  sl_exec
  sl_step
  iapply Hk
  isplitl [HWh]; · iexact HWh
  isplitl [Hwb]
  · iexists _
    isplitr; swap; · iexact Hwb
    ipureintro
    refine filled_load W 0 7 (by decide) 1 d0 _ _ _ _ rfl _ _ rfl (holds_write W 0 _ 1 _) ?_
    iterate 3
      refine filled_load W 0 _ (by decide) 0 d0 _ _ _ _ rfl _ _ rfl (holds_other W 0 _ 0 1 (by decide) _ _ (holds_write W 0 _ 0 _)) ?_
      refine filled_load W 0 _ (by decide) 1 d0 _ _ _ _ rfl _ _ rfl (holds_other W 0 _ 1 0 (by decide) _ _ (holds_write W 0 _ 1 _)) ?_
    refine filled_load W 0 _ (by decide) 0 d0 _ _ _ _ rfl _ _ rfl (holds_other W 0 _ 0 1 (by decide) _ _ (holds_write W 0 _ 0 _)) ?_
    exact filled_zero W 0 d0
  isplitl [Hst]; · iexists _; iexact Hst
  isplitl [Hc0]; · iexact Hc0
  isplitl [Hc1]; · iexact Hc1
  iexists _; iexact HW

end Cert.Kernel4Ideal.In

end
-- ==== Proof.InStart.lean ====
module

public import proofs.«01_k».proof.Proof.InFirst

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point -/

set_option maxHeartbeats 4000000 in
/-- The first point: tile 0 is brought in whole, and the first two chunks of the next tile are started, the first of
    them waited for. -/
theorem wait_first (c : Dev nD) (i : grid0.Coords) (arg2 : Memref sig .tc .vmem S1024x4096 .bf16) (harg2 : arg2.IsWhole) (arg4 : Memref sig .tc .vmem S1024x1024 .f32) (harg4 : arg4.IsWhole)
    (h0 : (i 0).val = 0) (h0' : (i 1).val = 0)
    (W : Cont (F := F) c whM) (d0 : Cont (F := F) c wbM) (d1 : Cont (F := F) c stM) (B : Waits sig Unit) (K : PUnit → sProp 𝕄) :
    iprop((whM.view.loc (c : Thread nD τ) ↦{fullShare} W) ∗ (wbM.view.loc (c : Thread nD τ) ↦{fullShare} d0) ∗ (stM.view.loc (c : Thread nD τ) ↦{fullShare} d1)
        ∗ cellP c 0 ∗ cellP c 1 ∗ owes (c : Thread nD τ) 0 B
        ∗ (iprop((∃ f, ⌜Filled W 0 8 f⌝ ∗ (wbM.view.loc (c : Thread nD τ) ↦{fullShare} f))
            ∗ (∃ g, slotP c 0 (landed c W 0 ((i 0).val + 1) 0 g)) ∗ allP c W 0 ∗ cellP c 0
            ∗ (∃ g, flightP c W 1 ((i 0).val + 1) 1 g) ∗ leftP c W 1 ((i 0).val + 1) 1 ∗ (∃ B', owes (c : Thread nD τ) 0 B')) -∗ K ⟨⟩))
      ⊢ wp frame (wpE (defs₀ (F := F)) Variants.none c none) Set.univ (transfers i arg2 harg2 arg4 harg4) K := by
  have h1 : firstCond i = 1#1 := (firstCond_iff i).mpr ⟨h0, h0'⟩
  have hw := wait_here i 0 (by omega) h0'
  have h10 := start_off i 0 h0' (by decide)
  have hcanon0 : (stM.slice (Rect.unit (s := S2x512x1024) ![0, 0, 0] S1x512x1024.size inb_S2x512x1024_S1x512x1024_0_0_0) (fun _ => rfl)).squeeze S512x1024 squeezes_S1x512x1024_S512x1024 = slotM 0 := rfl
  have hcanon1 : (stM.slice (Rect.unit (s := S2x512x1024) ![1, 0, 0] S1x512x1024.size inb_S2x512x1024_S1x512x1024_1_0_0) (fun _ => rfl)).squeeze S512x1024 squeezes_S1x512x1024_S512x1024 = slotM 1 := rfl
  have hcanon2 : (cc0_scratch2.slice (Rect.unit (s := S2) ![0] S1.size inb_S2_S1_0)).squeeze S_ squeezes_S1_S_ = cellM 0 := rfl
  have hcanon3 : (cc0_scratch2.slice (Rect.unit (s := S2) ![1] S1.size inb_S2_S1_1)).squeeze S_ squeezes_S1_S_ = cellM 1 := rfl
  have hcanon4 : (whM.slice (Rect.unit (s := S1x4096x17408) ![0, 0, 1024] S1x512x1024.size inb_S1x4096x17408_S1x512x1024_0_0_1024) (fun _ => rfl)).squeeze S512x1024 squeezes_S1x512x1024_S512x1024 = chunkM ((i 0).val + 1) 0 :=
    chunk_of_off _ _ _ 0 (by rw [h0]; rfl)
  have h2 : if (0 : Fin 8) = _ then k0_cond2 i = 1#1 else ¬ k0_cond2 i = 1#1 := hw 0
  have h3 : if (1 : Fin 8) = _ then k0_cond3 i = 1#1 else ¬ k0_cond3 i = 1#1 := hw 1
  have h4 : if (2 : Fin 8) = _ then k0_cond4 i = 1#1 else ¬ k0_cond4 i = 1#1 := hw 2
  have h5 : if (3 : Fin 8) = _ then k0_cond5 i = 1#1 else ¬ k0_cond5 i = 1#1 := hw 3
  have h6 : if (4 : Fin 8) = _ then k0_cond6 i = 1#1 else ¬ k0_cond6 i = 1#1 := hw 4
  have h7 : if (5 : Fin 8) = _ then k0_cond7 i = 1#1 else ¬ k0_cond7 i = 1#1 := hw 5
  have h8 : if (6 : Fin 8) = _ then k0_cond8 i = 1#1 else ¬ k0_cond8 i = 1#1 := hw 6
  have h9 : if (7 : Fin 8) = _ then k0_cond9 i = 1#1 else ¬ k0_cond9 i = 1#1 := hw 7
  simp only [Fin.reduceEq, Fin.isValue, ↓reduceIte] at h2 h3 h4 h5 h6 h7 h8 h9
  iintro ⟨HWh, Hwb, Hst, Hc0, Hc1, HW, Hk⟩
  unfold transfers
  rw [wp_bind, k0_part6_eq_skeleton]
  unfold k0_part6_skel
  dsimp (config := { proj := false }) only
  rw [dif_pos h1, ten_before, wp_bind]
  iapply (prologue c i arg2 harg2 arg4 harg4 W d0 d1 B _)
  isplitl [HWh]; · iexact HWh
  isplitl [Hwb]; · iexact Hwb
  isplitl [Hst]; · iexact Hst
  isplitl [Hc0]; · iexact Hc0
  isplitl [Hc1]; · iexact Hc1
  isplitl [HW]; · iexact HW
  iintro ⟨HWh, ⟨%fw, %hfw, Hwb⟩, Hst, Hc0, Hc1, ⟨%B', HW⟩⟩
  ihave HWs := (shares_split c W).1 $$ HWh
  icases HWs with ⟨HW0, HW1⟩
  ihave H0 := (all_split c W 0 ((i 0).val + 1) 0).1 $$ HW0
  icases H0 with ⟨Hh0, Hl0⟩
  ihave H1 := (all_split c W 1 ((i 0).val + 1) 1).1 $$ HW1
  icases H1 with ⟨Hh1, Hl1⟩
  ihave Hss := (Ring.slots2_split (U := Pipeline.UD sig nD τ) (ℓ := (c : Thread nD τ).loc cc0_scratch1) (q := fullShare) slotSet slots_disjoint slots_cover
    (slotP c 0) (slotP c 1) (slotP_eq c 0) (slotP_eq c 1)) $$ Hst
  icases Hss with ⟨⟨%g0, Hs0⟩, ⟨%g1, Hs1⟩⟩
  sl_exec
  sl_step
  iapply Hk
  isplitl [Hwb]
  · iexists fw; isplitr; swap; · iexact Hwb
    ipureintro; exact hfw
  isplitl [Hs0]; · iexists _; iexact Hs0
  isplitl [Hh0 Hl0]
  · iapply (all_split c W 0 ((i 0).val + 1) 0).2
    isplitl [Hh0]; · iexact Hh0
    iexact Hl0
  isplitl [Hc0]; · iexact Hc0
  isplitl [Hc1]; · iexists _; iexact Hc1
  isplitl [Hl1]; · iexact Hl1
  iexists _; iexact HW

end Cert.Kernel4Ideal.In

end
-- ==== Proof.InRing.lean ====
module

public import proofs.«01_k».proof.Proof.InStart
public import proofs.«01_k».proof.Proof.InWait
public import proofs.«01_k».proof.Proof.InFill
public import proofs.«01_k».proof.Proof.Stream

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Stream (slotOf chunkOf tileOn)
open Idealize.ShloMosaic.Pipeline (Dat Cfg Window BodyObligation cellOf)

variable {F : FTy → Type} [FloatOps F]

local notation "𝕄" => MT nD τ sig Unit (Elt F) ℕ (Pipeline.UD sig nD τ) ℕ

/-! ## The transfers, point by point -/

/-- The number of the points that have a chunk to wait for: those before the last tile. -/
abbrev lastK : ℕ := 8 * (17 - 1)

section Ring
variable (c : Dev nD) (W : Cont (F := F) c whM)

/-- The kernel's stream: the weights' tiles, 8 chunks each. -/
abbrev parts : Cert.Stream.Parts 𝕄 8 where
  Tiles := Cont (F := F) c wbM
  Stage := Cont (F := F) c stM
  Slot := Cont (F := F) c stM
  Waits := Waits sig Unit
  weights := whM.view.loc (c : Thread nD τ) ↦{fullShare} W
  tiles f := wbM.view.loc (c : Thread nD τ) ↦{fullShare} f
  stage d := stM.view.loc (c : Thread nD τ) ↦{fullShare} d
  owed B := owes (c : Thread nD τ) 0 B
  cell := cellP c
  slot s f := slotP c s f
  share := allP c W
  chunk := chunkP c W
  left := leftP c W
  flight s n x f := flightP c W s n x f
  landed s n x f := landed c W s n x f
  Filled := Filled W
  Holds n x s g := Holds W n x s g
  split := all_split c W
  filled_zero := filled_zero W
  holds_landed s n x f := holds_landed W n x s f

/-- What the kernel holds of its slots and of the weights before point `k`, and in the course of it; and the resident tiles. -/
abbrev ringP (k : ℕ) : sProp 𝕄 := (parts c W).ring lastK k
abbrev restP (k : ℕ) : sProp 𝕄 := (parts c W).rest lastK k
abbrev Stored (k : ℕ) (f : Cont (F := F) c wbM) : Prop := (parts c W).Stored lastK k f

end Ring

theorem coords_eq : ∀ t : Fin grid0.N, (grid0.coords t 0).val = t.val / 8 ∧ (grid0.coords t 1).val = t.val % 8 := by decide +kernel
theorem steps_eq : ∀ k : Fin 136, ¬ k.val % 8 = 7 →
    (chunkOf 8 k.val = 0 ∧ chunkOf 8 (k.val + 1) = 1 ∧ slotOf k.val = 0 ∧ slotOf (k.val + 1) = 1)
    ∨ (chunkOf 8 k.val = 1 ∧ chunkOf 8 (k.val + 1) = 2 ∧ slotOf k.val = 1 ∧ slotOf (k.val + 1) = 0)
    ∨ (chunkOf 8 k.val = 2 ∧ chunkOf 8 (k.val + 1) = 3 ∧ slotOf k.val = 0 ∧ slotOf (k.val + 1) = 1)
    ∨ (chunkOf 8 k.val = 3 ∧ chunkOf 8 (k.val + 1) = 4 ∧ slotOf k.val = 1 ∧ slotOf (k.val + 1) = 0)
    ∨ (chunkOf 8 k.val = 4 ∧ chunkOf 8 (k.val + 1) = 5 ∧ slotOf k.val = 0 ∧ slotOf (k.val + 1) = 1)
    ∨ (chunkOf 8 k.val = 5 ∧ chunkOf 8 (k.val + 1) = 6 ∧ slotOf k.val = 1 ∧ slotOf (k.val + 1) = 0)
    ∨ (chunkOf 8 k.val = 6 ∧ chunkOf 8 (k.val + 1) = 7 ∧ slotOf k.val = 0 ∧ slotOf (k.val + 1) = 1) := by decide +kernel

set_option maxHeartbeats 1000000 in
/-- The transfers of point `t`: the resident tiles stay (at the first point the first one is brought in), and where a
    chunk was in flight the point's slot holds it. -/
theorem transfers_step (c : Dev nD) (t : Fin grid0.N) (arg2 : Memref sig .tc .vmem S1024x4096 .bf16) (harg2 : arg2.IsWhole) (arg4 : Memref sig .tc .vmem S1024x1024 .f32) (harg4 : arg4.IsWhole)
    (W : Cont (F := F) c whM) (B : Waits sig Unit) (K : PUnit → sProp 𝕄) :
    iprop((∃ f, ⌜1 ≤ t.val → Stored c W t.val f⌝ ∗ (wbM.view.loc (c : Thread nD τ) ↦{fullShare} f)) ∗ ringP c W t.val ∗ owes (c : Thread nD τ) 0 B
        ∗ (iprop((∃ f, ⌜Stored c W t.val f⌝ ∗ (wbM.view.loc (c : Thread nD τ) ↦{fullShare} f))
            ∗ (∃ g, ⌜t.val < lastK → Holds W (tileOn 8 t.val) (chunkOf 8 t.val) (slotOf t.val) g⌝ ∗ slotP c (slotOf t.val) g)
            ∗ restP c W t.val ∗ (∃ B', owes (c : Thread nD τ) 0 B')) -∗ K ⟨⟩))
      ⊢ wp frame (wpE (defs₀ (F := F)) Variants.none c none) Set.univ (transfers (grid0.coords t) arg2 harg2 arg4 harg4) K := by
  have hN : t.val < 136 := lt_of_lt_of_eq t.isLt N_0
  obtain ⟨e0, e1⟩ := coords_eq t
  have hn : tileOn 8 t.val = (grid0.coords t 0).val + 1 := by unfold tileOn; omega
  refine (parts c W).step lastK t.val (by decide) (K ⟨⟩) _ B (fun hk f d => ?_) (fun hk hl f f' => ?_) (fun hk hl f => ?_) fun hl => ?_
  · have hs : slotOf t.val = 0 := Fin.ext (show t.val % 2 = 0 by omega)
    have hs' : slotOf (t.val + 1) = 1 := Fin.ext (show (t.val + 1) % 2 = 1 by omega)
    have hx : chunkOf 8 t.val = 0 := Fin.ext (show t.val % 8 = 0 by omega)
    have hx' : chunkOf 8 (t.val + 1) = 1 := Fin.ext (show (t.val + 1) % 8 = 1 by omega)
    have hn' : tileOn 8 (t.val + 1) = (grid0.coords t 0).val + 1 := by unfold tileOn; omega
    rw [hs, hs', hx, hx', hn, hn']
    dsimp only [parts]
    exact wait_first c (grid0.coords t) arg2 harg2 arg4 harg4 (by omega) (by omega) W f d B K
  · have hl' : t.val + 1 < 128 := hl
    rw [hn]
    by_cases h : t.val % 8 = 7
    · have hs : slotOf t.val = 1 := Fin.ext (show t.val % 2 = 1 by omega)
      have hs' : slotOf (t.val + 1) = 0 := Fin.ext (show (t.val + 1) % 2 = 0 by omega)
      have hx : chunkOf 8 t.val = 7 := Fin.ext h
      have hx' : chunkOf 8 (t.val + 1) = 0 := Fin.ext (show (t.val + 1) % 8 = 0 by omega)
      have hn' : tileOn 8 (t.val + 1) = (grid0.coords t 0).val + 2 := by unfold tileOn; omega
      rw [hs, hs', hx, hx', hn']
      dsimp only [parts]
      exact wait_start_last c (grid0.coords t) arg2 harg2 arg4 harg4 W (by omega) (by rw [e1, h]; rfl) f f' B K
    · have hn' : tileOn 8 (t.val + 1) = (grid0.coords t 0).val + 1 := by unfold tileOn; omega
      rw [hn']
      dsimp only [parts]
      exact wait_start c (grid0.coords t) arg2 harg2 arg4 harg4 W (by omega) (by omega) _ _ _ _ e1 (steps_eq ⟨t.val, hN⟩ h) f f' B K
  · have hl' : t.val + 1 = 128 := hl
    have hs : slotOf t.val = 1 := Fin.ext (show t.val % 2 = 1 by omega)
    have hx : chunkOf 8 t.val = 7 := Fin.ext (show t.val % 8 = 7 by omega)
    rw [hn, hs, hx]
    dsimp only [parts]
    exact wait_end c (grid0.coords t) arg2 harg2 arg4 harg4 W (by omega) (by omega) (by rw [e1]; show t.val % 8 = 7; omega) f B K
  · have hl' : 128 ≤ t.val := hl
    dsimp only [parts]
    exact wait_idle c (grid0.coords t) arg2 harg2 arg4 harg4 (by omega) B K

end Cert.Kernel4Ideal.In

end
-- ==== Proof.InProduct.lean ====
module

public import proofs.«01_k».proof.Proof.InFill
public import Idealize.ShloMosaic.Lib.VecWindow

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The product -/

/-- The slot that a point narrows, by its parity. -/
def colSlot (i : grid0.Coords) : Fin 2 := ⟨(i 1).val % 2, Nat.mod_lt _ (by decide)⟩
theorem off17_eq : ∀ i : grid0.Coords, k0_off17 i = ![(colSlot i).val, 0, 0] := by decide +kernel
theorem off18_eq : ∀ i : grid0.Coords, k0_off18 i = ![((i 0).val + 1) % 2, 0, 512 * (i 1).val, 0] := by decide +kernel
theorem off19_eq : ∀ i : grid0.Coords, k0_off19 i = ![(i 0).val % 2, 0, 0, 0] := by decide +kernel
instance (priority := high) closed17 (i : grid0.Coords) : ClosedOff (k0_off17 i) := ⟨![(colSlot i).val, 0, 0], off17_eq i⟩
instance (priority := high) closed18 (i : grid0.Coords) : ClosedOff (k0_off18 i) := ⟨![((i 0).val + 1) % 2, 0, 512 * (i 1).val, 0], off18_eq i⟩
instance (priority := high) closed19 (i : grid0.Coords) : ClosedOff (k0_off19 i) := ⟨![(i 0).val % 2, 0, 0, 0], off19_eq i⟩

/-- Tile `n` of the weights, narrowed to bf16. -/
def tileOf {c : Dev nD} (W : Cont (F := F) c whM) (n : ℕ) : S1x1x4096x1024.Idx → Elt F .bf16 := fun y =>
  FloatOps.truncf .bf16 bitsLt_bf16_f32 (whM.view.read (Elt F) W (fun a => ⟨(![0, (y 2).val, 1024 * (n % 17) + (y 3).val] : Fin 3 → ℕ) a, by
    have h2 : (y 2).val < 4096 := (y 2).isLt
    have h3 : (y 3).val < 1024 := (y 3).isLt
    fin_cases a <;> simp <;> omega⟩))

/-- A load of a half that holds tile `n` is the tile. -/
theorem load_tile {c : Dev nD} (W : Cont (F := F) c whM) (n : ℕ) (f : Cont (F := F) c wbM) (hf : Filled W n 8 f)
    (off : Fin 4 → ℕ) (inb : ∀ a, off a + S1x1x4096x1024.size a ≤ S2x1x4096x1024.size a) (ho : off = ![n % 2, 0, 0, 0]) :
    wbM.view.readAt (Elt F) (Rect.unit (s := S2x1x4096x1024) off S1x1x4096x1024.size inb).toLoadRect f = tileOf W n := by
  subst ho
  funext y
  have h0 : (y 0).val < 1 := (y 0).isLt
  have h2 : (y 2).val < 4096 := (y 2).isLt
  refine (hf _ ?_ ?_).trans ?_
  · simp [LoadRect.idx, Rect.unit]; omega
  · simp [LoadRect.idx, Rect.unit]; omega
  unfold narrowAt tileOf
  refine congrArg (FloatOps.truncf .bf16 bitsLt_bf16_f32) (congrArg (whM.view.read (Elt F) W) (funext fun a => Fin.ext ?_))
  fin_cases a <;> simp [srcIdx, LoadRect.idx, Rect.unit]

set_option maxHeartbeats 4000000 in
/-- The product of a point: it narrows what the point's slot holds into the next tile's half, and stores the block of
    rows times the tile that lies in the half of the present one. -/
theorem product_run (c : Dev nD) (i : grid0.Coords) (arg2 : Memref sig .tc .vmem S1024x4096 .bf16) (harg2 : arg2.IsWhole) (arg4 : Memref sig .tc .vmem S1024x1024 .f32) (harg4 : arg4.IsWhole)
    (W : Cont (F := F) c whM) (a : S1024x4096.Idx → Elt F .bf16) (fw : Cont (F := F) c wbM) (hfw : Filled W (i 0).val 8 fw)
    (s : Fin 2) (hs : s.val = (i 1).val % 2) (g : Cont (F := F) c (slotM s)) (B : Waits sig Unit) (K : PUnit → sProp 𝕄) :
    iprop(owns (c : Thread nD τ) arg2 fullShare a ∗ (∃ o, owns (c : Thread nD τ) arg4 fullShare o) ∗ (wbM.view.loc (c : Thread nD τ) ↦{fullShare} fw) ∗ slotP c s g ∗ owes (c : Thread nD τ) 0 B
        ∗ (iprop(owns (c : Thread nD τ) arg2 fullShare a ∗ owns (c : Thread nD τ) arg4 fullShare (k0_pay1 a (tileOf W (i 0).val))
            ∗ (∃ f, ⌜Filled W (i 0).val 8 f ∧ ∀ x : Fin 8, x.val = (i 1).val → Filled W ((i 0).val + 1) x.val fw → Holds W ((i 0).val + 1) x s g → Filled W ((i 0).val + 1) (x.val + 1) f⌝
                ∗ (wbM.view.loc (c : Thread nD τ) ↦{fullShare} f))
            ∗ slotP c s g ∗ owes (c : Thread nD τ) 0 B) -∗ K ⟨⟩))
      ⊢ wp frame (wpE (defs₀ (F := F)) Variants.none c none) Set.univ (product i arg2 harg2 arg4 harg4) K := by
  obtain rfl : s = colSlot i := Fin.ext hs
  unfold owns
  iintro ⟨⟨%fa, %ha, Ha⟩, ⟨%o, %fo, -, Ho⟩, Hwb, Hst, HW, Hk⟩
  unfold product
  sl_exec
  sl_step
  iapply Hk
  isplitl [Ha]
  · iexists fa; isplitr; · ipureintro; exact ha
    iexact Ha
  have hkeep := filled_keep W (i 0).val 8 fw [] hfw (k0_off18 i) (k0_off18_inb i) _ (off18_eq i)
  isplitl [Ho]
  · iexists _; isplitr; swap; · iexact Ho
    ipureintro
    funext y
    refine (View.read_writes_cons_unit_of_mem (size := S1024x1024.size) arg4.view fo _ _ [] y y rfl fun a => by fin_cases a <;> simp).trans ?_
    refine congrFun (congrArg₂ k0_pay1 ((View.readAt_full arg2.view fa _).trans ha) ?_) y
    exact load_tile W (i 0).val _ (hkeep _) _ _ (off19_eq i)
  isplitl [Hwb]
  · iexists _; isplitr; swap; · iexact Hwb
    ipureintro
    refine ⟨hkeep _, fun x hx h1 h2 => ?_⟩
    refine filled_next W _ _ fw [] h1 _ _ ((off18_eq i).trans (by rw [hx])) _ fun j y e2 e3 => holds_pay W _ x (colSlot i) g h2 _ _ (off17_eq i) j y e2 e3
  isplitl [Hst]; · iexact Hst
  iexact HW

end Cert.Kernel4Ideal.In

end
-- ==== Proof.InRun.lean ====
module

public import proofs.«01_k».proof.Proof.InRing
public import proofs.«01_k».proof.Proof.InProduct
public import Idealize.ShloMosaic.Lib.Claim

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Stream (slotOf chunkOf tileOn)
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's set-up -/

/-- Core `c`'s buffers as launched: the program is one region alone. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The weights, which no window stages. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop((whM.view.loc (c : Thread nD τ) ↦{fullShare} V m c main_arg1)) := by
  rw [BI.bigSep_eq_bigSepL_of_eq [main_arg1] (by decide) (by decide)]; rfl
theorem PhiD0_eq (c : Dev nD) :
    (Pipeline.ΦD osem0 spec0 H0 (V m) c : sProp 𝕄)
      = iprop(((∃ f : Cont (F := F) c wbM, wbM.view.loc (c : Thread nD τ) ↦{fullShare} f) ∗ (∃ f : Cont (F := F) c stM, stM.view.loc (c : Thread nD τ) ↦{fullShare} f))
        ∗ (∃ r, prngReg c r) ∗ (cellP c 0 ∗ cellP c 1) ∗ (whM.view.loc (c : Thread nD τ) ↦{fullShare} V m c main_arg1)) := by
  rw [Pipeline.ΦD_eq, scopedRest0_eq, ownSems00_eq, hbmPts0_eq, cellP, cellP, cellL_0, cellL_1]

/-! ## The invariant and the proof data -/

/-- Before point `k`: the generator at some state, the resident tiles filled as far as the points before have come, and
    the slots. -/
def inv (c : Dev nD) (k : ℕ) : sProp 𝕄 :=
  iprop((∃ r, prngReg c r)
    ∗ (∃ f : Cont (F := F) c wbM, ⌜1 ≤ k → k < 136 → Stored c (V m c main_arg1) k f⌝ ∗ (wbM.view.loc (c : Thread nD τ) ↦{fullShare} f))
    ∗ ringP c (V m c main_arg1) k)

/-- The block that point `t` leaves: its block of rows times tile `t / 8` of the weights. -/
def outBlk (c : Dev nD) (t : Fin cfg0.N) : S1024x1024.Idx → Elt F .f32 :=
  k0_pay1 (iblk m c 0 t) (tileOf (c := c) (V m c main_arg1) (t.val / 8))

/-- The proof data: the rows' window keeps its block, the result's window gets the product. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outBlk m c t
  Φ t := inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = outBlk m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]

/-! ## The body at a point -/

abbrev ms0 (t : Fin cfg0.N) : Memref sig .tc .vmem S1024x4096 .bf16 := win0_0.stage (cfg0.slots t 0)
abbrev ms1 (t : Fin cfg0.N) : Memref sig .tc .vmem S1024x1024 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 4000000 in
/-- The body at any point: its transfers, then its product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [inv_castSucc m c t, inv_succ m c t]
  unfold Dat.owesAt Pipeline.owesWithin
  rw [show (dats m 0 c).owed t.castSucc = 0 from rfl, show (dats m 0 c).owed t.succ = 0 from rfl]
  simp only [before0]
  rw [after0, after1, body_split, wp_bind]
  have hN : t.val < 136 := lt_of_lt_of_eq t.isLt N_0
  obtain ⟨e0, e1⟩ := coords_eq t
  have hT := transfers_step (F := F) c t (ms0 t) (hstage0_0 ((cfg0.slots t 0).cast nbuf0_0)) (ms1 t) (hstage0_1 ((cfg0.slots t 1).cast nbuf0_1)) (V m c main_arg1)
  have hP := product_run (F := F) c (grid0.coords t) (ms0 t) (hstage0_0 ((cfg0.slots t 0).cast nbuf0_0)) (ms1 t) (hstage0_1 ((cfg0.slots t 1).cast nbuf0_1)) (V m c main_arg1) (iblk m c 0 t)
  rw [e0] at hP
  unfold inv
  iintro ⟨⟨Hg, ⟨%f, %hf, Hwb⟩, Hr⟩, ⟨%B, -, HW⟩, ⟨%d0, H0⟩, ⟨%d1, H1⟩⟩
  iapply (hT B _)
  isplitl [Hwb]
  · iexists f; isplitr; · ipureintro; exact fun h => hf h hN
    iexact Hwb
  isplitl [Hr]; · iexact Hr
  isplitl [HW]; · iexact HW
  iintro ⟨⟨%f', %hf', Hwb⟩, ⟨%g, %hg, Hs⟩, Hr, ⟨%B', HW⟩⟩
  iapply (hP f' hf'.1 (slotOf t.val) (by rw [e1]; show t.val % 2 = t.val % 8 % 2; omega) g B' _)
  isplitl [H0]; · iexact H0
  isplitl [H1]; · iexists _; iexact H1
  isplitl [Hwb]; · iexact Hwb
  isplitl [Hs]; · iexact Hs
  isplitl [HW]; · iexact HW
  iintro ⟨H0, H1, ⟨%f'', %hf'', Hwb⟩, Hs, HW⟩
  isplitl [Hg Hwb Hs Hr]
  · isplitl [Hg]; · iexact Hg
    isplitl [Hwb]
    · iexists f''; isplitr; swap; · iexact Hwb
      ipureintro
      intro _ hk
      exact (parts c _).stored_next 17 t.val hk f'' hf''.1 fun hl => hf''.2 (chunkOf 8 t.val) (by rw [e1]) (hf'.2 hl) (hg hl)
    iapply ((parts c (V m c main_arg1)).ring_next lastK t.val)
    isplitl [Hs]; · iexists g; iexact Hs
    iexact Hr
  isplitl [HW]
  · iexists B'; isplitr; · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the launch hands the region is the invariant before the first point, -/
theorem hin (c : Dev nD) : Pipeline.ΦD osem0 spec0 H0 (V m) c ⊢ (dats m 0 c).Φ 0 := by
  rw [PhiD0_eq, show (dats m 0 c).Φ 0 = inv m c 0 from rfl]
  unfold inv ringP Cert.Stream.Parts.ring
  rw [if_pos rfl]
  iintro ⟨⟨⟨%f, Hwb⟩, Hst⟩, Hg, ⟨Hc0, Hc1⟩, HWh⟩
  isplitl [Hg]; · iexact Hg
  isplitl [Hwb]
  · iexists f; isplitr; · ipureintro; exact fun h => absurd h (by omega)
    iexact Hwb
  isplitl [HWh]; · iexact HWh
  isplitl [Hst]; · iexact Hst
  isplitl [Hc0]; · iexact Hc0
  iexact Hc1

/-- and the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = inv m c grid0.N from rfl, show grid0.N = 136 from N_0]
  unfold inv ringP Cert.Stream.Parts.ring
  rw [if_neg (by decide), if_neg (by decide), show slotOf 136 = 0 from rfl, show slotOf (136 + 1) = 1 from rfl]
  unfold Cert.Stream.Parts.free
  iintro ⟨Hg, ⟨%f, -, Hwb⟩, ⟨Hc0, Hs0, Ha0⟩, ⟨Hc1, Hs1, Ha1⟩⟩
  isplitl [Hwb Hs0 Hs1]
  · isplitl [Hwb]; · iexists f; iexact Hwb
    iapply (Ring.slots2_join (U := Pipeline.UD sig nD τ) (ℓ := (c : Thread nD τ).loc cc0_scratch1) (q := fullShare) slotSet slots_disjoint slots_cover
      (slotP c 0) (slotP c 1) (slotP_eq c 0) (slotP_eq c 1))
    isplitl [Hs0]; · iexact Hs0
    iexact Hs1
  isplitl [Hg]; · iexact Hg
  isplitl [Hc0 Hc1]
  · isplitl [Hc0]; · iexact Hc0
    iexact Hc1
  iapply (shares_split c (V m c main_arg1)).2
  isplitl [Ha0]; · iexact Ha0
  iexact Ha1

set_option backward.isDefEq.respectTransparency.types false in
/-- The run: the result's array ends as the blocks say, the other arrays as launched, and every counter at zero. -/
theorem run_full : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What the run leaves: the result's array, the arguments, the counters. -/
theorem run_post : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1 1,
      ((h.1 c).1 0).trans (((dats m 0 c).arrAt_in 0 rfl _).trans (A_eq m c 0)),
      (h.1 c).2 main_arg1 (Pipeline.mem_restRefs_of main_arg1 (by decide) (by decide))⟩, h.2⟩) (run_full m ρ)

/-- The frame: the run ends, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_post m ρ)

end Cert.Kernel4Ideal.In

end
-- ==== Proof.InValue.lean ====
/- The input projection's two programs at the extended reals, the result read at an index, and the claims about it. -/
module

public import proofs.«01_k».proof.Defs
public import proofs.«01_k».proof.Proof.InRun
public import proofs.«01_k».proof.Proof.Gen.Kernel4.Launch
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Kernel4Ideal.In

open Idealize.ShloMosaic Idealize.ShloMosaic.TcCoe Idealize.SL.Sem
open Idealize.ShloMosaic.Pipeline (Dat)
open Cert.Kernel4Ideal Cert.Kernel4Ideal.Gen

/-- The projection at a row and a column: the row of activations against the column of the weights. -/
def inProj (a : FVec Ideal S9216x4096 .bf16) (w : FVec Ideal S1x4096x17408 .f32) (i : Fin 8192) (j : Fin 17408) : EReal :=
  ∑ k : Fin 4096, a (ix2 ⟨i, by omega⟩ k) * w (ix3 0 k j)

/-- The kernel's product of a block of rows and a tile, at an index. -/
theorem pay_at (a : FVec Ideal S1024x4096 .bf16) (b : FVec Ideal S1x1x4096x1024 .bf16) (r q : Fin 1024) :
    k0_pay1 (F := Ideal) a b (ix2 r q) = ∑ k : Fin 4096, a (ix2 r k) * b (ix4 0 0 k q) := by
  pointwise [k0_pay1]

/-- The reference's term at an index. -/
theorem ref_at (a : FVec Ideal S9216x4096 .bf16) (w : FVec Ideal S1x4096x17408 .f32) (i : Fin 8192) (j : Fin 17408) :
    (Host.dotGeneral (F := Ideal) Cert.Reference4Ideal.dot_S8192x4096_S4096x17408_S8192x17408_1_0_0_1_n_n none
      (extf (F := Ideal) .f32 (extractStridedSlice Cert.Reference4Ideal.S8192x4096 ![0, 0] a Cert.Reference4Ideal.Gen.slices_S9216x4096_S8192x4096_0_0) Cert.Reference4Ideal.Gen.bitsLt_bf16_f32)
      (shapeCast _ w Cert.Reference4Ideal.Gen.shapeCasts_S1x4096x17408_S4096x17408) : FVec Ideal S8192x17408 .f32) (ix2 i j) = inProj a w i j := by
  unfold inProj
  pointwise

variable (m : (ℓ : Loc nD τ sig) → Buf (Elt Ideal) ℓ)

/-- The windows' block indices at every grid point. -/
theorem idx : ∀ t : Fin cfg0.N, win0_0.index t = ![t.val % 8, 0] ∧ win0_1.index t = ![t.val % 8, t.val / 8] :=
  (by decide +kernel : ∀ t : Fin grid0.N, _)

/-- The result's array after the run is the reference's term of the arguments. -/
theorem final (c : Dev nD) (w : S8192x17408.Idx → EReal) (hw : ∀ i j, w (ix2 i j) = inProj (m ((c : Thread nD τ).loc main_arg0)) (m ((c : Thread nD τ).loc main_arg1)) i j) :
    (dats m 0 c).arrAt 1 cfg0.N = w := by
  refine (dats m 0 c).arrAt_eq_of_covers 1 _ (by decide +kernel) fun t _ y => ?_
  blk_simp
  rw [after1]
  have ht : t.val < 136 := lt_of_lt_of_eq t.isLt N_0
  have z0 : (((cfg0.win 1).blk t).view.emb y 0 : ℕ) = t.val % 8 * 1024 + y 0 := by
    blk_simp [idx t] <;> try omega
  have z1 : (((cfg0.win 1).blk t).view.emb y 1 : ℕ) = t.val / 8 * 1024 + y 1 := by
    blk_simp [idx t] <;> try omega
  generalize ((cfg0.win 1).blk t).view.emb y = z at z0 z1 ⊢
  obtain ⟨i, j, rfl⟩ : ∃ (i : Fin 8192) (j : Fin 17408), z = (ix2 i j : S8192x17408.Idx) := ⟨z 0, z 1, eq_ix2 z⟩
  obtain ⟨r, q, rfl⟩ : ∃ (r : Fin 1024) (q : Fin 1024), y = (ix2 r q : S1024x1024.Idx) := ⟨y 0, y 1, eq_ix2 y⟩
  replace z0 : (i : ℕ) = t.val % 8 * 1024 + r := z0
  replace z1 : (j : ℕ) = t.val / 8 * 1024 + q := z1
  rw [hw]
  unfold outBlk
  refine (pay_at _ _ r q).trans ?_
  unfold inProj
  refine Finset.sum_congr rfl fun k _ => congrArg₂ (· * ·) ?_ ?_
  · blk_ext [iblk, V, idx t]
  · unfold tileOf
    refine congrArg (m ((c : Thread nD τ).loc main_arg1)) (funext fun a => Fin.ext ?_)
    have hq : (q : ℕ) < 1024 := q.isLt
    fin_cases a <;> simp <;> omega

/-! ## The claims -/

/-- The kernel as printed has the same text: its frame is the idealized one's, read over the words. -/
theorem kernel_frame : Cert.quiescent_Kernel4 := fun m g _ => cast (by sl_kernel_rfl) (frame (F := Bits) m g)

/-- The idealized kernel runs, keeps its arguments and leaves its counters at zero. -/
theorem ideal_frame : Cert.quiescent_Kernel4Ideal := fun m g _ => frame m g

/-- The reference runs, keeps its arguments and has no counters. -/
theorem reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The two programs leave equal results. -/
theorem equal : Cert.algebraic_Kernel4Ideal_Reference4Ideal := by
  pair_intro
  · run_from run_post m g
  · run_from Cert.Reference4Ideal.Value.run m' g'
    refine ((final m c _ fun i j => ?_).symm)
    exact ref_at _ _ i j

end Cert.Kernel4Ideal.In

end
-- ==== Proof.Norm.lean ====
/- The root-mean-square normalisation of a row at the extended reals, which the layer's element-wise calls share. -/
module

public import Idealize.ShloMosaic.PureOps.Ideal

@[expose] public section

noncomputable section

namespace Cert.Norm

open Idealize.ShloMosaic

/-- Place `j` of a row divided by the root of its mean square, to which the programs' small constant is added; `d` is the word of
    the row's length. -/
abbrev rmsOf {n : ℕ} (d : BitVec 32) (x : Fin n → EReal) (j : Fin n) : EReal :=
  x j * Ideal.rsqrt (Ideal.div (∑ k : Fin n, x k * x k) (Ideal.ofBits .f32 d) + Ideal.ofBits .f32 0x358637BD#32)

/-- Column `j` of a row of 4096 numbers, normalised. -/
def rms (x : Fin 4096 → EReal) (j : Fin 4096) : EReal := rmsOf 0x45800000#32 x j

end Cert.Norm

end
-- ==== Proof.Residual.lean ====
/- The layer's last call, the residual of the second feed-forward layer: its two programs at the extended reals, the result
   read at an index, and the claims about it. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import proofs.«01_k».proof.Proof.Norm

@[expose] public section

set_option maxRecDepth 16384

noncomputable section

namespace Cert.Residual

open Idealize.ShloMosaic Idealize.ShloMosaic.TcCoe Idealize.SL.Sem
open Idealize.ShloMosaic.Pipeline (Dat)
open Cert.Kernel5Ideal Cert.Kernel5Ideal.Gen Cert.Norm

/-- The layer's result at a row and a column: the stream there, and half the gate of the row's batch times the normalised row
    of the feed-forward layer's output. -/
def resid (f : FVec Ideal S8192x4096 .bf16) (x : FVec Ideal S8192x4096 .f32) (u : FVec Ideal S5x9x4096 .f32) (g : FVec Ideal S1x4096 .f32)
    (i : Fin 8192) (j : Fin 4096) : EReal :=
  x (ix2 i j) + (Ideal.ofBits .f32 0x3F000000#32 * u (ix3 ⟨i / 2048, by omega⟩ 8 j)) * (rms (fun k => f (ix2 i k)) j * g (ix2 0 j))

/-- What the body stores, at an index of the block. -/
theorem pay_at (f : FVec Ideal S256x4096 .bf16) (g : FVec Ideal S1x4096 .f32) (x : FVec Ideal S256x4096 .f32) (u : FVec Ideal S1x1x4096 .f32)
    (r : Fin 256) (j : Fin 4096) :
    k0_pay1 (F := Ideal) f g x u (ix2 r j)
      = x (ix2 r j) + (Ideal.ofBits .f32 0x3F000000#32 * u (ix3 0 0 j)) * (rms (fun k => f (ix2 r k)) j * g (ix2 0 j)) := by
  unfold rms rmsOf
  pointwise [k0_pay1]

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val / 8, 0, 0]
    ∧ win0_3.index t = ![0, 0] ∧ win0_4.index t = ![t.val, 0] :=
  (by decide +kernel : ∀ t : Fin grid0.N, _)

/-- The result's array after the run, at every row and column. -/
theorem final (c : Dev nD) (w : S8192x4096.Idx → EReal)
    (hw : ∀ i j, w (ix2 i j) = resid (m ((c : Thread nD τ).loc main_arg0)) (m ((c : Thread nD τ).loc main_arg1))
      (m ((c : Thread nD τ).loc main_arg2)) (m ((c : Thread nD τ).loc main_arg3)) i j) :
    (dats m 0 c).arrAt 4 cfg0.N = w := by
  refine (dats m 0 c).arrAt_eq_of_covers 4 _ (by decide +kernel) fun t _ y => ?_
  blk_simp
  rw [after0_4]
  have ht : t.val < 32 := lt_of_lt_of_eq t.isLt N_0
  have z0 : (((cfg0.win 4).blk t).view.emb y 0 : ℕ) = t.val * 256 + y 0 := by
    blk_simp [idx t] <;> try omega
  have z1 : (((cfg0.win 4).blk t).view.emb y 1 : ℕ) = y 1 := by
    blk_simp [idx t] <;> try omega
  generalize ((cfg0.win 4).blk t).view.emb y = z at z0 z1 ⊢
  obtain ⟨i, j, rfl⟩ : ∃ (i : Fin 8192) (j : Fin 4096), z = (ix2 i j : S8192x4096.Idx) := ⟨z 0, z 1, eq_ix2 z⟩
  obtain ⟨r, q, rfl⟩ : ∃ (r : Fin 256) (q : Fin 4096), y = (ix2 r q : S256x4096.Idx) := ⟨y 0, y 1, eq_ix2 y⟩
  replace z0 : (i : ℕ) = t.val * 256 + r := z0
  obtain rfl : j = q := Fin.ext z1
  rw [hw]
  unfold out0_4
  canon_tiles x h
  case piece0 =>
    obtain ⟨r', q, rfl⟩ : ∃ (r' : Fin 256) (q : Fin 4096), x = (ix2 r' q : S256x4096.Idx) := ⟨x 0, x 1, eq_ix2 x⟩
    obtain rfl : r = r' := Fin.ext h0
    obtain rfl : j = q := Fin.ext h1
    refine (pay_at _ _ _ _ r j).trans ?_
    have e0 : ∀ k : Fin 4096, View.ld (iblk m c 0 t) r0_0 (ix2 r k) = m ((c : Thread nD τ).loc main_arg0) (ix2 i k) := by
      intro k; pointwise; blk_ext [iblk, V, idx t]
    have e1 : View.ld (iblk m c 1 t) r0_0 (ix2 r j) = m ((c : Thread nD τ).loc main_arg1) (ix2 i j) := by
      pointwise; blk_ext [iblk, V, idx t]
    have e2 : View.ld (iblk m c 2 t) r0_2 (ix3 0 0 j) = m ((c : Thread nD τ).loc main_arg2) (ix3 ⟨i / 2048, by omega⟩ 8 j) := by
      pointwise; blk_ext [iblk, V, idx t]
    have e3 : View.ld (iblk m c 3 t) r0_1 (ix2 0 j) = m ((c : Thread nD τ).loc main_arg3) (ix2 0 j) := by
      pointwise; blk_ext [iblk, V, idx t]
    unfold resid
    simp only [e0, e1, e2, e3]

open Cert.Reference5Ideal.Gen in
/-- The reference's normalised rows, before their weights. -/
theorem normed_at (f : FVec Ideal Cert.Reference5Ideal.S4x2048x4096 .f32) (b : Fin 4) (s : Fin 2048) (j : Fin 4096) :
    (mulf f (broadcastInDim Cert.Reference5Ideal.S4x2048x4096 ![0, 1, 2] bcast_S4x2048x1_S4x2048x4096_0_1_2
      (Host.rsqrt (addf (Host.divf (broadcastInDim Cert.Reference5Ideal.S4x2048x1 ![0, 1] bcast_S4x2048_S4x2048x1_0_1
          (Host.reduceAdd (mulf f f) (constant Cert.Reference5Ideal.S_ .f32 0x00000000#32) reducesTo_S4x2048x4096_S4x2048_d2 h_S_))
        (broadcastInDim Cert.Reference5Ideal.S4x2048x1 ![] bcast_S_S4x2048x1 (constant Cert.Reference5Ideal.S_ .f32 0x45800000#32)))
        (broadcastInDim Cert.Reference5Ideal.S4x2048x1 ![] bcast_S_S4x2048x1 (constant Cert.Reference5Ideal.S_ .f32 0x358637BD#32)))))
      : FVec Ideal Cert.Reference5Ideal.S4x2048x4096 .f32) (ix3 b s j) = rms (fun k => f (ix3 b s k)) j := by
  unfold rms rmsOf
  pointwise

open Cert.Reference5Ideal.Gen in
/-- The reference's result from its normalised rows, at an index. -/
theorem out_at (n : FVec Ideal Cert.Reference5Ideal.S4x2048x4096 .f32) (x : FVec Ideal S8192x4096 .f32) (u : FVec Ideal S5x9x4096 .f32) (g : FVec Ideal S1x4096 .f32)
    (i : Fin 8192) (j : Fin 4096) :
    (shapeCast S8192x4096 (addf (shapeCast Cert.Reference5Ideal.S4x2048x4096 x shapeCasts_S8192x4096_S4x2048x4096)
      (mulf (broadcastInDim Cert.Reference5Ideal.S4x2048x4096 ![0, 1, 2] bcast_S4x1x4096_S4x2048x4096_0_1_2
          (mulf (broadcastInDim Cert.Reference5Ideal.S4x1x4096 ![] bcast_S_S4x1x4096 (constant Cert.Reference5Ideal.S_ .f32 0x3F000000#32))
            (extractStridedSlice Cert.Reference5Ideal.S4x1x4096 ![0, 8, 0] u slices_S5x9x4096_S4x1x4096_0_8_0)))
        (mulf n (broadcastInDim Cert.Reference5Ideal.S4x2048x4096 ![0, 1, 2] bcast_S1x1x4096_S4x2048x4096_0_1_2
          (broadcastInDim Cert.Reference5Ideal.S1x1x4096 ![1, 2] bcast_S1x4096_S1x1x4096_1_2 g))))) shapeCasts_S4x2048x4096_S8192x4096
      : FVec Ideal S8192x4096 .f32) (ix2 i j)
      = x (ix2 i j) + (Ideal.ofBits .f32 0x3F000000#32 * u (ix3 ⟨i / 2048, by omega⟩ 8 j))
          * (n (ix3 ⟨i / 2048, by omega⟩ ⟨i % 2048, by omega⟩ j) * g (ix2 0 j)) := by
  pointwise

open Cert.Reference5Ideal.Gen in
/-- The rows of the reference's batches are the rows of the array. -/
theorem rows_at (f : FVec Ideal S8192x4096 .bf16) (i : Fin 8192) (k : Fin 4096) :
    (shapeCast Cert.Reference5Ideal.S4x2048x4096 (extf .f32 f Cert.Reference5Ideal.Gen.bitsLt_bf16_f32) shapeCasts_S8192x4096_S4x2048x4096
      : FVec Ideal Cert.Reference5Ideal.S4x2048x4096 .f32) (ix3 ⟨i / 2048, by omega⟩ ⟨i % 2048, by omega⟩ k) = f (ix2 i k) := by
  pointwise

/-! ## The claims -/

/-- The reference runs, keeps its arguments and has no counters. -/
theorem reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The two programs leave equal results. -/
theorem equal : Cert.algebraic_Kernel5Ideal_Reference5Ideal := by
  pair_intro
  · run_from Cert.Kernel5Ideal.Value.run_blocks m g
  · run_from Cert.Reference5Ideal.Value.run m' g'
    refine ((final m c _ fun i j => ?_).symm)
    refine (out_at _ _ _ _ i j).trans ?_
    rw [normed_at]
    unfold resid
    simp only [rows_at]

end Cert.Residual

end
-- ==== Proof.Ada.lean ====
/- The modulation's first two rows of columns, a product of the conditioning vectors with weights that are not streamed: the two
   programs at the extended reals, the result read at an index, and the claims about it. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Ada

open Idealize.ShloMosaic Idealize.ShloMosaic.TcCoe Idealize.SL.Sem
open Idealize.ShloMosaic.Pipeline (Dat)
open Cert.Kernel6Ideal Cert.Kernel6Ideal.Gen

/-- The modulation at a row and a column: the row of conditions under `silu` against the column of the weights, and the bias. -/
def ada (a : FVec Ideal S8x4096 .f32) (w : FVec Ideal S1x4096x36864 .f32) (b : FVec Ideal S1x36864 .f32) (i : Fin 8) (j : Fin 8192) : EReal :=
  (∑ k : Fin 4096, a (ix2 i k) * Ideal.logistic (a (ix2 i k)) * w (ix3 0 k ⟨j, by omega⟩)) + b (ix2 0 ⟨j, by omega⟩)

/-- What the body stores, at an index of the block. -/
theorem pay_at (a : FVec Ideal S8x4096 .f32) (w : FVec Ideal S1x4096x512 .f32) (b : FVec Ideal S1x512 .f32) (i : Fin 8) (q : Fin 512) :
    k0_pay1 (F := Ideal) a w b (ix2 i q)
      = (∑ k : Fin 4096, a (ix2 i k) * Ideal.logistic (a (ix2 i k)) * w (ix3 0 k q)) + b (ix2 0 q) := by
  pointwise [k0_pay1]

variable (m : (ℓ : Loc nD τ sig) → Buf (Elt Ideal) ℓ)

/-- The windows' block indices at every grid point. -/
theorem idx : ∀ t : Fin cfg0.N, win0_0.index t = ![0, 0] ∧ win0_1.index t = ![0, 0, t.val] ∧ win0_2.index t = ![0, t.val]
    ∧ win0_3.index t = ![0, t.val] :=
  (by decide +kernel : ∀ t : Fin grid0.N, _)

/-- The result's array after the run, at every row and column. -/
theorem final (c : Dev nD) (w : S8x8192.Idx → EReal)
    (hw : ∀ i j, w (ix2 i j) = ada (m ((c : Thread nD τ).loc main_arg0)) (m ((c : Thread nD τ).loc main_arg1))
      (m ((c : Thread nD τ).loc main_arg2)) i j) :
    (dats m 0 c).arrAt 3 cfg0.N = w := by
  refine (dats m 0 c).arrAt_eq_of_covers 3 _ (by decide +kernel) fun t _ y => ?_
  blk_simp
  rw [after0_3]
  have ht : t.val < 16 := lt_of_lt_of_eq t.isLt N_0
  have z0 : (((cfg0.win 3).blk t).view.emb y 0 : ℕ) = y 0 := by
    blk_simp [idx t] <;> try omega
  have z1 : (((cfg0.win 3).blk t).view.emb y 1 : ℕ) = t.val * 512 + y 1 := by
    blk_simp [idx t] <;> try omega
  generalize ((cfg0.win 3).blk t).view.emb y = z at z0 z1 ⊢
  obtain ⟨i, j, rfl⟩ : ∃ (i : Fin 8) (j : Fin 8192), z = (ix2 i j : S8x8192.Idx) := ⟨z 0, z 1, eq_ix2 z⟩
  unfold out0_3
  canon_tiles x h
  case piece0 =>
    obtain ⟨r, q, rfl⟩ : ∃ (r : Fin 8) (q : Fin 512), x = (ix2 r q : S8x512.Idx) := ⟨x 0, x 1, eq_ix2 x⟩
    obtain rfl : i = r := Fin.ext (z0.trans h0)
    rw [hw]
    refine (pay_at _ _ _ i q).trans ?_
    replace z1 : (j : ℕ) = t.val * 512 + q := z1.trans (congrArg _ h1)
    have e0 : ∀ k : Fin 4096, View.ld (iblk m c 0 t) r0_0 (ix2 i k) = m ((c : Thread nD τ).loc main_arg0) (ix2 i k) := by
      intro k; pointwise; blk_ext [iblk, V, idx t]
    have e1 : ∀ k : Fin 4096, View.ld (iblk m c 1 t) r0_1 (ix3 0 k q) = m ((c : Thread nD τ).loc main_arg1) (ix3 0 k ⟨j, by omega⟩) := by
      intro k; pointwise; blk_ext [iblk, V, idx t]
    have e2 : View.ld (iblk m c 2 t) r0_2 (ix2 0 q) = m ((c : Thread nD τ).loc main_arg2) (ix2 0 ⟨j, by omega⟩) := by
      pointwise; blk_ext [iblk, V, idx t]
    unfold ada
    simp only [e0, e1, e2]

/-! ## The claims -/

/-- The reference runs, keeps its arguments and has no counters. -/
theorem reference_frame : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The two programs leave equal results. -/
theorem equal : Cert.algebraic_Kernel6Ideal_Reference6Ideal := by
  pair_intro
  · run_from Cert.Kernel6Ideal.Value.run_blocks m g
  · run_from Cert.Reference6Ideal.Value.run m' g'
    refine ((final m c _ fun i j => ?_).symm)
    unfold ada
    pointwise
    rfl

end Cert.Ada

end
-- ==== Proof.Modulate.lean ====
/- The first modulation, of the latent rows and of the context rows: its two programs at the extended reals, the result read
   at an index, and the claims about it. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import Idealize.ShloMosaic.Lib.VecWindow
public import Idealize.ShloMosaic.Lib.WholeRead
public import proofs.«01_k».proof.Proof.Residual

@[expose] public section

set_option maxRecDepth 16384

noncomputable section

namespace Cert.Modulate

open Idealize.ShloMosaic Idealize.ShloMosaic.TcCoe Idealize.SL.Sem
open Idealize.ShloMosaic.Pipeline (Dat)
open Cert.Kernel7Ideal Cert.Kernel7Ideal.Gen Cert.Norm

/-- A row's place `j` under the modulation of row `b`: the normalised row with its weights, scaled and shifted. -/
def modulated (x : Fin 4096 → EReal) (u : FVec Ideal S5x2x4096 .f32) (g : FVec Ideal S1x4096 .f32) (b : Fin 5) (j : Fin 4096) : EReal :=
  (rms x j * g (ix2 0 j)) * (Ideal.ofBits .f32 0x3F800000#32 + u (ix3 b 1 j)) + u (ix3 b 0 j)

/-- The result at a row and a column: a latent row under its batch's modulation, a context row under the last. -/
def modRow (x : FVec Ideal S8192x4096 .f32) (y : FVec Ideal S1024x4096 .f32) (u : FVec Ideal S5x2x4096 .f32) (g : FVec Ideal S1x4096 .f32)
    (i : Fin 9216) (j : Fin 4096) : EReal :=
  if h : i.val < 8192 then modulated (fun k => x (ix2 ⟨i, h⟩ k)) u g ⟨i / 2048, by omega⟩ j
  else modulated (fun k => y (ix2 ⟨i - 8192, by omega⟩ k)) u g 4 j

/-- What the body stores, at an index of the block. -/
theorem pay_at (x : FVec Ideal S256x4096 .f32) (g : FVec Ideal S1x4096 .f32) (s u : FVec Ideal S1x1x4096 .f32)
    (r : Fin 256) (j : Fin 4096) :
    k0_pay1 (F := Ideal) x g s u (ix2 r j)
      = (rms (fun k => x (ix2 r k)) j * g (ix2 0 j)) * (Ideal.ofBits .f32 0x3F800000#32 + s (ix3 0 0 j)) + u (ix3 0 0 j) := by
  unfold rms rmsOf
  pointwise [k0_pay1]

variable (m : (ℓ : Loc nD τ sig) → Buf (Elt Ideal) ℓ)

/-- The windows' block indices at every grid point. -/
theorem idx : ∀ t : Fin cfg0.N, win0_0.index t = ![min t.val 31, 0] ∧ win0_1.index t = ![t.val - 32, 0] ∧ win0_2.index t = ![min (t.val / 8) 4, 0, 0]
    ∧ win0_3.index t = ![0, 0] ∧ win0_4.index t = ![t.val, 0] :=
  (by decide +kernel : ∀ t : Fin grid0.N, _)

/-- The index that a load with unit spacing reads. -/
theorem load_idx {S : Shape} (off size : Fin S.rank → ℕ) (inb) (x : (Rect.unit off size inb).toLoadRect.shape.Idx) (y : S.Idx)
    (h : ∀ a, off a + (x a : ℕ) = y a) : (Rect.unit off size inb).toLoadRect.idx x = y :=
  funext fun a => Fin.ext (by rw [← h a]; show off a + 1 * (x a : ℕ) = _; rw [Nat.one_mul])

/-- What the body stores at the point `t` from a block with the rows of which `row` is one: `row` under the modulation of
    the row that the point takes. -/
theorem stored (c : Dev nD) (t : Fin cfg0.N) (x : FVec Ideal S256x4096 .f32) (g : FVec Ideal S1x4096 .f32) (s u : FVec Ideal S1x1x4096 .f32)
    (row : Fin 4096 → EReal) (r : Fin 256) (j : Fin 4096) (b : Fin 5) (hx : ∀ k, x (ix2 r k) = row k)
    (hg : g (ix2 0 j) = iblk m c 3 t (ix2 0 j)) (hs : s (ix3 0 0 j) = iblk m c 2 t (ix3 0 1 j)) (hu : u (ix3 0 0 j) = iblk m c 2 t (ix3 0 0 j))
    (hb : b.val = min (t.val / 8) 4) :
    (rms (fun k => x (ix2 r k)) j * g (ix2 0 j)) * (Ideal.ofBits .f32 0x3F800000#32 + s (ix3 0 0 j)) + u (ix3 0 0 j)
      = modulated row (m ((c : Thread nD τ).loc main_arg2)) (m ((c : Thread nD τ).loc main_arg3)) b j := by
  have e3 : iblk m c 3 t (ix2 0 j) = m ((c : Thread nD τ).loc main_arg3) (ix2 0 j) := by blk_ext [iblk, V, idx t]
  have e2 : ∀ a : Fin 2, iblk m c 2 t (ix3 0 a j) = m ((c : Thread nD τ).loc main_arg2) (ix3 b a j) := by
    intro a; blk_ext [iblk, V, idx t]
  unfold modulated
  simp only [hx, hg, hs, hu, e3, e2]

/-- The result's array after the run, at every row and column. -/
theorem final (c : Dev nD) (w : S9216x4096.Idx → EReal)
    (hw : ∀ i j, w (ix2 i j) = modRow (m ((c : Thread nD τ).loc main_arg0)) (m ((c : Thread nD τ).loc main_arg1))
      (m ((c : Thread nD τ).loc main_arg2)) (m ((c : Thread nD τ).loc main_arg3)) i j) :
    (dats m 0 c).arrAt 4 cfg0.N = w := by
  refine (dats m 0 c).arrAt_eq_of_covers 4 _ (by decide +kernel) fun t _ y => ?_
  blk_simp
  rw [after0_4]
  have ht : t.val < 36 := lt_of_lt_of_eq t.isLt N_0
  have z0 : (((cfg0.win 4).blk t).view.emb y 0 : ℕ) = t.val * 256 + y 0 := by
    blk_simp [idx t] <;> try omega
  have z1 : (((cfg0.win 4).blk t).view.emb y 1 : ℕ) = y 1 := by
    blk_simp [idx t] <;> try omega
  generalize ((cfg0.win 4).blk t).view.emb y = z at z0 z1 ⊢
  obtain ⟨i, j, rfl⟩ : ∃ (i : Fin 9216) (j : Fin 4096), z = (ix2 i j : S9216x4096.Idx) := ⟨z 0, z 1, eq_ix2 z⟩
  obtain ⟨r, q, rfl⟩ : ∃ (r : Fin 256) (q : Fin 4096), y = (ix2 r q : S256x4096.Idx) := ⟨y 0, y 1, eq_ix2 y⟩
  replace z0 : (i : ℕ) = t.val * 256 + r := z0
  obtain rfl : j = q := Fin.ext z1
  rw [hw]
  unfold modRow
  by_cases h32 : t.val < 32
  · rw [outsAt0_A m c t h32 (by omega), dif_pos (by omega)]
    unfold out0_A_4 kernelRun0_A
    dsimp only
    refine (congrFun (View.read_writes_full _ _ _ _ []) _).trans ((pay_at _ _ _ _ r j).trans ?_)
    refine stored m c t _ _ _ _ _ r j _ (fun k => ?_) (((hs0_3 t).readAt_unread _ _ _).trans (congrArg _ (load_idx _ _ _ _ _ (by intro a; fin_cases a <;> simp))))
      (((hs0_2 t).readAt_unread _ _ _).trans (congrArg _ (load_idx _ _ _ _ _ (by intro a; fin_cases a <;> simp))))
      (((hs0_2 t).readAt_unread _ _ _).trans (congrArg _ (load_idx _ _ _ _ _ (by intro a; fin_cases a <;> simp)))) (by show i.val / 2048 = _; omega)
    refine ((hs0_0 t).readAt_unread _ _ _).trans ((congrArg _ (load_idx _ _ _ _ (ix2 r k) (by intro a; fin_cases a <;> simp))).trans ?_)
    blk_ext [iblk, V, idx t]
  · rw [outsAt0_B m c t h32 (by omega), dif_neg (by omega)]
    unfold out0_B_4 kernelRun0_B
    dsimp only
    refine (congrFun (View.read_writes_full _ _ _ _ []) _).trans ((pay_at _ _ _ _ r j).trans ?_)
    refine stored m c t _ _ _ _ _ r j _ (fun k => ?_) (((hs0_3 t).readAt_unread _ _ _).trans (congrArg _ (load_idx _ _ _ _ _ (by intro a; fin_cases a <;> simp))))
      (((hs0_2 t).readAt_unread _ _ _).trans (congrArg _ (load_idx _ _ _ _ _ (by intro a; fin_cases a <;> simp))))
      (((hs0_2 t).readAt_unread _ _ _).trans (congrArg _ (load_idx _ _ _ _ _ (by intro a; fin_cases a <;> simp)))) (by show 4 = _; omega)
    refine ((hs0_1 t).readAt_unread _ _ _).trans ((congrArg _ (load_idx _ _ _ _ (ix2 r k) (by intro a; fin_cases a <;> simp))).trans ?_)
    blk_ext [iblk, V, idx t]

open Cert.Reference7Ideal.Gen in
/-- The reference's latent part from its normalised rows, at an index. -/
theorem latent_at (n : FVec Ideal Cert.Reference7Ideal.S4x2048x4096 .f32) (u : FVec Ideal S5x2x4096 .f32) (g : FVec Ideal S1x4096 .f32) (i : Fin 8192) (j : Fin 4096) :
    (shapeCast S8192x4096 (addf (mulf (mulf n (broadcastInDim Cert.Reference7Ideal.S4x2048x4096 ![0, 1, 2] bcast_S1x1x4096_S4x2048x4096_0_1_2
          (broadcastInDim Cert.Reference7Ideal.S1x1x4096 ![1, 2] bcast_S1x4096_S1x1x4096_1_2 g)))
        (broadcastInDim Cert.Reference7Ideal.S4x2048x4096 ![0, 1, 2] bcast_S4x1x4096_S4x2048x4096_0_1_2
          (addf (broadcastInDim Cert.Reference7Ideal.S4x1x4096 ![] bcast_S_S4x1x4096 (constant Cert.Reference7Ideal.S_ .f32 0x3F800000#32))
            (extractStridedSlice Cert.Reference7Ideal.S4x1x4096 ![0, 1, 0] u slices_S5x2x4096_S4x1x4096_0_1_0))))
      (broadcastInDim Cert.Reference7Ideal.S4x2048x4096 ![0, 1, 2] bcast_S4x1x4096_S4x2048x4096_0_1_2
        (extractStridedSlice Cert.Reference7Ideal.S4x1x4096 ![0, 0, 0] u slices_S5x2x4096_S4x1x4096_0_0_0))) shapeCasts_S4x2048x4096_S8192x4096
      : FVec Ideal S8192x4096 .f32) (ix2 i j)
      = (n (ix3 ⟨i / 2048, by omega⟩ ⟨i % 2048, by omega⟩ j) * g (ix2 0 j))
          * (Ideal.ofBits .f32 0x3F800000#32 + u (ix3 ⟨i / 2048, by omega⟩ 1 j)) + u (ix3 ⟨i / 2048, by omega⟩ 0 j) := by
  pointwise

open Cert.Reference7Ideal.Gen in
/-- The rows of the reference's batches are the rows of the array. -/
theorem rows_at (f : FVec Ideal S8192x4096 .f32) (i : Fin 8192) (k : Fin 4096) :
    (shapeCast Cert.Reference7Ideal.S4x2048x4096 f shapeCasts_S8192x4096_S4x2048x4096
      : FVec Ideal Cert.Reference7Ideal.S4x2048x4096 .f32) (ix3 ⟨i / 2048, by omega⟩ ⟨i % 2048, by omega⟩ k) = f (ix2 i k) := by
  pointwise

open Cert.Reference7Ideal.Gen in
/-- The reference's normalised context rows, before their weights. -/
theorem context_normed_at (f : FVec Ideal S1024x4096 .f32) (s : Fin 1024) (j : Fin 4096) :
    (mulf f (broadcastInDim S1024x4096 ![0, 1] bcast_S1024x1_S1024x4096_0_1
      (Host.rsqrt (addf (Host.divf (broadcastInDim Cert.Reference7Ideal.S1024x1 ![0] bcast_S1024_S1024x1_0
          (Host.reduceAdd (mulf f f) (constant Cert.Reference7Ideal.S_ .f32 0x00000000#32) reducesTo_S1024x4096_S1024_d1 h_S_))
        (broadcastInDim Cert.Reference7Ideal.S1024x1 ![] bcast_S_S1024x1 (constant Cert.Reference7Ideal.S_ .f32 0x45800000#32)))
        (broadcastInDim Cert.Reference7Ideal.S1024x1 ![] bcast_S_S1024x1 (constant Cert.Reference7Ideal.S_ .f32 0x358637BD#32)))))
      : FVec Ideal S1024x4096 .f32) (ix2 s j) = rms (fun k => f (ix2 s k)) j := by
  unfold rms rmsOf
  pointwise

open Cert.Reference7Ideal.Gen in
/-- The reference's context part from its normalised rows, at an index. -/
theorem context_at (n : FVec Ideal S1024x4096 .f32) (u : FVec Ideal S5x2x4096 .f32) (g : FVec Ideal S1x4096 .f32) (s : Fin 1024) (j : Fin 4096) :
    (addf (mulf (mulf n (broadcastInDim S1024x4096 ![0, 1] bcast_S1x4096_S1024x4096_0_1 g))
        (broadcastInDim S1024x4096 ![0, 1] bcast_S1x4096_S1024x4096_0_1
          (addf (broadcastInDim S1x4096 ![] bcast_S_S1x4096 (constant Cert.Reference7Ideal.S_ .f32 0x3F800000#32))
            (shapeCast S1x4096 (extractStridedSlice Cert.Reference7Ideal.S1x1x4096 ![4, 1, 0] u slices_S5x2x4096_S1x1x4096_4_1_0) Cert.Kernel7Ideal.Gen.shapeCasts_S1x1x4096_S1x4096))))
      (broadcastInDim S1024x4096 ![0, 1] bcast_S1x4096_S1024x4096_0_1
        (shapeCast S1x4096 (extractStridedSlice Cert.Reference7Ideal.S1x1x4096 ![4, 0, 0] u slices_S5x2x4096_S1x1x4096_4_0_0) Cert.Kernel7Ideal.Gen.shapeCasts_S1x1x4096_S1x4096))
      : FVec Ideal S1024x4096 .f32) (ix2 s j)
      = (n (ix2 s j) * g (ix2 0 j)) * (Ideal.ofBits .f32 0x3F800000#32 + u (ix3 4 1 j)) + u (ix3 4 0 j) := by
  pointwise

open Cert.Reference7Ideal.Gen in
/-- The two parts one after the other: a row is the first part's or the second's. -/
theorem joined_at (a : FVec Ideal S8192x4096 .f32) (b : FVec Ideal S1024x4096 .f32) (i : Fin 9216) (j : Fin 4096) :
    (truncf .bf16 (concatenate S9216x4096 0 [⟨S8192x4096, a⟩, ⟨S1024x4096, b⟩] concatenates_S8192x4096_S1024x4096_S9216x4096_d0)
      Cert.Reference7Ideal.Gen.bitsLt_bf16_f32 : FVec Ideal S9216x4096 .bf16) (ix2 i j)
      = if h : i.val < 8192 then a (ix2 ⟨i, h⟩ j) else b (ix2 ⟨i - 8192, by omega⟩ j) := by
  by_cases h : i.val < 8192
  · rw [dif_pos h]
    exact concatenate_pair_apply_left 0 a b concatenates_S8192x4096_S1024x4096_S9216x4096_d0 (ix2 i j) rfl (ix2 ⟨i, h⟩ j)
      (by intro c; fin_cases c <;> rfl)
  · rw [dif_neg h]
    exact concatenate_pair_apply_right 0 a b concatenates_S8192x4096_S1024x4096_S9216x4096_d0 (ix2 i j) rfl rfl (ix2 ⟨i - 8192, by omega⟩ j)
      (by intro c hc; fin_cases c <;> first | exact absurd rfl hc | rfl) (by show i.val - 8192 + 8192 = i.val; omega)

/-! ## The claims -/

/-- The reference runs, keeps its arguments and has no counters. -/
theorem reference_frame : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The two programs leave equal results. -/
theorem equal : Cert.algebraic_Kernel7Ideal_Reference7Ideal := by
  pair_intro
  · run_from Cert.Kernel7Ideal.Value.run_blocks m g
  · run_from Cert.Reference7Ideal.Value.run m' g'
    refine ((final m c _ fun i j => ?_).symm)
    refine (joined_at _ _ i j).trans ?_
    unfold modRow
    split
    · refine (latent_at _ _ _ _ j).trans ?_
      unfold modulated
      rw [(hagree c).2.2.2, Residual.normed_at]
      refine congrArg (fun z : Fin 4096 → EReal => rms z j * m ((c : Thread nD τ).loc main_arg3) (ix2 0 j) * _ + _) (funext fun k => ?_)
      exact rows_at _ ⟨i, by assumption⟩ k
    · refine (context_at _ _ _ _ j).trans ?_
      unfold modulated
      rw [(hagree c).2.2.2, context_normed_at]

end Cert.Modulate

end
-- ==== Proof.ContextHeads.lean ====
/- The context's keys and values before the attention: the two programs at the extended reals, the two results read at an index, and the
   claims about them. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Claim
public import proofs.«01_k».proof.Proof.Norm

@[expose] public section

set_option maxRecDepth 16384

noncomputable section

namespace Cert.ContextHeads

open Idealize.ShloMosaic Idealize.ShloMosaic.TcCoe Idealize.SL.Sem
open Idealize.ShloMosaic.Pipeline (Dat)
open Cert.Kernel8Ideal Cert.Kernel8Ideal.Gen Cert.Norm

/-- A context key at a row and a column: the row's head, normalised, with its weights. -/
def key (x : FVec Ideal S1024x1024 .f32) (g : FVec Ideal S1x128 .f32) (i : Fin 1024) (j : Fin 512) : EReal :=
  rmsOf 0x43000000#32 (fun k : Fin 128 => x (ix2 i ⟨j / 128 * 128 + k, by omega⟩)) ⟨j % 128, by omega⟩ * g (ix2 0 ⟨j % 128, by omega⟩)

/-- What the body stores of a head, at an index of the head's block. -/
theorem pay_at (x : FVec Ideal S256x128 .f32) (g : FVec Ideal S1x128 .f32) (r : Fin 256) (q : Fin 128) :
    k0_pay4 (F := Ideal) x g (ix2 r q) = rmsOf 0x43000000#32 (fun k : Fin 128 => x (ix2 r k)) q * g (ix2 0 q) := by
  unfold rmsOf
  pointwise [k0_pay4]

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- What the body stores at a key's place, from what it loads of the place's head. -/
theorem head_at (c : Dev nD) (x : FVec Ideal S256x128 .f32) (g : FVec Ideal S1x128 .f32) (r : Fin 256) (q : Fin 128) (i : Fin 1024) (j : Fin 512)
    (hj : (j : ℕ) % 128 = q) (hx : ∀ k : Fin 128, x (ix2 r k) = m ((c : Thread nD τ).loc main_arg0) (ix2 i ⟨j / 128 * 128 + k, by omega⟩))
    (hg : g (ix2 0 q) = m ((c : Thread nD τ).loc main_arg1) (ix2 0 q)) :
    k0_pay4 (F := Ideal) x g (ix2 r q) = key (m ((c : Thread nD τ).loc main_arg0)) (m ((c : Thread nD τ).loc main_arg1)) i j := by
  obtain rfl : q = ⟨j % 128, Nat.mod_lt _ (by decide)⟩ := Fin.ext hj.symm
  rw [pay_at]
  unfold key
  simp only [hx, hg]

/-- The keys' array after the run, at every row and column. -/
theorem final_key (c : Dev nD) (w : S1024x512.Idx → EReal)
    (hw : ∀ i j, w (ix2 i j) = key (m ((c : Thread nD τ).loc main_arg0)) (m ((c : Thread nD τ).loc main_arg1)) i j) :
    (dats m 0 c).arrAt 2 cfg0.N = w := by
  refine (dats m 0 c).arrAt_eq_of_covers 2 _ (by decide +kernel) fun t _ y => ?_
  blk_simp
  rw [after0_2]
  have ht : t.val < 4 := lt_of_lt_of_eq t.isLt N_0
  have z0 : (((cfg0.win 2).blk t).view.emb y 0 : ℕ) = t.val * 256 + y 0 := by
    blk_simp [idx t] <;> try omega
  have z1 : (((cfg0.win 2).blk t).view.emb y 1 : ℕ) = y 1 := by
    blk_simp [idx t] <;> try omega
  generalize ((cfg0.win 2).blk t).view.emb y = z at z0 z1 ⊢
  obtain ⟨i, j, rfl⟩ : ∃ (i : Fin 1024) (j : Fin 512), z = (ix2 i j : S1024x512.Idx) := ⟨z 0, z 1, eq_ix2 z⟩
  replace z0 : (i : ℕ) = t.val * 256 + y 0 := z0
  replace z1 : (j : ℕ) = y 1 := z1
  rw [hw]
  unfold out0_2
  canon_tiles x h
  all_goals
    obtain ⟨r, hr⟩ : ∃ r : Fin 256, r = x 0 := ⟨_, rfl⟩
    obtain ⟨q, hq⟩ : ∃ q : Fin 128, q = x 1 := ⟨_, rfl⟩
    rw [← hr] at h0
    rw [← hq] at h1
    obtain rfl : x = ix2 r q := by rw [hr, hq]; exact eq_ix2 x
    refine head_at m c _ _ r q i j (by omega) ?_ ?_
    · intro k; pointwise; blk_ext [iblk, V, idx t]
    · pointwise; blk_ext [iblk, V, idx t]

/-- The values' array after the run, at every row and column. -/
theorem final_value (c : Dev nD) (w : S1024x512.Idx → EReal)
    (hw : ∀ (i : Fin 1024) (j : Fin 512), w (ix2 i j) = m ((c : Thread nD τ).loc main_arg0) (ix2 i ⟨512 + j, by omega⟩)) :
    (dats m 0 c).arrAt 3 cfg0.N = w := by
  refine (dats m 0 c).arrAt_eq_of_covers 3 _ (by decide +kernel) fun t _ y => ?_
  blk_simp
  rw [after0_3]
  have ht : t.val < 4 := lt_of_lt_of_eq t.isLt N_0
  have z0 : (((cfg0.win 3).blk t).view.emb y 0 : ℕ) = t.val * 256 + y 0 := by
    blk_simp [idx t] <;> try omega
  have z1 : (((cfg0.win 3).blk t).view.emb y 1 : ℕ) = y 1 := by
    blk_simp [idx t] <;> try omega
  generalize ((cfg0.win 3).blk t).view.emb y = z at z0 z1 ⊢
  obtain ⟨i, j, rfl⟩ : ∃ (i : Fin 1024) (j : Fin 512), z = (ix2 i j : S1024x512.Idx) := ⟨z 0, z 1, eq_ix2 z⟩
  replace z0 : (i : ℕ) = t.val * 256 + y 0 := z0
  replace z1 : (j : ℕ) = y 1 := z1
  rw [hw]
  unfold out0_3
  canon_tiles x h
  case piece0 =>
    pointwise [k0_pay3]
    blk_ext [iblk, V, idx t]

open Cert.Reference8Ideal.Gen in
/-- The reference's keys from its heads, at an index. -/
theorem heads_at (x : FVec Ideal Cert.Reference8Ideal.S1024x4x128 .f32) (g : FVec Ideal S1x128 .f32) (i : Fin 1024) (j : Fin 512) :
    (truncf .bf16 (shapeCast S1024x512 (mulf (mulf x (broadcastInDim Cert.Reference8Ideal.S1024x4x128 ![0, 1, 2] bcast_S1024x4x1_S1024x4x128_0_1_2
        (Host.rsqrt (addf (Host.divf (broadcastInDim Cert.Reference8Ideal.S1024x4x1 ![0, 1] bcast_S1024x4_S1024x4x1_0_1
            (Host.reduceAdd (mulf x x) (constant Cert.Reference8Ideal.S_ .f32 0x00000000#32) reducesTo_S1024x4x128_S1024x4_d2 h_S_))
          (broadcastInDim Cert.Reference8Ideal.S1024x4x1 ![] bcast_S_S1024x4x1 (constant Cert.Reference8Ideal.S_ .f32 0x43000000#32)))
          (broadcastInDim Cert.Reference8Ideal.S1024x4x1 ![] bcast_S_S1024x4x1 (constant Cert.Reference8Ideal.S_ .f32 0x358637BD#32))))))
        (broadcastInDim Cert.Reference8Ideal.S1024x4x128 ![0, 1, 2] bcast_S1x1x128_S1024x4x128_0_1_2
          (broadcastInDim Cert.Reference8Ideal.S1x1x128 ![1, 2] bcast_S1x128_S1x1x128_1_2 g))) shapeCasts_S1024x4x128_S1024x512)
        Cert.Reference8Ideal.Gen.bitsLt_bf16_f32 : FVec Ideal S1024x512 .bf16) (ix2 i j)
      = rmsOf 0x43000000#32 (fun k : Fin 128 => x (ix3 i ⟨j / 128, by omega⟩ k)) ⟨j % 128, by omega⟩ * g (ix2 0 ⟨j % 128, by omega⟩) := by
  unfold rmsOf
  pointwise

open Cert.Reference8Ideal.Gen in
/-- The reference's heads are the columns of the first half. -/
theorem split_at (x : FVec Ideal S1024x1024 .f32) (i : Fin 1024) (h : Fin 4) (k : Fin 128) :
    (shapeCast Cert.Reference8Ideal.S1024x4x128 (extractStridedSlice S1024x512 ![0, 0] x slices_S1024x1024_S1024x512_0_0) shapeCasts_S1024x512_S1024x4x128
      : FVec Ideal Cert.Reference8Ideal.S1024x4x128 .f32) (ix3 i h k) = x (ix2 i ⟨h * 128 + k, by omega⟩) := by
  pointwise

open Cert.Reference8Ideal.Gen in
/-- The reference's values are the columns of the second half. -/
theorem values_at (x : FVec Ideal S1024x1024 .f32) (i : Fin 1024) (j : Fin 512) :
    (truncf .bf16 (extractStridedSlice S1024x512 ![0, 512] x slices_S1024x1024_S1024x512_0_512) Cert.Reference8Ideal.Gen.bitsLt_bf16_f32
      : FVec Ideal S1024x512 .bf16) (ix2 i j) = x (ix2 i ⟨512 + j, by omega⟩) := by
  pointwise

/-! ## The claims -/

/-- The reference runs, keeps its arguments and has no counters. -/
theorem reference_frame : Cert.quiescent_Reference8Ideal := fun m g _ =>
  (θ_run Cert.Reference8Ideal.defs _ _).mono (fun r h => ⟨fun c => (h c).2.2, sem_eq_zero_of_no_sems (by decide) r.2⟩)
    (Cert.Reference8Ideal.Value.run m g)

/-- The two programs leave equal results. -/
theorem equal : Cert.algebraic_Kernel8Ideal_Reference8Ideal := by
  pair_intro
  · run_from Cert.Kernel8Ideal.Value.run_blocks m g
  · run_from Cert.Reference8Ideal.Value.run m' g'
    · refine ((final_key m c _ fun i j => ?_).symm)
      refine (heads_at _ _ i j).trans ?_
      unfold key
      simp only [split_at]
    · refine ((final_value m c _ fun i j => ?_).symm)
      exact values_at _ i j

end Cert.ContextHeads

end
-- ==== Proof.Inverse.lean ====
/- The second inverse transform of the convolution branch: its two programs at the extended reals, the result read at an index, and the
   claims about it. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Claim

@[expose] public section

set_option maxRecDepth 16384

noncomputable section

namespace Cert.Inverse

open Idealize.ShloMosaic Idealize.ShloMosaic.TcCoe Idealize.SL.Sem
open Idealize.ShloMosaic.Pipeline (Dat)
open Cert.Kernel9Ideal Cert.Kernel9Ideal.Gen

/-- The result at a batch, a row and a column: the gate times the inverse transform of the row's segment and the biased stream. -/
def inverse (yr yi : FVec Ideal S4x2x1024x2048 .bf16) (gr gi : FVec Ideal S1024x1024 .bf16) (z : FVec Ideal S4x2048x2048 .f32)
    (u : FVec Ideal S4x2048x6144 .f32) (b : FVec Ideal S1x2048 .f32) (p : Fin 4) (i j : Fin 2048) : EReal :=
  u (ix3 p i ⟨4096 + j, by omega⟩)
    * ((∑ k : Fin 1024, gr (ix2 ⟨i % 1024, by omega⟩ k) * yr (ix4 p ⟨i / 1024, by omega⟩ k j))
        + (∑ k : Fin 1024, gi (ix2 ⟨i % 1024, by omega⟩ k) * yi (ix4 p ⟨i / 1024, by omega⟩ k j))
      + z (ix3 p i j) * b (ix2 0 j))

/-- What the body stores, at an index of the block. -/
theorem pay_at (gr : FVec Ideal S1024x1024 .bf16) (yr : FVec Ideal S1x1x1024x512 .bf16) (gi : FVec Ideal S1024x1024 .bf16)
    (yi : FVec Ideal S1x1x1024x512 .bf16) (u z : FVec Ideal S1x1024x512 .f32) (b : FVec Ideal S1x512 .f32) (r : Fin 1024) (q : Fin 512) :
    k0_pay1 (F := Ideal) gr yr gi yi u z b (ix3 0 r q)
      = u (ix3 0 r q) * ((∑ k : Fin 1024, gr (ix2 r k) * yr (ix4 0 0 k q)) + (∑ k : Fin 1024, gi (ix2 r k) * yi (ix4 0 0 k q))
          + z (ix3 0 r q) * b (ix2 0 q)) := by
  pointwise [k0_pay1]

variable (m : (ℓ : Loc nD τ sig) → Buf (Elt Ideal) ℓ)

/-- The windows' block indices at every grid point. -/
theorem idx : ∀ t : Fin cfg0.N, win0_0.index t = ![0, 0] ∧ win0_1.index t = ![0, 0]
    ∧ win0_2.index t = ![t.val / 8, t.val % 2, 0, t.val / 2 % 4] ∧ win0_3.index t = ![t.val / 8, t.val % 2, 0, t.val / 2 % 4]
    ∧ win0_4.index t = ![t.val / 8, t.val % 2, t.val / 2 % 4] ∧ win0_5.index t = ![t.val / 8, t.val % 2, 8 + t.val / 2 % 4]
    ∧ win0_6.index t = ![0, t.val / 2 % 4] ∧ win0_7.index t = ![t.val / 8, t.val % 2, t.val / 2 % 4] :=
  (by decide +kernel : ∀ t : Fin grid0.N, _)

/-- The result's array after the run, at every batch, row and column. -/
theorem final (c : Dev nD) (w : S4x2048x2048.Idx → EReal)
    (hw : ∀ p i j, w (ix3 p i j) = inverse (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) p i j) :
    (dats m 0 c).arrAt 7 cfg0.N = w := by
  refine (dats m 0 c).arrAt_eq_of_covers 7 _ (by decide +kernel) fun t _ y => ?_
  blk_simp
  rw [after0_7]
  have ht : t.val < 32 := lt_of_lt_of_eq t.isLt N_0
  have z0 : (((cfg0.win 7).blk t).view.emb y 0 : ℕ) = t.val / 8 := by
    blk_simp [idx t] <;> try omega
  have z1 : (((cfg0.win 7).blk t).view.emb y 1 : ℕ) = t.val % 2 * 1024 + y 1 := by
    blk_simp [idx t] <;> try omega
  have z2 : (((cfg0.win 7).blk t).view.emb y 2 : ℕ) = t.val / 2 % 4 * 512 + y 2 := by
    blk_simp [idx t] <;> try omega
  generalize ((cfg0.win 7).blk t).view.emb y = z at z0 z1 z2 ⊢
  obtain ⟨p, i, j, rfl⟩ : ∃ (p : Fin 4) (i j : Fin 2048), z = (ix3 p i j : S4x2048x2048.Idx) := ⟨z 0, z 1, z 2, eq_ix3 z⟩
  unfold out0_7
  canon_tiles x h
  case piece0 =>
    obtain ⟨o, r, q, rfl⟩ : ∃ (o : Fin 1) (r : Fin 1024) (q : Fin 512), x = (ix3 o r q : S1x1024x512.Idx) := ⟨x 0, x 1, x 2, eq_ix3 x⟩
    obtain rfl : o = 0 := Subsingleton.elim _ _
    rw [hw]
    refine (pay_at _ _ _ _ _ _ _ r q).trans ?_
    replace z0 : (p : ℕ) = t.val / 8 := z0
    replace z1 : (i : ℕ) = t.val % 2 * 1024 + r := z1.trans (congrArg _ h1)
    replace z2 : (j : ℕ) = t.val / 2 % 4 * 512 + q := z2.trans (congrArg _ h2)
    have e0 : ∀ k : Fin 1024, View.ld (iblk m c 0 t) r0_0 (ix2 r k) = m ((c : Thread nD τ).loc main_arg2) (ix2 ⟨i % 1024, by omega⟩ k) := by
      intro k; pointwise; blk_ext [iblk, V, idx t]
    have e1 : ∀ k : Fin 1024, View.ld (iblk m c 1 t) r0_0 (ix2 r k) = m ((c : Thread nD τ).loc main_arg3) (ix2 ⟨i % 1024, by omega⟩ k) := by
      intro k; pointwise; blk_ext [iblk, V, idx t]
    have e2 : ∀ k : Fin 1024, View.ld (iblk m c 2 t) r0_1 (ix4 0 0 k q) = m ((c : Thread nD τ).loc main_arg0) (ix4 p ⟨i / 1024, by omega⟩ k j) := by
      intro k; pointwise; blk_ext [iblk, V, idx t]
    have e3 : ∀ k : Fin 1024, View.ld (iblk m c 3 t) r0_1 (ix4 0 0 k q) = m ((c : Thread nD τ).loc main_arg1) (ix4 p ⟨i / 1024, by omega⟩ k j) := by
      intro k; pointwise; blk_ext [iblk, V, idx t]
    have e4 : View.ld (iblk m c 4 t) r0_2 (ix3 0 r q) = m ((c : Thread nD τ).loc main_arg4) (ix3 p i j) := by
      pointwise; blk_ext [iblk, V, idx t]
    have e5 : View.ld (iblk m c 5 t) r0_2 (ix3 0 r q) = m ((c : Thread nD τ).loc main_arg5) (ix3 p i ⟨4096 + j, by omega⟩) := by
      pointwise; blk_ext [iblk, V, idx t]
    have e6 : View.ld (iblk m c 6 t) r0_3 (ix2 0 q) = m ((c : Thread nD τ).loc main_arg6) (ix2 0 j) := by
      pointwise; blk_ext [iblk, V, idx t]
    unfold inverse
    simp only [e0, e1, e2, e3, e4, e5, e6]

open Cert.Reference9Ideal.Gen in
/-- The reference's inverse transform, at a segment's row and column. -/
theorem transform_at (y : FVec Ideal S4x2x1024x2048 .bf16) (g : FVec Ideal S1024x1024 .bf16) (p : Fin 4) (s : Fin 2) (r : Fin 1024) (j : Fin 2048) :
    (transpose S4x2x1024x2048 [0, 1, 3, 2] (Host.dotGeneral Cert.Reference9Ideal.dot_S4x2x1024x2048_S1024x1024_S4x2x2048x1024_2_1_013_0_n_n none
        (extf .f32 y Cert.Reference9Ideal.Gen.bitsLt_bf16_f32) (extf .f32 g Cert.Reference9Ideal.Gen.bitsLt_bf16_f32)) transposes_S4x2x2048x1024_S4x2x1024x2048_0_1_3_2
      : FVec Ideal S4x2x1024x2048 .f32) (ix4 p s r j) = ∑ k : Fin 1024, g (ix2 r k) * y (ix4 p s k j) := by
  pointwise
  exact Finset.sum_congr rfl fun k _ => mul_comm _ _

open Cert.Reference9Ideal.Gen in
/-- The reference's result from its two transforms, at an index. -/
theorem gated_at (a b : FVec Ideal S4x2x1024x2048 .f32) (z : FVec Ideal S4x2048x2048 .f32) (u : FVec Ideal S4x2048x6144 .f32)
    (v : FVec Ideal S1x2048 .f32) (p : Fin 4) (i j : Fin 2048) :
    (truncf .bf16 (mulf (extractStridedSlice S4x2048x2048 ![0, 0, 4096] u slices_S4x2048x6144_S4x2048x2048_0_0_4096)
        (addf (shapeCast S4x2048x2048 (addf a b) shapeCasts_S4x2x1024x2048_S4x2048x2048)
          (mulf z (broadcastInDim S4x2048x2048 ![0, 1, 2] bcast_S1x1x2048_S4x2048x2048_0_1_2
            (broadcastInDim Cert.Reference9Ideal.S1x1x2048 ![1, 2] bcast_S1x2048_S1x1x2048_1_2 v))))) Cert.Reference9Ideal.Gen.bitsLt_bf16_f32
      : FVec Ideal S4x2048x2048 .bf16) (ix3 p i j)
      = u (ix3 p i ⟨4096 + j, by omega⟩) * (a (ix4 p ⟨i / 1024, by omega⟩ ⟨i % 1024, by omega⟩ j)
          + b (ix4 p ⟨i / 1024, by omega⟩ ⟨i % 1024, by omega⟩ j) + z (ix3 p i j) * v (ix2 0 j)) := by
  pointwise

/-! ## The claims -/

/-- The reference runs, keeps its arguments and has no counters. -/
theorem reference_frame : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- The two programs leave equal results. -/
theorem equal : Cert.algebraic_Kernel9Ideal_Reference9Ideal := by
  pair_intro
  · run_from Cert.Kernel9Ideal.Value.run_blocks m g
  · run_from Cert.Reference9Ideal.Value.run m' g'
    refine ((final m c _ fun p i j => ?_).symm)
    refine (gated_at _ _ _ _ _ p i j).trans ?_
    unfold inverse
    rw [transform_at, transform_at]

end Cert.Inverse

end
-- ==== Proof.MiddleResidual.lean ====
/- The residual after the merged branches, with the modulation of the next layer's input: its two programs at the extended
   reals, the two results read at an index, and the claims about them. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Claim
public import Idealize.ShloMosaic.Lib.IdealHost
public import proofs.«01_k».proof.Proof.Residual

@[expose] public section

set_option maxRecDepth 16384

noncomputable section

namespace Cert.MiddleResidual

open Idealize.ShloMosaic Idealize.ShloMosaic.TcCoe Idealize.SL.Sem
open Idealize.ShloMosaic.Pipeline (Dat)
open Cert.Kernel10Ideal Cert.Kernel10Ideal.Gen Cert.Norm

/-- The stream after the residual at a row and a column: the stream there, and the gate of the row's batch times the
    normalised row of the branches' output. -/
def stream (f : FVec Ideal S8192x4096 .bf16) (x : FVec Ideal S9216x4096 .f32) (u : FVec Ideal S5x9x4096 .f32) (g : FVec Ideal S1x4096 .f32)
    (i : Fin 8192) (j : Fin 4096) : EReal :=
  x (ix2 ⟨i, by omega⟩ j) + u (ix3 ⟨i / 2048, by omega⟩ 5 j) * (rms (fun k => f (ix2 i k)) j * g (ix2 0 j))

/-- The next layer's input at a row and a column: the stream's normalised row with its weights, scaled and shifted. -/
def next (f : FVec Ideal S8192x4096 .bf16) (x : FVec Ideal S9216x4096 .f32) (u : FVec Ideal S5x9x4096 .f32) (g h : FVec Ideal S1x4096 .f32)
    (i : Fin 8192) (j : Fin 4096) : EReal :=
  (rms (stream f x u g i) j * h (ix2 0 j)) * (Ideal.ofBits .f32 0x3F800000#32 + u (ix3 ⟨i / 2048, by omega⟩ 7 j))
    + u (ix3 ⟨i / 2048, by omega⟩ 6 j)

/-- The stream that the body stores, at an index of the block; the gate's factor one changes nothing. -/
theorem stream_pay_at (f : FVec Ideal S256x4096 .bf16) (g : FVec Ideal S1x4096 .f32) (x : FVec Ideal S256x4096 .f32) (u : FVec Ideal S1x1x4096 .f32)
    (r : Fin 256) (j : Fin 4096) :
    k0_pay2 (F := Ideal) f g x u (ix2 r j) = x (ix2 r j) + u (ix3 0 0 j) * (rms (fun k => f (ix2 r k)) j * g (ix2 0 j)) := by
  have h : k0_pay2 (F := Ideal) f g x u (ix2 r j)
      = x (ix2 r j) + (Ideal.ofBits .f32 0x3F800000#32 * u (ix3 0 0 j)) * (rms (fun k => f (ix2 r k)) j * g (ix2 0 j)) := by
    unfold rms rmsOf
    pointwise [k0_pay2]
  rw [h, Ideal.ofBits_one_f32, one_mul]

/-- The normalised stream with its weights, at an index of the block. -/
theorem weighted_at (f : FVec Ideal S256x4096 .bf16) (g : FVec Ideal S1x4096 .f32) (x : FVec Ideal S256x4096 .f32) (u : FVec Ideal S1x1x4096 .f32)
    (h : FVec Ideal S1x4096 .f32) (r : Fin 256) (j : Fin 4096) :
    k0_pay3 (F := Ideal) f g x u h (ix2 r j) = rms (fun k => k0_pay2 (F := Ideal) f g x u (ix2 r k)) j * h (ix2 0 j) := by
  unfold k0_pay3
  generalize k0_pay2 (F := Ideal) f g x u = y
  unfold rms rmsOf
  pointwise

/-- The next input that the body stores from the weighted rows, at an index of the block. -/
theorem next_pay_at (y : FVec Ideal S256x4096 .f32) (s u : FVec Ideal S1x1x4096 .f32) (r : Fin 256) (j : Fin 4096) :
    k0_pay1 (F := Ideal) y s u (ix2 r j) = y (ix2 r j) * (Ideal.ofBits .f32 0x3F800000#32 + s (ix3 0 0 j)) + u (ix3 0 0 j) := by
  pointwise [k0_pay1]

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val / 8, 0, 0]
    ∧ win0_3.index t = ![0, 0] ∧ win0_4.index t = ![0, 0] ∧ win0_5.index t = ![t.val, 0] ∧ win0_6.index t = ![t.val, 0] :=
  (by decide +kernel : ∀ t : Fin grid0.N, _)

/-- The stream that the body stores at the point `t`, at a row of the point and a column. -/
theorem stream_at (c : Dev nD) (t : Fin cfg0.N) (i : Fin 8192) (r : Fin 256) (hi : (i : ℕ) = t.val * 256 + r) (j : Fin 4096) :
    k0_pay2 (F := Ideal) (View.ld (iblk m c 0 t) r0_0) (View.ld (iblk m c 3 t) r0_1) (View.ld (iblk m c 1 t) r0_0) (View.ld (iblk m c 2 t) r0_2) (ix2 r j)
      = stream (m ((c : Thread nD τ).loc main_arg0)) (m ((c : Thread nD τ).loc main_arg1)) (m ((c : Thread nD τ).loc main_arg2))
          (m ((c : Thread nD τ).loc main_arg3)) i j := by
  have ht : t.val < 32 := lt_of_lt_of_eq t.isLt N_0
  refine (stream_pay_at _ _ _ _ r j).trans ?_
  have e0 : ∀ k : Fin 4096, View.ld (iblk m c 0 t) r0_0 (ix2 r k) = m ((c : Thread nD τ).loc main_arg0) (ix2 i k) := by
    intro k; pointwise; blk_ext [iblk, V, idx t]
  have e1 : View.ld (iblk m c 1 t) r0_0 (ix2 r j) = m ((c : Thread nD τ).loc main_arg1) (ix2 ⟨i, by omega⟩ j) := by
    pointwise; blk_ext [iblk, V, idx t]
  have e2 : View.ld (iblk m c 2 t) r0_2 (ix3 0 0 j) = m ((c : Thread nD τ).loc main_arg2) (ix3 ⟨i / 2048, by omega⟩ 5 j) := by
    pointwise; blk_ext [iblk, V, idx t]
  have e3 : View.ld (iblk m c 3 t) r0_1 (ix2 0 j) = m ((c : Thread nD τ).loc main_arg3) (ix2 0 j) := by
    pointwise; blk_ext [iblk, V, idx t]
  unfold stream
  simp only [e0, e1, e2, e3]

/-- The stream's array after the run, at every row and column. -/
theorem final_stream (c : Dev nD) (w : S8192x4096.Idx → EReal)
    (hw : ∀ i j, w (ix2 i j) = stream (m ((c : Thread nD τ).loc main_arg0)) (m ((c : Thread nD τ).loc main_arg1))
      (m ((c : Thread nD τ).loc main_arg2)) (m ((c : Thread nD τ).loc main_arg3)) i j) :
    (dats m 0 c).arrAt 5 cfg0.N = w := by
  refine (dats m 0 c).arrAt_eq_of_covers 5 _ (by decide +kernel) fun t _ y => ?_
  blk_simp
  rw [after0_5]
  have ht : t.val < 32 := lt_of_lt_of_eq t.isLt N_0
  have z0 : (((cfg0.win 5).blk t).view.emb y 0 : ℕ) = t.val * 256 + y 0 := by
    blk_simp [idx t] <;> try omega
  have z1 : (((cfg0.win 5).blk t).view.emb y 1 : ℕ) = y 1 := by
    blk_simp [idx t] <;> try omega
  generalize ((cfg0.win 5).blk t).view.emb y = z at z0 z1 ⊢
  obtain ⟨i, j, rfl⟩ : ∃ (i : Fin 8192) (j : Fin 4096), z = (ix2 i j : S8192x4096.Idx) := ⟨z 0, z 1, eq_ix2 z⟩
  obtain ⟨r, q, rfl⟩ : ∃ (r : Fin 256) (q : Fin 4096), y = (ix2 r q : S256x4096.Idx) := ⟨y 0, y 1, eq_ix2 y⟩
  replace z0 : (i : ℕ) = t.val * 256 + r := z0
  obtain rfl : j = q := Fin.ext z1
  rw [hw]
  unfold out0_5
  canon_tiles x h
  case piece0 =>
    obtain ⟨r', q, rfl⟩ : ∃ (r' : Fin 256) (q : Fin 4096), x = (ix2 r' q : S256x4096.Idx) := ⟨x 0, x 1, eq_ix2 x⟩
    obtain rfl : r = r' := Fin.ext h0
    obtain rfl : j = q := Fin.ext h1
    exact stream_at m c t i r z0 j

/-- The next input's array after the run, at every row and column. -/
theorem final_next (c : Dev nD) (w : S8192x4096.Idx → EReal)
    (hw : ∀ i j, w (ix2 i j) = next (m ((c : Thread nD τ).loc main_arg0)) (m ((c : Thread nD τ).loc main_arg1))
      (m ((c : Thread nD τ).loc main_arg2)) (m ((c : Thread nD τ).loc main_arg3)) (m ((c : Thread nD τ).loc main_arg4)) i j) :
    (dats m 0 c).arrAt 6 cfg0.N = w := by
  refine (dats m 0 c).arrAt_eq_of_covers 6 _ (by decide +kernel) fun t _ y => ?_
  blk_simp
  rw [after0_6]
  have ht : t.val < 32 := lt_of_lt_of_eq t.isLt N_0
  have z0 : (((cfg0.win 6).blk t).view.emb y 0 : ℕ) = t.val * 256 + y 0 := by
    blk_simp [idx t] <;> try omega
  have z1 : (((cfg0.win 6).blk t).view.emb y 1 : ℕ) = y 1 := by
    blk_simp [idx t] <;> try omega
  generalize ((cfg0.win 6).blk t).view.emb y = z at z0 z1 ⊢
  obtain ⟨i, j, rfl⟩ : ∃ (i : Fin 8192) (j : Fin 4096), z = (ix2 i j : S8192x4096.Idx) := ⟨z 0, z 1, eq_ix2 z⟩
  obtain ⟨r, q, rfl⟩ : ∃ (r : Fin 256) (q : Fin 4096), y = (ix2 r q : S256x4096.Idx) := ⟨y 0, y 1, eq_ix2 y⟩
  replace z0 : (i : ℕ) = t.val * 256 + r := z0
  obtain rfl : j = q := Fin.ext z1
  rw [hw]
  unfold out0_6
  canon_tiles x h
  case piece0 =>
    obtain ⟨r', q, rfl⟩ : ∃ (r' : Fin 256) (q : Fin 4096), x = (ix2 r' q : S256x4096.Idx) := ⟨x 0, x 1, eq_ix2 x⟩
    obtain rfl : r = r' := Fin.ext h0
    obtain rfl : j = q := Fin.ext h1
    refine (next_pay_at _ _ _ r j).trans ?_
    rw [weighted_at]
    have e2 : View.ld (iblk m c 2 t) r0_3 (ix3 0 0 j) = m ((c : Thread nD τ).loc main_arg2) (ix3 ⟨i / 2048, by omega⟩ 7 j) := by
      pointwise; blk_ext [iblk, V, idx t]
    have e3 : View.ld (iblk m c 2 t) r0_4 (ix3 0 0 j) = m ((c : Thread nD τ).loc main_arg2) (ix3 ⟨i / 2048, by omega⟩ 6 j) := by
      pointwise; blk_ext [iblk, V, idx t]
    have e4 : View.ld (iblk m c 4 t) r0_1 (ix2 0 j) = m ((c : Thread nD τ).loc main_arg4) (ix2 0 j) := by
      pointwise; blk_ext [iblk, V, idx t]
    unfold next
    simp only [e2, e3, e4]
    exact congrArg (fun z : Fin 4096 → EReal => rms z j * _ * _ + _) (funext fun k => stream_at m c t i r z0 k)

open Cert.Reference10Ideal.Gen in
/-- The reference's stream from the branches' normalised rows, at a batch's row. -/
theorem batch_stream_at (n : FVec Ideal Cert.Reference10Ideal.S4x2048x4096 .f32) (x : FVec Ideal S9216x4096 .f32) (u : FVec Ideal S5x9x4096 .f32)
    (g : FVec Ideal S1x4096 .f32) (i : Fin 8192) (j : Fin 4096) :
    (addf (shapeCast Cert.Reference10Ideal.S4x2048x4096 (extractStridedSlice S8192x4096 ![0, 0] x slices_S9216x4096_S8192x4096_0_0) shapeCasts_S8192x4096_S4x2048x4096)
      (mulf (broadcastInDim Cert.Reference10Ideal.S4x2048x4096 ![0, 1, 2] bcast_S4x1x4096_S4x2048x4096_0_1_2
          (extractStridedSlice Cert.Reference10Ideal.S4x1x4096 ![0, 5, 0] u slices_S5x9x4096_S4x1x4096_0_5_0))
        (mulf n (broadcastInDim Cert.Reference10Ideal.S4x2048x4096 ![0, 1, 2] bcast_S1x1x4096_S4x2048x4096_0_1_2
          (broadcastInDim Cert.Reference10Ideal.S1x1x4096 ![1, 2] bcast_S1x4096_S1x1x4096_1_2 g))))
      : FVec Ideal Cert.Reference10Ideal.S4x2048x4096 .f32) (ix3 ⟨i / 2048, by omega⟩ ⟨i % 2048, by omega⟩ j)
      = x (ix2 ⟨i, by omega⟩ j) + u (ix3 ⟨i / 2048, by omega⟩ 5 j) * (n (ix3 ⟨i / 2048, by omega⟩ ⟨i % 2048, by omega⟩ j) * g (ix2 0 j)) := by
  pointwise

open Cert.Reference10Ideal.Gen in
/-- The rows of the array are the rows of the reference's batches. -/
theorem flat_at (y : FVec Ideal Cert.Reference10Ideal.S4x2048x4096 .f32) (i : Fin 8192) (j : Fin 4096) :
    (shapeCast S8192x4096 y shapeCasts_S4x2048x4096_S8192x4096 : FVec Ideal S8192x4096 .f32) (ix2 i j)
      = y (ix3 ⟨i / 2048, by omega⟩ ⟨i % 2048, by omega⟩ j) := by
  pointwise

open Cert.Reference10Ideal.Gen in
/-- The reference's next input from the stream's normalised rows, at an index. -/
theorem next_at (n : FVec Ideal Cert.Reference10Ideal.S4x2048x4096 .f32) (u : FVec Ideal S5x9x4096 .f32) (h : FVec Ideal S1x4096 .f32) (i : Fin 8192) (j : Fin 4096) :
    (truncf .bf16 (shapeCast S8192x4096 (addf (mulf (mulf n (broadcastInDim Cert.Reference10Ideal.S4x2048x4096 ![0, 1, 2] bcast_S1x1x4096_S4x2048x4096_0_1_2
          (broadcastInDim Cert.Reference10Ideal.S1x1x4096 ![1, 2] bcast_S1x4096_S1x1x4096_1_2 h)))
        (broadcastInDim Cert.Reference10Ideal.S4x2048x4096 ![0, 1, 2] bcast_S4x1x4096_S4x2048x4096_0_1_2
          (addf (broadcastInDim Cert.Reference10Ideal.S4x1x4096 ![] bcast_S_S4x1x4096 (constant Cert.Reference10Ideal.S_ .f32 0x3F800000#32))
            (extractStridedSlice Cert.Reference10Ideal.S4x1x4096 ![0, 7, 0] u slices_S5x9x4096_S4x1x4096_0_7_0))))
      (broadcastInDim Cert.Reference10Ideal.S4x2048x4096 ![0, 1, 2] bcast_S4x1x4096_S4x2048x4096_0_1_2
        (extractStridedSlice Cert.Reference10Ideal.S4x1x4096 ![0, 6, 0] u slices_S5x9x4096_S4x1x4096_0_6_0))) shapeCasts_S4x2048x4096_S8192x4096)
      Cert.Reference10Ideal.Gen.bitsLt_bf16_f32 : FVec Ideal S8192x4096 .bf16) (ix2 i j)
      = (n (ix3 ⟨i / 2048, by omega⟩ ⟨i % 2048, by omega⟩ j) * h (ix2 0 j))
          * (Ideal.ofBits .f32 0x3F800000#32 + u (ix3 ⟨i / 2048, by omega⟩ 7 j)) + u (ix3 ⟨i / 2048, by omega⟩ 6 j) := by
  pointwise

/-- The second result of the reference, read at an index. -/
theorem next_ref (m : (ℓ : Loc Cert.Reference10Ideal.nD Cert.Reference10Ideal.τ Cert.Reference10Ideal.sig) → Buf (Elt Ideal) ℓ)
    (c : Dev Cert.Reference10Ideal.nD) (i : Fin 8192) (j : Fin 4096) :
    Cert.Reference10Ideal.Value.res_out1 m c (ix2 i j)
      = next (m (c.tc.loc Cert.Reference10Ideal.main_arg0)) (m (c.tc.loc Cert.Reference10Ideal.main_arg1)) (m (c.tc.loc Cert.Reference10Ideal.main_arg2))
          (m (c.tc.loc Cert.Reference10Ideal.main_arg3)) (m (c.tc.loc Cert.Reference10Ideal.main_arg4)) i j := by
  show Cert.Reference10Ideal.Value.res_main_v44 m c (ix2 i j) = _
  unfold Cert.Reference10Ideal.Value.res_main_v44
  refine (next_at _ _ _ i j).trans ?_
  rw [Residual.normed_at]
  unfold next
  refine congrArg (fun z : Fin 4096 → EReal => rms z j * _ * _ + _) (funext fun k => ?_)
  refine (batch_stream_at _ _ _ _ i k).trans ?_
  rw [Residual.normed_at]
  unfold stream
  simp only [Residual.rows_at]

/-! ## The claims -/

/-- The reference runs, keeps its arguments and has no counters. -/
theorem reference_frame : Cert.quiescent_Reference10Ideal := fun m g _ =>
  (θ_run Cert.Reference10Ideal.defs _ _).mono (fun r h => ⟨fun c => (h c).2.2, sem_eq_zero_of_no_sems (by decide) r.2⟩)
    (Cert.Reference10Ideal.Value.run m g)

/-- The two programs leave equal results. -/
theorem equal : Cert.algebraic_Kernel10Ideal_Reference10Ideal := by
  pair_intro
  · run_from Cert.Kernel10Ideal.Value.run_blocks m g
  · run_from Cert.Reference10Ideal.Value.run m' g'
    · refine ((final_stream m c _ fun i j => ?_).symm)
      refine (flat_at _ i j).trans ((batch_stream_at _ _ _ _ i j).trans ?_)
      rw [Residual.normed_at]
      unfold stream
      simp only [Residual.rows_at]
    · refine ((final_next m c _ fun i j => ?_).symm)
      refine (next_ref m' c i j).trans ?_
      rw [(hagree c).1, (hagree c).2.1, (hagree c).2.2.1, (hagree c).2.2.2.1, (hagree c).2.2.2.2]

end Cert.MiddleResidual

end
-- ==== Proof.FirstInverse.lean ====
/- The first inverse transform of the convolution branch: its two programs at the extended reals, the two results read at an
   index, and the claims about them. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Inverse

@[expose] public section

set_option maxRecDepth 16384

noncomputable section

namespace Cert.FirstInverse

open Idealize.ShloMosaic Idealize.ShloMosaic.TcCoe Idealize.SL.Sem
open Idealize.ShloMosaic.Pipeline (Dat)
open Cert.Kernel11Ideal Cert.Kernel11Ideal.Gen

/-- The result at a batch, a row and a column: the gate times the inverse transform of the row's segment and the biased first
    third of the columns. -/
def inverse (yr yi : FVec Ideal S4x2x1024x2048 .bf16) (gr gi : FVec Ideal S1024x1024 .bf16)
    (u : FVec Ideal S4x2048x6144 .f32) (b : FVec Ideal S1x2048 .f32) (p : Fin 4) (i j : Fin 2048) : EReal :=
  u (ix3 p i ⟨2048 + j, by omega⟩)
    * ((∑ k : Fin 1024, gr (ix2 ⟨i % 1024, by omega⟩ k) * yr (ix4 p ⟨i / 1024, by omega⟩ k j))
        + (∑ k : Fin 1024, gi (ix2 ⟨i % 1024, by omega⟩ k) * yi (ix4 p ⟨i / 1024, by omega⟩ k j))
      + u (ix3 p i ⟨j, by omega⟩) * b (ix2 0 j))

/-- What the body stores, at an index of the block. -/
theorem pay_at (gr : FVec Ideal S1024x1024 .bf16) (yr : FVec Ideal S1x1x1024x512 .bf16) (gi : FVec Ideal S1024x1024 .bf16)
    (yi : FVec Ideal S1x1x1024x512 .bf16) (u z : FVec Ideal S1x1024x512 .f32) (b : FVec Ideal S1x512 .f32) (r : Fin 1024) (q : Fin 512) :
    k0_pay2 (F := Ideal) gr yr gi yi u z b (ix3 0 r q)
      = u (ix3 0 r q) * ((∑ k : Fin 1024, gr (ix2 r k) * yr (ix4 0 0 k q)) + (∑ k : Fin 1024, gi (ix2 r k) * yi (ix4 0 0 k q))
          + z (ix3 0 r q) * b (ix2 0 q)) := by
  pointwise [k0_pay2, k0_pay1]

variable (m : (ℓ : Loc nD τ sig) → Buf (Elt Ideal) ℓ)

/-- The windows' block indices at every grid point. -/
theorem idx : ∀ t : Fin cfg0.N, win0_0.index t = ![0, 0] ∧ win0_1.index t = ![0, 0]
    ∧ win0_2.index t = ![t.val / 8, t.val % 2, 0, t.val / 2 % 4] ∧ win0_3.index t = ![t.val / 8, t.val % 2, 0, t.val / 2 % 4]
    ∧ win0_4.index t = ![t.val / 8, t.val % 2, t.val / 2 % 4] ∧ win0_5.index t = ![t.val / 8, t.val % 2, 4 + t.val / 2 % 4]
    ∧ win0_6.index t = ![0, t.val / 2 % 4] ∧ win0_7.index t = ![t.val / 8, t.val % 2, t.val / 2 % 4]
    ∧ win0_8.index t = ![t.val / 8, t.val % 2, t.val / 2 % 4] :=
  (by decide +kernel : ∀ t : Fin grid0.N, _)

/-- What the body stores at the point `t`, at a row and a column of its block. -/
theorem stored (c : Dev nD) (t : Fin cfg0.N) (p : Fin 4) (i j : Fin 2048) (r : Fin 1024) (q : Fin 512) (z0 : (p : ℕ) = t.val / 8)
    (z1 : (i : ℕ) = t.val % 2 * 1024 + r) (z2 : (j : ℕ) = t.val / 2 % 4 * 512 + q) :
    k0_pay2 (F := Ideal) (View.ld (iblk m c 0 t) r0_0) (View.ld (iblk m c 2 t) r0_1) (View.ld (iblk m c 1 t) r0_0) (View.ld (iblk m c 3 t) r0_1)
        (View.ld (iblk m c 5 t) r0_2) (View.ld (iblk m c 4 t) r0_2) (View.ld (iblk m c 6 t) r0_3) (ix3 0 r q)
      = inverse (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) p i j := by
  have ht : t.val < 32 := lt_of_lt_of_eq t.isLt N_0
  refine (pay_at _ _ _ _ _ _ _ r q).trans ?_
  have e0 : ∀ k : Fin 1024, View.ld (iblk m c 0 t) r0_0 (ix2 r k) = m ((c : Thread nD τ).loc main_arg2) (ix2 ⟨i % 1024, by omega⟩ k) := by
    intro k; pointwise; blk_ext [iblk, V, idx t]
  have e1 : ∀ k : Fin 1024, View.ld (iblk m c 1 t) r0_0 (ix2 r k) = m ((c : Thread nD τ).loc main_arg3) (ix2 ⟨i % 1024, by omega⟩ k) := by
    intro k; pointwise; blk_ext [iblk, V, idx t]
  have e2 : ∀ k : Fin 1024, View.ld (iblk m c 2 t) r0_1 (ix4 0 0 k q) = m ((c : Thread nD τ).loc main_arg0) (ix4 p ⟨i / 1024, by omega⟩ k j) := by
    intro k; pointwise; blk_ext [iblk, V, idx t]
  have e3 : ∀ k : Fin 1024, View.ld (iblk m c 3 t) r0_1 (ix4 0 0 k q) = m ((c : Thread nD τ).loc main_arg1) (ix4 p ⟨i / 1024, by omega⟩ k j) := by
    intro k; pointwise; blk_ext [iblk, V, idx t]
  have e4 : View.ld (iblk m c 4 t) r0_2 (ix3 0 r q) = m ((c : Thread nD τ).loc main_arg4) (ix3 p i ⟨j, by omega⟩) := by
    pointwise; blk_ext [iblk, V, idx t]
  have e5 : View.ld (iblk m c 5 t) r0_2 (ix3 0 r q) = m ((c : Thread nD τ).loc main_arg4) (ix3 p i ⟨2048 + j, by omega⟩) := by
    pointwise; blk_ext [iblk, V, idx t]
  have e6 : View.ld (iblk m c 6 t) r0_3 (ix2 0 q) = m ((c : Thread nD τ).loc main_arg5) (ix2 0 j) := by
    pointwise; blk_ext [iblk, V, idx t]
  unfold inverse
  simp only [e0, e1, e2, e3, e4, e5, e6]

/-- Each result's array after the run, at every batch, row and column: the second holds the first's values. -/
theorem final (c : Dev nD) (w : S4x2048x2048.Idx → EReal)
    (hw : ∀ p i j, w (ix3 p i j) = inverse (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) p i j) :
    (dats m 0 c).arrAt 7 cfg0.N = w ∧ (dats m 0 c).arrAt 8 cfg0.N = w := by
  constructor
  on_goal 1 => refine (dats m 0 c).arrAt_eq_of_covers 7 _ (by decide +kernel) fun t _ y => ?_
  on_goal 2 => refine (dats m 0 c).arrAt_eq_of_covers 8 _ (by decide +kernel) fun t _ y => ?_
  on_goal 1 =>
    blk_simp
    rw [after0_7]
    have ht : t.val < 32 := lt_of_lt_of_eq t.isLt N_0
    have z0 : (((cfg0.win 7).blk t).view.emb y 0 : ℕ) = t.val / 8 := by
      blk_simp [idx t] <;> try omega
    have z1 : (((cfg0.win 7).blk t).view.emb y 1 : ℕ) = t.val % 2 * 1024 + y 1 := by
      blk_simp [idx t] <;> try omega
    have z2 : (((cfg0.win 7).blk t).view.emb y 2 : ℕ) = t.val / 2 % 4 * 512 + y 2 := by
      blk_simp [idx t] <;> try omega
    generalize ((cfg0.win 7).blk t).view.emb y = z at z0 z1 z2 ⊢
    unfold out0_7
  on_goal 2 =>
    blk_simp
    rw [after0_8]
    have ht : t.val < 32 := lt_of_lt_of_eq t.isLt N_0
    have z0 : (((cfg0.win 8).blk t).view.emb y 0 : ℕ) = t.val / 8 := by
      blk_simp [idx t] <;> try omega
    have z1 : (((cfg0.win 8).blk t).view.emb y 1 : ℕ) = t.val % 2 * 1024 + y 1 := by
      blk_simp [idx t] <;> try omega
    have z2 : (((cfg0.win 8).blk t).view.emb y 2 : ℕ) = t.val / 2 % 4 * 512 + y 2 := by
      blk_simp [idx t] <;> try omega
    generalize ((cfg0.win 8).blk t).view.emb y = z at z0 z1 z2 ⊢
    unfold out0_8
  all_goals
    obtain ⟨p, i, j, rfl⟩ : ∃ (p : Fin 4) (i j : Fin 2048), z = (ix3 p i j : S4x2048x2048.Idx) := ⟨z 0, z 1, z 2, eq_ix3 z⟩
    rw [hw]
    canon_tiles x h
    obtain ⟨o, r, q, rfl⟩ : ∃ (o : Fin 1) (r : Fin 1024) (q : Fin 512), x = (ix3 o r q : S1x1024x512.Idx) := ⟨x 0, x 1, x 2, eq_ix3 x⟩
    obtain rfl : o = 0 := Subsingleton.elim _ _
    exact stored m c t p i j r q z0 (z1.trans (congrArg _ h1)) (z2.trans (congrArg _ h2))

open Cert.Reference11Ideal.Gen in
/-- The reference's result from its two transforms, at an index. -/
theorem gated_at (a b : FVec Ideal S4x2x1024x2048 .f32) (u : FVec Ideal S4x2048x6144 .f32)
    (v : FVec Ideal S1x2048 .f32) (p : Fin 4) (i j : Fin 2048) :
    (mulf (extractStridedSlice S4x2048x2048 ![0, 0, 2048] u slices_S4x2048x6144_S4x2048x2048_0_0_2048)
        (addf (shapeCast S4x2048x2048 (addf a b) shapeCasts_S4x2x1024x2048_S4x2048x2048)
          (mulf (extractStridedSlice S4x2048x2048 ![0, 0, 0] u slices_S4x2048x6144_S4x2048x2048_0_0_0)
            (broadcastInDim S4x2048x2048 ![0, 1, 2] bcast_S1x1x2048_S4x2048x2048_0_1_2
            (broadcastInDim Cert.Reference11Ideal.S1x1x2048 ![1, 2] bcast_S1x2048_S1x1x2048_1_2 v))))
      : FVec Ideal S4x2048x2048 .f32) (ix3 p i j)
      = u (ix3 p i ⟨2048 + j, by omega⟩) * (a (ix4 p ⟨i / 1024, by omega⟩ ⟨i % 1024, by omega⟩ j)
          + b (ix4 p ⟨i / 1024, by omega⟩ ⟨i % 1024, by omega⟩ j) + u (ix3 p i ⟨j, by omega⟩) * v (ix2 0 j)) := by
  pointwise

/-! ## The claims -/

/-- The reference runs, keeps its arguments and has no counters. -/
theorem reference_frame : Cert.quiescent_Reference11Ideal := fun m g _ =>
  (θ_run Cert.Reference11Ideal.defs _ _).mono (fun r h => ⟨fun c => (h c).2.2, sem_eq_zero_of_no_sems (by decide) r.2⟩)
    (Cert.Reference11Ideal.Value.run m g)

/-- The two programs leave equal results. -/
theorem equal : Cert.algebraic_Kernel11Ideal_Reference11Ideal := by
  pair_intro
  · run_from Cert.Kernel11Ideal.Value.run_blocks m g
  · run_from Cert.Reference11Ideal.Value.run m' g'
    on_goal 1 => refine ((final m c _ fun p i j => ?_).1.symm)
    on_goal 2 => refine ((final m c _ fun p i j => ?_).2.symm)
    all_goals
      refine (gated_at _ _ _ _ p i j).trans ?_
      unfold inverse
      exact congrArg (fun s : EReal => _ * (s + _)) (congrArg₂ (· + ·) (Inverse.transform_at _ _ p _ _ j) (Inverse.transform_at _ _ p _ _ j))

end Cert.FirstInverse

end
-- ==== Proof.Forward.lean ====
/- The forward transform of the convolution branch, with the products by the filter's spectra: its two programs at the extended
   reals, the two results read at an index, and the claims about them. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Claim

@[expose] public section

set_option maxRecDepth 16384

noncomputable section

namespace Cert.Forward

open Idealize.ShloMosaic Idealize.ShloMosaic.TcCoe Idealize.SL.Sem
open Idealize.ShloMosaic.Pipeline (Dat)
open Cert.Kernel12Ideal Cert.Kernel12Ideal.Gen

/-- The real part of a product of two spectra at the row `k`; row 0 holds two real frequencies, this one in the real part. -/
def re (k : Fin 1024) (xr xi kr ki : EReal) : EReal := if k = 0 then xr * kr else xr * kr - xi * ki

/-- The imaginary part of a product of two spectra at the row `k`; at row 0 it is the other real frequency. -/
def im (k : Fin 1024) (xr xi kr ki : EReal) : EReal := if k = 0 then xi * ki else xr * ki + xi * kr

/-- A spectrum of a segment: the transform at the row `k` of the segment `s` of a batch's column. -/
def spectrum (f : FVec Ideal S1024x1024 .bf16) (u : FVec Ideal S4x2048x2048 .bf16) (p : Fin 4) (s : Fin 2) (k : Fin 1024) (j : Fin 2048) :
    EReal :=
  ∑ n : Fin 1024, f (ix2 k n) * u (ix3 p ⟨s * 1024 + n, by omega⟩ j)

/-- A result at a batch, a segment, a row and a column: the two segments' spectra times the filters' spectra, with the lags 0 and
    -1 for segment 0 and 1 and 0 for segment 1. The product `op` is `re` or `im`. -/
def forward (op : Fin 1024 → EReal → EReal → EReal → EReal → EReal) (u : FVec Ideal S4x2048x2048 .bf16)
    (fr fi : FVec Ideal S1024x1024 .bf16) (k0r k0i k1r k1i kmr kmi : FVec Ideal S1024x4096 .f32)
    (p : Fin 4) (s : Fin 2) (k : Fin 1024) (j : Fin 2048) : EReal :=
  if s = 0 then
    op k (spectrum fr u p 0 k j) (spectrum fi u p 0 k j) (k0r (ix2 k ⟨j, by omega⟩)) (k0i (ix2 k ⟨j, by omega⟩))
      + op k (spectrum fr u p 1 k j) (spectrum fi u p 1 k j) (kmr (ix2 k ⟨j, by omega⟩)) (kmi (ix2 k ⟨j, by omega⟩))
  else
    op k (spectrum fr u p 0 k j) (spectrum fi u p 0 k j) (k1r (ix2 k ⟨j, by omega⟩)) (k1i (ix2 k ⟨j, by omega⟩))
      + op k (spectrum fr u p 1 k j) (spectrum fi u p 1 k j) (k0r (ix2 k ⟨j, by omega⟩)) (k0i (ix2 k ⟨j, by omega⟩))

/-- The test for row 0, as a word. -/
theorem first_word : ∀ k : Fin 1024, IntOp.cmpi .eq (BitVec.ofNat 32 k.val) 0#32 = if k = 0 then 1#1 else 0#1 := by
  decide +kernel

/-- A transform at the row `k`, of a segment in a block. -/
theorem product_at (f : FVec Ideal S1024x1024 .bf16) (u : FVec Ideal S1x1024x256 .bf16) (k : Fin 1024) (q : Fin 256) :
    k0_pay4 (F := Ideal) f u (ix2 k q) = ∑ n : Fin 1024, f (ix2 k n) * u (ix3 0 n q) := by
  pointwise [k0_pay4, k0_pay2]

/-- The test for row 0, at an index of the block. -/
theorem first_at (k : Fin 1024) (q : Fin 256) : k0_pay8 (ix2 k q) = if k = 0 then 1#1 else 0#1 := by
  pointwise [k0_pay8]
  exact first_word k

/-- The sum of the real parts that the body stores, at an index of the block. -/
theorem re_at (fr fi : FVec Ideal S1024x1024 .bf16) (u v : FVec Ideal S1x1024x256 .bf16) (ar ai br bi : FVec Ideal S1024x256 .f32)
    (k : Fin 1024) (q : Fin 256) :
    k0_pay15 (F := Ideal) (k0_pay9 fr fi u ar ai) (k0_pay11 fr fi v br bi) (ix4 0 0 k q)
      = re k (k0_pay4 (F := Ideal) fr u (ix2 k q)) (k0_pay4 (F := Ideal) fi u (ix2 k q)) (ar (ix2 k q)) (ai (ix2 k q))
        + re k (k0_pay4 (F := Ideal) fr v (ix2 k q)) (k0_pay4 (F := Ideal) fi v (ix2 k q)) (br (ix2 k q)) (bi (ix2 k q)) := by
  have e : ∀ a b : FVec Ideal S1024x256 .f32, k0_pay15 (F := Ideal) a b (ix4 0 0 k q) = a (ix2 k q) + b (ix2 k q) := by
    intro a b; pointwise [k0_pay15]
  rw [e]
  show (Scalar.select (k0_pay8 (ix2 k q)) _ _ : EReal) + Scalar.select (k0_pay8 (ix2 k q)) _ _ = _
  rw [first_at]
  unfold re
  split <;> rfl

/-- The sum of the imaginary parts that the body stores, at an index of the block. -/
theorem im_at (fr fi : FVec Ideal S1024x1024 .bf16) (u v : FVec Ideal S1x1024x256 .bf16) (ar ai br bi : FVec Ideal S1024x256 .f32)
    (k : Fin 1024) (q : Fin 256) :
    k0_pay16 (F := Ideal) k0_pay8 (k0_pay10 fr fi u ar ai) (k0_pay12 fi v bi) (k0_pay13 fr v bi) (k0_pay14 fi v br) (ix4 0 0 k q)
      = im k (k0_pay4 (F := Ideal) fr u (ix2 k q)) (k0_pay4 (F := Ideal) fi u (ix2 k q)) (ar (ix2 k q)) (ai (ix2 k q))
        + im k (k0_pay4 (F := Ideal) fr v (ix2 k q)) (k0_pay4 (F := Ideal) fi v (ix2 k q)) (br (ix2 k q)) (bi (ix2 k q)) := by
  have e : ∀ (o : IVec S1024x256 1) (a b d e : FVec Ideal S1024x256 .f32), k0_pay16 (F := Ideal) o a b d e (ix4 0 0 k q)
      = a (ix2 k q) + select o b (addf d e) (ix2 k q) := by
    intro o a b d e; pointwise [k0_pay16]
  rw [e]
  show (Scalar.select (k0_pay8 (ix2 k q)) _ _ : EReal) + Scalar.select (k0_pay8 (ix2 k q)) _ _ = _
  rw [first_at]
  unfold im
  split <;> rfl

variable (m : (ℓ : Loc nD τ sig) → Buf (Elt Ideal) ℓ)

/-- The windows' block indices at every grid point. -/
theorem idx : ∀ t : Fin cfg0.N, win0_0.index t = ![0, 0] ∧ win0_1.index t = ![0, 0]
    ∧ win0_2.index t = ![t.val % 4, 0, t.val / 4] ∧ win0_3.index t = ![0, t.val / 4] ∧ win0_4.index t = ![0, t.val / 4]
    ∧ win0_5.index t = ![0, t.val / 4] ∧ win0_6.index t = ![0, t.val / 4] ∧ win0_7.index t = ![0, t.val / 4]
    ∧ win0_8.index t = ![0, t.val / 4] ∧ win0_9.index t = ![t.val % 4, 0, 0, t.val / 4] ∧ win0_10.index t = ![t.val % 4, 0, 0, t.val / 4] :=
  (by decide +kernel : ∀ t : Fin grid0.N, _)

/-- The spectra of the point's two segments, at a row and a column of its block. -/
theorem loaded_spectra (c : Dev nD) (t : Fin cfg0.N) (p : Fin 4) (k : Fin 1024) (j : Fin 2048) (q : Fin 256)
    (z0 : (p : ℕ) = t.val % 4) (z3 : (j : ℕ) = t.val / 4 * 256 + q) :
    k0_pay4 (F := Ideal) (View.ld (iblk m c 0 t) r0_0) (View.ld (iblk m c 2 t) r0_1) (ix2 k q)
        = spectrum (m ((c : Thread nD τ).loc main_arg1)) (m ((c : Thread nD τ).loc main_arg0)) p 0 k j
      ∧ k0_pay4 (F := Ideal) (View.ld (iblk m c 1 t) r0_0) (View.ld (iblk m c 2 t) r0_1) (ix2 k q)
        = spectrum (m ((c : Thread nD τ).loc main_arg2)) (m ((c : Thread nD τ).loc main_arg0)) p 0 k j
      ∧ k0_pay4 (F := Ideal) (View.ld (iblk m c 0 t) r0_0) (View.ld (iblk m c 2 t) r0_2) (ix2 k q)
        = spectrum (m ((c : Thread nD τ).loc main_arg1)) (m ((c : Thread nD τ).loc main_arg0)) p 1 k j
      ∧ k0_pay4 (F := Ideal) (View.ld (iblk m c 1 t) r0_0) (View.ld (iblk m c 2 t) r0_2) (ix2 k q)
        = spectrum (m ((c : Thread nD τ).loc main_arg2)) (m ((c : Thread nD τ).loc main_arg0)) p 1 k j := by
  have ht : t.val < 32 := lt_of_lt_of_eq t.isLt N_0
  have e0 : ∀ n : Fin 1024, View.ld (iblk m c 0 t) r0_0 (ix2 k n) = m ((c : Thread nD τ).loc main_arg1) (ix2 k n) := by
    intro n; pointwise; blk_ext [iblk, V, idx t]
  have e1 : ∀ n : Fin 1024, View.ld (iblk m c 1 t) r0_0 (ix2 k n) = m ((c : Thread nD τ).loc main_arg2) (ix2 k n) := by
    intro n; pointwise; blk_ext [iblk, V, idx t]
  have e2 : ∀ n : Fin 1024, View.ld (iblk m c 2 t) r0_1 (ix3 0 n q)
      = m ((c : Thread nD τ).loc main_arg0) (ix3 p ⟨(0 : Fin 2) * 1024 + n, by simp; omega⟩ j) := by
    intro n; pointwise; blk_ext [iblk, V, idx t]
  have e3 : ∀ n : Fin 1024, View.ld (iblk m c 2 t) r0_2 (ix3 0 n q)
      = m ((c : Thread nD τ).loc main_arg0) (ix3 p ⟨(1 : Fin 2) * 1024 + n, by simp; omega⟩ j) := by
    intro n; pointwise; blk_ext [iblk, V, idx t]
  refine ⟨?_, ?_, ?_, ?_⟩
  all_goals
    refine (product_at _ _ k q).trans ?_
    unfold spectrum
    simp only [e0, e1, e2, e3]

/-- The filters' spectra of the point's columns, at a row and a column of its block. -/
theorem loaded_filters (c : Dev nD) (t : Fin cfg0.N) (k : Fin 1024) (j : Fin 2048) (q : Fin 256) (z3 : (j : ℕ) = t.val / 4 * 256 + q) :
    View.ld (iblk m c 3 t) r0_3 (ix2 k q) = m ((c : Thread nD τ).loc main_arg3) (ix2 k ⟨j, by omega⟩)
      ∧ View.ld (iblk m c 4 t) r0_3 (ix2 k q) = m ((c : Thread nD τ).loc main_arg4) (ix2 k ⟨j, by omega⟩)
      ∧ View.ld (iblk m c 5 t) r0_3 (ix2 k q) = m ((c : Thread nD τ).loc main_arg5) (ix2 k ⟨j, by omega⟩)
      ∧ View.ld (iblk m c 6 t) r0_3 (ix2 k q) = m ((c : Thread nD τ).loc main_arg6) (ix2 k ⟨j, by omega⟩)
      ∧ View.ld (iblk m c 7 t) r0_3 (ix2 k q) = m ((c : Thread nD τ).loc main_arg7) (ix2 k ⟨j, by omega⟩)
      ∧ View.ld (iblk m c 8 t) r0_3 (ix2 k q) = m ((c : Thread nD τ).loc main_arg8) (ix2 k ⟨j, by omega⟩) := by
  have ht : t.val < 32 := lt_of_lt_of_eq t.isLt N_0
  refine ⟨?_, ?_, ?_, ?_, ?_, ?_⟩
  all_goals
    pointwise; blk_ext [iblk, V, idx t]

/-- A result of the launch at an index, from the memory. -/
abbrev wanted (op : Fin 1024 → EReal → EReal → EReal → EReal → EReal) (c : Dev nD) (p : Fin 4) (s : Fin 2) (k : Fin 1024) (j : Fin 2048) :
    EReal :=
  forward op (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) p s k j

/-- The first result's array after the run, at every index. -/
theorem final_re (c : Dev nD) (w : S4x2x1024x2048.Idx → EReal) (hw : ∀ p s k j, w (ix4 p s k j) = wanted m re c p s k j) :
    (dats m 0 c).arrAt 9 cfg0.N = w := by
  refine (dats m 0 c).arrAt_eq_of_covers 9 _ (by decide +kernel) fun t _ y => ?_
  blk_simp
  rw [after0_9]
  have ht : t.val < 32 := lt_of_lt_of_eq t.isLt N_0
  have z0 : (((cfg0.win 9).blk t).view.emb y 0 : ℕ) = t.val % 4 := by
    blk_simp [idx t] <;> try omega
  have z1 : (((cfg0.win 9).blk t).view.emb y 1 : ℕ) = y 1 := by
    blk_simp [idx t] <;> try omega
  have z2 : (((cfg0.win 9).blk t).view.emb y 2 : ℕ) = y 2 := by
    blk_simp [idx t] <;> try omega
  have z3 : (((cfg0.win 9).blk t).view.emb y 3 : ℕ) = t.val / 4 * 256 + y 3 := by
    blk_simp [idx t] <;> try omega
  generalize ((cfg0.win 9).blk t).view.emb y = z at z0 z1 z2 z3 ⊢
  obtain ⟨p, s, k, j, rfl⟩ : ∃ (p : Fin 4) (s : Fin 2) (k : Fin 1024) (j : Fin 2048), z = (ix4 p s k j : S4x2x1024x2048.Idx) :=
    ⟨z 0, z 1, z 2, z 3, eq_ix4 z⟩
  rw [hw]
  unfold out0_9
  canon_tiles x h
  all_goals
    obtain ⟨o, o', r, q, rfl⟩ : ∃ (o o' : Fin 1) (r : Fin 1024) (q : Fin 256), x = (ix4 o o' r q : S1x1x1024x256.Idx) :=
      ⟨x 0, x 1, x 2, x 3, eq_ix4 x⟩
    obtain rfl : o = 0 := Subsingleton.elim _ _
    obtain rfl : o' = 0 := Subsingleton.elim _ _
    obtain rfl : k = r := Fin.ext (z2.trans h2)
    obtain ⟨s0, s1, s2, s3⟩ := loaded_spectra m c t p k j q z0 (z3.trans (congrArg _ h3))
    obtain ⟨f3, f4, f5, f6, f7, f8⟩ := loaded_filters m c t k j q (z3.trans (congrArg _ h3))
  · obtain rfl : s = 1 := Fin.ext (z1.trans h1)
    refine (re_at (View.ld (iblk m c 0 t) r0_0) (View.ld (iblk m c 1 t) r0_0) (View.ld (iblk m c 2 t) r0_1) (View.ld (iblk m c 2 t) r0_2) (View.ld (iblk m c 5 t) r0_3) (View.ld (iblk m c 6 t) r0_3) (View.ld (iblk m c 3 t) r0_3) (View.ld (iblk m c 4 t) r0_3) k q).trans ?_
    rw [s0, s1, s2, s3, f3, f4, f5, f6]
    exact (if_neg (by decide)).symm
  · obtain rfl : s = 0 := Fin.ext (z1.trans h1)
    refine (re_at (View.ld (iblk m c 0 t) r0_0) (View.ld (iblk m c 1 t) r0_0) (View.ld (iblk m c 2 t) r0_1) (View.ld (iblk m c 2 t) r0_2) (View.ld (iblk m c 3 t) r0_3) (View.ld (iblk m c 4 t) r0_3) (View.ld (iblk m c 7 t) r0_3) (View.ld (iblk m c 8 t) r0_3) k q).trans ?_
    rw [s0, s1, s2, s3, f3, f4, f7, f8]
    exact (if_pos rfl).symm

/-- The second result's array after the run, at every index. -/
theorem final_im (c : Dev nD) (w : S4x2x1024x2048.Idx → EReal) (hw : ∀ p s k j, w (ix4 p s k j) = wanted m im c p s k j) :
    (dats m 0 c).arrAt 10 cfg0.N = w := by
  refine (dats m 0 c).arrAt_eq_of_covers 10 _ (by decide +kernel) fun t _ y => ?_
  blk_simp
  rw [after0_10]
  have ht : t.val < 32 := lt_of_lt_of_eq t.isLt N_0
  have z0 : (((cfg0.win 10).blk t).view.emb y 0 : ℕ) = t.val % 4 := by
    blk_simp [idx t] <;> try omega
  have z1 : (((cfg0.win 10).blk t).view.emb y 1 : ℕ) = y 1 := by
    blk_simp [idx t] <;> try omega
  have z2 : (((cfg0.win 10).blk t).view.emb y 2 : ℕ) = y 2 := by
    blk_simp [idx t] <;> try omega
  have z3 : (((cfg0.win 10).blk t).view.emb y 3 : ℕ) = t.val / 4 * 256 + y 3 := by
    blk_simp [idx t] <;> try omega
  generalize ((cfg0.win 10).blk t).view.emb y = z at z0 z1 z2 z3 ⊢
  obtain ⟨p, s, k, j, rfl⟩ : ∃ (p : Fin 4) (s : Fin 2) (k : Fin 1024) (j : Fin 2048), z = (ix4 p s k j : S4x2x1024x2048.Idx) :=
    ⟨z 0, z 1, z 2, z 3, eq_ix4 z⟩
  rw [hw]
  unfold out0_10
  canon_tiles x h
  all_goals
    obtain ⟨o, o', r, q, rfl⟩ : ∃ (o o' : Fin 1) (r : Fin 1024) (q : Fin 256), x = (ix4 o o' r q : S1x1x1024x256.Idx) :=
      ⟨x 0, x 1, x 2, x 3, eq_ix4 x⟩
    obtain rfl : o = 0 := Subsingleton.elim _ _
    obtain rfl : o' = 0 := Subsingleton.elim _ _
    obtain rfl : k = r := Fin.ext (z2.trans h2)
    obtain ⟨s0, s1, s2, s3⟩ := loaded_spectra m c t p k j q z0 (z3.trans (congrArg _ h3))
    obtain ⟨f3, f4, f5, f6, f7, f8⟩ := loaded_filters m c t k j q (z3.trans (congrArg _ h3))
  · obtain rfl : s = 1 := Fin.ext (z1.trans h1)
    refine (im_at (View.ld (iblk m c 0 t) r0_0) (View.ld (iblk m c 1 t) r0_0) (View.ld (iblk m c 2 t) r0_1) (View.ld (iblk m c 2 t) r0_2) (View.ld (iblk m c 5 t) r0_3) (View.ld (iblk m c 6 t) r0_3) (View.ld (iblk m c 3 t) r0_3) (View.ld (iblk m c 4 t) r0_3) k q).trans ?_
    rw [s0, s1, s2, s3, f3, f4, f5, f6]
    exact (if_neg (by decide)).symm
  · obtain rfl : s = 0 := Fin.ext (z1.trans h1)
    refine (im_at (View.ld (iblk m c 0 t) r0_0) (View.ld (iblk m c 1 t) r0_0) (View.ld (iblk m c 2 t) r0_1) (View.ld (iblk m c 2 t) r0_2) (View.ld (iblk m c 3 t) r0_3) (View.ld (iblk m c 4 t) r0_3) (View.ld (iblk m c 7 t) r0_3) (View.ld (iblk m c 8 t) r0_3) k q).trans ?_
    rw [s0, s1, s2, s3, f3, f4, f7, f8]
    exact (if_pos rfl).symm

/-! ## The reference -/

section
open Cert.Reference12Ideal.Gen

/-- The reference's transform of a segment, at a row and a column. -/
theorem spectrum_at (u : FVec Ideal S4x2048x2048 .bf16) (f : FVec Ideal S1024x1024 .bf16) (p : Fin 4) (s : Fin 2) (k : Fin 1024) (j : Fin 2048) :
    (transpose S4x2x1024x2048 [0, 1, 3, 2] (Host.dotGeneral Cert.Reference12Ideal.dot_S4x2x1024x2048_S1024x1024_S4x2x2048x1024_2_1_013_0_n_n none
        (shapeCast _ (extf .f32 u Cert.Reference12Ideal.Gen.bitsLt_bf16_f32) shapeCasts_S4x2048x2048_S4x2x1024x2048)
        (extf .f32 f Cert.Reference12Ideal.Gen.bitsLt_bf16_f32)) transposes_S4x2x2048x1024_S4x2x1024x2048_0_1_3_2
      : FVec Ideal S4x2x1024x2048 .f32) (ix4 p s k j) = spectrum f u p s k j := by
  unfold spectrum
  pointwise
  exact Finset.sum_congr rfl fun k _ => mul_comm _ _

/-- A segment's spectrum taken from the two, at an index. -/
theorem segment_at (x : FVec Ideal S4x2x1024x2048 .f32) (p : Fin 4) (k : Fin 1024) (j : Fin 2048) :
    (shapeCast _ (extractStridedSlice Cert.Reference12Ideal.S4x1x1024x2048 ![0, 0, 0, 0] x slices_S4x2x1024x2048_S4x1x1024x2048_0_0_0_0)
        shapeCasts_S4x1x1024x2048_S4x1024x2048 : FVec Ideal Cert.Reference12Ideal.S4x1024x2048 .f32) (ix3 p k j) = x (ix4 p 0 k j)
      ∧ (shapeCast _ (extractStridedSlice Cert.Reference12Ideal.S4x1x1024x2048 ![0, 1, 0, 0] x slices_S4x2x1024x2048_S4x1x1024x2048_0_1_0_0)
        shapeCasts_S4x1x1024x2048_S4x1024x2048 : FVec Ideal Cert.Reference12Ideal.S4x1024x2048 .f32) (ix3 p k j) = x (ix4 p 1 k j) := by
  constructor <;> pointwise

/-- A filter's spectrum in every batch, at an index. -/
theorem filter_at (x : FVec Ideal S1024x4096 .f32) (p : Fin 4) (k : Fin 1024) (j : Fin 2048) :
    (broadcastInDim Cert.Reference12Ideal.S4x1024x2048 ![0, 1, 2] bcast_S1x1024x2048_S4x1024x2048_0_1_2
        (broadcastInDim Cert.Reference12Ideal.S1x1024x2048 ![1, 2] bcast_S1024x2048_S1x1024x2048_1_2
          (extractStridedSlice Cert.Reference12Ideal.S1024x2048 ![0, 0] x slices_S1024x4096_S1024x2048_0_0))
      : FVec Ideal Cert.Reference12Ideal.S4x1024x2048 .f32) (ix3 p k j) = x (ix2 k ⟨j, by omega⟩) := by
  pointwise

/-- The reference's test for row 0, at an index. -/
theorem row_at (p : Fin 4) (k : Fin 1024) (j : Fin 2048) :
    (broadcastInDim Cert.Reference12Ideal.S4x1024x2048 ![1, 2] bcast_S1024x1_S4x1024x2048_1_2
        (cmpi .eq (broadcastInDim Cert.Reference12Ideal.S1024x1 ![0] bcast_S1024_S1024x1_0 (iotaInDim Cert.Reference12Ideal.S1024 32 0))
          (broadcastInDim Cert.Reference12Ideal.S1024x1 ![] bcast_S_S1024x1 (constantI Cert.Reference12Ideal.S_ 32 0#32)))
      : IVec Cert.Reference12Ideal.S4x1024x2048 1) (ix3 p k j) = if k = 0 then 1#1 else 0#1 := by
  pointwise
  exact first_word k

/-- The two segments' products joined, at an index. -/
theorem joined_at (a b : FVec Ideal Cert.Reference12Ideal.S4x1024x2048 .f32) (p : Fin 4) (s : Fin 2) (k : Fin 1024) (j : Fin 2048) :
    (truncf .bf16 (concatenate S4x2x1024x2048 1
        [⟨Cert.Reference12Ideal.S4x1x1024x2048, (broadcastInDim Cert.Reference12Ideal.S4x1x1024x2048 ![0, 2, 3] bcast_S4x1024x2048_S4x1x1024x2048_0_2_3 a)⟩,
          ⟨Cert.Reference12Ideal.S4x1x1024x2048, (broadcastInDim Cert.Reference12Ideal.S4x1x1024x2048 ![0, 2, 3] bcast_S4x1024x2048_S4x1x1024x2048_0_2_3 b)⟩]
        concatenates_S4x1x1024x2048_S4x1x1024x2048_S4x2x1024x2048_d1) Cert.Reference12Ideal.Gen.bitsLt_bf16_f32
      : FVec Ideal S4x2x1024x2048 .bf16) (ix4 p s k j) = if s = 0 then a (ix3 p k j) else b (ix3 p k j) := by
  pointwise
  by_cases h : s = 0
  · subst h; rfl
  · rw [if_neg h, dif_neg (fun e => h (Fin.ext (by simpa using e)))]

/-- A real part of a product, from its factors at the index. -/
theorem times_re {S : Shape} (o : IVec S 1) (xr xi kr ki : FVec Ideal S .f32) (i : S.Idx) (k : Fin 1024) (a b d e : EReal)
    (ho : o i = if k = 0 then 1#1 else 0#1) (ha : xr i = a) (hb : xi i = b) (hd : kr i = d) (he : ki i = e) :
    (select o (mulf xr kr) (subf (mulf xr kr) (mulf xi ki)) : FVec Ideal S .f32) i = re k a b d e := by
  subst ha hb hd he
  show (Scalar.select (o i) _ _ : EReal) = _
  rw [ho]
  unfold re
  split <;> rfl

/-- An imaginary part of a product, from its factors at the index. -/
theorem times_im {S : Shape} (o : IVec S 1) (xr xi kr ki : FVec Ideal S .f32) (i : S.Idx) (k : Fin 1024) (a b d e : EReal)
    (ho : o i = if k = 0 then 1#1 else 0#1) (ha : xr i = a) (hb : xi i = b) (hd : kr i = d) (he : ki i = e) :
    (select o (mulf xi ki) (addf (mulf xr ki) (mulf xi kr)) : FVec Ideal S .f32) i = im k a b d e := by
  subst ha hb hd he
  show (Scalar.select (o i) _ _ : EReal) = _
  rw [ho]
  unfold im
  split <;> rfl

/-- The reference's first result, at an index. -/
theorem reference_re (m : (ℓ : Loc nD τ Cert.Reference12Ideal.sig) → Buf (Elt Ideal) ℓ) (c : Dev nD) (p : Fin 4) (s : Fin 2) (k : Fin 1024)
    (j : Fin 2048) :
    Cert.Reference12Ideal.Value.res_out0 m c (ix4 p s k j)
      = forward re (m ((c : Thread nD τ).loc Cert.Reference12Ideal.main_arg0)) (m ((c : Thread nD τ).loc Cert.Reference12Ideal.main_arg1))
          (m ((c : Thread nD τ).loc Cert.Reference12Ideal.main_arg2)) (m ((c : Thread nD τ).loc Cert.Reference12Ideal.main_arg3))
          (m ((c : Thread nD τ).loc Cert.Reference12Ideal.main_arg4)) (m ((c : Thread nD τ).loc Cert.Reference12Ideal.main_arg5))
          (m ((c : Thread nD τ).loc Cert.Reference12Ideal.main_arg6)) (m ((c : Thread nD τ).loc Cert.Reference12Ideal.main_arg7))
          (m ((c : Thread nD τ).loc Cert.Reference12Ideal.main_arg8)) p s k j := by
  show Cert.Reference12Ideal.Value.res_main_v121 m c _ = _
  unfold Cert.Reference12Ideal.Value.res_main_v121
  refine (joined_at _ _ p s k j).trans ?_
  unfold forward
  split
  all_goals
    exact congrArg₂ (fun a b : EReal => a + b)
        (times_re _ _ _ _ _ _ k _ _ _ _ (row_at p k j)
          ((segment_at _ p k j).1.trans (spectrum_at _ _ p 0 k j)) ((segment_at _ p k j).1.trans (spectrum_at _ _ p 0 k j)) (filter_at _ p k j) (filter_at _ p k j))
        (times_re _ _ _ _ _ _ k _ _ _ _ (row_at p k j)
          ((segment_at _ p k j).2.trans (spectrum_at _ _ p 1 k j)) ((segment_at _ p k j).2.trans (spectrum_at _ _ p 1 k j)) (filter_at _ p k j) (filter_at _ p k j))

/-- The reference's second result, at an index. -/
theorem reference_im (m : (ℓ : Loc nD τ Cert.Reference12Ideal.sig) → Buf (Elt Ideal) ℓ) (c : Dev nD) (p : Fin 4) (s : Fin 2) (k : Fin 1024)
    (j : Fin 2048) :
    Cert.Reference12Ideal.Value.res_out1 m c (ix4 p s k j)
      = forward im (m ((c : Thread nD τ).loc Cert.Reference12Ideal.main_arg0)) (m ((c : Thread nD τ).loc Cert.Reference12Ideal.main_arg1))
          (m ((c : Thread nD τ).loc Cert.Reference12Ideal.main_arg2)) (m ((c : Thread nD τ).loc Cert.Reference12Ideal.main_arg3))
          (m ((c : Thread nD τ).loc Cert.Reference12Ideal.main_arg4)) (m ((c : Thread nD τ).loc Cert.Reference12Ideal.main_arg5))
          (m ((c : Thread nD τ).loc Cert.Reference12Ideal.main_arg6)) (m ((c : Thread nD τ).loc Cert.Reference12Ideal.main_arg7))
          (m ((c : Thread nD τ).loc Cert.Reference12Ideal.main_arg8)) p s k j := by
  show Cert.Reference12Ideal.Value.res_main_v127 m c _ = _
  unfold Cert.Reference12Ideal.Value.res_main_v127
  refine (joined_at _ _ p s k j).trans ?_
  unfold forward
  split
  all_goals
    exact congrArg₂ (fun a b : EReal => a + b)
        (times_im _ _ _ _ _ _ k _ _ _ _ (row_at p k j)
          ((segment_at _ p k j).1.trans (spectrum_at _ _ p 0 k j)) ((segment_at _ p k j).1.trans (spectrum_at _ _ p 0 k j)) (filter_at _ p k j) (filter_at _ p k j))
        (times_im _ _ _ _ _ _ k _ _ _ _ (row_at p k j)
          ((segment_at _ p k j).2.trans (spectrum_at _ _ p 1 k j)) ((segment_at _ p k j).2.trans (spectrum_at _ _ p 1 k j)) (filter_at _ p k j) (filter_at _ p k j))

end

/-! ## The claims -/

/-- The reference runs, keeps its arguments and has no counters. -/
theorem reference_frame : Cert.quiescent_Reference12Ideal := fun m g _ =>
  (θ_run Cert.Reference12Ideal.defs _ _).mono (fun r h => ⟨fun c => (h c).2.2, sem_eq_zero_of_no_sems (by decide) r.2⟩)
    (Cert.Reference12Ideal.Value.run m g)

/-- The two programs leave equal results. -/
theorem equal : Cert.algebraic_Kernel12Ideal_Reference12Ideal := by
  pair_intro
  · run_from Cert.Kernel12Ideal.Value.run_blocks m g
  · run_from Cert.Reference12Ideal.Value.run m' g'
    on_goal 1 => refine ((final_re m c _ fun p s k j => ?_).symm)
    on_goal 2 => refine ((final_im m c _ fun p s k j => ?_).symm)
    on_goal 1 => refine (reference_re m' c p s k j).trans ?_
    on_goal 2 => refine (reference_im m' c p s k j).trans ?_
    all_goals
      obtain ⟨h0, h1, h2, h3, h4, h5, h6, h7, h8⟩ := hagree c
      rw [h0, h1, h2, h3, h4, h5, h6, h7, h8]

end Cert.Forward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Attention
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.GateValue
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.DownValue
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.InValue
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Residual
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Ada
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Modulate
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.ContextHeads
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Inverse
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.MiddleResidual
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.FirstInverse
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Forward
public import Idealize.ShloMosaic.Adequacy
public import Idealize.ShloMosaic.Init

@[expose] public section

noncomputable section

namespace Cert.Proof

open Idealize.ShloMosaic Idealize.SL.Sem Cert.Kernel

/-- Everything the certificate claims: the attention's runs are the generated ones and its equality is `Attention.equal`; the gated product's runs and equality are those of `GateValue`; the down projection's runs and equality are those of `DownValue`; the input projection's runs and equality are those of `InValue`; the other calls' runs are the generated ones, and their equalities are those of `Residual`, `Ada`, `Modulate`, `ContextHeads`, `Inverse`, `MiddleResidual`, `FirstInverse` and `Forward`. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite_scores.Gen.facts,
  fun m g _ => Cert.Kernel.Gen.frame m g, fun m g _ => Cert.KernelIdeal.Gen.frame m g, fun m g _ => Cert.KernelIdeal.Gen.frame m g,
  Attention.reference_frame, fun m g _ => Attention.reference_frame m g trivial,
  Cert.Kernel2Ideal.Gate.kernel_frame, Cert.Kernel2Ideal.Gate.ideal_frame, Cert.Kernel2Ideal.Gate.reference_frame,
  Cert.Kernel3Ideal.Down.kernel_frame, Cert.Kernel3Ideal.Down.ideal_frame, Cert.Kernel3Ideal.Down.reference_frame,
  Cert.Kernel4Ideal.In.kernel_frame, Cert.Kernel4Ideal.In.ideal_frame, Cert.Kernel4Ideal.In.reference_frame,
  fun m g _ => Cert.Kernel5.Gen.frame m g, fun m g _ => Cert.Kernel5Ideal.Gen.frame m g, Residual.reference_frame,
  fun m g _ => Cert.Kernel6.Gen.frame m g, fun m g _ => Cert.Kernel6Ideal.Gen.frame m g, Ada.reference_frame,
  fun m g _ => Cert.Kernel7.Gen.frame m g, fun m g _ => Cert.Kernel7Ideal.Gen.frame m g, Modulate.reference_frame,
  fun m g _ => Cert.Kernel8.Gen.frame m g, fun m g _ => Cert.Kernel8Ideal.Gen.frame m g, ContextHeads.reference_frame,
  fun m g _ => Cert.Kernel9.Gen.frame m g, fun m g _ => Cert.Kernel9Ideal.Gen.frame m g, Inverse.reference_frame,
  fun m g _ => Cert.Kernel10.Gen.frame m g, fun m g _ => Cert.Kernel10Ideal.Gen.frame m g, MiddleResidual.reference_frame,
  fun m g _ => Cert.Kernel11.Gen.frame m g, fun m g _ => Cert.Kernel11Ideal.Gen.frame m g, FirstInverse.reference_frame,
  fun m g _ => Cert.Kernel12.Gen.frame m g, fun m g _ => Cert.Kernel12Ideal.Gen.frame m g, Forward.reference_frame,
  trivial, Attention.equal,
  trivial, Cert.Kernel2Ideal.Gate.equal,
  trivial, Cert.Kernel3Ideal.Down.equal,
  trivial, Cert.Kernel4Ideal.In.equal,
  trivial, Residual.equal,
  trivial, Ada.equal,
  trivial, Modulate.equal,
  trivial, ContextHeads.equal,
  trivial, Inverse.equal,
  trivial, MiddleResidual.equal,
  trivial, FirstInverse.equal, trivial, Forward.equal⟩

end Cert.Proof

end
